-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v580) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_3)) (v3 : (c : Dev Cert.Kernel2Ideal.nD) → Buf (Elt Ideal) ((c.tc : Thread Cert.Kernel2Ideal.nD Cert.Kernel2Ideal.τ).loc Cert.Kernel2Ideal.main_v0_4)) (v4 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_3) = v2 c
          ∧ r.2.mem ((c.tc : Thread Cert.Kernel2Ideal.nD Cert.Kernel2Ideal.τ).loc Cert.Kernel2Ideal.main_v0_4) = v3 c
          ∧ r.2.mem ((c.tc : Thread Cert.Kernel2Ideal.nD Cert.Kernel2Ideal.τ).loc Cert.Kernel2Ideal.main_v0_5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v245) = v0 c
          ∧ r.2.mem ((c.tc : Thread Cert.Reference6Ideal.nD Cert.Reference6Ideal.τ).loc Cert.Reference6Ideal.main_v246) = v1 c
          ∧ r.2.mem ((c.tc : Thread Cert.Reference6Ideal.nD Cert.Reference6Ideal.τ).loc Cert.Reference6Ideal.main_v247) = v2 c
          ∧ r.2.mem ((c.tc : Thread Cert.Reference6Ideal.nD Cert.Reference6Ideal.τ).loc Cert.Reference6Ideal.main_v249) = v3 c
          ∧ r.2.mem ((c.tc : Thread Cert.Reference6Ideal.nD Cert.Reference6Ideal.τ).loc Cert.Reference6Ideal.main_v251) = v4 c
          ∧ r.2.mem ((c.tc : Thread Cert.Reference6Ideal.nD Cert.Reference6Ideal.τ).loc Cert.Reference6Ideal.main_v253) = v5 c
          ∧ r.2.mem ((c.tc : Thread Cert.Reference6Ideal.nD Cert.Reference6Ideal.τ).loc Cert.Reference6Ideal.main_v255) = v6 c
          ∧ r.2.mem ((c.tc : Thread Cert.Reference6Ideal.nD Cert.Reference6Ideal.τ).loc Cert.Reference6Ideal.main_v256) = v7 c
          ∧ r.2.mem ((c.tc : Thread Cert.Reference6Ideal.nD Cert.Reference6Ideal.τ).loc Cert.Reference6Ideal.main_v258) = v8 c
          ∧ r.2.mem ((c.tc : Thread Cert.Reference6Ideal.nD Cert.Reference6Ideal.τ).loc Cert.Reference6Ideal.main_v240) = v9 c
          ∧ r.2.mem ((c.tc : Thread Cert.Reference6Ideal.nD Cert.Reference6Ideal.τ).loc Cert.Reference6Ideal.main_v244) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel2 : Cert.Kernel2.Facts) (hKernel2Ideal : Cert.Kernel2Ideal.Facts) (hReference2Ideal : Cert.Reference2Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2048x6656 : Shape := ⟨2, ![2048, 6656]⟩
abbrev S1x2048 : Shape := ⟨2, ![1, 2048]⟩
abbrev S32 : Shape := ⟨1, ![32]⟩
abbrev S8 : Shape := ⟨1, ![8]⟩
abbrev S2048x1024 : Shape := ⟨2, ![2048, 1024]⟩
abbrev S2048x2048 : Shape := ⟨2, ![2048, 2048]⟩
abbrev S_ : Shape := ⟨0, ![]⟩

class Facts : Prop where
  bitsLt_bf16_f32 : FTy.bits .bf16 < FTy.bits .f32
  slices_S2048x6656_S2048x2048_0_0 : S2048x6656.Slices ![0, 0] S2048x2048
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32 : S_.BroadcastsInDim S32 (![] : Fin 0 → Fin S32.rank)
  reducesTo_S32_S_d0 : S32.ReducesTo [0] S_
  bcast_S_S8 : S_.BroadcastsInDim S8 (![] : Fin 0 → Fin S8.rank)
  reducesTo_S8_S_d0 : S8.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v15 : IVec S_ 1) (main_v17 : FVec F S2048x1024 .f32) : IVec S_ 1 :=
  let main_cst_4 : FVec F S_ .f32 := constant S_ .f32 0x00000000#32
  let main_v18 : FVec F S2048x1024 .f32 := broadcastInDim S2048x1024 ![] bcast_S_S2048x1024 main_cst_4
  let main_v19 : IVec S2048x1024 1 := cmpf .oeq main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v15 main_v20
  main_v21

def fn {F : FTy → Type} [FloatOps F] (main_arg0 : FVec F S2048x6656 .bf16) (main_arg1 : IVec S1x2048 32) (main_arg2 : FVec F S32 .f32) (main_arg3 : FVec F S8 .f32) (main_arg4 : FVec F S2048x1024 .bf16) : IVec S_ 1 :=
  let main_v0 : FVec F S2048x6656 .f32 := (extf .f32 · bitsLt_bf16_f32) main_arg0
  let main_v1 : FVec F S2048x2048 .f32 := (extractStridedSlice S2048x2048 ![0, 0] · slices_S2048x6656_S2048x2048_0_0) main_v0
  let main_v2 : FVec F S2048x2048 .f32 := subf main_v1 main_v1
  let main_cst : FVec F S_ .f32 := constant S_ .f32 0x00000000#32
  let main_v3 : FVec F S2048x2048 .f32 := broadcastInDim S2048x2048 ![] bcast_S_S2048x2048 main_cst
  let main_v4 : IVec S2048x2048 1 := cmpf .oeq main_v2 main_v3
  let main_c : IVec S_ 1 := constantI S_ 1 1#1
  let main_v5 : IVec S_ 1 := (fun x v => Host.reduce IntOp.andi x v reducesTo_S2048x2048_S_d0_1 h_S_) main_v4 main_c
  let main_v6 : FVec F S32 .f32 := subf main_arg2 main_arg2
  let main_cst_0 : FVec F S_ .f32 := constant S_ .f32 0x00000000#32
  let main_v7 : FVec F S32 .f32 := broadcastInDim S32 ![] bcast_S_S32 main_cst_0
  let main_v8 : IVec S32 1 := cmpf .oeq main_v6 main_v7
  let main_c_1 : IVec S_ 1 := constantI S_ 1 1#1
  let main_v9 : IVec S_ 1 := (fun x v => Host.reduce IntOp.andi x v reducesTo_S32_S_d0 h_S_) main_v8 main_c_1
  let main_v10 : IVec S_ 1 := andi main_v5 main_v9
  let main_v11 : FVec F S8 .f32 := subf main_arg3 main_arg3
  let main_cst_2 : FVec F S_ .f32 := constant S_ .f32 0x00000000#32
  let main_v12 : FVec F S8 .f32 := broadcastInDim S8 ![] bcast_S_S8 main_cst_2
  let main_v13 : IVec S8 1 := cmpf .oeq main_v11 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v10 main_v14
  let main_v16 : FVec F S2048x1024 .f32 := (extf .f32 · bitsLt_bf16_f32) main_arg4
  let main_v17 : FVec F S2048x1024 .f32 := subf main_v16 main_v16
  fn_part1 (F := F) main_v15 main_v17
-- ==== Pre_finite2.lean ====
abbrev S2048x2048 : Shape := ⟨2, ![2048, 2048]⟩
abbrev S2048x1024 : Shape := ⟨2, ![2048, 1024]⟩
abbrev S2048x512 : Shape := ⟨2, ![2048, 512]⟩
abbrev S16x1024 : Shape := ⟨2, ![16, 1024]⟩
abbrev S4x1024x1664 : Shape := ⟨3, ![4, 1024, 1664]⟩
abbrev S1024x1024 : Shape := ⟨2, ![1024, 1024]⟩
abbrev S_ : Shape := ⟨0, ![]⟩
abbrev S1x1024 : Shape := ⟨2, ![1, 1024]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x512 : S_.BroadcastsInDim S2048x512 (![] : Fin 0 → Fin S2048x512.rank)
  reducesTo_S2048x512_S_d0_1 : S2048x512.ReducesTo [0, 1] S_
  slices_S16x1024_S1x1024_1_0 : S16x1024.Slices ![1, 0] S1x1024
  bcast_S_S1x1024 : S_.BroadcastsInDim S1x1024 (![] : Fin 0 → Fin S1x1024.rank)
  reducesTo_S1x1024_S_d0_1 : S1x1024.ReducesTo [0, 1] S_
  slices_S16x1024_S1x1024_6_0 : S16x1024.Slices ![6, 0] S1x1024
  bcast_S_S4x1024x1664 : S_.BroadcastsInDim S4x1024x1664 (![] : Fin 0 → Fin S4x1024x1664.rank)
  reducesTo_S4x1024x1664_S_d0_1_2 : S4x1024x1664.ReducesTo [0, 1, 2] S_

variable [Facts]

def fn_part3 {F : FTy → Type} [FloatOps F] (main_v51 : IVec S_ 1) (main_v53 : FVec F S4x1024x1664 .f32) : IVec S_ 1 :=
  let main_cst_16 : FVec F S_ .f32 := constant S_ .f32 0x00000000#32
  let main_v54 : FVec F S4x1024x1664 .f32 := broadcastInDim S4x1024x1664 ![] bcast_S_S4x1024x1664 main_cst_16
  let main_v55 : IVec S4x1024x1664 1 := cmpf .oeq main_v53 main_v54
  let main_c_17 : IVec S_ 1 := constantI S_ 1 1#1
  let main_v56 : IVec S_ 1 := (fun x v => Host.reduce IntOp.andi x v reducesTo_S4x1024x1664_S_d0_1_2 h_S_) main_v55 main_c_17
  let main_v57 : IVec S_ 1 := andi main_v51 main_v56
  main_v57

def fn_part2 {F : FTy → Type} [FloatOps F] (main_arg8 : FVec F S16x1024 .f32) (main_arg9 : FVec F S4x1024x1664 .bf16) (main_v34 : IVec S_ 1) (main_v35 : FVec F S2048x1024 .f32) : IVec S_ 1 :=
  let main_cst_10 : FVec F S_ .f32 := constant S_ .f32 0x00000000#32
  let main_v36 : FVec F S2048x1024 .f32 := broadcastInDim S2048x1024 ![] bcast_S_S2048x1024 main_cst_10
  let main_v37 : IVec S2048x1024 1 := cmpf .oeq main_v35 main_v36
  let main_c_11 : IVec S_ 1 := constantI S_ 1 1#1
  let main_v38 : IVec S_ 1 := (fun x v => Host.reduce IntOp.andi x v reducesTo_S2048x1024_S_d0_1 h_S_) main_v37 main_c_11
  let main_v39 : IVec S_ 1 := andi main_v34 main_v38
  let main_v40 : FVec F S1x1024 .f32 := (extractStridedSlice S1x1024 ![1, 0] · slices_S16x1024_S1x1024_1_0) main_arg8
  let main_v41 : FVec F S1x1024 .f32 := subf main_v40 main_v40
  let main_cst_12 : FVec F S_ .f32 := constant S_ .f32 0x00000000#32
  let main_v42 : FVec F S1x1024 .f32 := broadcastInDim S1x1024 ![] bcast_S_S1x1024 main_cst_12
  let main_v43 : IVec S1x1024 1 := cmpf .oeq main_v41 main_v42
  let main_c_13 : IVec S_ 1 := constantI S_ 1 1#1
  let main_v44 : IVec S_ 1 := (fun x v => Host.reduce IntOp.andi x v reducesTo_S1x1024_S_d0_1 h_S_) main_v43 main_c_13
  let main_v45 : IVec S_ 1 := andi main_v39 main_v44
  let main_v46 : FVec F S1x1024 .f32 := (extractStridedSlice S1x1024 ![6, 0] · slices_S16x1024_S1x1024_6_0) main_arg8
  let main_v47 : FVec F S1x1024 .f32 := subf main_v46 main_v46
  let main_cst_14 : FVec F S_ .f32 := constant S_ .f32 0x00000000#32
  let main_v48 : FVec F S1x1024 .f32 := broadcastInDim S1x1024 ![] bcast_S_S1x1024 main_cst_14
  let main_v49 : IVec S1x1024 1 := cmpf .oeq main_v47 main_v48
  let main_c_15 : IVec S_ 1 := constantI S_ 1 1#1
  let main_v50 : IVec S_ 1 := (fun x v => Host.reduce IntOp.andi x v reducesTo_S1x1024_S_d0_1 h_S_) main_v49 main_c_15
  let main_v51 : IVec S_ 1 := andi main_v45 main_v50
  let main_v52 : FVec F S4x1024x1664 .f32 := (extf .f32 · bitsLt_bf16_f32) main_arg9
  let main_v53 : FVec F S4x1024x1664 .f32 := subf main_v52 main_v52
  fn_part3 (F := F) main_v51 main_v53

def fn_part1 {F : FTy → Type} [FloatOps F] (main_arg4 : FVec F S2048x512 .bf16) (main_arg5 : FVec F S2048x2048 .bf16) (main_arg6 : FVec F S2048x1024 .f32) (main_arg8 : FVec F S16x1024 .f32) (main_arg9 : FVec F S4x1024x1664 .bf16) (main_v16 : IVec S_ 1) (main_v17 : FVec F S2048x512 .f32) : IVec S_ 1 :=
  let main_v18 : FVec F S2048x512 .f32 := subf main_v17 main_v17
  let main_cst_4 : FVec F S_ .f32 := constant S_ .f32 0x00000000#32
  let main_v19 : FVec F S2048x512 .f32 := broadcastInDim S2048x512 ![] bcast_S_S2048x512 main_cst_4
  let main_v20 : IVec S2048x512 1 := cmpf .oeq main_v18 main_v19
  let main_c_5 : IVec S_ 1 := constantI S_ 1 1#1
  let main_v21 : IVec S_ 1 := (fun x v => Host.reduce IntOp.andi x v reducesTo_S2048x512_S_d0_1 h_S_) main_v20 main_c_5
  let main_v22 : IVec S_ 1 := andi main_v16 main_v21
  let main_v23 : FVec F S2048x512 .f32 := (extf .f32 · bitsLt_bf16_f32) main_arg4
  let main_v24 : FVec F S2048x512 .f32 := subf main_v23 main_v23
  let main_cst_6 : FVec F S_ .f32 := constant S_ .f32 0x00000000#32
  let main_v25 : FVec F S2048x512 .f32 := broadcastInDim S2048x512 ![] bcast_S_S2048x512 main_cst_6
  let main_v26 : IVec S2048x512 1 := cmpf .oeq main_v24 main_v25
  let main_c_7 : IVec S_ 1 := constantI S_ 1 1#1
  let main_v27 : IVec S_ 1 := (fun x v => Host.reduce IntOp.andi x v reducesTo_S2048x512_S_d0_1 h_S_) main_v26 main_c_7
  let main_v28 : IVec S_ 1 := andi main_v22 main_v27
  let main_v29 : FVec F S2048x2048 .f32 := (extf .f32 · bitsLt_bf16_f32) main_arg5
  let main_v30 : FVec F S2048x2048 .f32 := subf main_v29 main_v29
  let main_cst_8 : FVec F S_ .f32 := constant S_ .f32 0x00000000#32
  let main_v31 : FVec F S2048x2048 .f32 := broadcastInDim S2048x2048 ![] bcast_S_S2048x2048 main_cst_8
  let main_v32 : IVec S2048x2048 1 := cmpf .oeq main_v30 main_v31
  let main_c_9 : IVec S_ 1 := constantI S_ 1 1#1
  let main_v33 : IVec S_ 1 := (fun x v => Host.reduce IntOp.andi x v reducesTo_S2048x2048_S_d0_1 h_S_) main_v32 main_c_9
  let main_v34 : IVec S_ 1 := andi main_v28 main_v33
  let main_v35 : FVec F S2048x1024 .f32 := subf main_arg6 main_arg6
  fn_part2 (F := F) main_arg8 main_arg9 main_v34 main_v35

def fn {F : FTy → Type} [FloatOps F] (main_arg0 : FVec F S2048x2048 .bf16) (main_arg1 : FVec F S2048x1024 .bf16) (main_arg2 : FVec F S2048x512 .bf16) (main_arg3 : FVec F S2048x512 .bf16) (main_arg4 : FVec F S2048x512 .bf16) (main_arg5 : FVec F S2048x2048 .bf16) (main_arg6 : FVec F S2048x1024 .f32) (main_arg7 : FVec F S2048x1024 .f32) (main_arg8 : FVec F S16x1024 .f32) (main_arg9 : FVec F S4x1024x1664 .bf16) (main_arg10 : FVec F S1024x1024 .f32) (main_arg11 : FVec F S1024x1024 .f32) (main_arg12 : FVec F S1024x1024 .f32) (main_arg13 : FVec F S1024x1024 .f32) : IVec S_ 1 :=
  let main_v0 : FVec F S2048x2048 .f32 := (extf .f32 · bitsLt_bf16_f32) main_arg0
  let main_v1 : FVec F S2048x2048 .f32 := subf main_v0 main_v0
  let main_cst : FVec F S_ .f32 := constant S_ .f32 0x00000000#32
  let main_v2 : FVec F S2048x2048 .f32 := broadcastInDim S2048x2048 ![] bcast_S_S2048x2048 main_cst
  let main_v3 : IVec S2048x2048 1 := cmpf .oeq main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x1024 .f32 := (extf .f32 · bitsLt_bf16_f32) main_arg1
  let main_v6 : FVec F S2048x1024 .f32 := subf main_v5 main_v5
  let main_cst_0 : FVec F S_ .f32 := constant S_ .f32 0x00000000#32
  let main_v7 : FVec F S2048x1024 .f32 := broadcastInDim S2048x1024 ![] bcast_S_S2048x1024 main_cst_0
  let main_v8 : IVec S2048x1024 1 := cmpf .oeq main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S2048x512 .f32 := (extf .f32 · bitsLt_bf16_f32) main_arg2
  let main_v12 : FVec F S2048x512 .f32 := subf main_v11 main_v11
  let main_cst_2 : FVec F S_ .f32 := constant S_ .f32 0x00000000#32
  let main_v13 : FVec F S2048x512 .f32 := broadcastInDim S2048x512 ![] bcast_S_S2048x512 main_cst_2
  let main_v14 : IVec S2048x512 1 := cmpf .oeq main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  let main_v17 : FVec F S2048x512 .f32 := (extf .f32 · bitsLt_bf16_f32) main_arg3
  fn_part1 (F := F) main_arg4 main_arg5 main_arg6 main_arg8 main_arg9 main_v16 main_v17
-- ==== Pre_finite6.lean ====
abbrev S2048x1024 : Shape := ⟨2, ![2048, 1024]⟩
abbrev S2048x512 : Shape := ⟨2, ![2048, 512]⟩
abbrev S2048x6656 : Shape := ⟨2, ![2048, 6656]⟩
abbrev S16x1024 : Shape := ⟨2, ![16, 1024]⟩
abbrev S1024x1024 : Shape := ⟨2, ![1024, 1024]⟩
abbrev S4x512x256 : Shape := ⟨3, ![4, 512, 256]⟩
abbrev S4x1024x1024 : Shape := ⟨3, ![4, 1024, 1024]⟩
abbrev S_ : Shape := ⟨0, ![]⟩
abbrev S2048x2048 : Shape := ⟨2, ![2048, 2048]⟩
abbrev S4x1024 : Shape := ⟨2, ![4, 1024]⟩
abbrev S3x1024 : Shape := ⟨2, ![3, 1024]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  slices_S2048x6656_S2048x2048_0_4608 : S2048x6656.Slices ![0, 4608] S2048x2048
  bcast_S_S2048x2048 : S_.BroadcastsInDim S2048x2048 (![] : Fin 0 → Fin S2048x2048.rank)
  reducesTo_S2048x2048_S_d0_1 : S2048x2048.ReducesTo [0, 1] S_
  slices_S16x1024_S4x1024_2_0 : S16x1024.Slices ![2, 0] S4x1024
  bcast_S_S4x1024 : S_.BroadcastsInDim S4x1024 (![] : Fin 0 → Fin S4x1024.rank)
  reducesTo_S4x1024_S_d0_1 : S4x1024.ReducesTo [0, 1] S_
  slices_S16x1024_S3x1024_7_0 : S16x1024.Slices ![7, 0] S3x1024
  bcast_S_S3x1024 : S_.BroadcastsInDim S3x1024 (![] : Fin 0 → Fin S3x1024.rank)
  reducesTo_S3x1024_S_d0_1 : S3x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x512x256 : S_.BroadcastsInDim S4x512x256 (![] : Fin 0 → Fin S4x512x256.rank)
  reducesTo_S4x512x256_S_d0_1_2 : S4x512x256.ReducesTo [0, 1, 2] S_
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn_part3 {F : FTy → Type} [FloatOps F] (main_arg9 : FVec F S4x1024x1024 .bf16) (main_arg10 : FVec F S4x1024x1024 .bf16) (main_v51 : IVec S_ 1) (main_v53 : FVec F S1024x1024 .f32) : IVec S_ 1 :=
  let main_cst_16 : FVec F S_ .f32 := constant S_ .f32 0x00000000#32
  let main_v54 : FVec F S1024x1024 .f32 := broadcastInDim S1024x1024 ![] bcast_S_S1024x1024 main_cst_16
  let main_v55 : IVec S1024x1024 1 := cmpf .oeq main_v53 main_v54
  let main_c_17 : IVec S_ 1 := constantI S_ 1 1#1
  let main_v56 : IVec S_ 1 := (fun x v => Host.reduce IntOp.andi x v reducesTo_S1024x1024_S_d0_1 h_S_) main_v55 main_c_17
  let main_v57 : IVec S_ 1 := andi main_v51 main_v56
  let main_v58 : FVec F S4x1024x1024 .f32 := (extf .f32 · bitsLt_bf16_f32) main_arg9
  let main_v59 : FVec F S4x1024x1024 .f32 := subf main_v58 main_v58
  let main_cst_18 : FVec F S_ .f32 := constant S_ .f32 0x00000000#32
  let main_v60 : FVec F S4x1024x1024 .f32 := broadcastInDim S4x1024x1024 ![] bcast_S_S4x1024x1024 main_cst_18
  let main_v61 : IVec S4x1024x1024 1 := cmpf .oeq main_v59 main_v60
  let main_c_19 : IVec S_ 1 := constantI S_ 1 1#1
  let main_v62 : IVec S_ 1 := (fun x v => Host.reduce IntOp.andi x v reducesTo_S4x1024x1024_S_d0_1_2 h_S_) main_v61 main_c_19
  let main_v63 : IVec S_ 1 := andi main_v57 main_v62
  let main_v64 : FVec F S4x1024x1024 .f32 := (extf .f32 · bitsLt_bf16_f32) main_arg10
  let main_v65 : FVec F S4x1024x1024 .f32 := subf main_v64 main_v64
  let main_cst_20 : FVec F S_ .f32 := constant S_ .f32 0x00000000#32
  let main_v66 : FVec F S4x1024x1024 .f32 := broadcastInDim S4x1024x1024 ![] bcast_S_S4x1024x1024 main_cst_20
  let main_v67 : IVec S4x1024x1024 1 := cmpf .oeq main_v65 main_v66
  let main_c_21 : IVec S_ 1 := constantI S_ 1 1#1
  let main_v68 : IVec S_ 1 := (fun x v => Host.reduce IntOp.andi x v reducesTo_S4x1024x1024_S_d0_1_2 h_S_) main_v67 main_c_21
  let main_v69 : IVec S_ 1 := andi main_v63 main_v68
  main_v69

def fn_part2 {F : FTy → Type} [FloatOps F] (main_arg6 : FVec F S1024x1024 .bf16) (main_arg7 : FVec F S4x512x256 .bf16) (main_arg8 : FVec F S1024x1024 .bf16) (main_arg9 : FVec F S4x1024x1024 .bf16) (main_arg10 : FVec F S4x1024x1024 .bf16) (main_v33 : IVec S_ 1) (main_v35 : FVec F S3x1024 .f32) : IVec S_ 1 :=
  let main_cst_10 : FVec F S_ .f32 := constant S_ .f32 0x00000000#32
  let main_v36 : FVec F S3x1024 .f32 := broadcastInDim S3x1024 ![] bcast_S_S3x1024 main_cst_10
  let main_v37 : IVec S3x1024 1 := cmpf .oeq main_v35 main_v36
  let main_c_11 : IVec S_ 1 := constantI S_ 1 1#1
  let main_v38 : IVec S_ 1 := (fun x v => Host.reduce IntOp.andi x v reducesTo_S3x1024_S_d0_1 h_S_) main_v37 main_c_11
  let main_v39 : IVec S_ 1 := andi main_v33 main_v38
  let main_v40 : FVec F S1024x1024 .f32 := (extf .f32 · bitsLt_bf16_f32) main_arg6
  let main_v41 : FVec F S1024x1024 .f32 := subf main_v40 main_v40
  let main_cst_12 : FVec F S_ .f32 := constant S_ .f32 0x00000000#32
  let main_v42 : FVec F S1024x1024 .f32 := broadcastInDim S1024x1024 ![] bcast_S_S1024x1024 main_cst_12
  let main_v43 : IVec S1024x1024 1 := cmpf .oeq main_v41 main_v42
  let main_c_13 : IVec S_ 1 := constantI S_ 1 1#1
  let main_v44 : IVec S_ 1 := (fun x v => Host.reduce IntOp.andi x v reducesTo_S1024x1024_S_d0_1 h_S_) main_v43 main_c_13
  let main_v45 : IVec S_ 1 := andi main_v39 main_v44
  let main_v46 : FVec F S4x512x256 .f32 := (extf .f32 · bitsLt_bf16_f32) main_arg7
  let main_v47 : FVec F S4x512x256 .f32 := subf main_v46 main_v46
  let main_cst_14 : FVec F S_ .f32 := constant S_ .f32 0x00000000#32
  let main_v48 : FVec F S4x512x256 .f32 := broadcastInDim S4x512x256 ![] bcast_S_S4x512x256 main_cst_14
  let main_v49 : IVec S4x512x256 1 := cmpf .oeq main_v47 main_v48
  let main_c_15 : IVec S_ 1 := constantI S_ 1 1#1
  let main_v50 : IVec S_ 1 := (fun x v => Host.reduce IntOp.andi x v reducesTo_S4x512x256_S_d0_1_2 h_S_) main_v49 main_c_15
  let main_v51 : IVec S_ 1 := andi main_v45 main_v50
  let main_v52 : FVec F S1024x1024 .f32 := (extf .f32 · bitsLt_bf16_f32) main_arg8
  let main_v53 : FVec F S1024x1024 .f32 := subf main_v52 main_v52
  fn_part3 (F := F) main_arg9 main_arg10 main_v51 main_v53

def fn_part1 {F : FTy → Type} [FloatOps F] (main_arg3 : FVec F S2048x1024 .f32) (main_arg4 : FVec F S2048x1024 .f32) (main_arg5 : FVec F S16x1024 .f32) (main_arg6 : FVec F S1024x1024 .bf16) (main_arg7 : FVec F S4x512x256 .bf16) (main_arg8 : FVec F S1024x1024 .bf16) (main_arg9 : FVec F S4x1024x1024 .bf16) (main_arg10 : FVec F S4x1024x1024 .bf16) (main_v17 : IVec S_ 1) : IVec S_ 1 :=
  let main_v18 : FVec F S2048x1024 .f32 := subf main_arg3 main_arg3
  let main_cst_4 : FVec F S_ .f32 := constant S_ .f32 0x00000000#32
  let main_v19 : FVec F S2048x1024 .f32 := broadcastInDim S2048x1024 ![] bcast_S_S2048x1024 main_cst_4
  let main_v20 : IVec S2048x1024 1 := cmpf .oeq main_v18 main_v19
  let main_c_5 : IVec S_ 1 := constantI S_ 1 1#1
  let main_v21 : IVec S_ 1 := (fun x v => Host.reduce IntOp.andi x v reducesTo_S2048x1024_S_d0_1 h_S_) main_v20 main_c_5
  let main_v22 : IVec S_ 1 := andi main_v17 main_v21
  let main_v23 : FVec F S2048x1024 .f32 := subf main_arg4 main_arg4
  let main_cst_6 : FVec F S_ .f32 := constant S_ .f32 0x00000000#32
  let main_v24 : FVec F S2048x1024 .f32 := broadcastInDim S2048x1024 ![] bcast_S_S2048x1024 main_cst_6
  let main_v25 : IVec S2048x1024 1 := cmpf .oeq main_v23 main_v24
  let main_c_7 : IVec S_ 1 := constantI S_ 1 1#1
  let main_v26 : IVec S_ 1 := (fun x v => Host.reduce IntOp.andi x v reducesTo_S2048x1024_S_d0_1 h_S_) main_v25 main_c_7
  let main_v27 : IVec S_ 1 := andi main_v22 main_v26
  let main_v28 : FVec F S4x1024 .f32 := (extractStridedSlice S4x1024 ![2, 0] · slices_S16x1024_S4x1024_2_0) main_arg5
  let main_v29 : FVec F S4x1024 .f32 := subf main_v28 main_v28
  let main_cst_8 : FVec F S_ .f32 := constant S_ .f32 0x00000000#32
  let main_v30 : FVec F S4x1024 .f32 := broadcastInDim S4x1024 ![] bcast_S_S4x1024 main_cst_8
  let main_v31 : IVec S4x1024 1 := cmpf .oeq main_v29 main_v30
  let main_c_9 : IVec S_ 1 := constantI S_ 1 1#1
  let main_v32 : IVec S_ 1 := (fun x v => Host.reduce IntOp.andi x v reducesTo_S4x1024_S_d0_1 h_S_) main_v31 main_c_9
  let main_v33 : IVec S_ 1 := andi main_v27 main_v32
  let main_v34 : FVec F S3x1024 .f32 := (extractStridedSlice S3x1024 ![7, 0] · slices_S16x1024_S3x1024_7_0) main_arg5
  let main_v35 : FVec F S3x1024 .f32 := subf main_v34 main_v34
  fn_part2 (F := F) main_arg6 main_arg7 main_arg8 main_arg9 main_arg10 main_v33 main_v35

def fn {F : FTy → Type} [FloatOps F] (main_arg0 : FVec F S2048x1024 .bf16) (main_arg1 : FVec F S2048x512 .bf16) (main_arg2 : FVec F S2048x6656 .bf16) (main_arg3 : FVec F S2048x1024 .f32) (main_arg4 : FVec F S2048x1024 .f32) (main_arg5 : FVec F S16x1024 .f32) (main_arg6 : FVec F S1024x1024 .bf16) (main_arg7 : FVec F S4x512x256 .bf16) (main_arg8 : FVec F S1024x1024 .bf16) (main_arg9 : FVec F S4x1024x1024 .bf16) (main_arg10 : FVec F S4x1024x1024 .bf16) : IVec S_ 1 :=
  let main_v0 : FVec F S2048x1024 .f32 := (extf .f32 · bitsLt_bf16_f32) main_arg0
  let main_v1 : FVec F S2048x1024 .f32 := subf main_v0 main_v0
  let main_cst : FVec F S_ .f32 := constant S_ .f32 0x00000000#32
  let main_v2 : FVec F S2048x1024 .f32 := broadcastInDim S2048x1024 ![] bcast_S_S2048x1024 main_cst
  let main_v3 : IVec S2048x1024 1 := cmpf .oeq main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x512 .f32 := (extf .f32 · bitsLt_bf16_f32) main_arg1
  let main_v6 : FVec F S2048x512 .f32 := subf main_v5 main_v5
  let main_cst_0 : FVec F S_ .f32 := constant S_ .f32 0x00000000#32
  let main_v7 : FVec F S2048x512 .f32 := broadcastInDim S2048x512 ![] bcast_S_S2048x512 main_cst_0
  let main_v8 : IVec S2048x512 1 := cmpf .oeq main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x2048 .bf16 := (extractStridedSlice S2048x2048 ![0, 4608] · slices_S2048x6656_S2048x2048_0_4608) main_arg2
  let main_v12 : FVec F S2048x2048 .f32 := (extf .f32 · bitsLt_bf16_f32) main_v11
  let main_v13 : FVec F S2048x2048 .f32 := subf main_v12 main_v12
  let main_cst_2 : FVec F S_ .f32 := constant S_ .f32 0x00000000#32
  let main_v14 : FVec F S2048x2048 .f32 := broadcastInDim S2048x2048 ![] bcast_S_S2048x2048 main_cst_2
  let main_v15 : IVec S2048x2048 1 := cmpf .oeq main_v13 main_v14
  let main_c_3 : IVec S_ 1 := constantI S_ 1 1#1
  let main_v16 : IVec S_ 1 := (fun x v => Host.reduce IntOp.andi x v reducesTo_S2048x2048_S_d0_1 h_S_) main_v15 main_c_3
  let main_v17 : IVec S_ 1 := andi main_v10 main_v16
  fn_part1 (F := F) main_arg3 main_arg4 main_arg5 main_arg6 main_arg7 main_arg8 main_arg9 main_arg10 main_v17
-- ==== Kernel.lean ====
abbrev S2048x6656 : Shape := ⟨2, ![2048, 6656]⟩
abbrev S1x2048 : Shape := ⟨2, ![1, 2048]⟩
abbrev S32 : Shape := ⟨1, ![32]⟩
abbrev S8 : Shape := ⟨1, ![8]⟩
abbrev S2048x1024 : Shape := ⟨2, ![2048, 1024]⟩
abbrev S128 : Shape := ⟨1, ![128]⟩
abbrev S1x128 : Shape := ⟨2, ![1, 128]⟩
abbrev S_ : Shape := ⟨0, ![]⟩
abbrev S1x32 : Shape := ⟨2, ![1, 32]⟩
abbrev S2048x1 : Shape := ⟨2, ![2048, 1]⟩
abbrev S2048x128 : Shape := ⟨2, ![2048, 128]⟩
abbrev S2048x512 : Shape := ⟨2, ![2048, 512]⟩
abbrev S1x2048x8x64 : Shape := ⟨4, ![1, 2048, 8, 64]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x8x32 : Shape := ⟨4, ![1, 2048, 8, 32]⟩
abbrev S1x8x256x8x64 : Shape := ⟨5, ![1, 8, 256, 8, 64]⟩
abbrev S1x8x256x8x128 : Shape := ⟨5, ![1, 8, 256, 8, 128]⟩
abbrev S256 : Shape := ⟨1, ![256]⟩
abbrev S256x1 : Shape := ⟨2, ![256, 1]⟩
abbrev S1x8 : Shape := ⟨2, ![1, 8]⟩
abbrev S256x8 : Shape := ⟨2, ![256, 8]⟩
abbrev S1x1x256x8x1 : Shape := ⟨5, ![1, 1, 256, 8, 1]⟩
abbrev S8x1x8x64x128 : Shape := ⟨5, ![8, 1, 8, 64, 128]⟩
abbrev S1x8x1x1 : Shape := ⟨4, ![1, 8, 1, 1]⟩
abbrev S1x8x64x128 : Shape := ⟨4, ![1, 8, 64, 128]⟩
abbrev S0x1x8x64x128 : Shape := ⟨5, ![0, 1, 8, 64, 128]⟩
abbrev S1x1x8x64x128 : Shape := ⟨5, ![1, 1, 8, 64, 128]⟩
abbrev S8x4x2x64x128 : Shape := ⟨5, ![8, 4, 2, 64, 128]⟩
abbrev S4x8x2x64x128 : Shape := ⟨5, ![4, 8, 2, 64, 128]⟩
abbrev S4x8x64x128 : Shape := ⟨4, ![4, 8, 64, 128]⟩
abbrev S4x8x1x64x128 : Shape := ⟨5, ![4, 8, 1, 64, 128]⟩
abbrev S4x8x128x128 : Shape := ⟨4, ![4, 8, 128, 128]⟩
abbrev S4x8x1x128x128 : Shape := ⟨5, ![4, 8, 1, 128, 128]⟩
abbrev S4x8x2x128x128 : Shape := ⟨5, ![4, 8, 2, 128, 128]⟩
abbrev S2048x2048 : Shape := ⟨2, ![2048, 2048]⟩
abbrev S256x512 : Shape := ⟨2, ![256, 512]⟩
abbrev S256x1024 : Shape := ⟨2, ![256, 1024]⟩
abbrev S256x128 : Shape := ⟨2, ![256, 128]⟩
abbrev S4x1x2x128x128 : Shape := ⟨5, ![4, 1, 2, 128, 128]⟩
abbrev S256x2048 : Shape := ⟨2, ![256, 2048]⟩
abbrev S4x2x128x128 : Shape := ⟨4, ![4, 2, 128, 128]⟩
abbrev S8x256x256 : Shape := ⟨3, ![8, 256, 256]⟩
abbrev S1 : Shape := ⟨1, ![1]⟩
abbrev S256x256 : Shape := ⟨2, ![256, 256]⟩
abbrev S1x256x256 : Shape := ⟨3, ![1, 256, 256]⟩
abbrev S1x1x1x128x128 : Shape := ⟨5, ![1, 1, 1, 128, 128]⟩
abbrev S128x128 : Shape := ⟨2, ![128, 128]⟩
abbrev S1x1x128x128 : Shape := ⟨4, ![1, 1, 128, 128]⟩

abbrev nBuf : Space → Nat
  | .hbm => 143
  | .vmem => 18
  | .smem => 1
  | _ => 0

abbrev hbmTy0_0 (i : Nat) : BufTy := match i % 128 with
  | 0 => ⟨S2048x6656, .bf16⟩
  | 1 => ⟨S1x2048, .i32⟩
  | 2 => ⟨S32, .f32⟩
  | 3 => ⟨S8, .f32⟩
  | 4 => ⟨S2048x1024, .bf16⟩
  | 5 => ⟨S128, .f32⟩
  | 6 => ⟨S1x128, .f32⟩
  | 7 => ⟨S_, .f32⟩
  | 8 => ⟨S1x32, .f32⟩
  | 9 => ⟨S1x32, .f32⟩
  | 10 => ⟨S1x32, .f32⟩
  | 11 => ⟨S1x128, .f32⟩
  | 12 => ⟨S2048x1, .i32⟩
  | 13 => ⟨S2048x1, .f32⟩
  | 14 => ⟨S2048x128, .f32⟩
  | 15 => ⟨S2048x128, .f32⟩
  | 16 => ⟨S2048x128, .f32⟩
  | 17 => ⟨S2048x128, .f32⟩
  | 18 => ⟨S2048x128, .f32⟩
  | 19 => ⟨S2048x128, .f32⟩
  | 20 => ⟨S2048x128, .f32⟩
  | 21 => ⟨S2048x512, .bf16⟩
  | 22 => ⟨S2048x512, .f32⟩
  | 23 => ⟨S1x2048x8x64, .f32⟩
  | 24 => ⟨S2048x1024, .bf16⟩
  | 25 => ⟨S2048x1024, .f32⟩
  | 26 => ⟨S1x2048, .f32⟩
  | 27 => ⟨S1x2048x1, .f32⟩
  | 28 => ⟨S1x1x32, .f32⟩
  | 29 => ⟨S1x2048x32, .f32⟩
  | 30 => ⟨S1x2048x32, .f32⟩
  | 31 => ⟨S1x2048x32, .f32⟩
  | 32 => ⟨S1x2048x32, .f32⟩
  | 33 => ⟨S1x2048x1x32, .f32⟩
  | 34 => ⟨S1x2048x32, .f32⟩
  | 35 => ⟨S1x2048x1x32, .f32⟩
  | 36 => ⟨S1x2048x8x32, .f32⟩
  | 37 => ⟨S1x2048x8x32, .f32⟩
  | 38 => ⟨S1x2048x8x32, .f32⟩
  | 39 => ⟨S1x2048x8x32, .f32⟩
  | 40 => ⟨S1x2048x8x32, .f32⟩
  | 41 => ⟨S1x2048x8x32, .f32⟩
  | 42 => ⟨S1x2048x8x32, .f32⟩
  | 43 => ⟨S1x2048x8x32, .f32⟩
  | 44 => ⟨S1x2048x8x32, .f32⟩
  | 45 => ⟨S1x2048x8x32, .f32⟩
  | 46 => ⟨S1x2048x8x32, .f32⟩
  | 47 => ⟨S1x2048x8x32, .f32⟩
  | 48 => ⟨S1x2048x8x64, .f32⟩
  | 49 => ⟨S_, .f32⟩
  | 50 => ⟨S1x2048x8x64, .f32⟩
  | 51 => ⟨S1x2048x8x64, .f32⟩
  | 52 => ⟨S1x8x256x8x64, .f32⟩
  | 53 => ⟨S1x8x256x8x128, .f32⟩
  | 54 => ⟨S256, .f32⟩
  | 55 => ⟨S_, .f32⟩
  | 56 => ⟨S256, .f32⟩
  | 57 => ⟨S256, .f32⟩
  | 58 => ⟨S256x1, .f32⟩
  | 59 => ⟨S1x8, .f32⟩
  | 60 => ⟨S256x8, .f32⟩
  | 61 => ⟨S256x8, .f32⟩
  | 62 => ⟨S256x8, .f32⟩
  | 63 => ⟨S256x8, .f32⟩
  | 64 => ⟨S1x1x256x8x1, .f32⟩
  | 65 => ⟨S1x8x256x8x64, .f32⟩
  | 66 => ⟨S1x8x256x8x64, .f32⟩
  | 67 => ⟨S8x1x8x64x128, .f32⟩
  | 68 => ⟨S_, .f32⟩
  | 69 => ⟨S8, .f32⟩
  | 70 => ⟨S8, .f32⟩
  | 71 => ⟨S8, .f32⟩
  | 72 => ⟨S1x8x1x1, .f32⟩
  | 73 => ⟨S_, .f32⟩
  | 74 => ⟨S1x8x64x128, .f32⟩
  | 75 => ⟨S0x1x8x64x128, .f32⟩
  | 76 => ⟨S8x1x8x64x128, .f32⟩
  | 77 => ⟨S_, .f32⟩
  | 78 => ⟨S0x1x8x64x128, .f32⟩
  | 79 => ⟨S1x1x8x64x128, .f32⟩
  | 80 => ⟨S1x8x64x128, .f32⟩
  | 81 => ⟨S1x8x64x128, .f32⟩
  | 82 => ⟨S1x8x64x128, .f32⟩
  | 83 => ⟨S1x8x64x128, .f32⟩
  | 84 => ⟨S1x1x8x64x128, .f32⟩
  | 85 => ⟨S1x8x64x128, .f32⟩
  | 86 => ⟨S1x8x64x128, .f32⟩
  | 87 => ⟨S1x8x64x128, .f32⟩
  | 88 => ⟨S1x8x64x128, .f32⟩
  | 89 => ⟨S1x1x8x64x128, .f32⟩
  | 90 => ⟨S1x8x64x128, .f32⟩
  | 91 => ⟨S1x8x64x128, .f32⟩
  | 92 => ⟨S1x8x64x128, .f32⟩
  | 93 => ⟨S1x8x64x128, .f32⟩
  | 94 => ⟨S1x1x8x64x128, .f32⟩
  | 95 => ⟨S1x8x64x128, .f32⟩
  | 96 => ⟨S1x8x64x128, .f32⟩
  | 97 => ⟨S1x8x64x128, .f32⟩
  | 98 => ⟨S1x8x64x128, .f32⟩
  | 99 => ⟨S1x1x8x64x128, .f32⟩
  | 100 => ⟨S1x8x64x128, .f32⟩
  | 101 => ⟨S1x8x64x128, .f32⟩
  | 102 => ⟨S1x8x64x128, .f32⟩
  | 103 => ⟨S1x8x64x128, .f32⟩
  | 104 => ⟨S1x1x8x64x128, .f32⟩
  | 105 => ⟨S1x8x64x128, .f32⟩
  | 106 => ⟨S1x8x64x128, .f32⟩
  | 107 => ⟨S1x8x64x128, .f32⟩
  | 108 => ⟨S1x8x64x128, .f32⟩
  | 109 => ⟨S1x1x8x64x128, .f32⟩
  | 110 => ⟨S1x8x64x128, .f32⟩
  | 111 => ⟨S1x8x64x128, .f32⟩
  | 112 => ⟨S1x8x64x128, .f32⟩
  | 113 => ⟨S1x8x64x128, .f32⟩
  | 114 => ⟨S1x1x8x64x128, .f32⟩
  | 115 => ⟨S1x8x64x128, .f32⟩
  | 116 => ⟨S1x8x64x128, .f32⟩
  | 117 => ⟨S1x8x64x128, .f32⟩
  | 118 => ⟨S1x8x64x128, .f32⟩
  | 119 => ⟨S1x1x8x64x128, .f32⟩
  | 120 => ⟨S1x1x8x64x128, .f32⟩
  | 121 => ⟨S1x1x8x64x128, .f32⟩
  | 122 => ⟨S1x1x8x64x128, .f32⟩
  | 123 => ⟨S1x1x8x64x128, .f32⟩
  | 124 => ⟨S1x1x8x64x128, .f32⟩
  | 125 => ⟨S1x1x8x64x128, .f32⟩
  | 126 => ⟨S1x1x8x64x128, .f32⟩
  | 127 => ⟨S8x1x8x64x128, .f32⟩
  | _ => ⟨S2048x6656, .bf16⟩

abbrev hbmTy0_1 (i : Nat) : BufTy := match i % 128 with
  | 0 => ⟨S8x1x8x64x128, .f32⟩
  | 1 => ⟨S8x4x2x64x128, .f32⟩
  | 2 => ⟨S4x8x2x64x128, .f32⟩
  | 3 => ⟨S_, .f32⟩
  | 4 => ⟨S4x8x64x128, .f32⟩
  | 5 => ⟨S4x8x1x64x128, .f32⟩
  | 6 => ⟨S4x8x64x128, .f32⟩
  | 7 => ⟨S4x8x128x128, .f32⟩
  | 8 => ⟨S4x8x1x64x128, .f32⟩
  | 9 => ⟨S4x8x64x128, .f32⟩
  | 10 => ⟨S4x8x128x128, .f32⟩
  | 11 => ⟨S4x8x1x128x128, .f32⟩
  | 12 => ⟨S4x8x1x128x128, .f32⟩
  | 13 => ⟨S4x8x2x128x128, .f32⟩
  | 14 => ⟨S2048x2048, .bf16⟩
  | _ => ⟨S2048x6656, .bf16⟩

abbrev hbmTy (i : Nat) : BufTy := match i / 128 with
  | 0 => hbmTy0_0 i
  | 1 => hbmTy0_1 i
  | _ => ⟨S2048x6656, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S4x1x2x128x128, .f32⟩
  | .local _ .vmem, ⟨13, _⟩ => ⟨S4x1x2x128x128, .f32⟩
  | .local _ .vmem, ⟨14, _⟩ => ⟨S256x2048, .bf16⟩
  | .local _ .vmem, ⟨15, _⟩ => ⟨S256x2048, .bf16⟩
  | .local _ .vmem, ⟨16, _⟩ => ⟨S4x2x128x128, .f32⟩
  | .local _ .vmem, ⟨17, _⟩ => ⟨S8x256x256, .f32⟩
  | .local _ .smem, ⟨0, _⟩ => ⟨S8, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_2 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_cst_5 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 5 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x6656 : Shape := ⟨2, ![2048, 6656]⟩
abbrev S1x2048 : Shape := ⟨2, ![1, 2048]⟩
abbrev S32 : Shape := ⟨1, ![32]⟩
abbrev S8 : Shape := ⟨1, ![8]⟩
abbrev S2048x1024 : Shape := ⟨2, ![2048, 1024]⟩
abbrev S2048x512 : Shape := ⟨2, ![2048, 512]⟩
abbrev S1x2048x8x64 : Shape := ⟨4, ![1, 2048, 8, 64]⟩
abbrev S1x2048x8x128 : Shape := ⟨4, ![1, 2048, 8, 128]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x8x32 : Shape := ⟨4, ![1, 2048, 8, 32]⟩
abbrev S_ : Shape := ⟨0, ![]⟩
abbrev S1x32x64x8x64 : Shape := ⟨5, ![1, 32, 64, 8, 64]⟩
abbrev S1x32x64x8x128 : Shape := ⟨5, ![1, 32, 64, 8, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S1x32x8x64x64 : Shape := ⟨5, ![1, 32, 8, 64, 64]⟩
abbrev S1x1x8x64x64 : Shape := ⟨5, ![1, 1, 8, 64, 64]⟩
abbrev S1x32x8x128x64 : Shape := ⟨5, ![1, 32, 8, 128, 64]⟩
abbrev S1x8 : Shape := ⟨2, ![1, 8]⟩
abbrev S64x8 : Shape := ⟨2, ![64, 8]⟩
abbrev S1x1x64x8x1 : Shape := ⟨5, ![1, 1, 64, 8, 1]⟩
abbrev S32x1x8x64x128 : Shape := ⟨5, ![32, 1, 8, 64, 128]⟩
abbrev S1x8x1x1 : Shape := ⟨4, ![1, 8, 1, 1]⟩
abbrev S1x8x64x128 : Shape := ⟨4, ![1, 8, 64, 128]⟩
abbrev S0x1x8x64x128 : Shape := ⟨5, ![0, 1, 8, 64, 128]⟩
abbrev S1x1x8x64x128 : Shape := ⟨5, ![1, 1, 8, 64, 128]⟩
abbrev S16x1x8x64x128 : Shape := ⟨5, ![16, 1, 8, 64, 128]⟩
abbrev S32x1x8x128x64 : Shape := ⟨5, ![32, 1, 8, 128, 64]⟩
abbrev S32x1x8x64x64 : Shape := ⟨5, ![32, 1, 8, 64, 64]⟩
abbrev S2048x2048 : Shape := ⟨2, ![2048, 2048]⟩

abbrev nBuf : Space → Nat
  | .hbm => 600
  | .vmem => 0
  | .smem => 0
  | _ => 0

abbrev hbmTy0_0 (i : Nat) : BufTy := match i % 128 with
  | 0 => ⟨S2048x6656, .bf16⟩
  | 1 => ⟨S1x2048, .i32⟩
  | 2 => ⟨S32, .f32⟩
  | 3 => ⟨S8, .f32⟩
  | 4 => ⟨S2048x1024, .bf16⟩
  | 5 => ⟨S2048x6656, .f32⟩
  | 6 => ⟨S2048x512, .f32⟩
  | 7 => ⟨S2048x512, .f32⟩
  | 8 => ⟨S2048x1024, .f32⟩
  | 9 => ⟨S1x2048x8x64, .f32⟩
  | 10 => ⟨S1x2048x8x64, .f32⟩
  | 11 => ⟨S1x2048x8x128, .f32⟩
  | 12 => ⟨S1x2048, .f32⟩
  | 13 => ⟨S1x2048x1, .f32⟩
  | 14 => ⟨S1x1x32, .f32⟩
  | 15 => ⟨S1x2048x32, .f32⟩
  | 16 => ⟨S1x2048x32, .f32⟩
  | 17 => ⟨S1x2048x32, .f32⟩
  | 18 => ⟨S1x2048x32, .f32⟩
  | 19 => ⟨S1x2048x1x32, .f32⟩
  | 20 => ⟨S1x2048x32, .f32⟩
  | 21 => ⟨S1x2048x1x32, .f32⟩
  | 22 => ⟨S1x2048x8x32, .f32⟩
  | 23 => ⟨S1x2048x8x32, .f32⟩
  | 24 => ⟨S1x2048x8x32, .f32⟩
  | 25 => ⟨S1x2048x8x32, .f32⟩
  | 26 => ⟨S1x2048x8x32, .f32⟩
  | 27 => ⟨S1x2048x8x32, .f32⟩
  | 28 => ⟨S1x2048x8x32, .f32⟩
  | 29 => ⟨S1x2048x8x32, .f32⟩
  | 30 => ⟨S1x2048x8x32, .f32⟩
  | 31 => ⟨S1x2048x8x32, .f32⟩
  | 32 => ⟨S1x2048x8x32, .f32⟩
  | 33 => ⟨S1x2048x8x32, .f32⟩
  | 34 => ⟨S1x2048x8x64, .f32⟩
  | 35 => ⟨S1x2048, .f32⟩
  | 36 => ⟨S1x2048x1, .f32⟩
  | 37 => ⟨S1x1x32, .f32⟩
  | 38 => ⟨S1x2048x32, .f32⟩
  | 39 => ⟨S1x2048x32, .f32⟩
  | 40 => ⟨S1x2048x32, .f32⟩
  | 41 => ⟨S1x2048x32, .f32⟩
  | 42 => ⟨S1x2048x1x32, .f32⟩
  | 43 => ⟨S1x2048x32, .f32⟩
  | 44 => ⟨S1x2048x1x32, .f32⟩
  | 45 => ⟨S1x2048x8x32, .f32⟩
  | 46 => ⟨S1x2048x8x32, .f32⟩
  | 47 => ⟨S1x2048x8x32, .f32⟩
  | 48 => ⟨S1x2048x8x32, .f32⟩
  | 49 => ⟨S1x2048x8x32, .f32⟩
  | 50 => ⟨S1x2048x8x32, .f32⟩
  | 51 => ⟨S1x2048x8x32, .f32⟩
  | 52 => ⟨S1x2048x8x32, .f32⟩
  | 53 => ⟨S1x2048x8x32, .f32⟩
  | 54 => ⟨S1x2048x8x32, .f32⟩
  | 55 => ⟨S1x2048x8x32, .f32⟩
  | 56 => ⟨S1x2048x8x32, .f32⟩
  | 57 => ⟨S1x2048x8x64, .f32⟩
  | 58 => ⟨S_, .f32⟩
  | 59 => ⟨S1x2048x8x64, .f32⟩
  | 60 => ⟨S1x2048x8x64, .f32⟩
  | 61 => ⟨S1x32x64x8x64, .f32⟩
  | 62 => ⟨S1x32x64x8x64, .f32⟩
  | 63 => ⟨S1x32x64x8x128, .f32⟩
  | 64 => ⟨S64, .f32⟩
  | 65 => ⟨S64x1, .f32⟩
  | 66 => ⟨S1x64, .f32⟩
  | 67 => ⟨S64x64, .f32⟩
  | 68 => ⟨S64x64, .f32⟩
  | 69 => ⟨S64x64, .f32⟩
  | 70 => ⟨S64x64, .f32⟩
  | 71 => ⟨S1x64x64, .f32⟩
  | 72 => ⟨S8x1x1, .f32⟩
  | 73 => ⟨S8x64x64, .f32⟩
  | 74 => ⟨S8x64x64, .f32⟩
  | 75 => ⟨S8x64x64, .f32⟩
  | 76 => ⟨S8x64x64, .f32⟩
  | 77 => ⟨S1x32x8x64x64, .f32⟩
  | 78 => ⟨S1x1x8x64x64, .f32⟩
  | 79 => ⟨S1x32x8x64x64, .f32⟩
  | 80 => ⟨S1x32x8x64x64, .f32⟩
  | 81 => ⟨S1x32x8x128x64, .f32⟩
  | 82 => ⟨S1x32x64x8x128, .f32⟩
  | 83 => ⟨S_, .f32⟩
  | 84 => ⟨S64, .f32⟩
  | 85 => ⟨S64, .f32⟩
  | 86 => ⟨S64x1, .f32⟩
  | 87 => ⟨S1x8, .f32⟩
  | 88 => ⟨S64x8, .f32⟩
  | 89 => ⟨S64x8, .f32⟩
  | 90 => ⟨S64x8, .f32⟩
  | 91 => ⟨S64x8, .f32⟩
  | 92 => ⟨S1x1x64x8x1, .f32⟩
  | 93 => ⟨S1x32x64x8x64, .f32⟩
  | 94 => ⟨S1x32x64x8x64, .f32⟩
  | 95 => ⟨S32x1x8x64x128, .f32⟩
  | 96 => ⟨S_, .f32⟩
  | 97 => ⟨S8, .f32⟩
  | 98 => ⟨S8, .f32⟩
  | 99 => ⟨S8, .f32⟩
  | 100 => ⟨S1x8x1x1, .f32⟩
  | 101 => ⟨S_, .f32⟩
  | 102 => ⟨S1x8x64x128, .f32⟩
  | 103 => ⟨S0x1x8x64x128, .f32⟩
  | 104 => ⟨S32x1x8x64x128, .f32⟩
  | 105 => ⟨S_, .f32⟩
  | 106 => ⟨S0x1x8x64x128, .f32⟩
  | 107 => ⟨S1x1x8x64x128, .f32⟩
  | 108 => ⟨S1x8x64x128, .f32⟩
  | 109 => ⟨S1x8x64x128, .f32⟩
  | 110 => ⟨S1x8x64x128, .f32⟩
  | 111 => ⟨S1x8x64x128, .f32⟩
  | 112 => ⟨S1x1x8x64x128, .f32⟩
  | 113 => ⟨S1x8x64x128, .f32⟩
  | 114 => ⟨S1x8x64x128, .f32⟩
  | 115 => ⟨S1x8x64x128, .f32⟩
  | 116 => ⟨S1x8x64x128, .f32⟩
  | 117 => ⟨S1x1x8x64x128, .f32⟩
  | 118 => ⟨S1x8x64x128, .f32⟩
  | 119 => ⟨S1x8x64x128, .f32⟩
  | 120 => ⟨S1x8x64x128, .f32⟩
  | 121 => ⟨S1x8x64x128, .f32⟩
  | 122 => ⟨S1x1x8x64x128, .f32⟩
  | 123 => ⟨S1x8x64x128, .f32⟩
  | 124 => ⟨S1x8x64x128, .f32⟩
  | 125 => ⟨S1x8x64x128, .f32⟩
  | 126 => ⟨S1x8x64x128, .f32⟩
  | 127 => ⟨S1x1x8x64x128, .f32⟩
  | _ => ⟨S2048x6656, .bf16⟩

abbrev hbmTy0_1 (i : Nat) : BufTy := match i % 128 with
  | 0 => ⟨S1x8x64x128, .f32⟩
  | 1 => ⟨S1x8x64x128, .f32⟩
  | 2 => ⟨S1x8x64x128, .f32⟩
  | 3 => ⟨S1x8x64x128, .f32⟩
  | 4 => ⟨S1x1x8x64x128, .f32⟩
  | 5 => ⟨S1x8x64x128, .f32⟩
  | 6 => ⟨S1x8x64x128, .f32⟩
  | 7 => ⟨S1x8x64x128, .f32⟩
  | 8 => ⟨S1x8x64x128, .f32⟩
  | 9 => ⟨S1x1x8x64x128, .f32⟩
  | 10 => ⟨S1x8x64x128, .f32⟩
  | 11 => ⟨S1x8x64x128, .f32⟩
  | 12 => ⟨S1x8x64x128, .f32⟩
  | 13 => ⟨S1x8x64x128, .f32⟩
  | 14 => ⟨S1x1x8x64x128, .f32⟩
  | 15 => ⟨S1x8x64x128, .f32⟩
  | 16 => ⟨S1x8x64x128, .f32⟩
  | 17 => ⟨S1x8x64x128, .f32⟩
  | 18 => ⟨S1x8x64x128, .f32⟩
  | 19 => ⟨S1x1x8x64x128, .f32⟩
  | 20 => ⟨S1x8x64x128, .f32⟩
  | 21 => ⟨S1x8x64x128, .f32⟩
  | 22 => ⟨S1x8x64x128, .f32⟩
  | 23 => ⟨S1x8x64x128, .f32⟩
  | 24 => ⟨S1x1x8x64x128, .f32⟩
  | 25 => ⟨S1x8x64x128, .f32⟩
  | 26 => ⟨S1x8x64x128, .f32⟩
  | 27 => ⟨S1x8x64x128, .f32⟩
  | 28 => ⟨S1x8x64x128, .f32⟩
  | 29 => ⟨S1x1x8x64x128, .f32⟩
  | 30 => ⟨S1x8x64x128, .f32⟩
  | 31 => ⟨S1x8x64x128, .f32⟩
  | 32 => ⟨S1x8x64x128, .f32⟩
  | 33 => ⟨S1x8x64x128, .f32⟩
  | 34 => ⟨S1x1x8x64x128, .f32⟩
  | 35 => ⟨S1x8x64x128, .f32⟩
  | 36 => ⟨S1x8x64x128, .f32⟩
  | 37 => ⟨S1x8x64x128, .f32⟩
  | 38 => ⟨S1x8x64x128, .f32⟩
  | 39 => ⟨S1x1x8x64x128, .f32⟩
  | 40 => ⟨S1x8x64x128, .f32⟩
  | 41 => ⟨S1x8x64x128, .f32⟩
  | 42 => ⟨S1x8x64x128, .f32⟩
  | 43 => ⟨S1x8x64x128, .f32⟩
  | 44 => ⟨S1x1x8x64x128, .f32⟩
  | 45 => ⟨S1x8x64x128, .f32⟩
  | 46 => ⟨S1x8x64x128, .f32⟩
  | 47 => ⟨S1x8x64x128, .f32⟩
  | 48 => ⟨S1x8x64x128, .f32⟩
  | 49 => ⟨S1x1x8x64x128, .f32⟩
  | 50 => ⟨S1x8x64x128, .f32⟩
  | 51 => ⟨S1x8x64x128, .f32⟩
  | 52 => ⟨S1x8x64x128, .f32⟩
  | 53 => ⟨S1x8x64x128, .f32⟩
  | 54 => ⟨S1x1x8x64x128, .f32⟩
  | 55 => ⟨S1x8x64x128, .f32⟩
  | 56 => ⟨S1x8x64x128, .f32⟩
  | 57 => ⟨S1x8x64x128, .f32⟩
  | 58 => ⟨S1x8x64x128, .f32⟩
  | 59 => ⟨S1x1x8x64x128, .f32⟩
  | 60 => ⟨S1x8x64x128, .f32⟩
  | 61 => ⟨S1x8x64x128, .f32⟩
  | 62 => ⟨S1x8x64x128, .f32⟩
  | 63 => ⟨S1x8x64x128, .f32⟩
  | 64 => ⟨S1x1x8x64x128, .f32⟩
  | 65 => ⟨S1x8x64x128, .f32⟩
  | 66 => ⟨S1x8x64x128, .f32⟩
  | 67 => ⟨S1x8x64x128, .f32⟩
  | 68 => ⟨S1x8x64x128, .f32⟩
  | 69 => ⟨S1x1x8x64x128, .f32⟩
  | 70 => ⟨S1x8x64x128, .f32⟩
  | 71 => ⟨S1x8x64x128, .f32⟩
  | 72 => ⟨S1x8x64x128, .f32⟩
  | 73 => ⟨S1x8x64x128, .f32⟩
  | 74 => ⟨S1x1x8x64x128, .f32⟩
  | 75 => ⟨S1x8x64x128, .f32⟩
  | 76 => ⟨S1x8x64x128, .f32⟩
  | 77 => ⟨S1x8x64x128, .f32⟩
  | 78 => ⟨S1x8x64x128, .f32⟩
  | 79 => ⟨S1x1x8x64x128, .f32⟩
  | 80 => ⟨S1x8x64x128, .f32⟩
  | 81 => ⟨S1x8x64x128, .f32⟩
  | 82 => ⟨S1x8x64x128, .f32⟩
  | 83 => ⟨S1x8x64x128, .f32⟩
  | 84 => ⟨S1x1x8x64x128, .f32⟩
  | 85 => ⟨S1x8x64x128, .f32⟩
  | 86 => ⟨S1x8x64x128, .f32⟩
  | 87 => ⟨S1x8x64x128, .f32⟩
  | 88 => ⟨S1x8x64x128, .f32⟩
  | 89 => ⟨S1x1x8x64x128, .f32⟩
  | 90 => ⟨S1x8x64x128, .f32⟩
  | 91 => ⟨S1x8x64x128, .f32⟩
  | 92 => ⟨S1x8x64x128, .f32⟩
  | 93 => ⟨S1x8x64x128, .f32⟩
  | 94 => ⟨S1x1x8x64x128, .f32⟩
  | 95 => ⟨S1x8x64x128, .f32⟩
  | 96 => ⟨S1x8x64x128, .f32⟩
  | 97 => ⟨S1x8x64x128, .f32⟩
  | 98 => ⟨S1x8x64x128, .f32⟩
  | 99 => ⟨S1x1x8x64x128, .f32⟩
  | 100 => ⟨S1x8x64x128, .f32⟩
  | 101 => ⟨S1x8x64x128, .f32⟩
  | 102 => ⟨S1x8x64x128, .f32⟩
  | 103 => ⟨S1x8x64x128, .f32⟩
  | 104 => ⟨S1x1x8x64x128, .f32⟩
  | 105 => ⟨S1x8x64x128, .f32⟩
  | 106 => ⟨S1x8x64x128, .f32⟩
  | 107 => ⟨S1x8x64x128, .f32⟩
  | 108 => ⟨S1x8x64x128, .f32⟩
  | 109 => ⟨S1x1x8x64x128, .f32⟩
  | 110 => ⟨S1x8x64x128, .f32⟩
  | 111 => ⟨S1x8x64x128, .f32⟩
  | 112 => ⟨S1x8x64x128, .f32⟩
  | 113 => ⟨S1x8x64x128, .f32⟩
  | 114 => ⟨S1x1x8x64x128, .f32⟩
  | 115 => ⟨S1x8x64x128, .f32⟩
  | 116 => ⟨S1x8x64x128, .f32⟩
  | 117 => ⟨S1x8x64x128, .f32⟩
  | 118 => ⟨S1x8x64x128, .f32⟩
  | 119 => ⟨S1x1x8x64x128, .f32⟩
  | 120 => ⟨S1x8x64x128, .f32⟩
  | 121 => ⟨S1x8x64x128, .f32⟩
  | 122 => ⟨S1x8x64x128, .f32⟩
  | 123 => ⟨S1x8x64x128, .f32⟩
  | 124 => ⟨S1x1x8x64x128, .f32⟩
  | 125 => ⟨S1x8x64x128, .f32⟩
  | 126 => ⟨S1x8x64x128, .f32⟩
  | 127 => ⟨S1x8x64x128, .f32⟩
  | _ => ⟨S2048x6656, .bf16⟩

abbrev hbmTy0_2 (i : Nat) : BufTy := match i % 128 with
  | 0 => ⟨S1x8x64x128, .f32⟩
  | 1 => ⟨S1x1x8x64x128, .f32⟩
  | 2 => ⟨S1x8x64x128, .f32⟩
  | 3 => ⟨S1x8x64x128, .f32⟩
  | 4 => ⟨S1x8x64x128, .f32⟩
  | 5 => ⟨S1x8x64x128, .f32⟩
  | 6 => ⟨S1x1x8x64x128, .f32⟩
  | 7 => ⟨S1x8x64x128, .f32⟩
  | 8 => ⟨S1x8x64x128, .f32⟩
  | 9 => ⟨S1x8x64x128, .f32⟩
  | 10 => ⟨S1x8x64x128, .f32⟩
  | 11 => ⟨S1x1x8x64x128, .f32⟩
  | 12 => ⟨S1x1x8x64x128, .f32⟩
  | 13 => ⟨S1x1x8x64x128, .f32⟩
  | 14 => ⟨S1x1x8x64x128, .f32⟩
  | 15 => ⟨S1x1x8x64x128, .f32⟩
  | 16 => ⟨S1x1x8x64x128, .f32⟩
  | 17 => ⟨S1x1x8x64x128, .f32⟩
  | 18 => ⟨S1x1x8x64x128, .f32⟩
  | 19 => ⟨S1x1x8x64x128, .f32⟩
  | 20 => ⟨S1x1x8x64x128, .f32⟩
  | 21 => ⟨S1x1x8x64x128, .f32⟩
  | 22 => ⟨S1x1x8x64x128, .f32⟩
  | 23 => ⟨S1x1x8x64x128, .f32⟩
  | 24 => ⟨S1x1x8x64x128, .f32⟩
  | 25 => ⟨S1x1x8x64x128, .f32⟩
  | 26 => ⟨S1x1x8x64x128, .f32⟩
  | 27 => ⟨S1x1x8x64x128, .f32⟩
  | 28 => ⟨S1x1x8x64x128, .f32⟩
  | 29 => ⟨S1x1x8x64x128, .f32⟩
  | 30 => ⟨S1x1x8x64x128, .f32⟩
  | 31 => ⟨S1x1x8x64x128, .f32⟩
  | 32 => ⟨S1x1x8x64x128, .f32⟩
  | 33 => ⟨S1x1x8x64x128, .f32⟩
  | 34 => ⟨S1x1x8x64x128, .f32⟩
  | 35 => ⟨S1x1x8x64x128, .f32⟩
  | 36 => ⟨S1x1x8x64x128, .f32⟩
  | 37 => ⟨S1x1x8x64x128, .f32⟩
  | 38 => ⟨S1x1x8x64x128, .f32⟩
  | 39 => ⟨S1x1x8x64x128, .f32⟩
  | 40 => ⟨S1x1x8x64x128, .f32⟩
  | 41 => ⟨S1x1x8x64x128, .f32⟩
  | 42 => ⟨S1x1x8x64x128, .f32⟩
  | 43 => ⟨S16x1x8x64x128, .f32⟩
  | 44 => ⟨S16x1x8x64x128, .f32⟩
  | 45 => ⟨S32x1x8x64x128, .f32⟩
  | 46 => ⟨S32x1x8x64x128, .f32⟩
  | 47 => ⟨S_, .f32⟩
  | 48 => ⟨S64, .f32⟩
  | 49 => ⟨S64, .f32⟩
  | 50 => ⟨S64x1, .f32⟩
  | 51 => ⟨S1x8, .f32⟩
  | 52 => ⟨S64x8, .f32⟩
  | 53 => ⟨S64x8, .f32⟩
  | 54 => ⟨S64x8, .f32⟩
  | 55 => ⟨S64x8, .f32⟩
  | 56 => ⟨S1x1x64x8x1, .f32⟩
  | 57 => ⟨S1x32x64x8x64, .f32⟩
  | 58 => ⟨S1x32x64x8x64, .f32⟩
  | 59 => ⟨S1x32x8x128x64, .f32⟩
  | 60 => ⟨S1x32x64x8x128, .f32⟩
  | 61 => ⟨S1x32x64x8x128, .f32⟩
  | 62 => ⟨S1x2048x8x128, .f32⟩
  | 63 => ⟨S2048x1024, .f32⟩
  | 64 => ⟨S2048x1024, .f32⟩
  | 65 => ⟨S_, .f32⟩
  | 66 => ⟨S1x8x64x128, .f32⟩
  | 67 => ⟨S1x2048x8x128, .f32⟩
  | 68 => ⟨S1x32x64x8x128, .f32⟩
  | 69 => ⟨S1x32x8x128x64, .f32⟩
  | 70 => ⟨S1x32x8x64x64, .f32⟩
  | 71 => ⟨S1x32x64x8x64, .f32⟩
  | 72 => ⟨S1x32x8x128x64, .f32⟩
  | 73 => ⟨S32x1x8x64x128, .f32⟩
  | 74 => ⟨S1x32x64x8x64, .f32⟩
  | 75 => ⟨S1x32x64x8x64, .f32⟩
  | 76 => ⟨S_, .f32⟩
  | 77 => ⟨S1x8x64x128, .f32⟩
  | 78 => ⟨S32x1x8x64x128, .f32⟩
  | 79 => ⟨S0x1x8x64x128, .f32⟩
  | 80 => ⟨S_, .f32⟩
  | 81 => ⟨S0x1x8x64x128, .f32⟩
  | 82 => ⟨S1x1x8x64x128, .f32⟩
  | 83 => ⟨S1x8x64x128, .f32⟩
  | 84 => ⟨S1x8x64x128, .f32⟩
  | 85 => ⟨S1x8x64x128, .f32⟩
  | 86 => ⟨S1x8x64x128, .f32⟩
  | 87 => ⟨S1x1x8x64x128, .f32⟩
  | 88 => ⟨S1x8x64x128, .f32⟩
  | 89 => ⟨S1x8x64x128, .f32⟩
  | 90 => ⟨S1x8x64x128, .f32⟩
  | 91 => ⟨S1x8x64x128, .f32⟩
  | 92 => ⟨S1x1x8x64x128, .f32⟩
  | 93 => ⟨S1x8x64x128, .f32⟩
  | 94 => ⟨S1x8x64x128, .f32⟩
  | 95 => ⟨S1x8x64x128, .f32⟩
  | 96 => ⟨S1x8x64x128, .f32⟩
  | 97 => ⟨S1x1x8x64x128, .f32⟩
  | 98 => ⟨S1x8x64x128, .f32⟩
  | 99 => ⟨S1x8x64x128, .f32⟩
  | 100 => ⟨S1x8x64x128, .f32⟩
  | 101 => ⟨S1x8x64x128, .f32⟩
  | 102 => ⟨S1x1x8x64x128, .f32⟩
  | 103 => ⟨S1x8x64x128, .f32⟩
  | 104 => ⟨S1x8x64x128, .f32⟩
  | 105 => ⟨S1x8x64x128, .f32⟩
  | 106 => ⟨S1x8x64x128, .f32⟩
  | 107 => ⟨S1x1x8x64x128, .f32⟩
  | 108 => ⟨S1x8x64x128, .f32⟩
  | 109 => ⟨S1x8x64x128, .f32⟩
  | 110 => ⟨S1x8x64x128, .f32⟩
  | 111 => ⟨S1x8x64x128, .f32⟩
  | 112 => ⟨S1x1x8x64x128, .f32⟩
  | 113 => ⟨S1x8x64x128, .f32⟩
  | 114 => ⟨S1x8x64x128, .f32⟩
  | 115 => ⟨S1x8x64x128, .f32⟩
  | 116 => ⟨S1x8x64x128, .f32⟩
  | 117 => ⟨S1x1x8x64x128, .f32⟩
  | 118 => ⟨S1x8x64x128, .f32⟩
  | 119 => ⟨S1x8x64x128, .f32⟩
  | 120 => ⟨S1x8x64x128, .f32⟩
  | 121 => ⟨S1x8x64x128, .f32⟩
  | 122 => ⟨S1x1x8x64x128, .f32⟩
  | 123 => ⟨S1x8x64x128, .f32⟩
  | 124 => ⟨S1x8x64x128, .f32⟩
  | 125 => ⟨S1x8x64x128, .f32⟩
  | 126 => ⟨S1x8x64x128, .f32⟩
  | 127 => ⟨S1x1x8x64x128, .f32⟩
  | _ => ⟨S2048x6656, .bf16⟩

abbrev hbmTy0_3 (i : Nat) : BufTy := match i % 128 with
  | 0 => ⟨S1x8x64x128, .f32⟩
  | 1 => ⟨S1x8x64x128, .f32⟩
  | 2 => ⟨S1x8x64x128, .f32⟩
  | 3 => ⟨S1x8x64x128, .f32⟩
  | 4 => ⟨S1x1x8x64x128, .f32⟩
  | 5 => ⟨S1x8x64x128, .f32⟩
  | 6 => ⟨S1x8x64x128, .f32⟩
  | 7 => ⟨S1x8x64x128, .f32⟩
  | 8 => ⟨S1x8x64x128, .f32⟩
  | 9 => ⟨S1x1x8x64x128, .f32⟩
  | 10 => ⟨S1x8x64x128, .f32⟩
  | 11 => ⟨S1x8x64x128, .f32⟩
  | 12 => ⟨S1x8x64x128, .f32⟩
  | 13 => ⟨S1x8x64x128, .f32⟩
  | 14 => ⟨S1x1x8x64x128, .f32⟩
  | 15 => ⟨S1x8x64x128, .f32⟩
  | 16 => ⟨S1x8x64x128, .f32⟩
  | 17 => ⟨S1x8x64x128, .f32⟩
  | 18 => ⟨S1x8x64x128, .f32⟩
  | 19 => ⟨S1x1x8x64x128, .f32⟩
  | 20 => ⟨S1x8x64x128, .f32⟩
  | 21 => ⟨S1x8x64x128, .f32⟩
  | 22 => ⟨S1x8x64x128, .f32⟩
  | 23 => ⟨S1x8x64x128, .f32⟩
  | 24 => ⟨S1x1x8x64x128, .f32⟩
  | 25 => ⟨S1x8x64x128, .f32⟩
  | 26 => ⟨S1x8x64x128, .f32⟩
  | 27 => ⟨S1x8x64x128, .f32⟩
  | 28 => ⟨S1x8x64x128, .f32⟩
  | 29 => ⟨S1x1x8x64x128, .f32⟩
  | 30 => ⟨S1x8x64x128, .f32⟩
  | 31 => ⟨S1x8x64x128, .f32⟩
  | 32 => ⟨S1x8x64x128, .f32⟩
  | 33 => ⟨S1x8x64x128, .f32⟩
  | 34 => ⟨S1x1x8x64x128, .f32⟩
  | 35 => ⟨S1x8x64x128, .f32⟩
  | 36 => ⟨S1x8x64x128, .f32⟩
  | 37 => ⟨S1x8x64x128, .f32⟩
  | 38 => ⟨S1x8x64x128, .f32⟩
  | 39 => ⟨S1x1x8x64x128, .f32⟩
  | 40 => ⟨S1x8x64x128, .f32⟩
  | 41 => ⟨S1x8x64x128, .f32⟩
  | 42 => ⟨S1x8x64x128, .f32⟩
  | 43 => ⟨S1x8x64x128, .f32⟩
  | 44 => ⟨S1x1x8x64x128, .f32⟩
  | 45 => ⟨S1x8x64x128, .f32⟩
  | 46 => ⟨S1x8x64x128, .f32⟩
  | 47 => ⟨S1x8x64x128, .f32⟩
  | 48 => ⟨S1x8x64x128, .f32⟩
  | 49 => ⟨S1x1x8x64x128, .f32⟩
  | 50 => ⟨S1x8x64x128, .f32⟩
  | 51 => ⟨S1x8x64x128, .f32⟩
  | 52 => ⟨S1x8x64x128, .f32⟩
  | 53 => ⟨S1x8x64x128, .f32⟩
  | 54 => ⟨S1x1x8x64x128, .f32⟩
  | 55 => ⟨S1x8x64x128, .f32⟩
  | 56 => ⟨S1x8x64x128, .f32⟩
  | 57 => ⟨S1x8x64x128, .f32⟩
  | 58 => ⟨S1x8x64x128, .f32⟩
  | 59 => ⟨S1x1x8x64x128, .f32⟩
  | 60 => ⟨S1x8x64x128, .f32⟩
  | 61 => ⟨S1x8x64x128, .f32⟩
  | 62 => ⟨S1x8x64x128, .f32⟩
  | 63 => ⟨S1x8x64x128, .f32⟩
  | 64 => ⟨S1x1x8x64x128, .f32⟩
  | 65 => ⟨S1x8x64x128, .f32⟩
  | 66 => ⟨S1x8x64x128, .f32⟩
  | 67 => ⟨S1x8x64x128, .f32⟩
  | 68 => ⟨S1x8x64x128, .f32⟩
  | 69 => ⟨S1x1x8x64x128, .f32⟩
  | 70 => ⟨S1x8x64x128, .f32⟩
  | 71 => ⟨S1x8x64x128, .f32⟩
  | 72 => ⟨S1x8x64x128, .f32⟩
  | 73 => ⟨S1x8x64x128, .f32⟩
  | 74 => ⟨S1x1x8x64x128, .f32⟩
  | 75 => ⟨S1x8x64x128, .f32⟩
  | 76 => ⟨S1x8x64x128, .f32⟩
  | 77 => ⟨S1x8x64x128, .f32⟩
  | 78 => ⟨S1x8x64x128, .f32⟩
  | 79 => ⟨S1x1x8x64x128, .f32⟩
  | 80 => ⟨S1x8x64x128, .f32⟩
  | 81 => ⟨S1x8x64x128, .f32⟩
  | 82 => ⟨S1x8x64x128, .f32⟩
  | 83 => ⟨S1x8x64x128, .f32⟩
  | 84 => ⟨S1x1x8x64x128, .f32⟩
  | 85 => ⟨S1x8x64x128, .f32⟩
  | 86 => ⟨S1x8x64x128, .f32⟩
  | 87 => ⟨S1x8x64x128, .f32⟩
  | 88 => ⟨S1x8x64x128, .f32⟩
  | 89 => ⟨S1x1x8x64x128, .f32⟩
  | 90 => ⟨S1x8x64x128, .f32⟩
  | 91 => ⟨S1x8x64x128, .f32⟩
  | 92 => ⟨S1x8x64x128, .f32⟩
  | 93 => ⟨S1x8x64x128, .f32⟩
  | 94 => ⟨S1x1x8x64x128, .f32⟩
  | 95 => ⟨S1x8x64x128, .f32⟩
  | 96 => ⟨S1x8x64x128, .f32⟩
  | 97 => ⟨S1x8x64x128, .f32⟩
  | 98 => ⟨S1x8x64x128, .f32⟩
  | 99 => ⟨S1x1x8x64x128, .f32⟩
  | 100 => ⟨S1x8x64x128, .f32⟩
  | 101 => ⟨S1x8x64x128, .f32⟩
  | 102 => ⟨S1x8x64x128, .f32⟩
  | 103 => ⟨S1x8x64x128, .f32⟩
  | 104 => ⟨S1x1x8x64x128, .f32⟩
  | 105 => ⟨S1x8x64x128, .f32⟩
  | 106 => ⟨S1x8x64x128, .f32⟩
  | 107 => ⟨S1x8x64x128, .f32⟩
  | 108 => ⟨S1x8x64x128, .f32⟩
  | 109 => ⟨S1x1x8x64x128, .f32⟩
  | 110 => ⟨S1x8x64x128, .f32⟩
  | 111 => ⟨S1x8x64x128, .f32⟩
  | 112 => ⟨S1x8x64x128, .f32⟩
  | 113 => ⟨S1x8x64x128, .f32⟩
  | 114 => ⟨S1x1x8x64x128, .f32⟩
  | 115 => ⟨S1x1x8x64x128, .f32⟩
  | 116 => ⟨S1x1x8x64x128, .f32⟩
  | 117 => ⟨S1x1x8x64x128, .f32⟩
  | 118 => ⟨S1x1x8x64x128, .f32⟩
  | 119 => ⟨S1x1x8x64x128, .f32⟩
  | 120 => ⟨S1x1x8x64x128, .f32⟩
  | 121 => ⟨S1x1x8x64x128, .f32⟩
  | 122 => ⟨S1x1x8x64x128, .f32⟩
  | 123 => ⟨S1x1x8x64x128, .f32⟩
  | 124 => ⟨S1x1x8x64x128, .f32⟩
  | 125 => ⟨S1x1x8x64x128, .f32⟩
  | 126 => ⟨S1x1x8x64x128, .f32⟩
  | 127 => ⟨S1x1x8x64x128, .f32⟩
  | _ => ⟨S2048x6656, .bf16⟩

abbrev hbmTy0_4 (i : Nat) : BufTy := match i % 128 with
  | 0 => ⟨S1x1x8x64x128, .f32⟩
  | 1 => ⟨S1x1x8x64x128, .f32⟩
  | 2 => ⟨S1x1x8x64x128, .f32⟩
  | 3 => ⟨S1x1x8x64x128, .f32⟩
  | 4 => ⟨S1x1x8x64x128, .f32⟩
  | 5 => ⟨S1x1x8x64x128, .f32⟩
  | 6 => ⟨S1x1x8x64x128, .f32⟩
  | 7 => ⟨S1x1x8x64x128, .f32⟩
  | 8 => ⟨S1x1x8x64x128, .f32⟩
  | 9 => ⟨S1x1x8x64x128, .f32⟩
  | 10 => ⟨S1x1x8x64x128, .f32⟩
  | 11 => ⟨S1x1x8x64x128, .f32⟩
  | 12 => ⟨S1x1x8x64x128, .f32⟩
  | 13 => ⟨S1x1x8x64x128, .f32⟩
  | 14 => ⟨S1x1x8x64x128, .f32⟩
  | 15 => ⟨S1x1x8x64x128, .f32⟩
  | 16 => ⟨S1x1x8x64x128, .f32⟩
  | 17 => ⟨S1x1x8x64x128, .f32⟩
  | 18 => ⟨S16x1x8x64x128, .f32⟩
  | 19 => ⟨S16x1x8x64x128, .f32⟩
  | 20 => ⟨S32x1x8x64x128, .f32⟩
  | 21 => ⟨S32x1x8x64x128, .f32⟩
  | 22 => ⟨S32x1x8x128x64, .f32⟩
  | 23 => ⟨S1x32x64x8x128, .f32⟩
  | 24 => ⟨S32x1x8x64x64, .f32⟩
  | 25 => ⟨S1x32x64x8x64, .f32⟩
  | 26 => ⟨S1x32x64x8x64, .f32⟩
  | 27 => ⟨S1x32x64x8x64, .f32⟩
  | 28 => ⟨S1x32x8x128x64, .f32⟩
  | 29 => ⟨S1x32x8x64x64, .f32⟩
  | 30 => ⟨S1x32x8x128x64, .f32⟩
  | 31 => ⟨S1x32x64x8x128, .f32⟩
  | 32 => ⟨S1x32x64x8x128, .f32⟩
  | 33 => ⟨S1x32x8x64x64, .f32⟩
  | 34 => ⟨S1x32x8x64x64, .f32⟩
  | 35 => ⟨S1x32x8x64x64, .f32⟩
  | 36 => ⟨S1x32x64x8x64, .f32⟩
  | 37 => ⟨S1x32x64x8x64, .f32⟩
  | 38 => ⟨S1x32x8x64x64, .f32⟩
  | 39 => ⟨S1x32x64x8x64, .f32⟩
  | 40 => ⟨S1x32x64x8x64, .f32⟩
  | 41 => ⟨S1x2048x8x128, .f32⟩
  | 42 => ⟨S1x2048x8x64, .f32⟩
  | 43 => ⟨S1x2048x8x64, .f32⟩
  | 44 => ⟨S_, .f32⟩
  | 45 => ⟨S1x2048x8x64, .f32⟩
  | 46 => ⟨S1x2048x8x64, .f32⟩
  | 47 => ⟨S1x2048x8x32, .f32⟩
  | 48 => ⟨S1x2048x8x32, .f32⟩
  | 49 => ⟨S1x2048x8x32, .f32⟩
  | 50 => ⟨S1x2048x8x32, .f32⟩
  | 51 => ⟨S1x2048x8x32, .f32⟩
  | 52 => ⟨S1x2048x8x32, .f32⟩
  | 53 => ⟨S1x2048x8x32, .f32⟩
  | 54 => ⟨S1x2048x8x32, .f32⟩
  | 55 => ⟨S1x2048x8x32, .f32⟩
  | 56 => ⟨S1x2048x8x32, .f32⟩
  | 57 => ⟨S1x2048x8x32, .f32⟩
  | 58 => ⟨S1x2048x8x32, .f32⟩
  | 59 => ⟨S1x2048x8x32, .f32⟩
  | 60 => ⟨S_, .f32⟩
  | 61 => ⟨S1x2048x8x64, .f32⟩
  | 62 => ⟨S_, .f32⟩
  | 63 => ⟨S1x2048x8x64, .f32⟩
  | 64 => ⟨S1x2048x8x64, .f32⟩
  | 65 => ⟨S1x2048x8x32, .f32⟩
  | 66 => ⟨S1x2048x8x32, .f32⟩
  | 67 => ⟨S1x2048x8x32, .f32⟩
  | 68 => ⟨S1x2048x8x32, .f32⟩
  | 69 => ⟨S1x2048x8x32, .f32⟩
  | 70 => ⟨S1x2048x8x32, .f32⟩
  | 71 => ⟨S1x2048x8x32, .f32⟩
  | 72 => ⟨S1x2048x8x32, .f32⟩
  | 73 => ⟨S1x2048x8x32, .f32⟩
  | 74 => ⟨S1x2048x8x32, .f32⟩
  | 75 => ⟨S1x2048x8x32, .f32⟩
  | 76 => ⟨S1x2048x8x32, .f32⟩
  | 77 => ⟨S1x2048x8x32, .f32⟩
  | 78 => ⟨S_, .f32⟩
  | 79 => ⟨S1x2048x8x64, .f32⟩
  | 80 => ⟨S_, .f32⟩
  | 81 => ⟨S1x2048x8x64, .f32⟩
  | 82 => ⟨S1x2048x8x64, .f32⟩
  | 83 => ⟨S2048x1024, .f32⟩
  | 84 => ⟨S2048x512, .f32⟩
  | 85 => ⟨S2048x512, .f32⟩
  | 86 => ⟨S2048x2048, .f32⟩
  | 87 => ⟨S2048x2048, .bf16⟩
  | _ => ⟨S2048x6656, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x6656, .bf16⟩

abbrev bufTy : (tb : Table) → Fin (tcTables nBuf tb) → BufTy
  | .hbm, ⟨i, _⟩ => hbmTy i
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_0 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_1 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_cst_2 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst_3 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_cst_4 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_v304 : Ref sig .tc := ⟨.hbm, 315, rfl⟩
abbrev main_v305 : Ref sig .tc := ⟨.hbm, 316, rfl⟩
abbrev main_v306 : Ref sig .tc := ⟨.hbm, 317, rfl⟩
abbrev main_v307 : Ref sig .tc := ⟨.hbm, 318, rfl⟩
abbrev main_v308 : Ref sig .tc := ⟨.hbm, 319, rfl⟩
abbrev main_v309 : Ref sig .tc := ⟨.hbm, 320, rfl⟩
abbrev main_cst_5 : Ref sig .tc := ⟨.hbm, 321, rfl⟩
abbrev main_v310 : Ref sig .tc := ⟨.hbm, 322, rfl⟩
abbrev main_v311 : Ref sig .tc := ⟨.hbm, 323, rfl⟩
abbrev main_v312 : Ref sig .tc := ⟨.hbm, 324, rfl⟩
abbrev main_v313 : Ref sig .tc := ⟨.hbm, 325, rfl⟩
abbrev main_v314 : Ref sig .tc := ⟨.hbm, 326, rfl⟩
abbrev main_v315 : Ref sig .tc := ⟨.hbm, 327, rfl⟩
abbrev main_v316 : Ref sig .tc := ⟨.hbm, 328, rfl⟩
abbrev main_v317 : Ref sig .tc := ⟨.hbm, 329, rfl⟩
abbrev main_v318 : Ref sig .tc := ⟨.hbm, 330, rfl⟩
abbrev main_v319 : Ref sig .tc := ⟨.hbm, 331, rfl⟩
abbrev main_cst_6 : Ref sig .tc := ⟨.hbm, 332, rfl⟩
abbrev main_v320 : Ref sig .tc := ⟨.hbm, 333, rfl⟩
abbrev main_v321 : Ref sig .tc := ⟨.hbm, 334, rfl⟩
abbrev main_v322 : Ref sig .tc := ⟨.hbm, 335, rfl⟩
abbrev main_cst_7 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_v451 : Ref sig .tc := ⟨.hbm, 465, rfl⟩
abbrev main_v452 : Ref sig .tc := ⟨.hbm, 466, rfl⟩
abbrev main_v453 : Ref sig .tc := ⟨.hbm, 467, rfl⟩
abbrev main_v454 : Ref sig .tc := ⟨.hbm, 468, rfl⟩
abbrev main_v455 : Ref sig .tc := ⟨.hbm, 469, rfl⟩
abbrev main_v456 : Ref sig .tc := ⟨.hbm, 470, rfl⟩
abbrev main_v457 : Ref sig .tc := ⟨.hbm, 471, rfl⟩
abbrev main_v458 : Ref sig .tc := ⟨.hbm, 472, rfl⟩
abbrev main_v459 : Ref sig .tc := ⟨.hbm, 473, rfl⟩
abbrev main_v460 : Ref sig .tc := ⟨.hbm, 474, rfl⟩
abbrev main_v461 : Ref sig .tc := ⟨.hbm, 475, rfl⟩
abbrev main_v462 : Ref sig .tc := ⟨.hbm, 476, rfl⟩
abbrev main_v463 : Ref sig .tc := ⟨.hbm, 477, rfl⟩
abbrev main_v464 : Ref sig .tc := ⟨.hbm, 478, rfl⟩
abbrev main_v465 : Ref sig .tc := ⟨.hbm, 479, rfl⟩
abbrev main_v466 : Ref sig .tc := ⟨.hbm, 480, rfl⟩
abbrev main_v467 : Ref sig .tc := ⟨.hbm, 481, rfl⟩
abbrev main_v468 : Ref sig .tc := ⟨.hbm, 482, rfl⟩
abbrev main_v469 : Ref sig .tc := ⟨.hbm, 483, rfl⟩
abbrev main_v470 : Ref sig .tc := ⟨.hbm, 484, rfl⟩
abbrev main_v471 : Ref sig .tc := ⟨.hbm, 485, rfl⟩
abbrev main_v472 : Ref sig .tc := ⟨.hbm, 486, rfl⟩
abbrev main_v473 : Ref sig .tc := ⟨.hbm, 487, rfl⟩
abbrev main_v474 : Ref sig .tc := ⟨.hbm, 488, rfl⟩
abbrev main_v475 : Ref sig .tc := ⟨.hbm, 489, rfl⟩
abbrev main_v476 : Ref sig .tc := ⟨.hbm, 490, rfl⟩
abbrev main_v477 : Ref sig .tc := ⟨.hbm, 491, rfl⟩
abbrev main_v478 : Ref sig .tc := ⟨.hbm, 492, rfl⟩
abbrev main_v479 : Ref sig .tc := ⟨.hbm, 493, rfl⟩
abbrev main_v480 : Ref sig .tc := ⟨.hbm, 494, rfl⟩
abbrev main_v481 : Ref sig .tc := ⟨.hbm, 495, rfl⟩
abbrev main_v482 : Ref sig .tc := ⟨.hbm, 496, rfl⟩
abbrev main_v483 : Ref sig .tc := ⟨.hbm, 497, rfl⟩
abbrev main_v484 : Ref sig .tc := ⟨.hbm, 498, rfl⟩
abbrev main_v485 : Ref sig .tc := ⟨.hbm, 499, rfl⟩
abbrev main_v486 : Ref sig .tc := ⟨.hbm, 500, rfl⟩
abbrev main_v487 : Ref sig .tc := ⟨.hbm, 501, rfl⟩
abbrev main_v488 : Ref sig .tc := ⟨.hbm, 502, rfl⟩
abbrev main_v489 : Ref sig .tc := ⟨.hbm, 503, rfl⟩
abbrev main_v490 : Ref sig .tc := ⟨.hbm, 504, rfl⟩
abbrev main_v491 : Ref sig .tc := ⟨.hbm, 505, rfl⟩
abbrev main_v492 : Ref sig .tc := ⟨.hbm, 506, rfl⟩
abbrev main_v493 : Ref sig .tc := ⟨.hbm, 507, rfl⟩
abbrev main_v494 : Ref sig .tc := ⟨.hbm, 508, rfl⟩
abbrev main_v495 : Ref sig .tc := ⟨.hbm, 509, rfl⟩
abbrev main_v496 : Ref sig .tc := ⟨.hbm, 510, rfl⟩
abbrev main_v497 : Ref sig .tc := ⟨.hbm, 511, rfl⟩
abbrev main_v498 : Ref sig .tc := ⟨.hbm, 512, rfl⟩
abbrev main_v499 : Ref sig .tc := ⟨.hbm, 513, rfl⟩
abbrev main_v500 : Ref sig .tc := ⟨.hbm, 514, rfl⟩
abbrev main_v501 : Ref sig .tc := ⟨.hbm, 515, rfl⟩
abbrev main_v502 : Ref sig .tc := ⟨.hbm, 516, rfl⟩
abbrev main_v503 : Ref sig .tc := ⟨.hbm, 517, rfl⟩
abbrev main_v504 : Ref sig .tc := ⟨.hbm, 518, rfl⟩
abbrev main_v505 : Ref sig .tc := ⟨.hbm, 519, rfl⟩
abbrev main_v506 : Ref sig .tc := ⟨.hbm, 520, rfl⟩
abbrev main_v507 : Ref sig .tc := ⟨.hbm, 521, rfl⟩
abbrev main_v508 : Ref sig .tc := ⟨.hbm, 522, rfl⟩
abbrev main_v509 : Ref sig .tc := ⟨.hbm, 523, rfl⟩
abbrev main_v510 : Ref sig .tc := ⟨.hbm, 524, rfl⟩
abbrev main_v511 : Ref sig .tc := ⟨.hbm, 525, rfl⟩
abbrev main_v512 : Ref sig .tc := ⟨.hbm, 526, rfl⟩
abbrev main_v513 : Ref sig .tc := ⟨.hbm, 527, rfl⟩
abbrev main_v514 : Ref sig .tc := ⟨.hbm, 528, rfl⟩
abbrev main_v515 : Ref sig .tc := ⟨.hbm, 529, rfl⟩
abbrev main_v516 : Ref sig .tc := ⟨.hbm, 530, rfl⟩
abbrev main_v517 : Ref sig .tc := ⟨.hbm, 531, rfl⟩
abbrev main_v518 : Ref sig .tc := ⟨.hbm, 532, rfl⟩
abbrev main_v519 : Ref sig .tc := ⟨.hbm, 533, rfl⟩
abbrev main_v520 : Ref sig .tc := ⟨.hbm, 534, rfl⟩
abbrev main_v521 : Ref sig .tc := ⟨.hbm, 535, rfl⟩
abbrev main_v522 : Ref sig .tc := ⟨.hbm, 536, rfl⟩
abbrev main_v523 : Ref sig .tc := ⟨.hbm, 537, rfl⟩
abbrev main_v524 : Ref sig .tc := ⟨.hbm, 538, rfl⟩
abbrev main_v525 : Ref sig .tc := ⟨.hbm, 539, rfl⟩
abbrev main_v526 : Ref sig .tc := ⟨.hbm, 540, rfl⟩
abbrev main_v527 : Ref sig .tc := ⟨.hbm, 541, rfl⟩
abbrev main_v528 : Ref sig .tc := ⟨.hbm, 542, rfl⟩
abbrev main_v529 : Ref sig .tc := ⟨.hbm, 543, rfl⟩
abbrev main_v530 : Ref sig .tc := ⟨.hbm, 544, rfl⟩
abbrev main_v531 : Ref sig .tc := ⟨.hbm, 545, rfl⟩
abbrev main_v532 : Ref sig .tc := ⟨.hbm, 546, rfl⟩
abbrev main_v533 : Ref sig .tc := ⟨.hbm, 547, rfl⟩
abbrev main_v534 : Ref sig .tc := ⟨.hbm, 548, rfl⟩
abbrev main_v535 : Ref sig .tc := ⟨.hbm, 549, rfl⟩
abbrev main_v536 : Ref sig .tc := ⟨.hbm, 550, rfl⟩
abbrev main_v537 : Ref sig .tc := ⟨.hbm, 551, rfl⟩
abbrev main_v538 : Ref sig .tc := ⟨.hbm, 552, rfl⟩
abbrev main_v539 : Ref sig .tc := ⟨.hbm, 553, rfl⟩
abbrev main_v540 : Ref sig .tc := ⟨.hbm, 554, rfl⟩
abbrev main_v541 : Ref sig .tc := ⟨.hbm, 555, rfl⟩
abbrev main_cst_8 : Ref sig .tc := ⟨.hbm, 556, rfl⟩
abbrev main_v542 : Ref sig .tc := ⟨.hbm, 557, rfl⟩
abbrev main_v543 : Ref sig .tc := ⟨.hbm, 558, rfl⟩
abbrev main_v544 : Ref sig .tc := ⟨.hbm, 559, rfl⟩
abbrev main_v545 : Ref sig .tc := ⟨.hbm, 560, rfl⟩
abbrev main_v546 : Ref sig .tc := ⟨.hbm, 561, rfl⟩
abbrev main_v547 : Ref sig .tc := ⟨.hbm, 562, rfl⟩
abbrev main_v548 : Ref sig .tc := ⟨.hbm, 563, rfl⟩
abbrev main_v549 : Ref sig .tc := ⟨.hbm, 564, rfl⟩
abbrev main_v550 : Ref sig .tc := ⟨.hbm, 565, rfl⟩
abbrev main_v551 : Ref sig .tc := ⟨.hbm, 566, rfl⟩
abbrev main_v552 : Ref sig .tc := ⟨.hbm, 567, rfl⟩
abbrev main_v553 : Ref sig .tc := ⟨.hbm, 568, rfl⟩
abbrev main_v554 : Ref sig .tc := ⟨.hbm, 569, rfl⟩
abbrev main_v555 : Ref sig .tc := ⟨.hbm, 570, rfl⟩
abbrev main_v556 : Ref sig .tc := ⟨.hbm, 571, rfl⟩
abbrev main_cst_9 : Ref sig .tc := ⟨.hbm, 572, rfl⟩
abbrev main_v557 : Ref sig .tc := ⟨.hbm, 573, rfl⟩
abbrev main_cst_10 : Ref sig .tc := ⟨.hbm, 574, rfl⟩
abbrev main_v558 : Ref sig .tc := ⟨.hbm, 575, rfl⟩
abbrev main_v559 : Ref sig .tc := ⟨.hbm, 576, rfl⟩
abbrev main_v560 : Ref sig .tc := ⟨.hbm, 577, rfl⟩
abbrev main_v561 : Ref sig .tc := ⟨.hbm, 578, rfl⟩
abbrev main_v562 : Ref sig .tc := ⟨.hbm, 579, rfl⟩
abbrev main_v563 : Ref sig .tc := ⟨.hbm, 580, rfl⟩
abbrev main_v564 : Ref sig .tc := ⟨.hbm, 581, rfl⟩
abbrev main_v565 : Ref sig .tc := ⟨.hbm, 582, rfl⟩
abbrev main_v566 : Ref sig .tc := ⟨.hbm, 583, rfl⟩
abbrev main_v567 : Ref sig .tc := ⟨.hbm, 584, rfl⟩
abbrev main_v568 : Ref sig .tc := ⟨.hbm, 585, rfl⟩
abbrev main_v569 : Ref sig .tc := ⟨.hbm, 586, rfl⟩
abbrev main_v570 : Ref sig .tc := ⟨.hbm, 587, rfl⟩
abbrev main_v571 : Ref sig .tc := ⟨.hbm, 588, rfl⟩
abbrev main_v572 : Ref sig .tc := ⟨.hbm, 589, rfl⟩
abbrev main_cst_11 : Ref sig .tc := ⟨.hbm, 590, rfl⟩
abbrev main_v573 : Ref sig .tc := ⟨.hbm, 591, rfl⟩
abbrev main_cst_12 : Ref sig .tc := ⟨.hbm, 592, rfl⟩
abbrev main_v574 : Ref sig .tc := ⟨.hbm, 593, rfl⟩
abbrev main_v575 : Ref sig .tc := ⟨.hbm, 594, rfl⟩
abbrev main_v576 : Ref sig .tc := ⟨.hbm, 595, rfl⟩
abbrev main_v577 : Ref sig .tc := ⟨.hbm, 596, rfl⟩
abbrev main_v578 : Ref sig .tc := ⟨.hbm, 597, rfl⟩
abbrev main_v579 : Ref sig .tc := ⟨.hbm, 598, rfl⟩
abbrev main_v580 : Ref sig .tc := ⟨.hbm, 599, rfl⟩

abbrev nD : Nat := 1
abbrev τ : Topo := Topo.v7x

variable {F : FTy → Type} [FloatOps F]
-- ==== Kernel3.lean ====
abbrev S2048x1024 : Shape := ⟨2, ![2048, 1024]⟩
abbrev S2048x2048 : Shape := ⟨2, ![2048, 2048]⟩
abbrev S2048x512 : Shape := ⟨2, ![2048, 512]⟩
abbrev S4x1024x1664 : Shape := ⟨3, ![4, 1024, 1664]⟩
abbrev S4x512x1664 : Shape := ⟨3, ![4, 512, 1664]⟩
abbrev S2048x1664 : Shape := ⟨2, ![2048, 1664]⟩
abbrev S512x1664 : Shape := ⟨2, ![512, 1664]⟩
abbrev S1x512x1664 : Shape := ⟨3, ![1, 512, 1664]⟩
abbrev S2048x384 : Shape := ⟨2, ![2048, 384]⟩
abbrev S512x384 : Shape := ⟨2, ![512, 384]⟩
abbrev S1x512x384 : Shape := ⟨3, ![1, 512, 384]⟩
abbrev S512x1024 : Shape := ⟨2, ![512, 1024]⟩
abbrev S1x512x1024 : Shape := ⟨3, ![1, 512, 1024]⟩
abbrev S2048x256 : Shape := ⟨2, ![2048, 256]⟩
abbrev S512x256 : Shape := ⟨2, ![512, 256]⟩
abbrev S1x512x256 : Shape := ⟨3, ![1, 512, 256]⟩
abbrev S512x512 : Shape := ⟨2, ![512, 512]⟩
abbrev S1x512x512 : Shape := ⟨3, ![1, 512, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x2048, .bf16⟩
  | .hbm, ⟨7, _⟩ => ⟨S4x1024x1664, .bf16⟩
  | .local _ .vmem, ⟨0, _⟩ => ⟨S2048x2048, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S4x512x1664, .bf16⟩
  | .local _ .vmem, ⟨9, _⟩ => ⟨S4x512x1664, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x1664 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2048x1024 : Shape := ⟨2, ![2048, 1024]⟩
abbrev S2048x2048 : Shape := ⟨2, ![2048, 2048]⟩
abbrev S2048x512 : Shape := ⟨2, ![2048, 512]⟩
abbrev S2048x6656 : Shape := ⟨2, ![2048, 6656]⟩
abbrev S_ : Shape := ⟨0, ![]⟩
abbrev S1024x6656 : Shape := ⟨2, ![1024, 6656]⟩
abbrev S6656x1024 : Shape := ⟨2, ![6656, 1024]⟩
abbrev S1024x4x1664 : Shape := ⟨3, ![1024, 4, 1664]⟩
abbrev S4x1024x1664 : Shape := ⟨3, ![4, 1024, 1664]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x2048, .bf16⟩
  | .hbm, ⟨7, _⟩ => ⟨S2048x6656, .bf16⟩
  | .hbm, ⟨8, _⟩ => ⟨S2048x6656, .f32⟩
  | .hbm, ⟨9, _⟩ => ⟨S_, .f32⟩
  | .hbm, ⟨10, _⟩ => ⟨S1024x6656, .f32⟩
  | .hbm, ⟨11, _⟩ => ⟨S2048x1024, .f32⟩
  | .hbm, ⟨12, _⟩ => ⟨S2048x6656, .f32⟩
  | .hbm, ⟨13, _⟩ => ⟨S6656x1024, .f32⟩
  | .hbm, ⟨14, _⟩ => ⟨S1024x6656, .f32⟩
  | .hbm, ⟨15, _⟩ => ⟨S1024x4x1664, .f32⟩
  | .hbm, ⟨16, _⟩ => ⟨S4x1024x1664, .f32⟩
  | .hbm, ⟨17, _⟩ => ⟨S4x1024x1664, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel4.lean ====
abbrev S2048x4096 : Shape := ⟨2, ![2048, 4096]⟩
abbrev S2048x1024 : Shape := ⟨2, ![2048, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .bf16⟩
  | .hbm, ⟨3, _⟩ => ⟨S2048x4096, .bf16⟩
  | .hbm, ⟨4, _⟩ => ⟨S4x1024x1024, .bf16⟩
  | .hbm, ⟨5, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, c0_i32_2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, c0_i32_1.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![v2.toNat, c0_i32_1.toNat, c0_i32_2.toNat]

def cc0_transform_5 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S1024x4x1024 : Shape := ⟨3, ![1024, 4, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .bf16⟩
  | .hbm, ⟨3, _⟩ => ⟨S2048x4096, .bf16⟩
  | .hbm, ⟨4, _⟩ => ⟨S_, .f32⟩
  | .hbm, ⟨5, _⟩ => ⟨S4096x1024, .f32⟩
  | .hbm, ⟨6, _⟩ => ⟨S2048x4096, .f32⟩
  | .hbm, ⟨7, _⟩ => ⟨S2048x1024, .f32⟩
  | .hbm, ⟨8, _⟩ => ⟨S2048x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | .hbm, ⟨13, _⟩ => ⟨S_, .f32⟩
  | .hbm, ⟨14, _⟩ => ⟨S1024x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S4096x1024, .f32⟩
  | .hbm, ⟨19, _⟩ => ⟨S1024x4096, .f32⟩
  | .hbm, ⟨20, _⟩ => ⟨S1024x4x1024, .f32⟩
  | .hbm, ⟨21, _⟩ => ⟨S4x1024x1024, .f32⟩
  | .hbm, ⟨22, _⟩ => ⟨S4x1024x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S2048x1024 : Shape := ⟨2, ![2048, 1024]⟩
abbrev S16x1024 : Shape := ⟨2, ![16, 1024]⟩
abbrev S4x1024x1664 : Shape := ⟨3, ![4, 1024, 1664]⟩
abbrev S2048x6656 : Shape := ⟨2, ![2048, 6656]⟩
abbrev S512x1024 : Shape := ⟨2, ![512, 1024]⟩
abbrev S512x6656 : Shape := ⟨2, ![512, 6656]⟩
abbrev S1x1024 : Shape := ⟨2, ![1, 1024]⟩
abbrev S512 : Shape := ⟨1, ![512]⟩
abbrev S512x1 : Shape := ⟨2, ![512, 1]⟩
abbrev S1x1024x1664 : Shape := ⟨3, ![1, 1024, 1664]⟩
abbrev S1024x1664 : Shape := ⟨2, ![1024, 1664]⟩
abbrev S512x1664 : Shape := ⟨2, ![512, 1664]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S4x1024x1664, .bf16⟩
  | .hbm, ⟨3, _⟩ => ⟨S2048x1024, .bf16⟩
  | .hbm, ⟨4, _⟩ => ⟨S2048x6656, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S4x1024x1664, .bf16⟩
  | .local _ .vmem, ⟨4, _⟩ => ⟨S512x1024, .bf16⟩
  | .local _ .vmem, ⟨5, _⟩ => ⟨S512x1024, .bf16⟩
  | .local _ .vmem, ⟨6, _⟩ => ⟨S512x6656, .bf16⟩
  | .local _ .vmem, ⟨7, _⟩ => ⟨S512x6656, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6656 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2048x1024 : Shape := ⟨2, ![2048, 1024]⟩
abbrev S16x1024 : Shape := ⟨2, ![16, 1024]⟩
abbrev S4x1024x1664 : Shape := ⟨3, ![4, 1024, 1664]⟩
abbrev S1024x4x1664 : Shape := ⟨3, ![1024, 4, 1664]⟩
abbrev S1024x6656 : Shape := ⟨2, ![1024, 6656]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x6656 : Shape := ⟨3, ![1, 2048, 6656]⟩
abbrev S2048x6656 : Shape := ⟨2, ![2048, 6656]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S4x1024x1664, .bf16⟩
  | .hbm, ⟨3, _⟩ => ⟨S1024x4x1664, .bf16⟩
  | .hbm, ⟨4, _⟩ => ⟨S1024x6656, .bf16⟩
  | .hbm, ⟨5, _⟩ => ⟨S1024x6656, .f32⟩
  | .hbm, ⟨6, _⟩ => ⟨S1x2048x1024, .f32⟩
  | .hbm, ⟨7, _⟩ => ⟨S1x1024, .f32⟩
  | .hbm, ⟨8, _⟩ => ⟨S1024, .f32⟩
  | .hbm, ⟨9, _⟩ => ⟨S1x2048x1024, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x1024, .f32⟩
  | .hbm, ⟨26, _⟩ => ⟨S1x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S2048x1024, .bf16⟩
  | .hbm, ⟨38, _⟩ => ⟨S1x2048x6656, .f32⟩
  | .hbm, ⟨39, _⟩ => ⟨S2048x6656, .f32⟩
  | .hbm, ⟨40, _⟩ => ⟨S2048x6656, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel2.lean ====
abbrev S2048x2048 : Shape := ⟨2, ![2048, 2048]⟩
abbrev S2048x1024 : Shape := ⟨2, ![2048, 1024]⟩
abbrev S2048x512 : Shape := ⟨2, ![2048, 512]⟩
abbrev S16x1024 : Shape := ⟨2, ![16, 1024]⟩
abbrev S4x1024x1664 : Shape := ⟨3, ![4, 1024, 1664]⟩
abbrev S1024x1024 : Shape := ⟨2, ![1024, 1024]⟩
abbrev S8x1024 : Shape := ⟨2, ![8, 1024]⟩
abbrev S256x2048 : Shape := ⟨2, ![256, 2048]⟩
abbrev S256x1024 : Shape := ⟨2, ![256, 1024]⟩
abbrev S256x512 : Shape := ⟨2, ![256, 512]⟩
abbrev S128x1024 : Shape := ⟨2, ![128, 1024]⟩
abbrev S256x1664 : Shape := ⟨2, ![256, 1664]⟩
abbrev S1x1024x1664 : Shape := ⟨3, ![1, 1024, 1664]⟩
abbrev S1024x1664 : Shape := ⟨2, ![1024, 1664]⟩
abbrev S256x384 : Shape := ⟨2, ![256, 384]⟩
abbrev S1x1024x384 : Shape := ⟨3, ![1, 1024, 384]⟩
abbrev S1024x384 : Shape := ⟨2, ![1024, 384]⟩
abbrev S1x1024x1024 : Shape := ⟨3, ![1, 1024, 1024]⟩
abbrev S256x256 : Shape := ⟨2, ![256, 256]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1x1024 : Shape := ⟨2, ![1, 1024]⟩
abbrev S1024 : Shape := ⟨1, ![1024]⟩

abbrev nBuf : Space → Nat
  | .hbm => 20
  | .vmem => 37
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x2048, .bf16⟩
  | .hbm, ⟨6, _⟩ => ⟨S2048x1024, .f32⟩
  | .hbm, ⟨7, _⟩ => ⟨S2048x1024, .f32⟩
  | .hbm, ⟨8, _⟩ => ⟨S16x1024, .f32⟩
  | .hbm, ⟨9, _⟩ => ⟨S4x1024x1664, .bf16⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S8x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S16x1024, .f32⟩
  | .local _ .vmem, ⟨17, _⟩ => ⟨S4x1024x1664, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S256x1024, .f32⟩
  | .local _ .vmem, ⟨27, _⟩ => ⟨S256x1024, .f32⟩
  | .local _ .vmem, ⟨28, _⟩ => ⟨S8x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1664 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S2048x2048 : Shape := ⟨2, ![2048, 2048]⟩
abbrev S2048x1024 : Shape := ⟨2, ![2048, 1024]⟩
abbrev S2048x512 : Shape := ⟨2, ![2048, 512]⟩
abbrev S16x1024 : Shape := ⟨2, ![16, 1024]⟩
abbrev S4x1024x1664 : Shape := ⟨3, ![4, 1024, 1664]⟩
abbrev S1024x1024 : Shape := ⟨2, ![1024, 1024]⟩
abbrev S1024x4x1664 : Shape := ⟨3, ![1024, 4, 1664]⟩
abbrev S1024x6656 : Shape := ⟨2, ![1024, 6656]⟩
abbrev S2048x6656 : Shape := ⟨2, ![2048, 6656]⟩
abbrev S1x1024 : Shape := ⟨2, ![1, 1024]⟩
abbrev S1024 : Shape := ⟨1, ![1024]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x6656 : Shape := ⟨3, ![1, 2048, 6656]⟩
abbrev S2048 : Shape := ⟨1, ![2048]⟩
abbrev S5x1024 : Shape := ⟨2, ![5, 1024]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S2048x2048, .bf16⟩
  | 1 => ⟨S2048x1024, .bf16⟩
  | 2 => ⟨S2048x512, .bf16⟩
  | 3 => ⟨S2048x512, .bf16⟩
  | 4 => ⟨S2048x512, .bf16⟩
  | 5 => ⟨S2048x2048, .bf16⟩
  | 6 => ⟨S2048x1024, .f32⟩
  | 7 => ⟨S2048x1024, .f32⟩
  | 8 => ⟨S16x1024, .f32⟩
  | 9 => ⟨S4x1024x1664, .bf16⟩
  | 10 => ⟨S1024x1024, .f32⟩
  | 11 => ⟨S1024x1024, .f32⟩
  | 12 => ⟨S1024x1024, .f32⟩
  | 13 => ⟨S1024x1024, .f32⟩
  | 14 => ⟨S1024x4x1664, .bf16⟩
  | 15 => ⟨S1024x6656, .bf16⟩
  | 16 => ⟨S1024x6656, .f32⟩
  | 17 => ⟨S2048x6656, .bf16⟩
  | 18 => ⟨S2048x6656, .f32⟩
  | 19 => ⟨S1x1024, .f32⟩
  | 20 => ⟨S1024, .f32⟩
  | 21 => ⟨S1x1024, .f32⟩
  | 22 => ⟨S1x1024, .f32⟩
  | 23 => ⟨S1x2048x1024, .f32⟩
  | 24 => ⟨S1x2048x1024, .f32⟩
  | 25 => ⟨S_, .f32⟩
  | 26 => ⟨S1x2048, .f32⟩
  | 27 => ⟨S1x2048x1, .f32⟩
  | 28 => ⟨S_, .f32⟩
  | 29 => ⟨S1x2048x1, .f32⟩
  | 30 => ⟨S1x2048x1, .f32⟩
  | 31 => ⟨S_, .f32⟩
  | 32 => ⟨S1x2048x1, .f32⟩
  | 33 => ⟨S1x2048x1, .f32⟩
  | 34 => ⟨S1x2048x1, .f32⟩
  | 35 => ⟨S1x2048x1, .f32⟩
  | 36 => ⟨S_, .f32⟩
  | 37 => ⟨S1x2048x1, .f32⟩
  | 38 => ⟨S1x2048x1, .f32⟩
  | 39 => ⟨S1x2048x1024, .f32⟩
  | 40 => ⟨S1x2048x1024, .f32⟩
  | 41 => ⟨S1x1x1024, .f32⟩
  | 42 => ⟨S1x2048x1024, .f32⟩
  | 43 => ⟨S1x2048x1024, .f32⟩
  | 44 => ⟨S1x1x1024, .f32⟩
  | 45 => ⟨S_, .f32⟩
  | 46 => ⟨S1x1x1024, .f32⟩
  | 47 => ⟨S1x1x1024, .f32⟩
  | 48 => ⟨S1x2048x1024, .f32⟩
  | 49 => ⟨S1x2048x1024, .f32⟩
  | 50 => ⟨S1x1x1024, .f32⟩
  | 51 => ⟨S1x2048x1024, .f32⟩
  | 52 => ⟨S1x2048x1024, .f32⟩
  | 53 => ⟨S1x2048x6656, .f32⟩
  | 54 => ⟨S1x2048x6656, .f32⟩
  | 55 => ⟨S1x2048x1024, .f32⟩
  | 56 => ⟨S_, .f32⟩
  | 57 => ⟨S1x1024, .f32⟩
  | 58 => ⟨S1x1x1024, .f32⟩
  | 59 => ⟨S_, .f32⟩
  | 60 => ⟨S1024, .f32⟩
  | 61 => ⟨S1x1024, .f32⟩
  | 62 => ⟨S1x2048x1024, .f32⟩
  | 63 => ⟨S_, .f32⟩
  | 64 => ⟨S1x1024, .f32⟩
  | 65 => ⟨S1x1x1024, .f32⟩
  | 66 => ⟨S1x2048x1024, .f32⟩
  | 67 => ⟨S1x2048x1024, .f32⟩
  | 68 => ⟨S_, .f32⟩
  | 69 => ⟨S1024, .f32⟩
  | 70 => ⟨S1x1024, .f32⟩
  | 71 => ⟨S1x2048x1024, .f32⟩
  | 72 => ⟨S_, .f32⟩
  | 73 => ⟨S1x1024, .f32⟩
  | 74 => ⟨S1x1x1024, .f32⟩
  | 75 => ⟨S1x2048x1024, .f32⟩
  | 76 => ⟨S1x2048x1024, .f32⟩
  | 77 => ⟨S_, .f32⟩
  | 78 => ⟨S1024, .f32⟩
  | 79 => ⟨S1x2048x1024, .f32⟩
  | 80 => ⟨S_, .f32⟩
  | 81 => ⟨S1x2048, .f32⟩
  | 82 => ⟨S1x2048x1, .f32⟩
  | 83 => ⟨S1x2048x1024, .f32⟩
  | 84 => ⟨S1x2048x1024, .f32⟩
  | 85 => ⟨S1x2048x1, .f32⟩
  | 86 => ⟨S_, .f32⟩
  | 87 => ⟨S1x2048x1, .f32⟩
  | 88 => ⟨S1x2048x1, .f32⟩
  | 89 => ⟨S_, .f32⟩
  | 90 => ⟨S2048, .f32⟩
  | 91 => ⟨S1x2048, .f32⟩
  | 92 => ⟨S1x2048x1024, .f32⟩
  | 93 => ⟨S1x2048x1024, .f32⟩
  | 94 => ⟨S1x2048x1024, .f32⟩
  | 95 => ⟨S1x2048x1024, .f32⟩
  | 96 => ⟨S1x2048x1024, .f32⟩
  | 97 => ⟨S_, .f32⟩
  | 98 => ⟨S2048x1024, .f32⟩
  | 99 => ⟨S1x1024, .f32⟩
  | 100 => ⟨S_, .f32⟩
  | 101 => ⟨S5x1024, .f32⟩
  | 102 => ⟨S8x1024, .f32⟩
  | 103 => ⟨S2048x1024, .f32⟩
  | 104 => ⟨S_, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1024x1024, .f32⟩
  | 111 => ⟨S_, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S_, .f32⟩
  | 120 => ⟨S1024x1024, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S_, .f32⟩
  | 127 => ⟨S1024x1024, .f32⟩
  | _ => ⟨S2048x2048, .bf16⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x1024, .f32⟩
  | 8 => ⟨S1024x1024, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_cst_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_v97 : Ref sig .tc := ⟨.hbm, 136, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S2048x6656 : Shape := ⟨2, ![2048, 6656]⟩
abbrev S16x1024 : Shape := ⟨2, ![16, 1024]⟩
abbrev S1024x1024 : Shape := ⟨2, ![1024, 1024]⟩
abbrev S4x512x256 : Shape := ⟨3, ![4, 512, 256]⟩
abbrev S4x1024x1024 : Shape := ⟨3, ![4, 1024, 1024]⟩
abbrev S2048x4096 : Shape := ⟨2, ![2048, 4096]⟩
abbrev S8x1024 : Shape := ⟨2, ![8, 1024]⟩
abbrev S256x1024 : Shape := ⟨2, ![256, 1024]⟩
abbrev S256x512 : Shape := ⟨2, ![256, 512]⟩
abbrev S256x4096 : Shape := ⟨2, ![256, 4096]⟩
abbrev S1x512x256 : Shape := ⟨3, ![1, 512, 256]⟩
abbrev S512x256 : Shape := ⟨2, ![512, 256]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩
abbrev S1x1024x1024 : Shape := ⟨3, ![1, 1024, 1024]⟩
abbrev S1024 : Shape := ⟨1, ![1024]⟩

abbrev nBuf : Space → Nat
  | .hbm => 22
  | .vmem => 43
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x6656, .bf16⟩
  | .hbm, ⟨3, _⟩ => ⟨S2048x1024, .f32⟩
  | .hbm, ⟨4, _⟩ => ⟨S2048x1024, .f32⟩
  | .hbm, ⟨5, _⟩ => ⟨S16x1024, .f32⟩
  | .hbm, ⟨6, _⟩ => ⟨S1024x1024, .bf16⟩
  | .hbm, ⟨7, _⟩ => ⟨S4x512x256, .bf16⟩
  | .hbm, ⟨8, _⟩ => ⟨S1024x1024, .bf16⟩
  | .hbm, ⟨9, _⟩ => ⟨S4x1024x1024, .bf16⟩
  | .hbm, ⟨10, _⟩ => ⟨S4x1024x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x4096, .bf16⟩
  | .hbm, ⟨16, _⟩ => ⟨S2048x1024, .bf16⟩
  | .hbm, ⟨17, _⟩ => ⟨S2048x4096, .bf16⟩
  | .hbm, ⟨18, _⟩ => ⟨S2048x1024, .f32⟩
  | .hbm, ⟨19, _⟩ => ⟨S2048x1024, .bf16⟩
  | .hbm, ⟨20, _⟩ => ⟨S8x1024, .f32⟩
  | .hbm, ⟨21, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S16x1024, .f32⟩
  | .local _ .vmem, ⟨17, _⟩ => ⟨S1024x1024, .bf16⟩
  | .local _ .vmem, ⟨18, _⟩ => ⟨S4x512x256, .bf16⟩
  | .local _ .vmem, ⟨19, _⟩ => ⟨S1024x1024, .bf16⟩
  | .local _ .vmem, ⟨20, _⟩ => ⟨S4x1024x1024, .bf16⟩
  | .local _ .vmem, ⟨21, _⟩ => ⟨S4x1024x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x4096, .bf16⟩
  | .local _ .vmem, ⟨31, _⟩ => ⟨S256x4096, .bf16⟩
  | .local _ .vmem, ⟨32, _⟩ => ⟨S256x1024, .bf16⟩
  | .local _ .vmem, ⟨33, _⟩ => ⟨S256x1024, .bf16⟩
  | .local _ .vmem, ⟨34, _⟩ => ⟨S256x4096, .bf16⟩
  | .local _ .vmem, ⟨35, _⟩ => ⟨S256x4096, .bf16⟩
  | .local _ .vmem, ⟨36, _⟩ => ⟨S256x1024, .f32⟩
  | .local _ .vmem, ⟨37, _⟩ => ⟨S256x1024, .f32⟩
  | .local _ .vmem, ⟨38, _⟩ => ⟨S256x1024, .bf16⟩
  | .local _ .vmem, ⟨39, _⟩ => ⟨S256x1024, .bf16⟩
  | .local _ .vmem, ⟨40, _⟩ => ⟨S8x1024, .f32⟩
  | .local _ .vmem, ⟨41, _⟩ => ⟨S8x1024, .f32⟩
  | .local _ .vmem, ⟨42, _⟩ => ⟨S256x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg24_0 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference6Ideal.lean ====
abbrev S2048x1024 : Shape := ⟨2, ![2048, 1024]⟩
abbrev S2048x512 : Shape := ⟨2, ![2048, 512]⟩
abbrev S2048x6656 : Shape := ⟨2, ![2048, 6656]⟩
abbrev S16x1024 : Shape := ⟨2, ![16, 1024]⟩
abbrev S1024x1024 : Shape := ⟨2, ![1024, 1024]⟩
abbrev S4x512x256 : Shape := ⟨3, ![4, 512, 256]⟩
abbrev S4x1024x1024 : Shape := ⟨3, ![4, 1024, 1024]⟩
abbrev S512x4x256 : Shape := ⟨3, ![512, 4, 256]⟩
abbrev S512x1024 : Shape := ⟨2, ![512, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩
abbrev S1x2048x1024 : Shape := ⟨3, ![1, 2048, 1024]⟩
abbrev S1x1024 : Shape := ⟨2, ![1, 1024]⟩
abbrev S1024 : Shape := ⟨1, ![1024]⟩
abbrev S1x2048x4096 : Shape := ⟨3, ![1, 2048, 4096]⟩
abbrev S1x1x1024 : Shape := ⟨3, ![1, 1, 1024]⟩
abbrev S1x2048 : Shape := ⟨2, ![1, 2048]⟩
abbrev S1x2048x1 : Shape := ⟨3, ![1, 2048, 1]⟩
abbrev S2048 : Shape := ⟨1, ![2048]⟩
abbrev S5x1024 : Shape := ⟨2, ![5, 1024]⟩
abbrev S8x1024 : Shape := ⟨2, ![8, 1024]⟩
abbrev S3x1024 : Shape := ⟨2, ![3, 1024]⟩
abbrev S2048x4096 : Shape := ⟨2, ![2048, 4096]⟩

abbrev nBuf : Space → Nat
  | .hbm => 331
  | .vmem => 0
  | .smem => 0
  | _ => 0

abbrev hbmTy0_0 (i : Nat) : BufTy := match i % 128 with
  | 0 => ⟨S2048x1024, .bf16⟩
  | 1 => ⟨S2048x512, .bf16⟩
  | 2 => ⟨S2048x6656, .bf16⟩
  | 3 => ⟨S2048x1024, .f32⟩
  | 4 => ⟨S2048x1024, .f32⟩
  | 5 => ⟨S16x1024, .f32⟩
  | 6 => ⟨S1024x1024, .bf16⟩
  | 7 => ⟨S4x512x256, .bf16⟩
  | 8 => ⟨S1024x1024, .bf16⟩
  | 9 => ⟨S4x1024x1024, .bf16⟩
  | 10 => ⟨S4x1024x1024, .bf16⟩
  | 11 => ⟨S4x512x256, .f32⟩
  | 12 => ⟨S512x4x256, .f32⟩
  | 13 => ⟨S512x1024, .f32⟩
  | 14 => ⟨S4x1024x1024, .f32⟩
  | 15 => ⟨S1024x4x1024, .f32⟩
  | 16 => ⟨S1024x4096, .f32⟩
  | 17 => ⟨S4x1024x1024, .f32⟩
  | 18 => ⟨S4096x1024, .f32⟩
  | 19 => ⟨S2048x1024, .bf16⟩
  | 20 => ⟨S2048x1024, .f32⟩
  | 21 => ⟨S2048x1024, .bf16⟩
  | 22 => ⟨S2048x1024, .f32⟩
  | 23 => ⟨S2048x1024, .f32⟩
  | 24 => ⟨S1024x1024, .f32⟩
  | 25 => ⟨S2048x1024, .f32⟩
  | 26 => ⟨S2048x512, .f32⟩
  | 27 => ⟨S2048x1024, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S1024x1024, .f32⟩
  | 48 => ⟨S2048x1024, .f32⟩
  | 49 => ⟨S1x2048x1024, .f32⟩
  | 50 => ⟨S1x2048x1024, .f32⟩
  | 51 => ⟨S1x1024, .f32⟩
  | 52 => ⟨S1x1024, .f32⟩
  | 53 => ⟨S1024, .f32⟩
  | 54 => ⟨S1x1024, .f32⟩
  | 55 => ⟨S1024, .f32⟩
  | 56 => ⟨S1x1024, .f32⟩
  | 57 => ⟨S1x1024, .f32⟩
  | 58 => ⟨S1x1024, .f32⟩
  | 59 => ⟨S1x1024, .f32⟩
  | 60 => ⟨S1024, .f32⟩
  | 61 => ⟨S_, .f32⟩
  | 62 => ⟨S1x2048x4096, .f32⟩
  | 63 => ⟨S_, .f32⟩
  | 64 => ⟨S1x2048x1024, .f32⟩
  | 65 => ⟨S1x1x1024, .f32⟩
  | 66 => ⟨S1x2048x1024, .f32⟩
  | 67 => ⟨S_, .f32⟩
  | 68 => ⟨S1x2048, .f32⟩
  | 69 => ⟨S1x2048x1, .f32⟩
  | 70 => ⟨S_, .f32⟩
  | 71 => ⟨S1x2048x1, .f32⟩
  | 72 => ⟨S1x2048x1, .f32⟩
  | 73 => ⟨S_, .f32⟩
  | 74 => ⟨S1x2048x1, .f32⟩
  | 75 => ⟨S1x2048x1, .f32⟩
  | 76 => ⟨S1x2048x1, .f32⟩
  | 77 => ⟨S1x2048x1, .f32⟩
  | 78 => ⟨S_, .f32⟩
  | 79 => ⟨S1x2048x1, .f32⟩
  | 80 => ⟨S1x2048x1, .f32⟩
  | 81 => ⟨S1x2048x1024, .f32⟩
  | 82 => ⟨S1x2048x1024, .f32⟩
  | 83 => ⟨S1x1x1024, .f32⟩
  | 84 => ⟨S1x2048x1024, .f32⟩
  | 85 => ⟨S1x2048x1024, .f32⟩
  | 86 => ⟨S1x2048x1024, .f32⟩
  | 87 => ⟨S1x2048x1024, .f32⟩
  | 88 => ⟨S1x2048x1024, .f32⟩
  | 89 => ⟨S1x2048x1024, .f32⟩
  | 90 => ⟨S_, .f32⟩
  | 91 => ⟨S1x2048, .f32⟩
  | 92 => ⟨S1x2048x1, .f32⟩
  | 93 => ⟨S_, .f32⟩
  | 94 => ⟨S1x2048x1, .f32⟩
  | 95 => ⟨S1x2048x1, .f32⟩
  | 96 => ⟨S_, .f32⟩
  | 97 => ⟨S1x2048x1, .f32⟩
  | 98 => ⟨S1x2048x1, .f32⟩
  | 99 => ⟨S1x2048x1, .f32⟩
  | 100 => ⟨S1x2048x1, .f32⟩
  | 101 => ⟨S_, .f32⟩
  | 102 => ⟨S1x2048x1, .f32⟩
  | 103 => ⟨S1x2048x1, .f32⟩
  | 104 => ⟨S1x2048x1024, .f32⟩
  | 105 => ⟨S1x2048x1024, .f32⟩
  | 106 => ⟨S1x1x1024, .f32⟩
  | 107 => ⟨S1x2048x1024, .f32⟩
  | 108 => ⟨S1x2048x1024, .f32⟩
  | 109 => ⟨S1x1x1024, .f32⟩
  | 110 => ⟨S_, .f32⟩
  | 111 => ⟨S1x1x1024, .f32⟩
  | 112 => ⟨S1x1x1024, .f32⟩
  | 113 => ⟨S1x2048x1024, .f32⟩
  | 114 => ⟨S1x2048x1024, .f32⟩
  | 115 => ⟨S1x1x1024, .f32⟩
  | 116 => ⟨S1x2048x1024, .f32⟩
  | 117 => ⟨S1x2048x1024, .f32⟩
  | 118 => ⟨S1x2048x4096, .f32⟩
  | 119 => ⟨S1x2048x4096, .f32⟩
  | 120 => ⟨S_, .f32⟩
  | 121 => ⟨S1x2048x4096, .f32⟩
  | 122 => ⟨S1x2048x4096, .f32⟩
  | 123 => ⟨S_, .f32⟩
  | 124 => ⟨S1x2048x4096, .f32⟩
  | 125 => ⟨S1x2048x4096, .i1⟩
  | 126 => ⟨S_, .f32⟩
  | 127 => ⟨S1x2048x4096, .f32⟩
  | _ => ⟨S2048x1024, .bf16⟩

abbrev hbmTy0_1 (i : Nat) : BufTy := match i % 128 with
  | 0 => ⟨S1x2048x4096, .f32⟩
  | 1 => ⟨S_, .f32⟩
  | 2 => ⟨S1x2048x4096, .f32⟩
  | 3 => ⟨S1x2048x4096, .f32⟩
  | 4 => ⟨S1x2048x1024, .f32⟩
  | 5 => ⟨S1x2048x1024, .f32⟩
  | 6 => ⟨S1x1x1024, .f32⟩
  | 7 => ⟨S1x2048x1024, .f32⟩
  | 8 => ⟨S_, .f32⟩
  | 9 => ⟨S1x2048, .f32⟩
  | 10 => ⟨S1x2048x1, .f32⟩
  | 11 => ⟨S_, .f32⟩
  | 12 => ⟨S1x2048x1, .f32⟩
  | 13 => ⟨S1x2048x1, .f32⟩
  | 14 => ⟨S_, .f32⟩
  | 15 => ⟨S1x2048x1, .f32⟩
  | 16 => ⟨S1x2048x1, .f32⟩
  | 17 => ⟨S1x2048x1, .f32⟩
  | 18 => ⟨S1x2048x1, .f32⟩
  | 19 => ⟨S_, .f32⟩
  | 20 => ⟨S1x2048x1, .f32⟩
  | 21 => ⟨S1x2048x1, .f32⟩
  | 22 => ⟨S1x2048x1024, .f32⟩
  | 23 => ⟨S1x2048x1024, .f32⟩
  | 24 => ⟨S1x1x1024, .f32⟩
  | 25 => ⟨S1x2048x1024, .f32⟩
  | 26 => ⟨S1x2048x1024, .f32⟩
  | 27 => ⟨S1x2048x1024, .f32⟩
  | 28 => ⟨S1x2048x1024, .f32⟩
  | 29 => ⟨S1x2048x1024, .f32⟩
  | 30 => ⟨S1x2048x1024, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S_, .f32⟩
  | 37 => ⟨S1x2048, .f32⟩
  | 38 => ⟨S_, .f32⟩
  | 39 => ⟨S1x2048, .f32⟩
  | 40 => ⟨S1x2048, .f32⟩
  | 41 => ⟨S_, .f32⟩
  | 42 => ⟨S_, .f32⟩
  | 43 => ⟨S_, .f32⟩
  | 44 => ⟨S_, .f32⟩
  | 45 => ⟨S_, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S_, .f32⟩
  | 55 => ⟨S_, .f32⟩
  | 56 => ⟨S1x2048, .f32⟩
  | 57 => ⟨S_, .f32⟩
  | 58 => ⟨S1x2048, .f32⟩
  | 59 => ⟨S1x2048, .f32⟩
  | 60 => ⟨S1x2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S_, .f32⟩
  | 66 => ⟨S1x1024, .f32⟩
  | 67 => ⟨S1x1x1024, .f32⟩
  | 68 => ⟨S1x2048x1024, .f32⟩
  | 69 => ⟨S_, .f32⟩
  | 70 => ⟨S1x1024, .f32⟩
  | 71 => ⟨S1x1x1024, .f32⟩
  | 72 => ⟨S1x2048x1024, .f32⟩
  | 73 => ⟨S1x2048x1024, .f32⟩
  | 74 => ⟨S_, .f32⟩
  | 75 => ⟨S1024, .f32⟩
  | 76 => ⟨S1x2048x1024, .f32⟩
  | 77 => ⟨S_, .f32⟩
  | 78 => ⟨S1x2048, .f32⟩
  | 79 => ⟨S1x2048x1, .f32⟩
  | 80 => ⟨S1x2048x1024, .f32⟩
  | 81 => ⟨S1x2048x1024, .f32⟩
  | 82 => ⟨S1x2048x1, .f32⟩
  | 83 => ⟨S_, .f32⟩
  | 84 => ⟨S1x2048x1, .f32⟩
  | 85 => ⟨S1x2048x1, .f32⟩
  | 86 => ⟨S_, .f32⟩
  | 87 => ⟨S2048, .f32⟩
  | 88 => ⟨S1x2048, .f32⟩
  | 89 => ⟨S1x2048x1024, .f32⟩
  | 90 => ⟨S1x2048x1024, .f32⟩
  | 91 => ⟨S1x2048x1024, .f32⟩
  | 92 => ⟨S1x2048x1024, .f32⟩
  | 93 => ⟨S1x2048x1024, .f32⟩
  | 94 => ⟨S_, .f32⟩
  | 95 => ⟨S1024, .f32⟩
  | 96 => ⟨S1x1024, .f32⟩
  | 97 => ⟨S1x2048x4096, .f32⟩
  | 98 => ⟨S1x2048x4096, .f32⟩
  | 99 => ⟨S_, .f32⟩
  | 100 => ⟨S1x2048x4096, .f32⟩
  | 101 => ⟨S1x2048x4096, .f32⟩
  | 102 => ⟨S1x2048x1024, .f32⟩
  | 103 => ⟨S_, .f32⟩
  | 104 => ⟨S1x1024, .f32⟩
  | 105 => ⟨S1x1x1024, .f32⟩
  | 106 => ⟨S_, .f32⟩
  | 107 => ⟨S1024, .f32⟩
  | 108 => ⟨S1x1024, .f32⟩
  | 109 => ⟨S1x2048x1024, .f32⟩
  | 110 => ⟨S_, .f32⟩
  | 111 => ⟨S1x1024, .f32⟩
  | 112 => ⟨S1x1x1024, .f32⟩
  | 113 => ⟨S1x2048x1024, .f32⟩
  | 114 => ⟨S1x2048x1024, .f32⟩
  | 115 => ⟨S_, .f32⟩
  | 116 => ⟨S1024, .f32⟩
  | 117 => ⟨S1x1024, .f32⟩
  | 118 => ⟨S1x2048x1024, .f32⟩
  | 119 => ⟨S_, .f32⟩
  | 120 => ⟨S1x1024, .f32⟩
  | 121 => ⟨S1x1x1024, .f32⟩
  | 122 => ⟨S1x2048x1024, .f32⟩
  | 123 => ⟨S1x2048x1024, .f32⟩
  | 124 => ⟨S_, .f32⟩
  | 125 => ⟨S1024, .f32⟩
  | 126 => ⟨S1x2048x1024, .f32⟩
  | 127 => ⟨S_, .f32⟩
  | _ => ⟨S2048x1024, .bf16⟩

abbrev hbmTy0_2 (i : Nat) : BufTy := match i % 128 with
  | 0 => ⟨S1x2048, .f32⟩
  | 1 => ⟨S1x2048x1, .f32⟩
  | 2 => ⟨S1x2048x1024, .f32⟩
  | 3 => ⟨S1x2048x1024, .f32⟩
  | 4 => ⟨S1x2048x1024, .f32⟩
  | 5 => ⟨S1x2048x1, .f32⟩
  | 6 => ⟨S_, .f32⟩
  | 7 => ⟨S1x2048x1, .f32⟩
  | 8 => ⟨S1x2048x1, .f32⟩
  | 9 => ⟨S_, .f32⟩
  | 10 => ⟨S2048, .f32⟩
  | 11 => ⟨S1x2048, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S1x2048x1024, .f32⟩
  | 19 => ⟨S1x2048x1024, .f32⟩
  | 20 => ⟨S_, .f32⟩
  | 21 => ⟨S1x1024, .f32⟩
  | 22 => ⟨S1x1x1024, .f32⟩
  | 23 => ⟨S1x2048x1024, .f32⟩
  | 24 => ⟨S_, .f32⟩
  | 25 => ⟨S1x1024, .f32⟩
  | 26 => ⟨S1x1x1024, .f32⟩
  | 27 => ⟨S1x2048x1024, .f32⟩
  | 28 => ⟨S1x2048x1024, .f32⟩
  | 29 => ⟨S_, .f32⟩
  | 30 => ⟨S1024, .f32⟩
  | 31 => ⟨S1x2048x1024, .f32⟩
  | 32 => ⟨S_, .f32⟩
  | 33 => ⟨S1x2048, .f32⟩
  | 34 => ⟨S1x2048x1, .f32⟩
  | 35 => ⟨S1x2048x1024, .f32⟩
  | 36 => ⟨S1x2048x1024, .f32⟩
  | 37 => ⟨S1x2048x1, .f32⟩
  | 38 => ⟨S_, .f32⟩
  | 39 => ⟨S1x2048x1, .f32⟩
  | 40 => ⟨S1x2048x1, .f32⟩
  | 41 => ⟨S_, .f32⟩
  | 42 => ⟨S2048, .f32⟩
  | 43 => ⟨S1x2048, .f32⟩
  | 44 => ⟨S1x2048x1024, .f32⟩
  | 45 => ⟨S1x2048x1024, .f32⟩
  | 46 => ⟨S1x2048x1024, .f32⟩
  | 47 => ⟨S1x2048x1024, .f32⟩
  | 48 => ⟨S1x2048x1024, .f32⟩
  | 49 => ⟨S_, .f32⟩
  | 50 => ⟨S1024, .f32⟩
  | 51 => ⟨S1x1024, .f32⟩
  | 52 => ⟨S1x1024, .f32⟩
  | 53 => ⟨S_, .f32⟩
  | 54 => ⟨S5x1024, .f32⟩
  | 55 => ⟨S8x1024, .f32⟩
  | 56 => ⟨S1x1024, .f32⟩
  | 57 => ⟨S1x1024, .f32⟩
  | 58 => ⟨S_, .f32⟩
  | 59 => ⟨S3x1024, .f32⟩
  | 60 => ⟨S8x1024, .f32⟩
  | 61 => ⟨S2048x1024, .bf16⟩
  | 62 => ⟨S2048x1024, .bf16⟩
  | 63 => ⟨S2048x1024, .bf16⟩
  | 64 => ⟨S2048x1024, .f32⟩
  | 65 => ⟨S2048x1024, .bf16⟩
  | 66 => ⟨S2048x4096, .f32⟩
  | 67 => ⟨S2048x4096, .bf16⟩
  | 68 => ⟨S2048x1024, .f32⟩
  | 69 => ⟨S2048x1024, .bf16⟩
  | 70 => ⟨S2048x4096, .f32⟩
  | 71 => ⟨S2048x4096, .bf16⟩
  | 72 => ⟨S2048x1024, .f32⟩
  | 73 => ⟨S2048x1024, .f32⟩
  | 74 => ⟨S2048x1024, .bf16⟩
  | _ => ⟨S2048x1024, .bf16⟩

abbrev hbmTy (i : Nat) : BufTy := match i / 128 with
  | 0 => hbmTy0_0 i
  | 1 => hbmTy0_1 i
  | 2 => hbmTy0_2 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call0_cst : Ref sig .tc := ⟨.hbm, 120, rfl⟩
abbrev main_call0_v0 : Ref sig .tc := ⟨.hbm, 121, rfl⟩
abbrev main_v94 : Ref sig .tc := ⟨.hbm, 122, rfl⟩
abbrev main_cst_14 : Ref sig .tc := ⟨.hbm, 123, rfl⟩
abbrev main_v95 : Ref sig .tc := ⟨.hbm, 124, rfl⟩
abbrev main_v96 : Ref sig .tc := ⟨.hbm, 125, rfl⟩
abbrev main_cst_15 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_cst_18 : Ref sig .tc := ⟨.hbm, 139, rfl⟩
abbrev main_v107 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_20 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_21 : Ref sig .tc := ⟨.hbm, 161, rfl⟩
abbrev main_v126 : Ref sig .tc := ⟨.hbm, 162, rfl⟩
abbrev main_v127 : Ref sig .tc := ⟨.hbm, 163, rfl⟩
abbrev main_cst_22 : Ref sig .tc := ⟨.hbm, 164, rfl⟩
abbrev main_v128 : Ref sig .tc := ⟨.hbm, 165, rfl⟩
abbrev main_cst_23 : Ref sig .tc := ⟨.hbm, 166, rfl⟩
abbrev main_v129 : Ref sig .tc := ⟨.hbm, 167, rfl⟩
abbrev main_v130 : Ref sig .tc := ⟨.hbm, 168, rfl⟩
abbrev main_cst_24 : Ref sig .tc := ⟨.hbm, 169, rfl⟩
abbrev main_v131 : Ref sig .tc := ⟨.hbm, 170, rfl⟩
abbrev main_cst_25 : Ref sig .tc := ⟨.hbm, 171, rfl⟩
abbrev main_v132 : Ref sig .tc := ⟨.hbm, 172, rfl⟩
abbrev main_cst_26 : Ref sig .tc := ⟨.hbm, 173, rfl⟩
abbrev main_v133 : Ref sig .tc := ⟨.hbm, 174, rfl⟩
abbrev main_cst_27 : Ref sig .tc := ⟨.hbm, 175, rfl⟩
abbrev main_v134 : Ref sig .tc := ⟨.hbm, 176, rfl⟩
abbrev main_v135 : Ref sig .tc := ⟨.hbm, 177, rfl⟩
abbrev main_cst_28 : Ref sig .tc := ⟨.hbm, 178, rfl⟩
abbrev main_v136 : Ref sig .tc := ⟨.hbm, 179, rfl⟩
abbrev main_v137 : Ref sig .tc := ⟨.hbm, 180, rfl⟩
abbrev main_cst_29 : Ref sig .tc := ⟨.hbm, 181, rfl⟩
abbrev main_cst_30 : Ref sig .tc := ⟨.hbm, 182, rfl⟩
abbrev main_v138 : Ref sig .tc := ⟨.hbm, 183, rfl⟩
abbrev main_v139 : Ref sig .tc := ⟨.hbm, 184, rfl⟩
abbrev main_cst_31 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_33 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_34 : Ref sig .tc := ⟨.hbm, 202, rfl⟩
abbrev main_v154 : Ref sig .tc := ⟨.hbm, 203, rfl⟩
abbrev main_v155 : Ref sig .tc := ⟨.hbm, 204, rfl⟩
abbrev main_cst_35 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_36 : Ref sig .tc := ⟨.hbm, 211, rfl⟩
abbrev main_v161 : Ref sig .tc := ⟨.hbm, 212, rfl⟩
abbrev main_v162 : Ref sig .tc := ⟨.hbm, 213, rfl⟩
abbrev main_cst_37 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_38 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_39 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_40 : Ref sig .tc := ⟨.hbm, 231, rfl⟩
abbrev main_v177 : Ref sig .tc := ⟨.hbm, 232, rfl⟩
abbrev main_v178 : Ref sig .tc := ⟨.hbm, 233, rfl⟩
abbrev main_cst_41 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_42 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_43 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_44 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_45 : Ref sig .tc := ⟨.hbm, 252, rfl⟩
abbrev main_v193 : Ref sig .tc := ⟨.hbm, 253, rfl⟩
abbrev main_v194 : Ref sig .tc := ⟨.hbm, 254, rfl⟩
abbrev main_cst_46 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_cst_47 : Ref sig .tc := ⟨.hbm, 262, rfl⟩
abbrev main_v201 : Ref sig .tc := ⟨.hbm, 263, rfl⟩
abbrev main_v202 : Ref sig .tc := ⟨.hbm, 264, rfl⟩
abbrev main_cst_48 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_49 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_cst_50 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_cst_51 : Ref sig .tc := ⟨.hbm, 285, rfl⟩
abbrev main_v220 : Ref sig .tc := ⟨.hbm, 286, rfl⟩
abbrev main_v221 : Ref sig .tc := ⟨.hbm, 287, rfl⟩
abbrev main_cst_52 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_cst_53 : Ref sig .tc := ⟨.hbm, 294, rfl⟩
abbrev main_v227 : Ref sig .tc := ⟨.hbm, 295, rfl⟩
abbrev main_v228 : Ref sig .tc := ⟨.hbm, 296, rfl⟩
abbrev main_cst_54 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_cst_55 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_cst_56 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_cst_57 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩

abbrev nD : Nat := 1
abbrev τ : Topo := Topo.v7x

variable {F : FTy → Type} [FloatOps F]
-- ==== Proof.HostLine.lean ====
/- The host part of the kernel's program: the rotary tables and the saved states, as functions of the arguments. -/
module

public import proofs.«01_k».proof.Proof.Gen.KernelIdeal.Value
public import Idealize.ShloMosaic.Lib.StableHlo.RunRead
public import Idealize.ShloMosaic.PureOps.Ideal
public import Idealize.ShloMosaic.Lib.Pipeline.Frame

@[expose] public section

set_option maxRecDepth 16384

noncomputable section

namespace Cert.KernelIdeal.HostLine

open Cert.KernelIdeal Cert.KernelIdeal.Gen Idealize.ShloMosaic Idealize.ShloMosaic.TcCoe Idealize.SL.Sem

/-- The angle of every frame and lane. -/
def angles (pos : IVec S1x2048 32) (inv : FVec Ideal S32 .f32) : FVec Ideal S2048x128 .f32 :=
  mulf (broadcastInDim S2048x128 ![0, 1] bcast_S2048x1_S2048x128_0_1 (sitofp .f32 (shapeCast S2048x1 pos
    shapeCasts_S1x2048_S2048x1))) (broadcastInDim S2048x128 ![0, 1] bcast_S1x128_S2048x128_0_1 (shapeCast S1x128 (concatenate
    S128 0 [⟨S32, inv⟩, ⟨S32, inv⟩, ⟨S32, inv⟩, ⟨S32, inv⟩] concatenates_S32_S32_S32_S32_S128_d0) shapeCasts_S128_S1x128))

/-- The signs of the sine by lane. -/
def signs  : FVec Ideal S1x128 .f32 :=
  concatenate S1x128 1 [⟨S1x32, (Host.negf (broadcastInDim S1x32 ![] bcast_S_S1x32 (constant S_ .f32 0x3F800000#32)))⟩,
    ⟨S1x32, (broadcastInDim S1x32 ![] bcast_S_S1x32 (constant S_ .f32 0x3F800000#32))⟩, ⟨S1x32, (Host.negf (broadcastInDim
    S1x32 ![] bcast_S_S1x32 (constant S_ .f32 0x3F800000#32)))⟩, ⟨S1x32, (broadcastInDim S1x32 ![] bcast_S_S1x32 (constant S_
    .f32 0x3F800000#32))⟩] concatenates_S1x32_S1x32_S1x32_S1x32_S1x128_d1

/-- The cosine table. -/
def cosTab (pos : IVec S1x2048 32) (inv : FVec Ideal S32 .f32) : FVec Ideal S2048x128 .f32 :=
  Host.cos (angles pos inv)

/-- The signed sine table. -/
def sinTab (pos : IVec S1x2048 32) (inv : FVec Ideal S32 .f32) : FVec Ideal S2048x128 .f32 :=
  mulf (Host.sin (angles pos inv)) (broadcastInDim S2048x128 ![0, 1] bcast_S1x128_S2048x128_0_1 signs)

/-- The angle of every frame and lane of a half. -/
def ang32 (pos : IVec S1x2048 32) (inv : FVec Ideal S32 .f32) : FVec Ideal S1x2048x32 .f32 :=
  mulf (broadcastInDim S1x2048x32 ![0, 1, 2] bcast_S1x2048x1_S1x2048x32_0_1_2 (broadcastInDim S1x2048x1 ![0, 1]
    bcast_S1x2048_S1x2048x1_0_1 (sitofp .f32 pos))) (broadcastInDim S1x2048x32 ![0, 1, 2] bcast_S1x1x32_S1x2048x32_0_1_2
    (broadcastInDim S1x1x32 ![2] bcast_S32_S1x1x32_2 inv))

/-- The key columns, head by head. -/
def heads (proj : FVec Ideal S2048x6656 .bf16) : FVec Ideal S1x2048x8x64 .f32 :=
  shapeCast S1x2048x8x64 (extf .f32 (extractStridedSlice S2048x512 ![0, 512] proj slices_S2048x6656_S2048x512_0_512)
    bitsLt_bf16_f32) shapeCasts_S2048x512_S1x2048x8x64

/-- The rotated lower half. -/
def turnLow (x : FVec Ideal S1x2048x8x64 .f32) (a : FVec Ideal S1x2048x32 .f32) : FVec Ideal S1x2048x8x32 .f32 :=
  subf (mulf (extractStridedSlice S1x2048x8x32 ![0, 0, 0, 0] x slices_S1x2048x8x64_S1x2048x8x32_0_0_0_0) (broadcastInDim
    S1x2048x8x32 ![0, 1, 2, 3] bcast_S1x2048x1x32_S1x2048x8x32_0_1_2_3 (broadcastInDim S1x2048x1x32 ![0, 1, 3]
    bcast_S1x2048x32_S1x2048x1x32_0_1_3 (Host.cos a)))) (mulf (extractStridedSlice S1x2048x8x32 ![0, 0, 0, 32] x
    slices_S1x2048x8x64_S1x2048x8x32_0_0_0_32) (broadcastInDim S1x2048x8x32 ![0, 1, 2, 3]
    bcast_S1x2048x1x32_S1x2048x8x32_0_1_2_3 (broadcastInDim S1x2048x1x32 ![0, 1, 3] bcast_S1x2048x32_S1x2048x1x32_0_1_3
    (Host.sin a))))

/-- The rotated upper half. -/
def turnHigh (x : FVec Ideal S1x2048x8x64 .f32) (a : FVec Ideal S1x2048x32 .f32) : FVec Ideal S1x2048x8x32 .f32 :=
  addf (mulf (extractStridedSlice S1x2048x8x32 ![0, 0, 0, 0] x slices_S1x2048x8x64_S1x2048x8x32_0_0_0_0) (broadcastInDim
    S1x2048x8x32 ![0, 1, 2, 3] bcast_S1x2048x1x32_S1x2048x8x32_0_1_2_3 (broadcastInDim S1x2048x1x32 ![0, 1, 3]
    bcast_S1x2048x32_S1x2048x1x32_0_1_3 (Host.sin a)))) (mulf (extractStridedSlice S1x2048x8x32 ![0, 0, 0, 32] x
    slices_S1x2048x8x64_S1x2048x8x32_0_0_0_32) (broadcastInDim S1x2048x8x32 ![0, 1, 2, 3]
    bcast_S1x2048x1x32_S1x2048x8x32_0_1_2_3 (broadcastInDim S1x2048x1x32 ![0, 1, 3] bcast_S1x2048x32_S1x2048x1x32_0_1_3
    (Host.cos a))))

/-- The rotated keys, times an eighth. -/
def keys (proj : FVec Ideal S2048x6656 .bf16) (pos : IVec S1x2048 32) (inv : FVec Ideal S32 .f32) : FVec Ideal S1x2048x8x64 .f32 :=
  mulf (concatenate S1x2048x8x64 3 [⟨S1x2048x8x32, (turnLow (heads proj) (ang32 pos inv))⟩, ⟨S1x2048x8x32, (turnHigh (heads
    proj) (ang32 pos inv))⟩] concatenates_S1x2048x8x32_S1x2048x8x32_S1x2048x8x64_d3) (broadcastInDim S1x2048x8x64 ![]
    bcast_S_S1x2048x8x64 (constant S_ .f32 0x3E000000#32))

/-- How much of a frame is left at the end of its block, by frame of the block and head. -/
def fades (lg : FVec Ideal S8 .f32) : FVec Ideal S256x8 .f32 :=
  Host.exp (mulf (broadcastInDim S256x8 ![0, 1] bcast_S256x1_S256x8_0_1 (broadcastInDim S256x1 ![0] bcast_S256_S256x1_0 (subf
    (broadcastInDim S256 ![] bcast_S_S256 (constant S_ .f32 0x437F0000#32)) (sitofp .f32 (iotaInDim S256 32 0)))))
    (broadcastInDim S256x8 ![0, 1] bcast_S1x8_S256x8_0_1 (broadcastInDim S1x8 ![1] bcast_S8_S1x8_1 lg)))

/-- What every block adds to the state. -/
def saves (k : FVec Ideal S1x2048x8x64 .f32) (proj : FVec Ideal S2048x6656 .bf16) (lg : FVec Ideal S8 .f32) : FVec Ideal S8x1x8x64x128 .f32 :=
  Host.dotGeneral dot_S1x8x256x8x64_S1x8x256x8x128_S8x1x8x64x128_2_2_4_4_103_103 none (mulf (shapeCast S1x8x256x8x64 k
    shapeCasts_S1x2048x8x64_S1x8x256x8x64) (broadcastInDim S1x8x256x8x64 ![0, 1, 2, 3, 4]
    bcast_S1x1x256x8x1_S1x8x256x8x64_0_1_2_3_4 (broadcastInDim S1x1x256x8x1 ![2, 3] bcast_S256x8_S1x1x256x8x1_2_3 (fades
    lg)))) (shapeCast S1x8x256x8x128 (extf .f32 (extractStridedSlice S2048x1024 ![0, 1024] proj
    slices_S2048x6656_S2048x1024_0_1024) bitsLt_bf16_f32) shapeCasts_S2048x1024_S1x8x256x8x128)

/-- How much of the state is left after a block. -/
def fade (lg : FVec Ideal S8 .f32) : FVec Ideal S1x8x1x1 .f32 :=
  broadcastInDim S1x8x1x1 ![1] bcast_S8_S1x8x1x1_1 (Host.exp (mulf (broadcastInDim S8 ![] bcast_S_S8 (constant S_ .f32
    0x43800000#32)) lg))

/-- No state. -/
def none  : FVec Ideal S1x8x64x128 .f32 :=
  broadcastInDim S1x8x64x128 ![] bcast_S_S1x8x64x128 (constant S_ .f32 0x00000000#32)

/-- The state after block 0. -/
def step0 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![0, 0, 0, 0, 0] (extractStridedSlice S8x1x8x64x128 ![0, 0, 0, 0, 0] w
    slices_S8x1x8x64x128_S8x1x8x64x128_0_0_0_0_0) slices_S8x1x8x64x128_S1x1x8x64x128_0_0_0_0_0)
    shapeCasts_S1x1x8x64x128_S1x8x64x128)

/-- The state after block 1. -/
def step1 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![1, 0, 0, 0, 0] (extractStridedSlice S8x1x8x64x128 ![0, 0, 0, 0, 0] w
    slices_S8x1x8x64x128_S8x1x8x64x128_0_0_0_0_0) slices_S8x1x8x64x128_S1x1x8x64x128_1_0_0_0_0)
    shapeCasts_S1x1x8x64x128_S1x8x64x128)

/-- The state after block 2. -/
def step2 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![2, 0, 0, 0, 0] (extractStridedSlice S8x1x8x64x128 ![0, 0, 0, 0, 0] w
    slices_S8x1x8x64x128_S8x1x8x64x128_0_0_0_0_0) slices_S8x1x8x64x128_S1x1x8x64x128_2_0_0_0_0)
    shapeCasts_S1x1x8x64x128_S1x8x64x128)

/-- The state after block 3. -/
def step3 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![3, 0, 0, 0, 0] (extractStridedSlice S8x1x8x64x128 ![0, 0, 0, 0, 0] w
    slices_S8x1x8x64x128_S8x1x8x64x128_0_0_0_0_0) slices_S8x1x8x64x128_S1x1x8x64x128_3_0_0_0_0)
    shapeCasts_S1x1x8x64x128_S1x8x64x128)

/-- The state after block 4. -/
def step4 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![4, 0, 0, 0, 0] (extractStridedSlice S8x1x8x64x128 ![0, 0, 0, 0, 0] w
    slices_S8x1x8x64x128_S8x1x8x64x128_0_0_0_0_0) slices_S8x1x8x64x128_S1x1x8x64x128_4_0_0_0_0)
    shapeCasts_S1x1x8x64x128_S1x8x64x128)

/-- The state after block 5. -/
def step5 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![5, 0, 0, 0, 0] (extractStridedSlice S8x1x8x64x128 ![0, 0, 0, 0, 0] w
    slices_S8x1x8x64x128_S8x1x8x64x128_0_0_0_0_0) slices_S8x1x8x64x128_S1x1x8x64x128_5_0_0_0_0)
    shapeCasts_S1x1x8x64x128_S1x8x64x128)

/-- The state after block 6. -/
def step6 (w : FVec Ideal S8x1x8x64x128 .f32) (g : FVec Ideal S1x8x1x1 .f32) (s : FVec Ideal S1x8x64x128 .f32) : FVec Ideal S1x8x64x128 .f32 :=
  addf (mulf s (broadcastInDim S1x8x64x128 ![0, 1, 2, 3] bcast_S1x8x1x1_S1x8x64x128_0_1_2_3 g)) (shapeCast S1x8x64x128
    (extractStridedSlice S1x1x8x64x128 ![6, 0, 0, 0, 0] (extractStridedSlice S8x1x8x64x128 ![0, 0, 0, 0, 0] w
    slices_S8x1x8x64x128_S8x1x8x64x128_0_0_0_0_0) slices_S8x1x8x64x128_S1x1x8x64x128_6_0_0_0_0)
    shapeCasts_S1x1x8x64x128_S1x8x64x128)

/-- The eight states. -/
def stack (z : FVec Ideal S0x1x8x64x128 .f32) (s0 s1 s2 s3 s4 s5 s6 s7 : FVec Ideal S1x8x64x128 .f32) : FVec Ideal S8x1x8x64x128 .f32 :=
  concatenate S8x1x8x64x128 0 [⟨S0x1x8x64x128, z⟩, ⟨S8x1x8x64x128, (concatenate S8x1x8x64x128 0 [⟨S1x1x8x64x128,
    (broadcastInDim S1x1x8x64x128 ![1, 2, 3, 4] bcast_S1x8x64x128_S1x1x8x64x128_1_2_3_4 s0)⟩, ⟨S1x1x8x64x128, (broadcastInDim
    S1x1x8x64x128 ![1, 2, 3, 4] bcast_S1x8x64x128_S1x1x8x64x128_1_2_3_4 s1)⟩, ⟨S1x1x8x64x128, (broadcastInDim S1x1x8x64x128
    ![1, 2, 3, 4] bcast_S1x8x64x128_S1x1x8x64x128_1_2_3_4 s2)⟩, ⟨S1x1x8x64x128, (broadcastInDim S1x1x8x64x128 ![1, 2, 3, 4]
    bcast_S1x8x64x128_S1x1x8x64x128_1_2_3_4 s3)⟩, ⟨S1x1x8x64x128, (broadcastInDim S1x1x8x64x128 ![1, 2, 3, 4]
    bcast_S1x8x64x128_S1x1x8x64x128_1_2_3_4 s4)⟩, ⟨S1x1x8x64x128, (broadcastInDim S1x1x8x64x128 ![1, 2, 3, 4]
    bcast_S1x8x64x128_S1x1x8x64x128_1_2_3_4 s5)⟩, ⟨S1x1x8x64x128, (broadcastInDim S1x1x8x64x128 ![1, 2, 3, 4]
    bcast_S1x8x64x128_S1x1x8x64x128_1_2_3_4 s6)⟩, ⟨S1x1x8x64x128, (broadcastInDim S1x1x8x64x128 ![1, 2, 3, 4]
    bcast_S1x8x64x128_S1x1x8x64x128_1_2_3_4 s7)⟩]
    concatenates_S1x1x8x64x128_S1x1x8x64x128_S1x1x8x64x128_S1x1x8x64x128_S1x1x8x64x128_S1x1x8x64x128_S1x1x8x64x128_S1x1x8x64x128_S8x1x8x64x128_d0)⟩]
    concatenates_S0x1x8x64x128_S8x1x8x64x128_S8x1x8x64x128_d0

/-- The states, pair by pair, each head on its own lanes. -/
def spread (x : FVec Ideal S8x1x8x64x128 .f32) : FVec Ideal S4x8x2x128x128 .f32 :=
  concatenate S4x8x2x128x128 2 [⟨S4x8x1x128x128, (broadcastInDim S4x8x1x128x128 ![0, 1, 3, 4]
    bcast_S4x8x128x128_S4x8x1x128x128_0_1_3_4 (concatenate S4x8x128x128 2 [⟨S4x8x64x128, (shapeCast S4x8x64x128
    (extractStridedSlice S4x8x1x64x128 ![0, 0, 0, 0, 0] (transpose S4x8x2x64x128 [1, 0, 2, 3, 4] (shapeCast S8x4x2x64x128 x
    shapeCasts_S8x1x8x64x128_S8x4x2x64x128) transposes_S8x4x2x64x128_S4x8x2x64x128_1_0_2_3_4)
    slices_S4x8x2x64x128_S4x8x1x64x128_0_0_0_0_0) shapeCasts_S4x8x1x64x128_S4x8x64x128)⟩, ⟨S4x8x64x128, (broadcastInDim
    S4x8x64x128 ![] bcast_S_S4x8x64x128 (constant S_ .f32 0x00000000#32))⟩]
    concatenates_S4x8x64x128_S4x8x64x128_S4x8x128x128_d2))⟩, ⟨S4x8x1x128x128, (broadcastInDim S4x8x1x128x128 ![0, 1, 3, 4]
    bcast_S4x8x128x128_S4x8x1x128x128_0_1_3_4 (concatenate S4x8x128x128 2 [⟨S4x8x64x128, (broadcastInDim S4x8x64x128 ![]
    bcast_S_S4x8x64x128 (constant S_ .f32 0x00000000#32))⟩, ⟨S4x8x64x128, (shapeCast S4x8x64x128 (extractStridedSlice
    S4x8x1x64x128 ![0, 0, 1, 0, 0] (transpose S4x8x2x64x128 [1, 0, 2, 3, 4] (shapeCast S8x4x2x64x128 x
    shapeCasts_S8x1x8x64x128_S8x4x2x64x128) transposes_S8x4x2x64x128_S4x8x2x64x128_1_0_2_3_4)
    slices_S4x8x2x64x128_S4x8x1x64x128_0_0_1_0_0) shapeCasts_S4x8x1x64x128_S4x8x64x128)⟩]
    concatenates_S4x8x64x128_S4x8x64x128_S4x8x128x128_d2))⟩] concatenates_S4x8x1x128x128_S4x8x1x128x128_S4x8x2x128x128_d2

section Line

variable (m : (ℓ : Loc nD τ sig) → Buf (Elt Ideal) ℓ) (c : Dev nD)

/-- The last operations of the line: the states put together and spread over the lanes. -/
abbrev tail : List (HloOp τ sig (Elt Ideal)) :=
  ( StableHlo.unary main_v64 main_v108 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v72 main_v109 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v77 main_v110 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v82 main_v111 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v87 main_v112 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v92 main_v113 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v97 main_v114 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.unary main_v102 main_v115 (broadcastInDim S1x1x8x64x128 ![1, 2, 3, 4] bcast_S1x8x64x128_S1x1x8x64x128_1_2_3_4 : (⟨S1x8x64x128, .f32⟩ : BufTy).Contents (Elt Ideal) → (⟨S1x1x8x64x128, .f32⟩ : BufTy).Contents (Elt Ideal))
  :: StableHlo.nary ![main_v108, main_v109, main_v110, main_v111, main_v112, main_v113, main_v114, main_v115] main_v116 (fun u => (concatenate S8x1x8x64x128 0 [⟨S1x1x8x64x128, (u 0 : (⟨S1x1x8x64x128, .f32⟩ : BufTy).Contents (Elt Ideal))⟩, ⟨S1x1x8x64x128, (u 1 : (⟨S1x1x8x64x128, .f32⟩ : BufTy).Contents (Elt Ideal))⟩, ⟨S1x1x8x64x128, (u 2 : (⟨S1x1x8x64x128, .f32⟩ : BufTy).Contents (Elt Ideal))⟩, ⟨S1x1x8x64x128, (u 3 : (⟨S1x1x8x64x128, .f32⟩ : BufTy).Contents (Elt Ideal))⟩, ⟨S1x1x8x64x128, (u 4 : (⟨S1x1x8x64x128, .f32⟩ : BufTy).Contents (Elt Ideal))⟩, ⟨S1x1x8x64x128, (u 5 : (⟨S1x1x8x64x128, .f32⟩ : BufTy).Contents (Elt Ideal))⟩, ⟨S1x1x8x64x128, (u 6 : (⟨S1x1x8x64x128, .f32⟩ : BufTy).Contents (Elt Ideal))⟩, ⟨S1x1x8x64x128, (u 7 : (⟨S1x1x8x64x128, .f32⟩ : BufTy).Contents (Elt Ideal))⟩] concatenates_S1x1x8x64x128_S1x1x8x64x128_S1x1x8x64x128_S1x1x8x64x128_S1x1x8x64x128_S1x1x8x64x128_S1x1x8x64x128_S1x1x8x64x128_S8x1x8x64x128_d0 : (⟨S8x1x8x64x128, .f32⟩ : BufTy).Contents (Elt Ideal)))
  :: StableHlo.binary main_v67 main_v116 main_v117 ((fun a b => concatenate S8x1x8x64x128 0 [⟨S0x1x8x64x128, a⟩, ⟨S8x1x8x64x128, b⟩] concatenates_S0x1x8x64x128_S8x1x8x64x128_S8x1x8x64x128_d0) : (⟨S0x1x8x64x128, .f32⟩ : BufTy).Contents (Elt Ideal) → (⟨S8x1x8x64x128, .f32⟩ : BufTy).Contents (Elt Ideal) → (⟨S8x1x8x64x128, .f32⟩ : BufTy).Contents (Elt Ideal))
  :: StableHlo.reshape main_v117 main_v118 (rfl : (.f32 : EltTy) = .f32) shapeCasts_S8x1x8x64x128_S8x4x2x64x128
  :: StableHlo.unary main_v118 main_v119 ((transpose S4x8x2x64x128 [1, 0, 2, 3, 4] · transposes_S8x4x2x64x128_S4x8x2x64x128_1_0_2_3_4) : (⟨S8x4x2x64x128, .f32⟩ : BufTy).Contents (Elt Ideal) → (⟨S4x8x2x64x128, .f32⟩ : BufTy).Contents (Elt Ideal))
  :: StableHlo.nullary main_cst_5 (constant (F := Ideal) S_ .f32 0x00000000#32)
  :: StableHlo.unary main_cst_5 main_v120 (broadcastInDim S4x8x64x128 ![] bcast_S_S4x8x64x128 : (⟨S_, .f32⟩ : BufTy).Contents (Elt Ideal) → (⟨S4x8x64x128, .f32⟩ : BufTy).Contents (Elt Ideal))
  :: StableHlo.unary main_v119 main_v121 ((extractStridedSlice S4x8x1x64x128 ![0, 0, 0, 0, 0] · slices_S4x8x2x64x128_S4x8x1x64x128_0_0_0_0_0) : (⟨S4x8x2x64x128, .f32⟩ : BufTy).Contents (Elt Ideal) → (⟨S4x8x1x64x128, .f32⟩ : BufTy).Contents (Elt Ideal))
  :: StableHlo.reshape main_v121 main_v122 (rfl : (.f32 : EltTy) = .f32) shapeCasts_S4x8x1x64x128_S4x8x64x128
  :: StableHlo.binary main_v122 main_v120 main_v123 ((fun a b => concatenate S4x8x128x128 2 [⟨S4x8x64x128, a⟩, ⟨S4x8x64x128, b⟩] concatenates_S4x8x64x128_S4x8x64x128_S4x8x128x128_d2) : (⟨S4x8x64x128, .f32⟩ : BufTy).Contents (Elt Ideal) → (⟨S4x8x64x128, .f32⟩ : BufTy).Contents (Elt Ideal) → (⟨S4x8x128x128, .f32⟩ : BufTy).Contents (Elt Ideal))
  :: StableHlo.unary main_v119 main_v124 ((extractStridedSlice S4x8x1x64x128 ![0, 0, 1, 0, 0] · slices_S4x8x2x64x128_S4x8x1x64x128_0_0_1_0_0) : (⟨S4x8x2x64x128, .f32⟩ : BufTy).Contents (Elt Ideal) → (⟨S4x8x1x64x128, .f32⟩ : BufTy).Contents (Elt Ideal))
  :: StableHlo.reshape main_v124 main_v125 (rfl : (.f32 : EltTy) = .f32) shapeCasts_S4x8x1x64x128_S4x8x64x128
  :: StableHlo.binary main_v120 main_v125 main_v126 ((fun a b => concatenate S4x8x128x128 2 [⟨S4x8x64x128, a⟩, ⟨S4x8x64x128, b⟩] concatenates_S4x8x64x128_S4x8x64x128_S4x8x128x128_d2) : (⟨S4x8x64x128, .f32⟩ : BufTy).Contents (Elt Ideal) → (⟨S4x8x64x128, .f32⟩ : BufTy).Contents (Elt Ideal) → (⟨S4x8x128x128, .f32⟩ : BufTy).Contents (Elt Ideal))
  :: StableHlo.unary main_v123 main_v127 (broadcastInDim S4x8x1x128x128 ![0, 1, 3, 4] bcast_S4x8x128x128_S4x8x1x128x128_0_1_3_4 : (⟨S4x8x128x128, .f32⟩ : BufTy).Contents (Elt Ideal) → (⟨S4x8x1x128x128, .f32⟩ : BufTy).Contents (Elt Ideal))
  :: StableHlo.unary main_v126 main_v128 (broadcastInDim S4x8x1x128x128 ![0, 1, 3, 4] bcast_S4x8x128x128_S4x8x1x128x128_0_1_3_4 : (⟨S4x8x128x128, .f32⟩ : BufTy).Contents (Elt Ideal) → (⟨S4x8x1x128x128, .f32⟩ : BufTy).Contents (Elt Ideal))
  :: StableHlo.binary main_v127 main_v128 main_v129 ((fun a b => concatenate S4x8x2x128x128 2 [⟨S4x8x1x128x128, a⟩, ⟨S4x8x1x128x128, b⟩] concatenates_S4x8x1x128x128_S4x8x1x128x128_S4x8x2x128x128_d2) : (⟨S4x8x1x128x128, .f32⟩ : BufTy).Contents (Elt Ideal) → (⟨S4x8x1x128x128, .f32⟩ : BufTy).Contents (Elt Ideal) → (⟨S4x8x2x128x128, .f32⟩ : BufTy).Contents (Elt Ideal))
  :: [] )

/-! What the host's line leaves in the buffers the kernel reads. -/

theorem arg0_eq : V m c main_arg0 = m (c, Proc.tc.devRef main_arg0) := by
  unfold V
  after_reads_simp

theorem arg1_eq : V m c main_arg1 = m (c, Proc.tc.devRef main_arg1) := by
  unfold V
  after_reads_simp

theorem arg2_eq : V m c main_arg2 = m (c, Proc.tc.devRef main_arg2) := by
  unfold V
  after_reads_simp

theorem arg3_eq : V m c main_arg3 = m (c, Proc.tc.devRef main_arg3) := by
  unfold V
  after_reads_simp

theorem arg4_eq : V m c main_arg4 = m (c, Proc.tc.devRef main_arg4) := by
  unfold V
  after_reads_simp

theorem cos_eq : (V m c main_v11 : FVec Ideal S2048x128 .f32) = cosTab (m (c, Proc.tc.devRef main_arg1)) (m (c, Proc.tc.devRef main_arg2)) := by
  unfold V
  after_reads_simp
  rfl

theorem sin_eq : (V m c main_v14 : FVec Ideal S2048x128 .f32) = sinTab (m (c, Proc.tc.devRef main_arg1)) (m (c, Proc.tc.devRef main_arg2)) := by
  unfold V
  after_reads_simp
  rfl

theorem saves_eq : (V m c main_v59 : FVec Ideal S8x1x8x64x128 .f32) = saves (keys (m (c, Proc.tc.devRef main_arg0)) (m (c, Proc.tc.devRef main_arg1)) (m (c, Proc.tc.devRef main_arg2))) (m (c, Proc.tc.devRef main_arg0)) (m (c, Proc.tc.devRef main_arg3)) := by
  unfold V
  after_reads_simp
  rfl

theorem fade_eq : (V m c main_v63 : FVec Ideal S1x8x1x1 .f32) = fade (m (c, Proc.tc.devRef main_arg3)) := by
  unfold V
  after_reads_simp
  rfl

theorem state0_eq : (V m c main_v64 : FVec Ideal S1x8x64x128 .f32) = none := by
  unfold V
  after_reads_simp
  rfl

theorem state1_eq : (V m c main_v72 : FVec Ideal S1x8x64x128 .f32) = step0 (V m c main_v59) (V m c main_v63) (V m c main_v64) := by
  unfold V
  after_reads_simp
  rfl

theorem state2_eq : (V m c main_v77 : FVec Ideal S1x8x64x128 .f32) = step1 (V m c main_v59) (V m c main_v63) (V m c main_v72) := by
  unfold V
  after_reads_simp
  rfl

theorem state3_eq : (V m c main_v82 : FVec Ideal S1x8x64x128 .f32) = step2 (V m c main_v59) (V m c main_v63) (V m c main_v77) := by
  unfold V
  after_reads_simp
  rfl

theorem state4_eq : (V m c main_v87 : FVec Ideal S1x8x64x128 .f32) = step3 (V m c main_v59) (V m c main_v63) (V m c main_v82) := by
  unfold V
  after_reads_simp
  rfl

theorem state5_eq : (V m c main_v92 : FVec Ideal S1x8x64x128 .f32) = step4 (V m c main_v59) (V m c main_v63) (V m c main_v87) := by
  unfold V
  after_reads_simp
  rfl

theorem state6_eq : (V m c main_v97 : FVec Ideal S1x8x64x128 .f32) = step5 (V m c main_v59) (V m c main_v63) (V m c main_v92) := by
  unfold V
  after_reads_simp
  rfl

theorem state7_eq : (V m c main_v102 : FVec Ideal S1x8x64x128 .f32) = step6 (V m c main_v59) (V m c main_v63) (V m c main_v97) := by
  unfold V
  after_reads_simp
  rfl

omit m c in
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem tail_eq : (hostOps0 : List (HloOp τ sig (Elt Ideal))) = hostOps0.take 114 ++ tail := rfl

theorem tail_spread (W : Valuation τ sig (Elt Ideal)) : (StableHlo.after tail W (Proc.tc.devRef main_v129) : FVec Ideal S4x8x2x128x128 .f32)
    = spread (stack (W (Proc.tc.devRef main_v67)) (W (Proc.tc.devRef main_v64)) (W (Proc.tc.devRef main_v72)) (W (Proc.tc.devRef main_v77)) (W (Proc.tc.devRef main_v82)) (W (Proc.tc.devRef main_v87)) (W (Proc.tc.devRef main_v92)) (W (Proc.tc.devRef main_v97)) (W (Proc.tc.devRef main_v102))) := by
  after_reads_simp [StableHlo.readPieces, Matrix.cons_val]
  rfl

theorem tail_67 (W : Valuation τ sig (Elt Ideal)) : StableHlo.after tail W (Proc.tc.devRef main_v67) = (W (Proc.tc.devRef main_v67)) := by
  after_reads_simp

theorem tail_64 (W : Valuation τ sig (Elt Ideal)) : StableHlo.after tail W (Proc.tc.devRef main_v64) = (W (Proc.tc.devRef main_v64)) := by
  after_reads_simp

theorem tail_72 (W : Valuation τ sig (Elt Ideal)) : StableHlo.after tail W (Proc.tc.devRef main_v72) = (W (Proc.tc.devRef main_v72)) := by
  after_reads_simp

theorem tail_77 (W : Valuation τ sig (Elt Ideal)) : StableHlo.after tail W (Proc.tc.devRef main_v77) = (W (Proc.tc.devRef main_v77)) := by
  after_reads_simp

theorem tail_82 (W : Valuation τ sig (Elt Ideal)) : StableHlo.after tail W (Proc.tc.devRef main_v82) = (W (Proc.tc.devRef main_v82)) := by
  after_reads_simp

theorem tail_87 (W : Valuation τ sig (Elt Ideal)) : StableHlo.after tail W (Proc.tc.devRef main_v87) = (W (Proc.tc.devRef main_v87)) := by
  after_reads_simp

theorem tail_92 (W : Valuation τ sig (Elt Ideal)) : StableHlo.after tail W (Proc.tc.devRef main_v92) = (W (Proc.tc.devRef main_v92)) := by
  after_reads_simp

theorem tail_97 (W : Valuation τ sig (Elt Ideal)) : StableHlo.after tail W (Proc.tc.devRef main_v97) = (W (Proc.tc.devRef main_v97)) := by
  after_reads_simp

theorem tail_102 (W : Valuation τ sig (Elt Ideal)) : StableHlo.after tail W (Proc.tc.devRef main_v102) = (W (Proc.tc.devRef main_v102)) := by
  after_reads_simp

theorem spread_eq : (V m c main_v129 : FVec Ideal S4x8x2x128x128 .f32)
    = spread (stack (V m c main_v67) (V m c main_v64) (V m c main_v72) (V m c main_v77) (V m c main_v82) (V m c main_v87) (V m c main_v92) (V m c main_v97) (V m c main_v102)) := by
  unfold V
  rw [tail_eq, after_append, tail_spread, tail_67, tail_64, tail_72, tail_77, tail_82, tail_87, tail_92, tail_97, tail_102]

end Line

end Cert.KernelIdeal.HostLine

end
-- ==== Proof.Decay.lean ====
/- The mathematics of the retention's gradient, over the real numbers and away from any program.

   A head has a rate `a` (the logarithm of its decay). Frame `i` reads frame `j` with the weight `decay a i j`:
   `exp (a * |i - j|)` unless `j` lies in a later chunk of 64 frames, which `i` may not read. The three gradients are
   sums over all frames with that weight. A program that walks the frames in blocks of `T` keeps a state: what the
   blocks before have saved (`saved`), or what the blocks after have sent back (`sent`). This module says that the
   blockwise formulas are the plain sums, for every block length that is a multiple of 64. -/
module

public import Mathlib.Algebra.BigOperators.Fin
public import Mathlib.Algebra.BigOperators.Intervals
public import Mathlib.Data.EReal.Operations
public import Idealize.ShloMosaic.PureOps.Ideal
public import Mathlib.Tactic.Ring
public import Mathlib.Tactic.Linarith

@[expose] public section

noncomputable section

namespace Cert.Retention

open Finset

/-- A finite sum of reals, read among the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert i s hi ih => rw [sum_insert hi, sum_insert hi, ih, EReal.coe_add]

/-- The weight with which frame `i` reads frame `j`. -/
def decay (a : ℝ) (i j : ℕ) : ℝ := if i / 64 < j / 64 then 0 else Real.exp (a * |(i : ℝ) - j|)

variable {ι κ : Type} [Fintype ι] [Fintype κ] (a : ℝ) (q k : ℕ → ι → ℝ) (v o : ℕ → κ → ℝ)

/-- The state a forward walk in blocks of `T` frames has saved before block `n`. -/
def saved (T : ℕ) : ℕ → ι → κ → ℝ
  | 0, _, _ => 0
  | n + 1, d, e => saved T n d e * Real.exp (a * T)
      + ∑ r ∈ range T, k (T * n + r) d * Real.exp (a * ((T : ℝ) - 1 - r)) * v (T * n + r) e

/-- What a backward walk in blocks of `T` frames, `N` of them, has sent back after its first `m` blocks, which are
    the last `m` of the sequence. -/
def sent (T N : ℕ) : ℕ → ι → κ → ℝ
  | 0, _, _ => 0
  | m + 1, d, e => Real.exp (a * T) * sent T N m d e
      + ∑ r ∈ range T, q (T * (N - 1 - m) + r) d * Real.exp (a * ((r : ℝ) + 1)) * o (T * (N - 1 - m) + r) e

/-- The gradient of the query of frame `i`. -/
def gradQ (M i : ℕ) (d : ι) : ℝ := ∑ j ∈ range M, decay a i j * (∑ e, o i e * v j e) * k j d

/-- The gradient of the key of frame `j`. -/
def gradK (M j : ℕ) (d : ι) : ℝ := ∑ i ∈ range M, decay a i j * (∑ e, o i e * v j e) * q i d

/-- The gradient of the value of frame `j`. -/
def gradV (M j : ℕ) (e : κ) : ℝ := ∑ i ∈ range M, decay a i j * (∑ d, q i d * k j d) * o i e

/-- A sum over the first `n + 1` blocks is the sum over `n` blocks and the last block's. -/
theorem sum_blocks (T n : ℕ) (f : ℕ → ℝ) :
    ∑ j ∈ range (T * (n + 1)), f j = ∑ j ∈ range (T * n), f j + ∑ r ∈ range T, f (T * n + r) := by
  rw [Nat.mul_succ, sum_range_add]

/-- The saved state as one sum over the frames before the block. -/
theorem saved_eq (T n : ℕ) (d : ι) (e : κ) :
    saved a k v T n d e = ∑ j ∈ range (T * n), Real.exp (a * ((T * n : ℕ) - 1 - j)) * (k j d * v j e) := by
  induction n with
  | zero => simp [saved]
  | succ n ih =>
    rw [saved, ih, sum_blocks, sum_mul]
    congr 1
    · refine sum_congr rfl fun j _ => ?_
      rw [mul_right_comm, ← Real.exp_add]
      congr 2
      push_cast; ring
    · refine sum_congr rfl fun r _ => ?_
      have : a * (((T * (n + 1) : ℕ) : ℝ) - 1 - ((T * n + r : ℕ) : ℝ)) = a * ((T : ℝ) - 1 - r) := by
        push_cast; ring
      rw [this]; ring

/-- What is sent back, as one sum over the frames of the blocks behind it. -/
theorem sent_eq (T N m : ℕ) (hm : m ≤ N) (d : ι) (e : κ) :
    sent a q o T N m d e
      = ∑ i ∈ range (T * m), Real.exp (a * ((i : ℝ) + 1)) * (q (T * (N - m) + i) d * o (T * (N - m) + i) e) := by
  induction m with
  | zero => simp [sent]
  | succ m ih =>
    have h1 : N - 1 - m = N - (m + 1) := by omega
    have h2 : N - m = N - (m + 1) + 1 := by omega
    rw [sent, ih (by omega), h1, h2, show T * (m + 1) = T + T * m by ring, sum_range_add, mul_sum, add_comm]
    congr 1
    · refine sum_congr rfl fun r _ => ?_
      ring
    · refine sum_congr rfl fun i _ => ?_
      rw [← mul_assoc, ← Real.exp_add, show T * (N - (m + 1) + 1) + i = T * (N - (m + 1)) + (T + i) by ring]
      congr 2
      push_cast; ring

/-- Inside a block the weight depends on the places in the block alone. -/
theorem decay_block (T n r s : ℕ) (hT : 64 ∣ T) : decay a (T * n + r) (T * n + s) = decay a r s := by
  obtain ⟨u, rfl⟩ := hT
  unfold decay
  have e1 : (64 * u * n + r) / 64 = u * n + r / 64 := by rw [mul_assoc]; omega
  have e2 : (64 * u * n + s) / 64 = u * n + s / 64 := by rw [mul_assoc]; omega
  rw [e1, e2]
  have e3 : ((64 * u * n + r : ℕ) : ℝ) - ((64 * u * n + s : ℕ) : ℝ) = (r : ℝ) - s := by push_cast; ring
  rw [e3]
  simp only [Nat.add_lt_add_iff_left]

/-- A frame of an earlier block is read with the plain weight. -/
theorem decay_before (i j : ℕ) (h : j ≤ i) : decay a i j = Real.exp (a * ((i : ℝ) - j)) := by
  have h' : ¬ i / 64 < j / 64 := not_lt.mpr (Nat.div_le_div_right h)
  have : (j : ℝ) ≤ i := by exact_mod_cast h
  rw [decay, if_neg h', abs_of_nonneg (by linarith)]

/-- A frame of a later block is not read. -/
theorem decay_after (T n m r s : ℕ) (hT : 64 ∣ T) (hr : r < T) (h : T * (n + 1) ≤ m) :
    decay a (T * n + r) (m + s) = 0 := by
  obtain ⟨u, rfl⟩ := hT
  unfold decay
  rw [if_pos]
  have h1 : (64 * u * n + r) / 64 < u * (n + 1) := by
    rw [Nat.div_lt_iff_lt_mul (by norm_num)]; nlinarith
  have h2 : u * (n + 1) ≤ (m + s) / 64 := by
    rw [Nat.le_div_iff_mul_le (by norm_num)]; nlinarith
  omega

/-- A weighted sum over what a frame reads: the blocks before, and its own block. -/
theorem sum_read (T N n r : ℕ) (hT : 64 ∣ T) (hr : r < T) (hn : n < N) (x : ℕ → ℝ) :
    ∑ j ∈ range (T * N), decay a (T * n + r) j * x j
      = Real.exp (a * ((r : ℝ) + 1)) * (∑ j ∈ range (T * n), Real.exp (a * ((T * n : ℕ) - 1 - j)) * x j)
        + ∑ s ∈ range T, decay a r s * x (T * n + s) := by
  obtain ⟨w, rfl⟩ : ∃ w, N = n + 1 + w := ⟨N - (n + 1), by omega⟩
  rw [mul_add, sum_range_add, sum_blocks, mul_sum]
  have h0 : ∑ s ∈ range (T * w), decay a (T * n + r) (T * (n + 1) + s) * x (T * (n + 1) + s) = 0 :=
    sum_eq_zero fun s _ => by rw [decay_after a T n _ r s hT hr le_rfl, zero_mul]
  rw [h0, add_zero]
  congr 1
  · refine sum_congr rfl fun j hj => ?_
    rw [mem_range] at hj
    rw [decay_before a _ _ (by omega), ← mul_assoc, ← Real.exp_add]
    congr 2
    push_cast; ring
  · exact sum_congr rfl fun s _ => by rw [decay_block a T n r s hT]

/-- A weighted sum over what reads a frame: its own block, and the blocks after. -/
theorem sum_readers (T N n s : ℕ) (hT : 64 ∣ T) (hs : s < T) (hn : n < N) (y : ℕ → ℝ) :
    ∑ i ∈ range (T * N), decay a i (T * n + s) * y i
      = ∑ r ∈ range T, decay a r s * y (T * n + r)
        + Real.exp (a * ((T : ℝ) - 1 - s))
          * ∑ i ∈ range (T * (N - 1 - n)), Real.exp (a * ((i : ℝ) + 1)) * y (T * (n + 1) + i) := by
  obtain ⟨w, rfl⟩ : ∃ w, N = n + 1 + w := ⟨N - (n + 1), by omega⟩
  rw [mul_add, sum_range_add, sum_blocks, mul_sum, show n + 1 + w - 1 - n = w by omega]
  have h0 : ∑ i ∈ range (T * n), decay a i (T * n + s) * y i = 0 := by
    refine sum_eq_zero fun i hi => ?_
    rw [mem_range] at hi
    rcases Nat.eq_zero_or_pos n with rfl | hpos
    · simp at hi
    · have hT0 : 0 < T := by omega
      have hi1 : i / T < n := by rw [Nat.div_lt_iff_lt_mul hT0]; nlinarith
      have hi2 : i = T * (i / T) + i % T := (Nat.div_add_mod i T).symm
      rw [hi2, decay_after a T (i / T) (T * n) (i % T) s hT (Nat.mod_lt _ hT0)
        (Nat.mul_le_mul_left T hi1), zero_mul]
  rw [h0, zero_add]
  congr 1
  · exact sum_congr rfl fun r _ => by rw [decay_block a T n r s hT]
  · refine sum_congr rfl fun i _ => ?_
    rw [decay_before a _ _ (by nlinarith), ← mul_assoc, ← Real.exp_add]
    congr 2
    push_cast; ring

/-- The gradient of a query: its own block's frames, and the saved state. -/
theorem gradQ_block (T N n r : ℕ) (hT : 64 ∣ T) (hr : r < T) (hn : n < N) (d : ι) :
    ∑ s ∈ range T, (∑ e, o (T * n + r) e * v (T * n + s) e) * decay a r s * k (T * n + s) d
        + (∑ e, o (T * n + r) e * saved a k v T n d e) * Real.exp (a * ((r : ℝ) + 1))
      = gradQ a k v o (T * N) (T * n + r) d := by
  unfold gradQ
  simp only [mul_assoc]
  rw [sum_read a T N n r hT hr hn, add_comm]
  congr 1
  · rw [mul_comm]
    congr 1
    simp only [saved_eq, mul_sum, sum_mul]
    rw [sum_comm]
    exact sum_congr rfl fun j _ => sum_congr rfl fun e _ => by ring
  · exact sum_congr rfl fun s _ => by ring

/-- The gradient of a key: its own block's frames, and what the blocks after have sent back. -/
theorem gradK_block (T N n s : ℕ) (hT : 64 ∣ T) (hs : s < T) (hn : n < N) (d : ι) :
    ∑ r ∈ range T, (∑ e, o (T * n + r) e * v (T * n + s) e) * decay a r s * q (T * n + r) d
        + (∑ e, v (T * n + s) e * sent a q o T N (N - 1 - n) d e) * Real.exp (a * ((T : ℝ) - 1 - s))
      = gradK a q v o (T * N) (T * n + s) d := by
  unfold gradK
  simp only [mul_assoc]
  rw [sum_readers a T N n s hT hs hn]
  congr 1
  · exact sum_congr rfl fun s _ => by ring
  · rw [mul_comm]
    congr 1
    simp only [sent_eq a q o T N _ (show N - 1 - n ≤ N by omega), mul_sum, sum_mul,
      show N - (N - 1 - n) = n + 1 by omega]
    rw [sum_comm]
    exact sum_congr rfl fun j _ => sum_congr rfl fun e _ => by ring

/-- The gradient of a value: its own block's frames, and what the blocks after have sent back. -/
theorem gradV_block (T N n s : ℕ) (hT : 64 ∣ T) (hs : s < T) (hn : n < N) (e : κ) :
    ∑ r ∈ range T, (∑ d, q (T * n + r) d * k (T * n + s) d) * decay a r s * o (T * n + r) e
        + ∑ d, k (T * n + s) d * Real.exp (a * ((T : ℝ) - 1 - s)) * sent a q o T N (N - 1 - n) d e
      = gradV a q k o (T * N) (T * n + s) e := by
  unfold gradV
  simp only [mul_assoc]
  rw [sum_readers a T N n s hT hs hn]
  congr 1
  · exact sum_congr rfl fun s _ => by ring
  · simp only [sent_eq a q o T N _ (show N - 1 - n ≤ N by omega), mul_sum, sum_mul,
      show N - (N - 1 - n) = n + 1 by omega]
    rw [sum_comm]
    exact sum_congr rfl fun j _ => sum_congr rfl fun e _ => by ring

end Cert.Retention

end
-- ==== Proof.Words.lean ====
/- The literals and the words of the two programs, as numbers. -/
module

public import proofs.«01_k».proof.Proof.Decay
public import Idealize.ShloMosaic.Lib.Pointwise

@[expose] public section

noncomputable section

namespace Cert.Retention

open Idealize.ShloMosaic

theorem ofBits_eighth : Ideal.ofBits .f32 0x3E000000#32 = ((1 / 8 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_63 : Ideal.ofBits .f32 0x427C0000#32 = ((63 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

/-- A place in a block is the number its word holds. -/
theorem place_word : ∀ r : Fin 256, (BitVec.ofNat 32 r.val).toInt = (r.val : ℤ) := by decide +kernel

/-- The difference of two places. -/
theorem sub_word (r s : Fin 256) :
    IntOp.subi (BitVec.ofNat 32 r.val) (BitVec.ofNat 32 s.val) = BitVec.ofInt 32 ((r.val : ℤ) - s.val) := by
  unfold IntOp.subi
  apply BitVec.eq_of_toInt_eq
  rw [BitVec.toInt_sub, place_word, place_word, BitVec.toInt_ofInt]

theorem abs_word : ∀ n : Fin 511, (IntOp.absi (BitVec.ofInt 32 ((n.val : ℤ) - 255))).toInt = |(n.val : ℤ) - 255| := by
  decide +kernel

/-- The distance of two places. -/
theorem dist_word (r s : Fin 256) :
    (IntOp.absi (IntOp.subi (BitVec.ofNat 32 r.val) (BitVec.ofNat 32 s.val))).toInt = |(r.val : ℤ) - s.val| := by
  have h := abs_word ⟨r.val + 255 - s.val, by omega⟩
  have e : ((r.val + 255 - s.val : ℕ) : ℤ) - 255 = (r.val : ℤ) - s.val := by omega
  rw [sub_word]
  simpa only [e] using h

/-- A select on a decided condition. -/
theorem select_if {α : Type} (p : Prop) [Decidable p] (x y : α) :
    Scalar.select (if p then 1#1 else 0#1) x y = if p then x else y := by
  by_cases h : p <;> simp [h, Scalar.select]

end Cert.Retention

end
-- ==== Proof.Head.lean ====
/- One head of one block of the kernel's backward pass, as functions of vectors.

   The printed body does the same work for each of the eight heads. Here that work is written once: what a head reads
   is an argument (its rate `lg`, its decay mask, the rotated queries and keys of the pair it belongs to, its values,
   the cotangent of its output, the state before the block, and what the blocks behind have sent back). -/
module

public import proofs.«01_k».proof.Proof.Gen.KernelIdeal.Skeleton
public import proofs.«01_k».proof.Proof.Words
public import Idealize.ShloMosaic.Lib.Pipeline.ValueKit
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Idealize.SL.Sem

section Vectors

variable {F : FTy → Type} [FloatOps F]

/-- Lanes in the first half of their head. -/
def firstHalf : IVec S256x128 1 :=
  cmpi .eq (andi (iota .tc S256x128 32 [1] iota_S256x128_d1_w32) (broadcast S256x128 32#32)) (broadcast S256x128 0#32)

/-- Each lane's partner in the other half of its head. -/
def partner (x : FVec F S256x128 .f32) : FVec F S256x128 .f32 :=
  select firstHalf (dynamicRotate 1 96#32 none x rotates_S256x128_d1)
    (dynamicRotate 1 32#32 none x rotates_S256x128_d1)

/-- The rotary map on a pair of heads. -/
def rot (cos sn x : FVec F S256x128 .f32) : FVec F S256x128 .f32 :=
  addf (mulf x cos) (mulf (partner x) sn)

/-- The transpose of the rotary map. -/
def rotT (cos sn x : FVec F S256x128 .f32) : FVec F S256x128 .f32 :=
  addf (mulf x cos) (partner (mulf x sn))

/-- A vector scaled by an eighth. -/
def eighth (x : FVec F S256x128 .f32) : FVec F S256x128 .f32 :=
  mulf x (broadcast S256x128 (Scalar.ofBits .f32 0x3E000000#32))

/-- The places in the block, as numbers. -/
def places : FVec F S256x1 .f32 := sitofp .f32 (iota .tc S256x1 32 [0] iota_S256x1_d0_w32)

/-- The decay from the block's start to each place. -/
def fromStart (lg : F .f32) : FVec F S256x1 .f32 :=
  exp (mulf (broadcast S256x1 lg) (addf places (broadcast S256x1 (Scalar.ofBits .f32 0x3F800000#32))))

/-- The decay from each place to the block's end. -/
def toEnd (lg : F .f32) : FVec F S256x1 .f32 :=
  exp (mulf (broadcast S256x1 lg) (subf (broadcast S256x1 (Scalar.ofBits .f32 0x437F0000#32)) places))

/-- The decay over a whole block. -/
def whole (lg : F .f32) : FVec F S1x128 .f32 :=
  exp (broadcast S1x128 (Scalar.mulf lg (Scalar.ofBits .f32 0x43800000#32)))

/-- The lanes of head `hh` of a pair. -/
def lanes (hh : BitVec 32) : IVec S256x128 1 :=
  cmpi .eq (shrsi (iota .tc S256x128 32 [1] iota_S256x128_d1_w32) (broadcast S256x128 6#32)) (broadcast S256x128 hh)

/-- The lanes of head `hh` kept, the others zero. -/
def keep (hh : BitVec 32) (x : FVec F S256x128 .f32) : FVec F S256x128 .f32 :=
  select (lanes hh) x (broadcast S256x128 (Scalar.ofBits .f32 0x00000000#32))

/-- The decayed scores of the block. -/
def scores (hh : BitVec 32) (mask : FVec F S256x256 .f32) (q k : FVec F S256x128 .f32) : FVec F S256x256 .bf16 :=
  truncf .bf16 (mulf (matmul dot_S256x128_S256x128_S256x256_1_1_0_0_n_n none (truncf .bf16 (keep hh q) bitsLt_bf16_f32)
    (truncf .bf16 (keep hh k) bitsLt_bf16_f32) (constant S256x256 .f32 0x00000000#32)) mask) bitsLt_bf16_f32

/-- The decayed gradient of the scores. -/
def dscores (mask : FVec F S256x256 .f32) (v o : FVec F S256x128 .bf16) : FVec F S256x256 .bf16 :=
  truncf .bf16 (mulf (matmul dot_S256x128_S256x128_S256x256_1_1_0_0_n_n none o v
    (constant S256x256 .f32 0x00000000#32)) mask) bitsLt_bf16_f32

/-- The gradient of the head's values. -/
def dvals (hh : BitVec 32) (lg : F .f32) (mask : FVec F S256x256 .f32) (q k : FVec F S256x128 .f32)
    (o : FVec F S256x128 .bf16) (g : FVec F S128x128 .f32) : FVec F S256x128 .bf16 :=
  truncf .bf16 (addf
    (matmul dot_S256x256_S256x128_S256x128_0_0_1_1_n_n none (scores hh mask q k) o (constant S256x128 .f32 0x00000000#32))
    (matmul dot_S256x128_S128x128_S256x128_1_0_0_1_n_n none
      (truncf .bf16 (mulf (keep hh k) (broadcastTo S256x128 (toEnd lg) broadcasts_S256x1_S256x128)) bitsLt_bf16_f32)
      (truncf .bf16 g bitsLt_bf16_f32) (constant S256x128 .f32 0x00000000#32))) bitsLt_bf16_f32

/-- The gradient of the pair's rotated queries with this head's part added. -/
def dqs (hh : BitVec 32) (lg : F .f32) (mask : FVec F S256x256 .f32) (k : FVec F S256x128 .f32)
    (v o : FVec F S256x128 .bf16) (s : FVec F S128x128 .f32) (acc : FVec F S256x128 .f32) : FVec F S256x128 .f32 :=
  addf acc (select (lanes hh) (addf
    (matmul dot_S256x256_S256x128_S256x128_1_0_0_1_n_n none (dscores mask v o)
      (truncf .bf16 (keep hh k) bitsLt_bf16_f32) (constant S256x128 .f32 0x00000000#32))
    (mulf (matmul dot_S256x128_S128x128_S256x128_1_1_0_0_n_n none o (truncf .bf16 s bitsLt_bf16_f32)
      (constant S256x128 .f32 0x00000000#32)) (broadcastTo S256x128 (fromStart lg) broadcasts_S256x1_S256x128)))
    (broadcast S256x128 (Scalar.ofBits .f32 0x00000000#32)))

/-- The gradient of the pair's rotated keys with this head's part added. -/
def dks (hh : BitVec 32) (lg : F .f32) (mask : FVec F S256x256 .f32) (q : FVec F S256x128 .f32)
    (v o : FVec F S256x128 .bf16) (g : FVec F S128x128 .f32) (acc : FVec F S256x128 .f32) : FVec F S256x128 .f32 :=
  addf (addf acc (matmul dot_S256x256_S256x128_S256x128_0_0_1_1_n_n none (dscores mask v o)
      (truncf .bf16 (keep hh q) bitsLt_bf16_f32) (constant S256x128 .f32 0x00000000#32)))
    (mulf (matmul dot_S256x128_S128x128_S256x128_1_1_0_0_n_n none v (truncf .bf16 g bitsLt_bf16_f32)
      (constant S256x128 .f32 0x00000000#32)) (broadcastTo S256x128 (toEnd lg) broadcasts_S256x1_S256x128))

/-- What is sent back, with this block's part added. -/
def dstate (hh : BitVec 32) (lg : F .f32) (q : FVec F S256x128 .f32) (o : FVec F S256x128 .bf16)
    (g : FVec F S128x128 .f32) : FVec F S128x128 .f32 :=
  addf (mulf (broadcastTo S128x128 (whole lg) broadcasts_S1x128_S128x128) g)
    (matmul dot_S256x128_S256x128_S128x128_0_0_1_1_n_n none
      (truncf .bf16 (mulf (keep hh q) (broadcastTo S256x128 (fromStart lg) broadcasts_S256x1_S256x128)) bitsLt_bf16_f32)
      o (constant S128x128 .f32 0x00000000#32))

/-- The decay mask of a block. -/
def maskOf (lg : F .f32) : FVec F S256x256 .f32 :=
  select (cmpi .sgt (shrsi (iota .tc S256x256 32 [1] iota_S256x256_d1_w32) (broadcast S256x256 6#32))
      (shrsi (iota .tc S256x256 32 [0] iota_S256x256_d0_w32) (broadcast S256x256 6#32)))
    (broadcast S256x256 (Scalar.ofBits .f32 0x00000000#32))
    (exp (mulf (broadcast S256x256 lg) (sitofp .f32 (absi (subi (iota .tc S256x256 32 [0] iota_S256x256_d0_w32)
      (iota .tc S256x256 32 [1] iota_S256x256_d1_w32))))))

end Vectors

open Cert.Retention

/-- The lanes of head `hh` of a pair, kept: the real function behind `keep`. -/
def part (hh : Fin 2) (X : Fin 256 → Fin 128 → ℝ) (r : Fin 256) (l : Fin 128) : ℝ :=
  if l.val / 64 = hh.val then X r l else 0

theorem lane_word : ∀ (hh : Fin 2) (l : Fin 128),
    IntOp.cmpi CmpIPredicate.eq (IntOp.shrsi ArithUnit.vector (BitVec.ofNat 32 l.val) 6#32) (BitVec.ofNat 32 hh.val)
      = if l.val / 64 = hh.val then 1#1 else 0#1 := by
  decide +kernel

theorem lanes_apply (hh : Fin 2) (r : Fin 256) (l : Fin 128) :
    lanes (BitVec.ofNat 32 hh.val) (ix2 r l) = if l.val / 64 = hh.val then 1#1 else 0#1 := by
  pointwise [lanes]
  exact lane_word hh l

theorem keep_apply (hh : Fin 2) (x : FVec Ideal S256x128 .f32) (X : Fin 256 → Fin 128 → ℝ)
    (hx : ∀ r l, x (ix2 r l) = (X r l : EReal)) (r : Fin 256) (l : Fin 128) :
    keep (F := Ideal) (BitVec.ofNat 32 hh.val) x (ix2 r l) = ((part hh X r l : ℝ) : EReal) := by
  pointwise [keep]
  rw [lanes_apply, select_if, hx, part]
  split_ifs <;> rfl

theorem half_word : ∀ l : Fin 128,
    IntOp.cmpi CmpIPredicate.eq (IntOp.andi (BitVec.ofNat 32 l.val) 32#32) 0#32
      = if l.val % 64 < 32 then 1#1 else 0#1 := by
  decide +kernel

/-- The lane a lane is paired with in the rotary map. -/
def mate (l : Fin 128) : Fin 128 := if l.val % 64 < 32 then ⟨(l.val + 32) % 128, Nat.mod_lt _ (by norm_num)⟩
  else ⟨(l.val + 96) % 128, Nat.mod_lt _ (by norm_num)⟩

theorem partner_apply (x : FVec Ideal S256x128 .f32) (r : Fin 256) (l : Fin 128) :
    partner x (ix2 r l) = x (ix2 r (mate l)) := by
  pointwise [partner, firstHalf]
  rw [half_word, select_if, mate]
  split_ifs <;> rfl

theorem rot_apply (cos sn x : FVec Ideal S256x128 .f32) (C N X : Fin 256 → Fin 128 → ℝ)
    (hc : ∀ r l, cos (ix2 r l) = (C r l : EReal)) (hn : ∀ r l, sn (ix2 r l) = (N r l : EReal))
    (hx : ∀ r l, x (ix2 r l) = (X r l : EReal)) (r : Fin 256) (l : Fin 128) :
    rot cos sn x (ix2 r l) = ((X r l * C r l + X r (mate l) * N r l : ℝ) : EReal) := by
  pointwise [rot]
  rw [partner_apply, hc, hn, hx, hx]
  push_cast; rfl

theorem rotT_apply (cos sn x : FVec Ideal S256x128 .f32) (C N X : Fin 256 → Fin 128 → ℝ)
    (hc : ∀ r l, cos (ix2 r l) = (C r l : EReal)) (hn : ∀ r l, sn (ix2 r l) = (N r l : EReal))
    (hx : ∀ r l, x (ix2 r l) = (X r l : EReal)) (r : Fin 256) (l : Fin 128) :
    rotT cos sn x (ix2 r l) = ((X r l * C r l + X r (mate l) * N r (mate l) : ℝ) : EReal) := by
  pointwise [rotT]
  rw [partner_apply]
  pointwise
  rw [hc, hn, hx, hx]
  push_cast; rfl

theorem eighth_apply (x : FVec Ideal S256x128 .f32) (X : Fin 256 → Fin 128 → ℝ)
    (hx : ∀ r l, x (ix2 r l) = (X r l : EReal)) (r : Fin 256) (l : Fin 128) :
    eighth x (ix2 r l) = ((X r l * (1 / 8) : ℝ) : EReal) := by
  pointwise [eighth]
  rw [hx, ofBits_eighth, ← EReal.coe_mul]

theorem places_apply (r : Fin 256) : places (F := Ideal) (ix2 r 0) = ((r.val : ℝ) : EReal) := by
  pointwise [places]
  show (((BitVec.ofNat 32 r.val).toInt : ℝ) : EReal) = _
  rw [place_word]; norm_num

theorem fromStart_apply (a : ℝ) (r : Fin 256) :
    fromStart (F := Ideal) (a : EReal) (ix2 r 0) = ((Real.exp (a * ((r.val : ℝ) + 1)) : ℝ) : EReal) := by
  pointwise [fromStart]
  rw [places_apply, ← EReal.coe_one, ← EReal.coe_add, ← EReal.coe_mul, Ideal.exp_coe]

theorem toEnd_apply (a : ℝ) (r : Fin 256) :
    toEnd (F := Ideal) (a : EReal) (ix2 r 0) = ((Real.exp (a * (255 - (r.val : ℝ))) : ℝ) : EReal) := by
  pointwise [toEnd]
  rw [places_apply, ofBits_255, ← EReal.coe_sub, ← EReal.coe_mul, Ideal.exp_coe]

theorem whole_apply (a : ℝ) (l : Fin 128) :
    whole (F := Ideal) (a : EReal) (ix2 0 l) = ((Real.exp (a * 256) : ℝ) : EReal) := by
  pointwise [whole]
  rw [ofBits_256, ← EReal.coe_mul, Ideal.exp_coe]

theorem chunk_word : ∀ r : Fin 256, IntOp.shrsi ArithUnit.vector (BitVec.ofNat 32 r.val) 6#32 = BitVec.ofNat 32 (r.val / 64) := by
  decide +kernel

theorem later_word : ∀ a b : Fin 4, IntOp.cmpi CmpIPredicate.sgt (BitVec.ofNat 32 a.val) (BitVec.ofNat 32 b.val)
    = if b.val < a.val then 1#1 else 0#1 := by
  decide +kernel

theorem maskOf_apply (a : ℝ) (r s : Fin 256) :
    maskOf (F := Ideal) (a : EReal) (ix2 r s) = ((decay a r.val s.val : ℝ) : EReal) := by
  pointwise [maskOf]
  rw [chunk_word, chunk_word]
  have h := later_word ⟨s.val / 64, by omega⟩ ⟨r.val / 64, by omega⟩
  dsimp only at h
  rw [h, select_if, decay]
  split_ifs with h'
  · rfl
  · show Ideal.exp ((a : EReal) * (((IntOp.absi (IntOp.subi (BitVec.ofNat 32 r.val) (BitVec.ofNat 32 s.val))).toInt : ℝ) : EReal)) = _
    rw [dist_word, ← EReal.coe_mul, Ideal.exp_coe]
    push_cast; rfl

section Head

variable (hh : Fin 2) (a : ℝ) (mask : FVec Ideal S256x256 .f32) (q k : FVec Ideal S256x128 .f32)
  (v o : FVec Ideal S256x128 .bf16) (s g : FVec Ideal S128x128 .f32)
  (M : Fin 256 → Fin 256 → ℝ) (Q K V O : Fin 256 → Fin 128 → ℝ) (S G : Fin 128 → Fin 128 → ℝ)
  (hM : ∀ r s, mask (ix2 r s) = (M r s : EReal))
  (hQ : ∀ r l, q (ix2 r l) = (Q r l : EReal)) (hK : ∀ r l, k (ix2 r l) = (K r l : EReal))
  (hV : ∀ r l, v (ix2 r l) = (V r l : EReal)) (hO : ∀ r l, o (ix2 r l) = (O r l : EReal))
  (hS : ∀ r l, s (ix2 r l) = (S r l : EReal)) (hG : ∀ r l, g (ix2 r l) = (G r l : EReal))

include hM hQ hK in
theorem scores_apply (r t : Fin 256) :
    scores (F := Ideal) (BitVec.ofNat 32 hh.val) mask q k (ix2 r t)
      = (((∑ l, part hh Q r l * part hh K t l) * M r t : ℝ) : EReal) := by
  pointwise [scores]
  simp only [keep_apply hh q Q hQ, keep_apply hh k K hK, hM, ← EReal.coe_mul, ← EReal.coe_add, coe_sum]

include hM hV hO in
theorem dscores_apply (r t : Fin 256) :
    dscores (F := Ideal) mask v o (ix2 r t) = (((∑ e, O r e * V t e) * M r t : ℝ) : EReal) := by
  pointwise [dscores]
  simp only [hV, hO, hM, ← EReal.coe_mul, ← EReal.coe_add, coe_sum]

include hM hQ hK hO hG in
theorem dvals_apply (t : Fin 256) (e : Fin 128) :
    dvals (F := Ideal) (BitVec.ofNat 32 hh.val) (a : EReal) mask q k o g (ix2 t e)
      = ((∑ r, (∑ l, part hh Q r l * part hh K t l) * M r t * O r e
          + ∑ l, part hh K t l * Real.exp (a * (255 - (t.val : ℝ))) * G l e : ℝ) : EReal) := by
  pointwise [dvals]
  simp only [scores_apply hh mask q k M Q K hM hQ hK, keep_apply hh k K hK, toEnd_apply, hO, hG, ← EReal.coe_mul, ← EReal.coe_add, coe_sum]

include hM hK hV hO hS in
theorem dqs_apply (acc : FVec Ideal S256x128 .f32) (A : Fin 256 → Fin 128 → ℝ)
    (hA : ∀ r l, acc (ix2 r l) = (A r l : EReal)) (r : Fin 256) (l : Fin 128) :
    dqs (F := Ideal) (BitVec.ofNat 32 hh.val) (a : EReal) mask k v o s acc (ix2 r l)
      = ((A r l + part hh (fun r l => ∑ t, (∑ e, O r e * V t e) * M r t * part hh K t l
          + (∑ e, O r e * S l e) * Real.exp (a * ((r.val : ℝ) + 1))) r l : ℝ) : EReal) := by
  pointwise [dqs]
  rw [lanes_apply, select_if]
  simp only [dscores_apply mask v o M V O hM hV hO, keep_apply hh k K hK, fromStart_apply, hO, hS, hA, part, ← EReal.coe_mul, ← EReal.coe_add, coe_sum]
  split_ifs <;> simp [← EReal.coe_mul, ← EReal.coe_add, coe_sum]

include hM hQ hV hO hG in
theorem dks_apply (acc : FVec Ideal S256x128 .f32) (A : Fin 256 → Fin 128 → ℝ)
    (hA : ∀ r l, acc (ix2 r l) = (A r l : EReal)) (t : Fin 256) (l : Fin 128) :
    dks (F := Ideal) (BitVec.ofNat 32 hh.val) (a : EReal) mask q v o g acc (ix2 t l)
      = ((A t l + ∑ r, (∑ e, O r e * V t e) * M r t * part hh Q r l
          + (∑ e, V t e * G l e) * Real.exp (a * (255 - (t.val : ℝ))) : ℝ) : EReal) := by
  pointwise [dks]
  simp only [dscores_apply mask v o M V O hM hV hO, keep_apply hh q Q hQ, toEnd_apply, hV, hG, hA, ← EReal.coe_mul, ← EReal.coe_add, coe_sum]

include hQ hO hG in
theorem dstate_apply (l e : Fin 128) :
    dstate (F := Ideal) (BitVec.ofNat 32 hh.val) (a : EReal) q o g (ix2 l e)
      = ((Real.exp (a * 256) * G l e
          + ∑ r, part hh Q r l * Real.exp (a * ((r.val : ℝ) + 1)) * O r e : ℝ) : EReal) := by
  pointwise [dstate]
  simp only [keep_apply hh q Q hQ, fromStart_apply, whole_apply, hO, hG, ← EReal.coe_mul, ← EReal.coe_add, coe_sum]

end Head

end Cert.KernelIdeal.Head

end
-- ==== Proof.Pair.lean ====
/- A pair of heads of one block: the vectors the kernel stores for it, and their entries as real numbers.

   The kernel holds two heads of 64 lanes in one vector of 128 lanes and works on each with the other's lanes set to
   zero. `Data` names the numbers the kernel works on, over all the frames; the theorems say that what is stored for
   block `b` is the gradient of the retention at the block's frames, as long as the block is given the state saved
   before it and what the blocks behind it have sent back. -/
module

public import proofs.«01_k».proof.Proof.Decay
public import proofs.«01_k».proof.Proof.Head

@[expose] public section

set_option maxRecDepth 16384

noncomputable section

namespace Cert.KernelIdeal.Pair

open Cert.KernelIdeal Cert.KernelIdeal.Gen Idealize.ShloMosaic Idealize.ShloMosaic.TcCoe Idealize.SL.Sem
open Cert.KernelIdeal.Head Cert.Retention

section Vectors

variable {F : FTy → Type} [FloatOps F]

/-- The rotated queries of a pair. -/
def rq (cos sn : FVec F S256x128 .f32) (qb : FVec F S256x128 .bf16) : FVec F S256x128 .f32 :=
  rot (shapeCast S256x128 cos shapeCasts_S256x128_S256x128) (shapeCast S256x128 sn shapeCasts_S256x128_S256x128)
    (extf .f32 qb bitsLt_bf16_f32)

/-- The rotated keys of a pair, times an eighth. -/
def rk (cos sn : FVec F S256x128 .f32) (kb : FVec F S256x128 .bf16) : FVec F S256x128 .f32 :=
  eighth (rq cos sn kb)

/-- A mask as a matrix. -/
def mat (x : FVec F S1x256x256 .f32) : FVec F S256x256 .f32 := shapeCast S256x256 x shapeCasts_S1x256x256_S256x256

/-- A state as a matrix. -/
def stm (x : FVec F S1x1x128x128 .f32) : FVec F S128x128 .f32 := shapeCast S128x128 x shapeCasts_S1x1x128x128_S128x128

/-- A saved state as a matrix. -/
def svm (x : FVec F S1x1x1x128x128 .f32) : FVec F S128x128 .f32 := shapeCast S128x128 x shapeCasts_S1x1x1x128x128_S128x128

/-- The gradient of the pair's queries. -/
def pairQ (a0 a1 : F .f32) (m0 m1 : FVec F S1x256x256 .f32) (cos sn : FVec F S256x128 .f32) (kb v0 v1 o0 o1 : FVec F S256x128 .bf16)
    (s0 s1 : FVec F S1x1x1x128x128 .f32) : FVec F S256x128 .bf16 :=
  truncf .bf16 (rotT (shapeCast S256x128 cos shapeCasts_S256x128_S256x128) (shapeCast S256x128 sn shapeCasts_S256x128_S256x128)
    (dqs 1#32 a1 (mat m1) (rk cos sn kb) v1 o1 (svm s1)
      (dqs 0#32 a0 (mat m0) (rk cos sn kb) v0 o0 (svm s0) (broadcast S256x128 (Scalar.ofBits .f32 0x00000000#32))))) bitsLt_bf16_f32

/-- The gradient of the pair's keys. -/
def pairK (a0 a1 : F .f32) (m0 m1 : FVec F S1x256x256 .f32) (cos sn : FVec F S256x128 .f32) (qb v0 v1 o0 o1 : FVec F S256x128 .bf16)
    (g0 g1 : FVec F S1x1x128x128 .f32) : FVec F S256x128 .bf16 :=
  truncf .bf16 (rotT (shapeCast S256x128 cos shapeCasts_S256x128_S256x128) (shapeCast S256x128 sn shapeCasts_S256x128_S256x128)
    (eighth (dks 1#32 a1 (mat m1) (rq cos sn qb) v1 o1 (stm g1)
      (dks 0#32 a0 (mat m0) (rq cos sn qb) v0 o0 (stm g0) (broadcast S256x128 (Scalar.ofBits .f32 0x00000000#32)))))) bitsLt_bf16_f32

/-- The gradient of a head's values. -/
def pairV (hh : BitVec 32) (a : F .f32) (mk : FVec F S1x256x256 .f32) (cos sn : FVec F S256x128 .f32) (qb kb o : FVec F S256x128 .bf16)
    (g : FVec F S1x1x128x128 .f32) : FVec F S256x128 .bf16 :=
  dvals hh a (mat mk) (rq cos sn qb) (rk cos sn kb) o (stm g)

/-- What is sent back. -/
def pairG (hh : BitVec 32) (a : F .f32) (cos sn : FVec F S256x128 .f32) (qb o : FVec F S256x128 .bf16)
    (g : FVec F S1x1x128x128 .f32) : FVec F S1x1x128x128 .f32 :=
  shapeCast S1x1x128x128 (dstate hh a (rq cos sn qb) o (stm g)) shapeCasts_S128x128_S1x1x128x128

/-- A mask as it is stored. -/
def pairM (a : F .f32) : FVec F S1x256x256 .f32 := shapeCast S1x256x256 (maskOf a) shapeCasts_S256x256_S1x256x256

end Vectors

/-- The numbers the kernel works on: the heads' rates, the queries, keys, values and cotangents by frame and column,
    and the rotary tables by frame and lane. -/
structure Data where
  a : ℕ → ℝ
  q : ℕ → ℕ → ℝ
  k : ℕ → ℕ → ℝ
  v : ℕ → ℕ → ℝ
  o : ℕ → ℕ → ℝ
  c : ℕ → Fin 128 → ℝ
  s : ℕ → Fin 128 → ℝ

namespace Data

variable (D : Data)

/-- The rotary map on a pair of heads. -/
def turn (x : ℕ → ℕ → ℝ) (p i : ℕ) (l : Fin 128) : ℝ :=
  x i (128 * p + l.val) * D.c i l + x i (128 * p + (mate l).val) * D.s i l

/-- The queries of a pair with one head's lanes kept. -/
def Q (p h i : ℕ) (l : Fin 128) : ℝ := if l.val / 64 = h then D.turn D.q p i l else 0

/-- The keys of a pair with one head's lanes kept, times an eighth. -/
def K (p h i : ℕ) (l : Fin 128) : ℝ := if l.val / 64 = h then D.turn D.k p i l * (1 / 8) else 0

/-- A head's values. -/
def V (p h i : ℕ) (e : Fin 128) : ℝ := D.v i (256 * p + 128 * h + e.val)

/-- The cotangent of a head's output. -/
def O (p h i : ℕ) (e : Fin 128) : ℝ := D.o i (256 * p + 128 * h + e.val)

/-- A head's rate. -/
def A (p h : ℕ) : ℝ := D.a (2 * p + h)

/-- The state saved before a block. -/
def S (p h b : ℕ) : Fin 128 → Fin 128 → ℝ := saved (D.A p h) (D.K p h) (D.V p h) 256 b

/-- What has been sent back after `m` blocks. -/
def G (p h m : ℕ) : Fin 128 → Fin 128 → ℝ := sent (D.A p h) (D.Q p h) (D.O p h) 256 8 m

/-- The transpose of the rotary map on a pair of heads. -/
def back (X : ℕ → Fin 128 → ℝ) (i : ℕ) (l : Fin 128) : ℝ := X i l * D.c i l + X i (mate l) * D.s i (mate l)

/-- The gradient of a pair's rotated queries. -/
def dQ (p i : ℕ) (l : Fin 128) : ℝ :=
  (if l.val / 64 = 0 then gradQ (D.A p 0) (D.K p 0) (D.V p 0) (D.O p 0) 2048 i l else 0)
    + (if l.val / 64 = 1 then gradQ (D.A p 1) (D.K p 1) (D.V p 1) (D.O p 1) 2048 i l else 0)

/-- The gradient of a pair's rotated keys. -/
def dK (p i : ℕ) (l : Fin 128) : ℝ :=
  (gradK (D.A p 0) (D.Q p 0) (D.V p 0) (D.O p 0) 2048 i l
    + gradK (D.A p 1) (D.Q p 1) (D.V p 1) (D.O p 1) 2048 i l) * (1 / 8)

/-- The gradient of a head's values. -/
def dV (p h i : ℕ) (e : Fin 128) : ℝ := gradV (D.A p h) (D.Q p h) (D.K p h) (D.O p h) 2048 i e

end Data

section Pair

variable (D : Data) (p b : ℕ) (cos sn : FVec Ideal S256x128 .f32) (qb kb : FVec Ideal S256x128 .bf16)
  (hc : ∀ r l, cos (ix2 r l) = (D.c (256 * b + r.val) l : EReal)) (hs : ∀ r l, sn (ix2 r l) = (D.s (256 * b + r.val) l : EReal))
  (hq : ∀ r l, qb (ix2 r l) = (D.q (256 * b + r.val) (128 * p + l.val) : EReal))
  (hk : ∀ r l, kb (ix2 r l) = (D.k (256 * b + r.val) (128 * p + l.val) : EReal))

include hc hs hq in
theorem rq_apply (r : Fin 256) (l : Fin 128) :
    rq cos sn qb (ix2 r l) = ((D.turn D.q p (256 * b + r.val) l : ℝ) : EReal) := by
  unfold rq
  rw [rot_apply _ _ _ (fun r l => D.c (256 * b + r.val) l) (fun r l => D.s (256 * b + r.val) l)
    (fun r l => D.q (256 * b + r.val) (128 * p + l.val))]
  · rfl
  · intro r l; pointwise; exact hc r l
  · intro r l; pointwise; exact hs r l
  · intro r l; pointwise; exact hq r l

include hc hs hk in
theorem rk_apply (r : Fin 256) (l : Fin 128) :
    rk cos sn kb (ix2 r l) = ((D.turn D.k p (256 * b + r.val) l * (1 / 8) : ℝ) : EReal) := by
  have h : ∀ r l, rq cos sn kb (ix2 r l) = ((D.turn D.k p (256 * b + r.val) l : ℝ) : EReal) :=
    rq_apply { D with q := D.k } p b cos sn kb hc hs hk
  unfold rk
  rw [eighth_apply _ _ h]

theorem mat_apply (x : FVec Ideal S1x256x256 .f32) (M : Fin 256 → Fin 256 → ℝ) (h : ∀ r s, x (ix3 0 r s) = (M r s : EReal))
    (r s : Fin 256) : mat x (ix2 r s) = (M r s : EReal) := by
  pointwise [mat]
  exact h r s

theorem svm_apply (x : FVec Ideal S1x1x1x128x128 .f32) (M : Fin 128 → Fin 128 → ℝ) (h : ∀ r s, x (ix5 0 0 0 r s) = (M r s : EReal))
    (r s : Fin 128) : svm x (ix2 r s) = (M r s : EReal) := by
  pointwise [svm]
  exact h r s

theorem stm_apply (x : FVec Ideal S1x1x128x128 .f32) (M : Fin 128 → Fin 128 → ℝ) (h : ∀ r s, x (ix4 0 0 r s) = (M r s : EReal))
    (r s : Fin 128) : stm x (ix2 r s) = (M r s : EReal) := by
  pointwise [stm]
  exact h r s

variable (a0 a1 : Ideal .f32) (m0 m1 : FVec Ideal S1x256x256 .f32) (v0 v1 o0 o1 : FVec Ideal S256x128 .bf16)
  (s0 s1 : FVec Ideal S1x1x1x128x128 .f32) (g0 g1 : FVec Ideal S1x1x128x128 .f32)
  (ha0 : a0 = (D.A p 0 : EReal)) (ha1 : a1 = (D.A p 1 : EReal))
  (hm0 : ∀ r s, m0 (ix3 0 r s) = ((decay (D.A p 0) r.val s.val : ℝ) : EReal))
  (hm1 : ∀ r s, m1 (ix3 0 r s) = ((decay (D.A p 1) r.val s.val : ℝ) : EReal))
  (hv0 : ∀ r e, v0 (ix2 r e) = (D.V p 0 (256 * b + r.val) e : EReal))
  (hv1 : ∀ r e, v1 (ix2 r e) = (D.V p 1 (256 * b + r.val) e : EReal))
  (ho0 : ∀ r e, o0 (ix2 r e) = (D.O p 0 (256 * b + r.val) e : EReal))
  (ho1 : ∀ r e, o1 (ix2 r e) = (D.O p 1 (256 * b + r.val) e : EReal))
  (hs0 : ∀ l e, s0 (ix5 0 0 0 l e) = (D.S p 0 b l e : EReal)) (hs1 : ∀ l e, s1 (ix5 0 0 0 l e) = (D.S p 1 b l e : EReal))
  (hg0 : ∀ l e, g0 (ix4 0 0 l e) = (D.G p 0 (7 - b) l e : EReal)) (hg1 : ∀ l e, g1 (ix4 0 0 l e) = (D.G p 1 (7 - b) l e : EReal))
  (hb : b < 8)

theorem ofBits_zero : (Scalar.ofBits .f32 0x00000000#32 : Ideal .f32) = ((0 : ℝ) : EReal) := by
  show Ideal.ofBits .f32 _ = _
  simp [Ideal.ofBits_zero_f32]

include hc hs hk ha0 ha1 hm0 hm1 hv0 hv1 ho0 ho1 hs0 hs1 hb in
/-- The stored gradient of the pair's queries. -/
theorem pairQ_apply (r : Fin 256) (l : Fin 128) :
    pairQ a0 a1 m0 m1 cos sn kb v0 v1 o0 o1 s0 s1 (ix2 r l) = ((D.back (D.dQ p) (256 * b + r.val) l : ℝ) : EReal) := by
  subst ha0 ha1
  unfold pairQ
  show rotT (F := Ideal) _ _ _ (ix2 r l) = _
  rw [rotT_apply _ _ _ (fun r l => D.c (256 * b + r.val) l) (fun r l => D.s (256 * b + r.val) l)
    (fun r l => D.dQ p (256 * b + r.val) l)]
  · rfl
  · intro r l; pointwise; exact hc r l
  · intro r l; pointwise; exact hs r l
  · intro r l
    have h0 := dqs_apply 0 (D.A p 0) (mat m0) (rk cos sn kb) v0 o0 (svm s0) _ _ _ _ _ (mat_apply m0 _ hm0)
      (rk_apply D p b cos sn kb hc hs hk) hv0 ho0 (svm_apply s0 _ hs0) (broadcast S256x128 (Scalar.ofBits .f32 0x00000000#32))
      (fun _ _ => 0) (fun r l => by pointwise; exact EReal.coe_zero.symm)
    refine (dqs_apply 1 (D.A p 1) (mat m1) (rk cos sn kb) v1 o1 (svm s1) _ _ _ _ _ (mat_apply m1 _ hm1)
      (rk_apply D p b cos sn kb hc hs hk) hv1 ho1 (svm_apply s1 _ hs1) _ _ h0 r l).trans ?_
    rw [EReal.coe_eq_coe_iff]
    have q0 := gradQ_block (D.A p 0) (D.K p 0) (D.V p 0) (D.O p 0) 256 8 b r.val (by norm_num) r.isLt hb l
    have q1 := gradQ_block (D.A p 1) (D.K p 1) (D.V p 1) (D.O p 1) 256 8 b r.val (by norm_num) r.isLt hb l
    unfold Data.dQ
    rw [zero_add]
    simp only [Finset.sum_range] at q0 q1
    congr 1
    · unfold part
      refine if_congr Iff.rfl ?_ rfl
      exact q0
    · unfold part
      refine if_congr Iff.rfl ?_ rfl
      exact q1

include hc hs hq ha0 ha1 hm0 hm1 hv0 hv1 ho0 ho1 hg0 hg1 hb in
/-- The stored gradient of the pair's keys. -/
theorem pairK_apply (r : Fin 256) (l : Fin 128) :
    pairK a0 a1 m0 m1 cos sn qb v0 v1 o0 o1 g0 g1 (ix2 r l) = ((D.back (D.dK p) (256 * b + r.val) l : ℝ) : EReal) := by
  subst ha0 ha1
  unfold pairK
  show rotT (F := Ideal) _ _ _ (ix2 r l) = _
  rw [rotT_apply _ _ _ (fun r l => D.c (256 * b + r.val) l) (fun r l => D.s (256 * b + r.val) l)
    (fun r l => D.dK p (256 * b + r.val) l)]
  · rfl
  · intro r l; pointwise; exact hc r l
  · intro r l; pointwise; exact hs r l
  · intro r l
    have h0 := dks_apply 0 (D.A p 0) (mat m0) (rq cos sn qb) v0 o0 (stm g0) _ _ _ _ _ (mat_apply m0 _ hm0)
      (rq_apply D p b cos sn qb hc hs hq) hv0 ho0 (stm_apply g0 _ hg0) (broadcast S256x128 (Scalar.ofBits .f32 0x00000000#32))
      (fun _ _ => 0) (fun r l => by pointwise; exact EReal.coe_zero.symm)
    have h1 := dks_apply 1 (D.A p 1) (mat m1) (rq cos sn qb) v1 o1 (stm g1) _ _ _ _ _ (mat_apply m1 _ hm1)
      (rq_apply D p b cos sn qb hc hs hq) hv1 ho1 (stm_apply g1 _ hg1) _ _ h0
    refine (eighth_apply _ _ h1 r l).trans ?_
    rw [EReal.coe_eq_coe_iff]
    have q0 := gradK_block (D.A p 0) (D.Q p 0) (D.V p 0) (D.O p 0) 256 8 b r.val (by norm_num) r.isLt hb l
    have q1 := gradK_block (D.A p 1) (D.Q p 1) (D.V p 1) (D.O p 1) 256 8 b r.val (by norm_num) r.isLt hb l
    simp only [Finset.sum_range] at q0 q1
    unfold Data.dK
    rw [← show 256 * 8 = 2048 from rfl, ← q0, ← q1, zero_add, ← add_assoc,
      show (8 - 1 - b : ℕ) = 7 - b by omega, show ((256 : ℕ) : ℝ) - 1 - (r.val : ℝ) = 255 - r.val by push_cast; ring]
    rfl

include hc hs hq hk hb in
/-- The stored gradient of a head's values. -/
theorem pairV_apply (hh : Fin 2) (a : Ideal .f32) (mk : FVec Ideal S1x256x256 .f32) (o : FVec Ideal S256x128 .bf16)
    (g : FVec Ideal S1x1x128x128 .f32) (ha : a = (D.A p hh.val : EReal))
    (hm : ∀ r s, mk (ix3 0 r s) = ((decay (D.A p hh.val) r.val s.val : ℝ) : EReal))
    (ho : ∀ r e, o (ix2 r e) = (D.O p hh.val (256 * b + r.val) e : EReal))
    (hg : ∀ l e, g (ix4 0 0 l e) = (D.G p hh.val (7 - b) l e : EReal)) (r : Fin 256) (e : Fin 128) :
    pairV (BitVec.ofNat 32 hh.val) a mk cos sn qb kb o g (ix2 r e) = ((D.dV p hh.val (256 * b + r.val) e : ℝ) : EReal) := by
  subst ha
  refine (dvals_apply hh (D.A p hh.val) (mat mk) (rq cos sn qb) (rk cos sn kb) o (stm g) _ _ _ _ _ (mat_apply mk _ hm)
    (rq_apply D p b cos sn qb hc hs hq) (rk_apply D p b cos sn kb hc hs hk) ho (stm_apply g _ hg) r e).trans ?_
  rw [EReal.coe_eq_coe_iff]
  have q0 := gradV_block (D.A p hh.val) (D.Q p hh.val) (D.K p hh.val) (D.O p hh.val) 256 8 b r.val (by norm_num) r.isLt hb e
  simp only [Finset.sum_range] at q0
  unfold Data.dV
  rw [← show 256 * 8 = 2048 from rfl, ← q0, show (8 - 1 - b : ℕ) = 7 - b by omega,
    show ((256 : ℕ) : ℝ) - 1 - (r.val : ℝ) = 255 - r.val by push_cast; ring]
  rfl

include hc hs hq in
/-- What is stored to be sent back. -/
theorem pairG_apply (t : ℕ) (ht : b = 7 - t) (hh : Fin 2) (a : Ideal .f32) (o : FVec Ideal S256x128 .bf16)
    (g : FVec Ideal S1x1x128x128 .f32) (ha : a = (D.A p hh.val : EReal))
    (ho : ∀ r e, o (ix2 r e) = (D.O p hh.val (256 * b + r.val) e : EReal))
    (hg : ∀ l e, g (ix4 0 0 l e) = (D.G p hh.val t l e : EReal)) (l e : Fin 128) :
    pairG (BitVec.ofNat 32 hh.val) a cos sn qb o g (ix4 0 0 l e) = ((D.G p hh.val (t + 1) l e : ℝ) : EReal) := by
  subst ha
  pointwise [pairG]
  refine (dstate_apply hh (D.A p hh.val) (rq cos sn qb) o (stm g) _ _ _
    (rq_apply D p b cos sn qb hc hs hq) ho (stm_apply g _ hg) l e).trans ?_
  rw [EReal.coe_eq_coe_iff]
  unfold Data.G
  rw [sent, Finset.sum_range, show (8 - 1 - t : ℕ) = b by omega]
  rfl

theorem pairM_apply (a : Ideal .f32) (x : ℝ) (ha : a = (x : EReal)) (r s : Fin 256) :
    pairM a (ix3 0 r s) = ((decay x r.val s.val : ℝ) : EReal) := by
  subst ha
  pointwise [pairM]
  exact maskOf_apply x r s

end Pair

end Cert.KernelIdeal.Pair

end
-- ==== Proof.Numbers.lean ====
/- The numbers both programs start from, and what it means that the arguments hold them. -/
module

public import proofs.«01_k».proof.Proof.Pair

@[expose] public section

noncomputable section

namespace Cert.Numbers

open Cert.KernelIdeal Cert.KernelIdeal.Gen Idealize.ShloMosaic
open Cert.KernelIdeal.Pair

/-- The projected row of a frame, the frame's position, the rotary frequencies, the heads' rates, and the cotangent. -/
structure Nums where
  x : ℕ → ℕ → ℝ
  pos : ℕ → ℝ
  inv : ℕ → ℝ
  a : ℕ → ℝ
  o : ℕ → ℕ → ℝ

/-- The five arguments hold the numbers. Of the projected rows the first 2048 columns are enough. -/
structure Holds (N : Nums) (x0 : FVec Ideal S2048x6656 .bf16) (x1 : IVec S1x2048 32) (x2 : FVec Ideal S32 .f32)
    (x3 : FVec Ideal S8 .f32) (x4 : FVec Ideal S2048x1024 .bf16) : Prop where
  x : ∀ (i : Fin 2048) (j : Fin 6656), j.val < 2048 → x0 (ix2 i j) = (N.x i.val j.val : EReal)
  pos : ∀ i : Fin 2048, (((x1 (ix2 0 i)).toInt : ℝ) : EReal) = (N.pos i.val : EReal)
  inv : ∀ i : Fin 32, x2 (ix1 i) = (N.inv i.val : EReal)
  a : ∀ h : Fin 8, x3 (ix1 h) = (N.a h.val : EReal)
  o : ∀ (i : Fin 2048) (j : Fin 1024), x4 (ix2 i j) = (N.o i.val j.val : EReal)

/-- The angle by which a frame turns a lane. -/
def Nums.ang (N : Nums) (i : ℕ) (l : ℕ) : ℝ := N.pos i * N.inv (l % 32)

/-- The kernel's numbers: columns of the projected row, and the two rotary tables with the sine's sign. -/
def Nums.data (N : Nums) : Data where
  a := N.a
  q := N.x
  k := fun i j => N.x i (512 + j)
  v := fun i j => N.x i (1024 + j)
  o := N.o
  c := fun i l => Real.cos (N.ang i l.val)
  s := fun i l => if l.val % 64 < 32 then -Real.sin (N.ang i l.val) else Real.sin (N.ang i l.val)

end Cert.Numbers

end
-- ==== Proof.HostValues.lean ====
/- The entries of the host's values: the rotary tables, the rotated keys, what each block saves, and the states. -/
module

public import proofs.«01_k».proof.Proof.HostLine
public import proofs.«01_k».proof.Proof.Numbers
public import proofs.«01_k».proof.Proof.Words
public import Idealize.ShloMosaic.Lib.Pointwise

@[expose] public section

set_option maxRecDepth 16384

noncomputable section

namespace Cert.KernelIdeal.HostLine

open Cert.KernelIdeal Cert.KernelIdeal.Gen Idealize.ShloMosaic Idealize.ShloMosaic.TcCoe Idealize.SL.Sem
open Cert.KernelIdeal.Pair Cert.Numbers Cert.Retention

variable (N : Nums) {proj : FVec Ideal S2048x6656 .bf16} {pos : IVec S1x2048 32} {inv : FVec Ideal S32 .f32}
  {lg : FVec Ideal S8 .f32} {dret : FVec Ideal S2048x1024 .bf16} (H : Holds N proj pos inv lg dret)

include H

theorem inv_at {n : ℕ} (h : n < 32) (l : ℕ) (hl : l % 32 = n) : inv (ix1 ⟨n, h⟩) = ((N.inv (l % 32) : ℝ) : EReal) := by
  rw [H.inv, hl]

theorem angles_apply (i : Fin 2048) (l : Fin 128) : angles pos inv (ix2 i l) = ((N.ang i.val l.val : ℝ) : EReal) := by
  pointwise [angles]
  have hp : (FloatOps.sitofp (F := Ideal) FTy.f32 (pos (ix2 0 i)) : EReal) = ((N.pos i.val : ℝ) : EReal) := H.pos i
  have hl := l.isLt
  have e : ∀ x : EReal, x = ((N.inv (l.val % 32) : ℝ) : EReal) →
      (FloatOps.sitofp (F := Ideal) FTy.f32 (pos (ix2 0 i)) : EReal) * x = ((N.ang i.val l.val : ℝ) : EReal) := by
    intro x hx
    rw [hp, hx, ← EReal.coe_mul]; rfl
  refine e _ ?_
  split
  · exact inv_at N H _ _ (by omega)
  split
  · exact inv_at N H _ _ (by omega)
  split
  · exact inv_at N H _ _ (by omega)
  · exact inv_at N H _ _ (by omega)

omit H in
theorem signs_apply (l : Fin 128) : signs (ix2 0 l) = (((if l.val % 64 < 32 then -1 else 1 : ℝ)) : EReal) := by
  pointwise [signs]
  show (_ : EReal) = _
  have hl := l.isLt
  split
  · rw [if_pos (by omega)]; simp
  split
  · rw [if_neg (by omega)]; simp
  split
  · rw [if_pos (by omega)]; simp
  · rw [if_neg (by omega)]; simp

theorem cosTab_apply (i : Fin 2048) (l : Fin 128) : cosTab pos inv (ix2 i l) = ((N.data.c i.val l : ℝ) : EReal) := by
  pointwise [cosTab]
  rw [angles_apply N H]
  rfl

theorem sinTab_apply (i : Fin 2048) (l : Fin 128) : sinTab pos inv (ix2 i l) = ((N.data.s i.val l : ℝ) : EReal) := by
  pointwise [sinTab]
  rw [angles_apply N H, signs_apply]
  show ((Real.sin (N.ang i.val l.val) : ℝ) : EReal) * _ = _
  rw [← EReal.coe_mul]
  show _ = (((if l.val % 64 < 32 then -Real.sin (N.ang i.val l.val) else Real.sin (N.ang i.val l.val)) : ℝ) : EReal)
  split <;> simp

theorem ang32_apply (i : Fin 2048) (l : Fin 32) : ang32 pos inv (ix3 0 i l) = ((N.ang i.val l.val : ℝ) : EReal) := by
  pointwise [ang32]
  have hp : (FloatOps.sitofp (F := Ideal) FTy.f32 (pos (ix2 0 i)) : EReal) = ((N.pos i.val : ℝ) : EReal) := H.pos i
  have hl := l.isLt
  rw [hp, inv_at N H l.isLt l.val (by omega), ← EReal.coe_mul]
  rfl

theorem heads_apply (i : Fin 2048) (h : Fin 8) (d : Fin 64) :
    heads proj (ix4 0 i h d) = ((N.x i.val (512 + (64 * h.val + d.val)) : ℝ) : EReal) := by
  pointwise [heads]
  have hh := h.isLt
  have hd := d.isLt
  rw [H.x _ _ (by show 512 + (h.val * 64 + d.val) < 2048; omega)]
  show ((N.x i.val (512 + (h.val * 64 + d.val)) : ℝ) : EReal) = _
  rw [mul_comm]

theorem fades_apply (r : Fin 256) (h : Fin 8) :
    fades lg (ix2 r h) = ((Real.exp (N.a h.val * (((256 : ℕ) : ℝ) - 1 - r.val)) : ℝ) : EReal) := by
  pointwise [fades]
  have hr : (FloatOps.sitofp (F := Ideal) FTy.f32 (BitVec.ofNat 32 r.val) : EReal) = ((r.val : ℝ) : EReal) := by
    show (((BitVec.ofNat 32 r.val).toInt : ℝ) : EReal) = _
    rw [place_word]
    norm_cast
  rw [H.a, hr, ofBits_255, ← EReal.coe_sub, ← EReal.coe_mul, Ideal.exp_coe]
  congr 2
  push_cast
  ring

theorem fade_apply (h : Fin 8) : fade lg (ix4 0 h 0 0) = ((Real.exp (N.a h.val * ((256 : ℕ) : ℝ)) : ℝ) : EReal) := by
  pointwise [fade]
  rw [H.a, ofBits_256, ← EReal.coe_mul, Ideal.exp_coe]
  congr 2
  push_cast
  ring

/-- The lane of a head's coordinate in its pair. -/
def lane (h : ℕ) (d : Fin 64) : Fin 128 := ⟨64 * (h % 2) + d.val, by have := d.isLt; omega⟩

theorem keys_apply (i : Fin 2048) (h : Fin 8) (d : Fin 64) :
    keys proj pos inv (ix4 0 i h d) = ((N.data.turn N.data.k (h.val / 2) i.val (lane h.val d) * (1 / 8) : ℝ) : EReal) := by
  pointwise [keys, turnLow, turnHigh]
  have hh := h.isLt
  have hd := d.isLt
  rw [ofBits_eighth, EReal.coe_mul]
  congr 1
  show (_ : EReal) = ((N.x i.val (512 + (128 * (h.val / 2) + (64 * (h.val % 2) + d.val))) * Real.cos (N.ang i.val (64 * (h.val % 2) + d.val))
    + N.x i.val (512 + (128 * (h.val / 2) + (Head.mate (lane h.val d)).val))
      * (if (64 * (h.val % 2) + d.val) % 64 < 32 then -Real.sin (N.ang i.val (64 * (h.val % 2) + d.val)) else Real.sin (N.ang i.val (64 * (h.val % 2) + d.val))) : ℝ) : EReal)
  have ha : ∀ n : ℕ, n % 32 = d.val % 32 → N.ang i.val (64 * (h.val % 2) + d.val) = N.ang i.val n := by
    intro n hn
    unfold Nums.ang
    rw [show (64 * (h.val % 2) + d.val) % 32 = n % 32 by omega]
  have e0 : 512 + (128 * (h.val / 2) + (64 * (h.val % 2) + d.val)) = 512 + (64 * h.val + d.val) := by omega
  split
  · rename_i hlt
    have em : (Head.mate (lane h.val d)).val = 64 * (h.val % 2) + d.val + 32 := by
      unfold Head.mate lane
      rw [if_pos (by show (64 * (h.val % 2) + d.val) % 64 < 32; omega)]
      show (64 * (h.val % 2) + d.val + 32) % 128 = _
      omega
    rw [heads_apply N H, heads_apply N H, ang32_apply N H, Ideal.cos_coe, Ideal.sin_coe, ← EReal.coe_mul, ← EReal.coe_mul,
      ← EReal.coe_sub, if_pos (by omega), e0, em, ha d.val rfl,
      show 512 + (128 * (h.val / 2) + (64 * (h.val % 2) + d.val + 32)) = 512 + (64 * h.val + (32 + d.val)) by omega]
    congr 1
    ring
  · rename_i hge
    have em : (Head.mate (lane h.val d)).val = 64 * (h.val % 2) + d.val - 32 := by
      unfold Head.mate lane
      rw [if_neg (by show ¬ (64 * (h.val % 2) + d.val) % 64 < 32; omega)]
      show (64 * (h.val % 2) + d.val + 96) % 128 = _
      omega
    rw [heads_apply N H, heads_apply N H, ang32_apply N H, Ideal.cos_coe, Ideal.sin_coe, ← EReal.coe_mul, ← EReal.coe_mul,
      ← EReal.coe_add]
    show ((N.x i.val (512 + (64 * h.val + (d.val - 32))) * Real.sin (N.ang i.val (d.val - 32))
      + N.x i.val (512 + (64 * h.val + (32 + (d.val - 32)))) * Real.cos (N.ang i.val (d.val - 32)) : ℝ) : EReal) = _
    rw [if_neg (by omega), e0, em, ha (d.val - 32) (by omega), show 32 + (d.val - 32) = d.val by omega,
      show 512 + (128 * (h.val / 2) + (64 * (h.val % 2) + d.val - 32)) = 512 + (64 * h.val + (d.val - 32)) by omega]
    congr 1
    ring

/-- What a block adds to the state, on a head's own lanes. -/
theorem saves_apply (b h : Fin 8) (d : Fin 64) (e : Fin 128) :
    saves (keys proj pos inv) proj lg (ix5 b 0 h d e)
      = ((∑ r ∈ Finset.range 256, N.data.K (h.val / 2) (h.val % 2) (256 * b.val + r) (lane h.val d)
          * Real.exp (N.data.A (h.val / 2) (h.val % 2) * (((256 : ℕ) : ℝ) - 1 - r))
          * N.data.V (h.val / 2) (h.val % 2) (256 * b.val + r) e : ℝ) : EReal) := by
  pointwise [saves]
  have hh := h.isLt
  have hd := d.isLt
  have hb := b.isLt
  have he := e.isLt
  rw [Finset.sum_range, ← coe_sum]
  refine Finset.sum_congr rfl fun r _ => ?_
  have hr := r.isLt
  rw [keys_apply N H, fades_apply N H, H.x _ _ (by show 1024 + (h.val * 128 + e.val) < 2048; omega), ← EReal.coe_mul, ← EReal.coe_mul]
  congr 1
  unfold Data.K Data.V Data.A
  rw [if_pos (by show (64 * (h.val % 2) + d.val) / 64 = h.val % 2; omega), show 2 * (h.val / 2) + h.val % 2 = h.val by omega]
  show N.data.turn _ _ (b.val * 256 + r.val) _ * _ * _ * N.x (b.val * 256 + r.val) (1024 + (h.val * 128 + e.val))
    = N.data.turn _ _ _ _ * _ * _ * N.x _ (1024 + (256 * (h.val / 2) + 128 * (h.val % 2) + e.val))
  rw [mul_comm b.val 256, show h.val * 128 = 256 * (h.val / 2) + 128 * (h.val % 2) by omega]
  rfl

/-- The state a head's lanes hold before block `n`. -/
def stateAt (n h : ℕ) (d : Fin 64) (e : Fin 128) : ℝ := N.data.S (h / 2) (h % 2) n (lane h d) e

/-- One block further. -/
theorem state_next (n : ℕ) (hn : n < 8) (s s' : FVec Ideal S1x8x64x128 .f32)
    (hs : ∀ (h : Fin 8) (d : Fin 64) (e : Fin 128), s (ix4 0 h d e) = ((stateAt N n h.val d e : ℝ) : EReal))
    (h' : ∀ (h : Fin 8) (d : Fin 64) (e : Fin 128), s' (ix4 0 h d e)
      = s (ix4 0 h d e) * fade lg (ix4 0 h 0 0) + saves (keys proj pos inv) proj lg (ix5 ⟨n, hn⟩ 0 h d e))
    (h : Fin 8) (d : Fin 64) (e : Fin 128) : s' (ix4 0 h d e) = ((stateAt N (n + 1) h.val d e : ℝ) : EReal) := by
  rw [h', hs, fade_apply N H, saves_apply N H, ← EReal.coe_mul, ← EReal.coe_add]
  unfold stateAt Data.S
  rw [saved]
  congr 2
  unfold Data.A
  rw [show 2 * (h.val / 2) + h.val % 2 = h.val by omega]
  rfl

omit H in
theorem state_first (h : Fin 8) (d : Fin 64) (e : Fin 128) : none (ix4 0 h d e) = ((stateAt N 0 h.val d e : ℝ) : EReal) := by
  pointwise [none]
  unfold stateAt Data.S
  rw [saved]
  rfl

omit H in
theorem step0_apply (w : FVec Ideal S8x1x8x64x128 .f32) (g : FVec Ideal S1x8x1x1 .f32) (s : FVec Ideal S1x8x64x128 .f32) (h : Fin 8) (d : Fin 64) (e : Fin 128) :
    step0 w g s (ix4 0 h d e) = s (ix4 0 h d e) * g (ix4 0 h 0 0) + w (ix5 0 0 h d e) := by
  pointwise [step0]

omit H in
theorem step1_apply (w : FVec Ideal S8x1x8x64x128 .f32) (g : FVec Ideal S1x8x1x1 .f32) (s : FVec Ideal S1x8x64x128 .f32) (h : Fin 8) (d : Fin 64) (e : Fin 128) :
    step1 w g s (ix4 0 h d e) = s (ix4 0 h d e) * g (ix4 0 h 0 0) + w (ix5 1 0 h d e) := by
  pointwise [step1]

omit H in
theorem step2_apply (w : FVec Ideal S8x1x8x64x128 .f32) (g : FVec Ideal S1x8x1x1 .f32) (s : FVec Ideal S1x8x64x128 .f32) (h : Fin 8) (d : Fin 64) (e : Fin 128) :
    step2 w g s (ix4 0 h d e) = s (ix4 0 h d e) * g (ix4 0 h 0 0) + w (ix5 2 0 h d e) := by
  pointwise [step2]

omit H in
theorem step3_apply (w : FVec Ideal S8x1x8x64x128 .f32) (g : FVec Ideal S1x8x1x1 .f32) (s : FVec Ideal S1x8x64x128 .f32) (h : Fin 8) (d : Fin 64) (e : Fin 128) :
    step3 w g s (ix4 0 h d e) = s (ix4 0 h d e) * g (ix4 0 h 0 0) + w (ix5 3 0 h d e) := by
  pointwise [step3]

omit H in
theorem step4_apply (w : FVec Ideal S8x1x8x64x128 .f32) (g : FVec Ideal S1x8x1x1 .f32) (s : FVec Ideal S1x8x64x128 .f32) (h : Fin 8) (d : Fin 64) (e : Fin 128) :
    step4 w g s (ix4 0 h d e) = s (ix4 0 h d e) * g (ix4 0 h 0 0) + w (ix5 4 0 h d e) := by
  pointwise [step4]

omit H in
theorem step5_apply (w : FVec Ideal S8x1x8x64x128 .f32) (g : FVec Ideal S1x8x1x1 .f32) (s : FVec Ideal S1x8x64x128 .f32) (h : Fin 8) (d : Fin 64) (e : Fin 128) :
    step5 w g s (ix4 0 h d e) = s (ix4 0 h d e) * g (ix4 0 h 0 0) + w (ix5 5 0 h d e) := by
  pointwise [step5]

omit H in
theorem step6_apply (w : FVec Ideal S8x1x8x64x128 .f32) (g : FVec Ideal S1x8x1x1 .f32) (s : FVec Ideal S1x8x64x128 .f32) (h : Fin 8) (d : Fin 64) (e : Fin 128) :
    step6 w g s (ix4 0 h d e) = s (ix4 0 h d e) * g (ix4 0 h 0 0) + w (ix5 6 0 h d e) := by
  pointwise [step6]

omit H in
theorem stack_apply (z : FVec Ideal S0x1x8x64x128 .f32) (s0 s1 s2 s3 s4 s5 s6 s7 : FVec Ideal S1x8x64x128 .f32) (b h : Fin 8) (d : Fin 64) (e : Fin 128) :
    stack z s0 s1 s2 s3 s4 s5 s6 s7 (ix5 b 0 h d e) = (![s0, s1, s2, s3, s4, s5, s6, s7] b) (ix4 0 h d e) := by
  pointwise [stack]
  fin_vals b with hb
  all_goals simp only [hb, Nat.reduceSub, Nat.reduceLT, ↓reduceDIte]
  · rw [show b = 0 from Fin.ext hb]; rfl
  · rw [show b = 1 from Fin.ext hb]; rfl
  · rw [show b = 2 from Fin.ext hb]; rfl
  · rw [show b = 3 from Fin.ext hb]; rfl
  · rw [show b = 4 from Fin.ext hb]; rfl
  · rw [show b = 5 from Fin.ext hb]; rfl
  · rw [show b = 6 from Fin.ext hb]; rfl
  · rw [show b = 7 from Fin.ext hb]; rfl

omit H in
/-- A lane that holds no key holds no state. -/
theorem saved_none (a : ℝ) (k : ℕ → Fin 128 → ℝ) (v : ℕ → Fin 128 → ℝ) (n : ℕ) (l e : Fin 128) (h : ∀ i, k i l = 0) :
    saved a k v 256 n l e = 0 := by
  induction n with
  | zero => rfl
  | succ n ih => rw [saved, ih]; simp [h]

omit H in
/-- The states spread over the lanes. -/
theorem spread_apply (x : FVec Ideal S8x1x8x64x128 .f32)
    (hx : ∀ (b h : Fin 8) (d : Fin 64) (e : Fin 128), x (ix5 b 0 h d e) = ((stateAt N b.val h.val d e : ℝ) : EReal))
    (p : Fin 4) (b : Fin 8) (h : Fin 2) (l e : Fin 128) :
    spread x (ix5 p b h l e) = ((N.data.S p.val h.val b.val l e : ℝ) : EReal) := by
  pointwise [spread]
  have hp := p.isLt
  have hl := l.isLt
  have hh := h.isLt
  have other : l.val / 64 ≠ h.val → (0 : EReal) = ((N.data.S p.val h.val b.val l e : ℝ) : EReal) := by
    intro hne
    unfold Data.S
    rw [saved_none _ _ _ _ _ _ (fun i => by unfold Data.K; rw [if_neg hne])]
    rfl
  have own : ∀ (g : Fin 8) (d : Fin 64), g.val = 2 * p.val + h.val → 64 * h.val + d.val = l.val →
      x (ix5 b 0 g d e) = ((N.data.S p.val h.val b.val l e : ℝ) : EReal) := by
    intro g d hg hd
    rw [hx]
    unfold stateAt
    rw [show g.val / 2 = p.val by omega, show g.val % 2 = h.val by omega,
      show lane g.val d = l from Fin.ext (by show 64 * (g.val % 2) + d.val = l.val; omega)]
  show (_ : EReal) = _
  split
  · split
    · exact own _ _ (by show p.val * 2 = _; omega) (by show 64 * h.val + l.val = _; omega)
    · exact other (by omega)
  · split
    · exact other (by omega)
    · exact own _ _ (by show p.val * 2 + 1 = _; omega) (by show 64 * h.val + (l.val - 64) = _; omega)

end Cert.KernelIdeal.HostLine

end
-- ==== Proof.RefTurn.lean ====
/- The reference's rotated queries and keys, its values and cotangents, and its weights, as real numbers by head. -/
module

public import proofs.«01_k».proof.Proof.HostValues
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal (Head.mate)
open Cert.KernelIdeal.Pair Cert.KernelIdeal.HostLine Cert.Numbers Cert.Retention

variable (N : Nums)

/-- A head's rotated queries. -/
def qh (h i : ℕ) (d : Fin 64) : ℝ := N.data.turn N.data.q (h / 2) i (lane h d)

/-- A head's rotated keys, times an eighth. -/
def kh (h i : ℕ) (d : Fin 64) : ℝ := N.data.turn N.data.k (h / 2) i (lane h d) * (1 / 8)

/-- A head's values. -/
def vh (h i : ℕ) (e : Fin 128) : ℝ := N.x i (1024 + (128 * h + e.val))

/-- The cotangent of a head's output. -/
def oh (h i : ℕ) (e : Fin 128) : ℝ := N.o i (128 * h + e.val)

variable {x0 : FVec Ideal S2048x6656 .bf16} {x1 : IVec S1x2048 32} {x2 : FVec Ideal S32 .f32}
  {x3 : FVec Ideal S8 .f32} {x4 : FVec Ideal S2048x1024 .bf16} (H : Holds N x0 x1 x2 x3 x4)

include H

theorem ang_apply (i : Fin 2048) (l : Fin 32) : (val_main_v12 (F := Ideal) x1 x2 (ix3 0 i l) : EReal) = ((N.ang i.val l.val : ℝ) : EReal) := by
  pointwise [val_main_v12, val_main_v11, val_main_v10, val_main_v9, val_main_v8, val_main_v7]
  have hp : (FloatOps.sitofp (F := Ideal) FTy.f32 (x1 (ix2 0 i)) : EReal) = ((N.pos i.val : ℝ) : EReal) := H.pos i
  have hl := l.isLt
  rw [hp, inv_at N H l.isLt l.val (by omega), ← EReal.coe_mul]
  rfl

theorem ang_apply' (i : Fin 2048) (l : Fin 32) : (val_main_v35 (F := Ideal) x1 x2 (ix3 0 i l) : EReal) = ((N.ang i.val l.val : ℝ) : EReal) :=
  ang_apply N H i l

theorem cos_apply (i : Fin 2048) (l : Fin 32) :
    (val_main_v14 (F := Ideal) x1 x2 (ix4 0 i 0 l) : EReal) = ((Real.cos (N.ang i.val l.val) : ℝ) : EReal) := by
  pointwise [val_main_v14, val_main_v13]
  rw [ang_apply N H, Ideal.cos_coe]

theorem sin_apply (i : Fin 2048) (l : Fin 32) :
    (val_main_v16 (F := Ideal) x1 x2 (ix4 0 i 0 l) : EReal) = ((Real.sin (N.ang i.val l.val) : ℝ) : EReal) := by
  pointwise [val_main_v16, val_main_v15]
  rw [ang_apply N H, Ideal.sin_coe]

theorem cos_apply' (i : Fin 2048) (l : Fin 32) :
    (val_main_v37 (F := Ideal) x1 x2 (ix4 0 i 0 l) : EReal) = ((Real.cos (N.ang i.val l.val) : ℝ) : EReal) := cos_apply N H i l

theorem sin_apply' (i : Fin 2048) (l : Fin 32) :
    (val_main_v39 (F := Ideal) x1 x2 (ix4 0 i 0 l) : EReal) = ((Real.sin (N.ang i.val l.val) : ℝ) : EReal) := sin_apply N H i l

theorem colsQ_apply (i : Fin 2048) (h : Fin 8) (d : Fin 64) :
    (val_main_v4 (F := Ideal) x0 (ix4 0 i h d) : EReal) = ((N.x i.val (64 * h.val + d.val) : ℝ) : EReal) := by
  pointwise [val_main_v4, val_main_v1, val_main_v0]
  have hh := h.isLt
  have hd := d.isLt
  rw [H.x _ _ (by show h.val * 64 + d.val < 2048; omega)]
  show ((N.x i.val (h.val * 64 + d.val) : ℝ) : EReal) = _
  rw [mul_comm]

theorem colsK_apply (i : Fin 2048) (h : Fin 8) (d : Fin 64) :
    (val_main_v5 (F := Ideal) x0 (ix4 0 i h d) : EReal) = ((N.x i.val (512 + (64 * h.val + d.val)) : ℝ) : EReal) := by
  pointwise [val_main_v5, val_main_v2, val_main_v0]
  have hh := h.isLt
  have hd := d.isLt
  rw [H.x _ _ (by show 512 + (h.val * 64 + d.val) < 2048; omega)]
  show ((N.x i.val (512 + (h.val * 64 + d.val)) : ℝ) : EReal) = _
  rw [mul_comm]

theorem colsV_apply (i : Fin 2048) (h : Fin 8) (e : Fin 128) :
    (val_main_v6 (F := Ideal) x0 (ix4 0 i h e) : EReal) = ((vh N h.val i.val e : ℝ) : EReal) := by
  pointwise [val_main_v6, val_main_v3, val_main_v0]
  have hh := h.isLt
  have he := e.isLt
  rw [H.x _ _ (by show 1024 + (h.val * 128 + e.val) < 2048; omega)]
  show ((N.x i.val (1024 + (h.val * 128 + e.val)) : ℝ) : EReal) = _
  unfold vh
  rw [mul_comm]

theorem colsO_apply (i : Fin 2048) (h : Fin 8) (e : Fin 128) :
    (val_main_v311 (F := Ideal) x4 (ix4 0 i h e) : EReal) = ((oh N h.val i.val e : ℝ) : EReal) := by
  pointwise [val_main_v311, val_main_v309]
  rw [H.o]
  show ((N.o i.val (h.val * 128 + e.val) : ℝ) : EReal) = _
  unfold oh
  rw [mul_comm]

omit H in
/-- The rotary map at a lane of a head's lower half. -/
theorem turn_low (x : ℕ → ℕ → ℝ) (h i : ℕ) (d : Fin 64) (hd : d.val < 32) :
    N.data.turn x (h / 2) i (lane h d)
      = x i (64 * h + d.val) * Real.cos (N.ang i d.val) - x i (64 * h + (32 + d.val)) * Real.sin (N.ang i d.val) := by
  have ha : N.ang i (64 * (h % 2) + d.val) = N.ang i d.val := by
    unfold Nums.ang
    rw [show (64 * (h % 2) + d.val) % 32 = d.val % 32 by omega]
  have em : (Head.mate (lane h d)).val = 64 * (h % 2) + d.val + 32 := by
    unfold Head.mate lane
    rw [if_pos (by show (64 * (h % 2) + d.val) % 64 < 32; omega)]
    show (64 * (h % 2) + d.val + 32) % 128 = _
    omega
  show x i (128 * (h / 2) + (64 * (h % 2) + d.val)) * Real.cos (N.ang i (64 * (h % 2) + d.val))
    + x i (128 * (h / 2) + (Head.mate (lane h d)).val)
      * (if (64 * (h % 2) + d.val) % 64 < 32 then -Real.sin (N.ang i (64 * (h % 2) + d.val)) else Real.sin (N.ang i (64 * (h % 2) + d.val))) = _
  rw [if_pos (by omega), em, ha, show 128 * (h / 2) + (64 * (h % 2) + d.val) = 64 * h + d.val by omega,
    show 128 * (h / 2) + (64 * (h % 2) + d.val + 32) = 64 * h + (32 + d.val) by omega]
  ring

omit H in
/-- The rotary map at a lane of a head's upper half. -/
theorem turn_high (x : ℕ → ℕ → ℝ) (h i : ℕ) (d : Fin 64) (hd : ¬ d.val < 32) :
    N.data.turn x (h / 2) i (lane h d)
      = x i (64 * h + (d.val - 32)) * Real.sin (N.ang i (d.val - 32))
        + x i (64 * h + (32 + (d.val - 32))) * Real.cos (N.ang i (d.val - 32)) := by
  have hd' := d.isLt
  have ha : N.ang i (64 * (h % 2) + d.val) = N.ang i (d.val - 32) := by
    unfold Nums.ang
    rw [show (64 * (h % 2) + d.val) % 32 = (d.val - 32) % 32 by omega]
  have em : (Head.mate (lane h d)).val = 64 * (h % 2) + d.val - 32 := by
    unfold Head.mate lane
    rw [if_neg (by show ¬ (64 * (h % 2) + d.val) % 64 < 32; omega)]
    show (64 * (h % 2) + d.val + 96) % 128 = _
    omega
  show x i (128 * (h / 2) + (64 * (h % 2) + d.val)) * Real.cos (N.ang i (64 * (h % 2) + d.val))
    + x i (128 * (h / 2) + (Head.mate (lane h d)).val)
      * (if (64 * (h % 2) + d.val) % 64 < 32 then -Real.sin (N.ang i (64 * (h % 2) + d.val)) else Real.sin (N.ang i (64 * (h % 2) + d.val))) = _
  rw [if_neg (by omega), em, ha, show 128 * (h / 2) + (64 * (h % 2) + d.val) = 64 * h + (32 + (d.val - 32)) by omega,
    show 128 * (h / 2) + (64 * (h % 2) + d.val - 32) = 64 * h + (d.val - 32) by omega]
  ring

theorem turnQ_apply (i : Fin 2048) (h : Fin 8) (d : Fin 64) :
    (val_main_v29 (F := Ideal) x0 x1 x2 (ix4 0 i h d) : EReal) = ((qh N h.val i.val d : ℝ) : EReal) := by
  pointwise [val_main_v29, val_main_v28, val_main_v27, val_main_v26, val_main_v25, val_main_v24, val_main_v23, val_main_v22,
    val_main_v21, val_main_v20, val_main_v19, val_main_v18, val_main_v17]
  have hd := d.isLt
  unfold qh
  show (_ : EReal) = _
  split
  · rename_i hlt
    rw [turn_low N _ _ _ _ hlt, colsQ_apply N H, colsQ_apply N H, cos_apply N H, sin_apply N H, ← EReal.coe_mul, ← EReal.coe_mul,
      ← EReal.coe_sub]
    rfl
  · rename_i hge
    rw [turn_high N _ _ _ _ hge, colsQ_apply N H, colsQ_apply N H, cos_apply N H, sin_apply N H, ← EReal.coe_mul, ← EReal.coe_mul,
      ← EReal.coe_add]
    rfl

theorem turnK_apply (i : Fin 2048) (h : Fin 8) (d : Fin 64) :
    (val_main_v54 (F := Ideal) x0 x1 x2 (ix4 0 i h d) : EReal) = ((kh N h.val i.val d : ℝ) : EReal) := by
  pointwise [val_main_v54, val_main_v53, val_main_cst, val_main_v52, val_main_v51, val_main_v50, val_main_v49, val_main_v48,
    val_main_v47, val_main_v46, val_main_v45, val_main_v44, val_main_v43, val_main_v42, val_main_v41, val_main_v40]
  have hd := d.isLt
  unfold kh
  rw [ofBits_eighth, EReal.coe_mul]
  congr 1
  show (_ : EReal) = _
  split
  · rename_i hlt
    rw [turn_low N _ _ _ _ hlt, colsK_apply N H, colsK_apply N H, cos_apply' N H, sin_apply' N H, ← EReal.coe_mul, ← EReal.coe_mul,
      ← EReal.coe_sub]
    rfl
  · rename_i hge
    rw [turn_high N _ _ _ _ hge, colsK_apply N H, colsK_apply N H, cos_apply' N H, sin_apply' N H, ← EReal.coe_mul, ← EReal.coe_mul,
      ← EReal.coe_add]
    rfl

/-! Frames by chunk and place. -/

theorem chunkQ_apply (n : Fin 32) (r : Fin 64) (h : Fin 8) (d : Fin 64) :
    (val_main_v55 (F := Ideal) x0 x1 x2 (ix5 0 n r h d) : EReal) = ((qh N h.val (64 * n.val + r.val) d : ℝ) : EReal) := by
  pointwise [val_main_v55]
  rw [turnQ_apply N H, mul_comm 64]

theorem chunkK_apply (n : Fin 32) (r : Fin 64) (h : Fin 8) (d : Fin 64) :
    (val_main_v56 (F := Ideal) x0 x1 x2 (ix5 0 n r h d) : EReal) = ((kh N h.val (64 * n.val + r.val) d : ℝ) : EReal) := by
  pointwise [val_main_v56]
  rw [turnK_apply N H, mul_comm 64]

theorem chunkV_apply (n : Fin 32) (r : Fin 64) (h : Fin 8) (e : Fin 128) :
    (val_main_v57 (F := Ideal) x0 (ix5 0 n r h e) : EReal) = ((vh N h.val (64 * n.val + r.val) e : ℝ) : EReal) := by
  pointwise [val_main_v57]
  rw [colsV_apply N H, mul_comm 64]

theorem chunkO_apply (n : Fin 32) (r : Fin 64) (h : Fin 8) (e : Fin 128) :
    (val_main_v312 (F := Ideal) x4 (ix5 0 n r h e) : EReal) = ((oh N h.val (64 * n.val + r.val) e : ℝ) : EReal) := by
  pointwise [val_main_v312]
  rw [colsO_apply N H, mul_comm 64]

/-! The weights. -/

omit H in
theorem place_apply (r : Fin 64) : (val_main_v58 (F := Ideal) (ix1 r) : EReal) = ((r.val : ℝ) : EReal) := by
  pointwise [val_main_v58]
  show (((BitVec.ofNat 32 r.val).toInt : ℝ) : EReal) = _
  rw [place_word ⟨r.val, by have := r.isLt; omega⟩]
  norm_cast

theorem weight_apply (h : Fin 8) (r s : Fin 64) :
    (val_main_v72 (F := Ideal) x3 (ix5 0 0 h r s) : EReal) = ((decay (N.a h.val) r.val s.val : ℝ) : EReal) := by
  pointwise [val_main_v72, val_main_v70, val_main_v69, val_main_v68, val_main_v67, val_main_v66, val_main_v65, val_main_v64,
    val_main_v63, val_main_v62, val_main_v61, val_main_v60, val_main_v59]
  have hr := r.isLt
  have hs := s.isLt
  have e : ∀ x : EReal, x = (((r.val : ℝ) - s.val : ℝ) : EReal) →
      (FloatOps.absf (F := Ideal) (φ := FTy.f32) x : EReal) = ((|(r.val : ℝ) - s.val| : ℝ) : EReal) := by
    rintro x rfl
    show max ((_ : ℝ) : EReal) (-((_ : ℝ) : EReal)) = _
    rw [← EReal.coe_neg, abs_eq_max_neg]
    exact (EReal.coe_strictMono.monotone.map_max).symm
  rw [H.a, e _ (by rw [place_apply, place_apply, ← EReal.coe_sub]), ← EReal.coe_mul, Ideal.exp_coe]
  unfold decay
  rw [if_neg (by omega), mul_comm]

theorem end_apply (r : Fin 64) (h : Fin 8) :
    (val_main_v85 (F := Ideal) x3 (ix5 0 0 r h 0) : EReal) = ((Real.exp (N.a h.val * (((64 : ℕ) : ℝ) - 1 - r.val)) : ℝ) : EReal) := by
  pointwise [val_main_v85, val_main_v84, val_main_v83, val_main_v82, val_main_v81, val_main_v80, val_main_v79, val_main_v78,
    val_main_v77, val_main_cst_0]
  rw [H.a, place_apply, ofBits_63, ← EReal.coe_sub, ← EReal.coe_mul, Ideal.exp_coe]
  congr 2
  push_cast
  ring

theorem begin_apply (r : Fin 64) (h : Fin 8) :
    (val_main_v301 (F := Ideal) x3 (ix5 0 0 r h 0) : EReal) = ((Real.exp (N.a h.val * ((r.val : ℝ) + 1)) : ℝ) : EReal) := by
  pointwise [val_main_v301, val_main_v300, val_main_v299, val_main_v298, val_main_v297, val_main_v296, val_main_v295, val_main_v294,
    val_main_v293, val_main_cst_4]
  rw [H.a, place_apply]
  rw [show (((r.val : ℝ) : EReal) + 1) = (((r.val : ℝ) + 1 : ℝ) : EReal) by push_cast; rfl, ← EReal.coe_mul, Ideal.exp_coe, mul_comm]

theorem chunkFade_apply (h : Fin 8) : (val_main_v92 (F := Ideal) x3 (ix4 0 h 0 0) : EReal) = ((Real.exp (N.a h.val * ((64 : ℕ) : ℝ)) : ℝ) : EReal) := by
  pointwise [val_main_v92, val_main_v91, val_main_v90, val_main_v89, val_main_cst_1]
  rw [H.a, ofBits_64, ← EReal.coe_mul, Ideal.exp_coe]
  congr 2
  push_cast
  ring

end Cert.ReferenceIdeal.Hand

end
-- ==== Proof.RefWalk.lean ====
/- The reference's two walks over the chunks: the states saved before each chunk, and what the chunks behind it send back. -/
module

public import proofs.«01_k».proof.Proof.RefTurn

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Pair Cert.KernelIdeal.HostLine Cert.Numbers Cert.Retention

variable (N : Nums) {x0 : FVec Ideal S2048x6656 .bf16} {x1 : IVec S1x2048 32} {x2 : FVec Ideal S32 .f32}
  {x3 : FVec Ideal S8 .f32} {x4 : FVec Ideal S2048x1024 .bf16} (H : Holds N x0 x1 x2 x3 x4)

/-- The state of a head before chunk `n`. -/
def st (n h : ℕ) (d : Fin 64) (e : Fin 128) : ℝ := saved (N.a h) (kh N h) (vh N h) 64 n d e

/-- What a head has sent back after `m` chunks. -/
def sb (m h : ℕ) (d : Fin 64) (e : Fin 128) : ℝ := sent (N.a h) (qh N h) (oh N h) 64 32 m d e

include H

theorem saves_apply (n : Fin 32) (h : Fin 8) (d : Fin 64) (e : Fin 128) :
    (val_main_v95 (F := Ideal) x0 x1 x2 x3 (ix5 n 0 h d e) : EReal)
      = ((∑ r ∈ Finset.range 64, kh N h.val (64 * n.val + r) d * Real.exp (N.a h.val * (((64 : ℕ) : ℝ) - 1 - r))
          * vh N h.val (64 * n.val + r) e : ℝ) : EReal) := by
  pointwise [val_main_v95, val_main_v88, val_main_v87, val_main_v86]
  rw [Finset.sum_range, ← coe_sum]
  refine Finset.sum_congr rfl fun r _ => ?_
  rw [chunkK_apply N H, end_apply N H, chunkV_apply N H, ← EReal.coe_mul, ← EReal.coe_mul]

theorem sends_apply (n : Fin 32) (h : Fin 8) (d : Fin 64) (e : Fin 128) :
    (val_main_v321 (F := Ideal) x0 x1 x2 x3 x4 (ix5 n 0 h d e) : EReal)
      = ((∑ r ∈ Finset.range 64, qh N h.val (64 * n.val + r) d * Real.exp (N.a h.val * ((r : ℝ) + 1))
          * oh N h.val (64 * n.val + r) e : ℝ) : EReal) := by
  pointwise [val_main_v321, val_main_v317, val_main_v316, val_main_v313, val_main_v303, val_main_v302]
  rw [Finset.sum_range, ← coe_sum]
  refine Finset.sum_congr rfl fun r _ => ?_
  rw [chunkQ_apply N H, begin_apply N H, chunkO_apply N H, ← EReal.coe_mul, ← EReal.coe_mul]
  congr 1
  ring

/-- One chunk further. -/
theorem st_next (n : ℕ) (hn : n < 32) (s s' : FVec Ideal S1x8x64x128 .f32)
    (hs : ∀ (h : Fin 8) (d : Fin 64) (e : Fin 128), s (ix4 0 h d e) = ((st N n h.val d e : ℝ) : EReal))
    (h' : ∀ (h : Fin 8) (d : Fin 64) (e : Fin 128), s' (ix4 0 h d e)
      = s (ix4 0 h d e) * (val_main_v92 (F := Ideal) x3 (ix4 0 h 0 0) : EReal) + (val_main_v95 (F := Ideal) x0 x1 x2 x3 (ix5 ⟨n, hn⟩ 0 h d e) : EReal))
    (h : Fin 8) (d : Fin 64) (e : Fin 128) : s' (ix4 0 h d e) = ((st N (n + 1) h.val d e : ℝ) : EReal) := by
  rw [h', hs, chunkFade_apply N H, saves_apply N H, ← EReal.coe_mul, ← EReal.coe_add]
  unfold st
  rw [saved]

/-- One chunk back. -/
theorem sb_next (m : ℕ) (hm : m < 32) (s s' : FVec Ideal S1x8x64x128 .f32)
    (hs : ∀ (h : Fin 8) (d : Fin 64) (e : Fin 128), s (ix4 0 h d e) = ((sb N m h.val d e : ℝ) : EReal))
    (h' : ∀ (h : Fin 8) (d : Fin 64) (e : Fin 128), s' (ix4 0 h d e)
      = (val_main_v321 (F := Ideal) x0 x1 x2 x3 x4 (ix5 ⟨31 - m, by omega⟩ 0 h d e) : EReal) + s (ix4 0 h d e) * (val_main_v92 (F := Ideal) x3 (ix4 0 h 0 0) : EReal))
    (h : Fin 8) (d : Fin 64) (e : Fin 128) : s' (ix4 0 h d e) = ((sb N (m + 1) h.val d e : ℝ) : EReal) := by
  rw [h', hs, chunkFade_apply N H, sends_apply N H, ← EReal.coe_mul, ← EReal.coe_add]
  unfold sb
  rw [sent]
  congr 1
  rw [add_comm, mul_comm]

omit H in
theorem st_first (h : Fin 8) (d : Fin 64) (e : Fin 128) :
    (val_main_v93 (F := Ideal) (ix4 0 h d e) : EReal) = ((st N 0 h.val d e : ℝ) : EReal) := by
  pointwise [val_main_v93, val_main_cst_2]
  unfold st
  rw [saved]
  rfl

omit H in
theorem sb_first (h : Fin 8) (d : Fin 64) (e : Fin 128) :
    (val_main_v320 (F := Ideal) (ix4 0 h d e) : EReal) = ((sb N 0 h.val d e : ℝ) : EReal) := by
  pointwise [val_main_v320, val_main_cst_6]
  unfold sb
  rw [sent]
  rfl

theorem state1_apply (h : Fin 8) (d : Fin 64) (e : Fin 128) :
    (val_main_v101 (F := Ideal) x0 x1 x2 x3 (ix4 0 h d e) : EReal) = ((st N 1 h.val d e : ℝ) : EReal) := by
  refine st_next N H 0 (by omega) (val_main_v93 (F := Ideal)) _ (st_first N) (fun h d e => ?_) h d e
  pointwise [val_main_v101, val_main_v100, val_main_v99, val_main_v98, val_main_v97]

theorem state2_apply (h : Fin 8) (d : Fin 64) (e : Fin 128) :
    (val_main_v106 (F := Ideal) x0 x1 x2 x3 (ix4 0 h d e) : EReal) = ((st N 2 h.val d e : ℝ) : EReal) := by
  refine st_next N H 1 (by omega) (val_main_v101 (F := Ideal) x0 x1 x2 x3) _ (state1_apply N H) (fun h d e => ?_) h d e
  pointwise [val_main_v106, val_main_v105, val_main_v104, val_main_v103, val_main_v102]

theorem state3_apply (h : Fin 8) (d : Fin 64) (e : Fin 128) :
    (val_main_v111 (F := Ideal) x0 x1 x2 x3 (ix4 0 h d e) : EReal) = ((st N 3 h.val d e : ℝ) : EReal) := by
  refine st_next N H 2 (by omega) (val_main_v106 (F := Ideal) x0 x1 x2 x3) _ (state2_apply N H) (fun h d e => ?_) h d e
  pointwise [val_main_v111, val_main_v110, val_main_v109, val_main_v108, val_main_v107]

theorem state4_apply (h : Fin 8) (d : Fin 64) (e : Fin 128) :
    (val_main_v116 (F := Ideal) x0 x1 x2 x3 (ix4 0 h d e) : EReal) = ((st N 4 h.val d e : ℝ) : EReal) := by
  refine st_next N H 3 (by omega) (val_main_v111 (F := Ideal) x0 x1 x2 x3) _ (state3_apply N H) (fun h d e => ?_) h d e
  pointwise [val_main_v116, val_main_v115, val_main_v114, val_main_v113, val_main_v112]

theorem state5_apply (h : Fin 8) (d : Fin 64) (e : Fin 128) :
    (val_main_v121 (F := Ideal) x0 x1 x2 x3 (ix4 0 h d e) : EReal) = ((st N 5 h.val d e : ℝ) : EReal) := by
  refine st_next N H 4 (by omega) (val_main_v116 (F := Ideal) x0 x1 x2 x3) _ (state4_apply N H) (fun h d e => ?_) h d e
  pointwise [val_main_v121, val_main_v120, val_main_v119, val_main_v118, val_main_v117]

theorem state6_apply (h : Fin 8) (d : Fin 64) (e : Fin 128) :
    (val_main_v126 (F := Ideal) x0 x1 x2 x3 (ix4 0 h d e) : EReal) = ((st N 6 h.val d e : ℝ) : EReal) := by
  refine st_next N H 5 (by omega) (val_main_v121 (F := Ideal) x0 x1 x2 x3) _ (state5_apply N H) (fun h d e => ?_) h d e
  pointwise [val_main_v126, val_main_v125, val_main_v124, val_main_v123, val_main_v122]

theorem state7_apply (h : Fin 8) (d : Fin 64) (e : Fin 128) :
    (val_main_v131 (F := Ideal) x0 x1 x2 x3 (ix4 0 h d e) : EReal) = ((st N 7 h.val d e : ℝ) : EReal) := by
  refine st_next N H 6 (by omega) (val_main_v126 (F := Ideal) x0 x1 x2 x3) _ (state6_apply N H) (fun h d e => ?_) h d e
  pointwise [val_main_v131, val_main_v130, val_main_v129, val_main_v128, val_main_v127]

theorem state8_apply (h : Fin 8) (d : Fin 64) (e : Fin 128) :
    (val_main_v136 (F := Ideal) x0 x1 x2 x3 (ix4 0 h d e) : EReal) = ((st N 8 h.val d e : ℝ) : EReal) := by
  refine st_next N H 7 (by omega) (val_main_v131 (F := Ideal) x0 x1 x2 x3) _ (state7_apply N H) (fun h d e => ?_) h d e
  pointwise [val_main_v136, val_main_v135, val_main_v134, val_main_v133, val_main_v132]

theorem state9_apply (h : Fin 8) (d : Fin 64) (e : Fin 128) :
    (val_main_v141 (F := Ideal) x0 x1 x2 x3 (ix4 0 h d e) : EReal) = ((st N 9 h.val d e : ℝ) : EReal) := by
  refine st_next N H 8 (by omega) (val_main_v136 (F := Ideal) x0 x1 x2 x3) _ (state8_apply N H) (fun h d e => ?_) h d e
  pointwise [val_main_v141, val_main_v140, val_main_v139, val_main_v138, val_main_v137]

theorem state10_apply (h : Fin 8) (d : Fin 64) (e : Fin 128) :
    (val_main_v146 (F := Ideal) x0 x1 x2 x3 (ix4 0 h d e) : EReal) = ((st N 10 h.val d e : ℝ) : EReal) := by
  refine st_next N H 9 (by omega) (val_main_v141 (F := Ideal) x0 x1 x2 x3) _ (state9_apply N H) (fun h d e => ?_) h d e
  pointwise [val_main_v146, val_main_v145, val_main_v144, val_main_v143, val_main_v142]

theorem state11_apply (h : Fin 8) (d : Fin 64) (e : Fin 128) :
    (val_main_v151 (F := Ideal) x0 x1 x2 x3 (ix4 0 h d e) : EReal) = ((st N 11 h.val d e : ℝ) : EReal) := by
  refine st_next N H 10 (by omega) (val_main_v146 (F := Ideal) x0 x1 x2 x3) _ (state10_apply N H) (fun h d e => ?_) h d e
  pointwise [val_main_v151, val_main_v150, val_main_v149, val_main_v148, val_main_v147]

theorem state12_apply (h : Fin 8) (d : Fin 64) (e : Fin 128) :
    (val_main_v156 (F := Ideal) x0 x1 x2 x3 (ix4 0 h d e) : EReal) = ((st N 12 h.val d e : ℝ) : EReal) := by
  refine st_next N H 11 (by omega) (val_main_v151 (F := Ideal) x0 x1 x2 x3) _ (state11_apply N H) (fun h d e => ?_) h d e
  pointwise [val_main_v156, val_main_v155, val_main_v154, val_main_v153, val_main_v152]

theorem state13_apply (h : Fin 8) (d : Fin 64) (e : Fin 128) :
    (val_main_v161 (F := Ideal) x0 x1 x2 x3 (ix4 0 h d e) : EReal) = ((st N 13 h.val d e : ℝ) : EReal) := by
  refine st_next N H 12 (by omega) (val_main_v156 (F := Ideal) x0 x1 x2 x3) _ (state12_apply N H) (fun h d e => ?_) h d e
  pointwise [val_main_v161, val_main_v160, val_main_v159, val_main_v158, val_main_v157]

theorem state14_apply (h : Fin 8) (d : Fin 64) (e : Fin 128) :
    (val_main_v166 (F := Ideal) x0 x1 x2 x3 (ix4 0 h d e) : EReal) = ((st N 14 h.val d e : ℝ) : EReal) := by
  refine st_next N H 13 (by omega) (val_main_v161 (F := Ideal) x0 x1 x2 x3) _ (state13_apply N H) (fun h d e => ?_) h d e
  pointwise [val_main_v166, val_main_v165, val_main_v164, val_main_v163, val_main_v162]

theorem state15_apply (h : Fin 8) (d : Fin 64) (e : Fin 128) :
    (val_main_v171 (F := Ideal) x0 x1 x2 x3 (ix4 0 h d e) : EReal) = ((st N 15 h.val d e : ℝ) : EReal) := by
  refine st_next N H 14 (by omega) (val_main_v166 (F := Ideal) x0 x1 x2 x3) _ (state14_apply N H) (fun h d e => ?_) h d e
  pointwise [val_main_v171, val_main_v170, val_main_v169, val_main_v168, val_main_v167]

theorem state16_apply (h : Fin 8) (d : Fin 64) (e : Fin 128) :
    (val_main_v176 (F := Ideal) x0 x1 x2 x3 (ix4 0 h d e) : EReal) = ((st N 16 h.val d e : ℝ) : EReal) := by
  refine st_next N H 15 (by omega) (val_main_v171 (F := Ideal) x0 x1 x2 x3) _ (state15_apply N H) (fun h d e => ?_) h d e
  pointwise [val_main_v176, val_main_v175, val_main_v174, val_main_v173, val_main_v172]

theorem state17_apply (h : Fin 8) (d : Fin 64) (e : Fin 128) :
    (val_main_v181 (F := Ideal) x0 x1 x2 x3 (ix4 0 h d e) : EReal) = ((st N 17 h.val d e : ℝ) : EReal) := by
  refine st_next N H 16 (by omega) (val_main_v176 (F := Ideal) x0 x1 x2 x3) _ (state16_apply N H) (fun h d e => ?_) h d e
  pointwise [val_main_v181, val_main_v180, val_main_v179, val_main_v178, val_main_v177]

theorem state18_apply (h : Fin 8) (d : Fin 64) (e : Fin 128) :
    (val_main_v186 (F := Ideal) x0 x1 x2 x3 (ix4 0 h d e) : EReal) = ((st N 18 h.val d e : ℝ) : EReal) := by
  refine st_next N H 17 (by omega) (val_main_v181 (F := Ideal) x0 x1 x2 x3) _ (state17_apply N H) (fun h d e => ?_) h d e
  pointwise [val_main_v186, val_main_v185, val_main_v184, val_main_v183, val_main_v182]

theorem state19_apply (h : Fin 8) (d : Fin 64) (e : Fin 128) :
    (val_main_v191 (F := Ideal) x0 x1 x2 x3 (ix4 0 h d e) : EReal) = ((st N 19 h.val d e : ℝ) : EReal) := by
  refine st_next N H 18 (by omega) (val_main_v186 (F := Ideal) x0 x1 x2 x3) _ (state18_apply N H) (fun h d e => ?_) h d e
  pointwise [val_main_v191, val_main_v190, val_main_v189, val_main_v188, val_main_v187]

theorem state20_apply (h : Fin 8) (d : Fin 64) (e : Fin 128) :
    (val_main_v196 (F := Ideal) x0 x1 x2 x3 (ix4 0 h d e) : EReal) = ((st N 20 h.val d e : ℝ) : EReal) := by
  refine st_next N H 19 (by omega) (val_main_v191 (F := Ideal) x0 x1 x2 x3) _ (state19_apply N H) (fun h d e => ?_) h d e
  pointwise [val_main_v196, val_main_v195, val_main_v194, val_main_v193, val_main_v192]

theorem state21_apply (h : Fin 8) (d : Fin 64) (e : Fin 128) :
    (val_main_v201 (F := Ideal) x0 x1 x2 x3 (ix4 0 h d e) : EReal) = ((st N 21 h.val d e : ℝ) : EReal) := by
  refine st_next N H 20 (by omega) (val_main_v196 (F := Ideal) x0 x1 x2 x3) _ (state20_apply N H) (fun h d e => ?_) h d e
  pointwise [val_main_v201, val_main_v200, val_main_v199, val_main_v198, val_main_v197]

theorem state22_apply (h : Fin 8) (d : Fin 64) (e : Fin 128) :
    (val_main_v206 (F := Ideal) x0 x1 x2 x3 (ix4 0 h d e) : EReal) = ((st N 22 h.val d e : ℝ) : EReal) := by
  refine st_next N H 21 (by omega) (val_main_v201 (F := Ideal) x0 x1 x2 x3) _ (state21_apply N H) (fun h d e => ?_) h d e
  pointwise [val_main_v206, val_main_v205, val_main_v204, val_main_v203, val_main_v202]

theorem state23_apply (h : Fin 8) (d : Fin 64) (e : Fin 128) :
    (val_main_v211 (F := Ideal) x0 x1 x2 x3 (ix4 0 h d e) : EReal) = ((st N 23 h.val d e : ℝ) : EReal) := by
  refine st_next N H 22 (by omega) (val_main_v206 (F := Ideal) x0 x1 x2 x3) _ (state22_apply N H) (fun h d e => ?_) h d e
  pointwise [val_main_v211, val_main_v210, val_main_v209, val_main_v208, val_main_v207]

theorem state24_apply (h : Fin 8) (d : Fin 64) (e : Fin 128) :
    (val_main_v216 (F := Ideal) x0 x1 x2 x3 (ix4 0 h d e) : EReal) = ((st N 24 h.val d e : ℝ) : EReal) := by
  refine st_next N H 23 (by omega) (val_main_v211 (F := Ideal) x0 x1 x2 x3) _ (state23_apply N H) (fun h d e => ?_) h d e
  pointwise [val_main_v216, val_main_v215, val_main_v214, val_main_v213, val_main_v212]

theorem state25_apply (h : Fin 8) (d : Fin 64) (e : Fin 128) :
    (val_main_v221 (F := Ideal) x0 x1 x2 x3 (ix4 0 h d e) : EReal) = ((st N 25 h.val d e : ℝ) : EReal) := by
  refine st_next N H 24 (by omega) (val_main_v216 (F := Ideal) x0 x1 x2 x3) _ (state24_apply N H) (fun h d e => ?_) h d e
  pointwise [val_main_v221, val_main_v220, val_main_v219, val_main_v218, val_main_v217]

theorem state26_apply (h : Fin 8) (d : Fin 64) (e : Fin 128) :
    (val_main_v226 (F := Ideal) x0 x1 x2 x3 (ix4 0 h d e) : EReal) = ((st N 26 h.val d e : ℝ) : EReal) := by
  refine st_next N H 25 (by omega) (val_main_v221 (F := Ideal) x0 x1 x2 x3) _ (state25_apply N H) (fun h d e => ?_) h d e
  pointwise [val_main_v226, val_main_v225, val_main_v224, val_main_v223, val_main_v222]

theorem state27_apply (h : Fin 8) (d : Fin 64) (e : Fin 128) :
    (val_main_v231 (F := Ideal) x0 x1 x2 x3 (ix4 0 h d e) : EReal) = ((st N 27 h.val d e : ℝ) : EReal) := by
  refine st_next N H 26 (by omega) (val_main_v226 (F := Ideal) x0 x1 x2 x3) _ (state26_apply N H) (fun h d e => ?_) h d e
  pointwise [val_main_v231, val_main_v230, val_main_v229, val_main_v228, val_main_v227]

theorem state28_apply (h : Fin 8) (d : Fin 64) (e : Fin 128) :
    (val_main_v236 (F := Ideal) x0 x1 x2 x3 (ix4 0 h d e) : EReal) = ((st N 28 h.val d e : ℝ) : EReal) := by
  refine st_next N H 27 (by omega) (val_main_v231 (F := Ideal) x0 x1 x2 x3) _ (state27_apply N H) (fun h d e => ?_) h d e
  pointwise [val_main_v236, val_main_v235, val_main_v234, val_main_v233, val_main_v232]

theorem state29_apply (h : Fin 8) (d : Fin 64) (e : Fin 128) :
    (val_main_v241 (F := Ideal) x0 x1 x2 x3 (ix4 0 h d e) : EReal) = ((st N 29 h.val d e : ℝ) : EReal) := by
  refine st_next N H 28 (by omega) (val_main_v236 (F := Ideal) x0 x1 x2 x3) _ (state28_apply N H) (fun h d e => ?_) h d e
  pointwise [val_main_v241, val_main_v240, val_main_v239, val_main_v238, val_main_v237]

theorem state30_apply (h : Fin 8) (d : Fin 64) (e : Fin 128) :
    (val_main_v246 (F := Ideal) x0 x1 x2 x3 (ix4 0 h d e) : EReal) = ((st N 30 h.val d e : ℝ) : EReal) := by
  refine st_next N H 29 (by omega) (val_main_v241 (F := Ideal) x0 x1 x2 x3) _ (state29_apply N H) (fun h d e => ?_) h d e
  pointwise [val_main_v246, val_main_v245, val_main_v244, val_main_v243, val_main_v242]

theorem state31_apply (h : Fin 8) (d : Fin 64) (e : Fin 128) :
    (val_main_v251 (F := Ideal) x0 x1 x2 x3 (ix4 0 h d e) : EReal) = ((st N 31 h.val d e : ℝ) : EReal) := by
  refine st_next N H 30 (by omega) (val_main_v246 (F := Ideal) x0 x1 x2 x3) _ (state30_apply N H) (fun h d e => ?_) h d e
  pointwise [val_main_v251, val_main_v250, val_main_v249, val_main_v248, val_main_v247]

theorem back1_apply (h : Fin 8) (d : Fin 64) (e : Fin 128) :
    (val_main_v328 (F := Ideal) x0 x1 x2 x3 x4 (ix4 0 h d e) : EReal) = ((sb N 1 h.val d e : ℝ) : EReal) := by
  refine sb_next N H 0 (by omega) (val_main_v320 (F := Ideal)) _ (sb_first N) (fun h d e => ?_) h d e
  pointwise [val_main_v328, val_main_v327, val_main_v326, val_main_v325, val_main_v324]

theorem back2_apply (h : Fin 8) (d : Fin 64) (e : Fin 128) :
    (val_main_v333 (F := Ideal) x0 x1 x2 x3 x4 (ix4 0 h d e) : EReal) = ((sb N 2 h.val d e : ℝ) : EReal) := by
  refine sb_next N H 1 (by omega) (val_main_v328 (F := Ideal) x0 x1 x2 x3 x4) _ (back1_apply N H) (fun h d e => ?_) h d e
  pointwise [val_main_v333, val_main_v332, val_main_v331, val_main_v330, val_main_v329]

theorem back3_apply (h : Fin 8) (d : Fin 64) (e : Fin 128) :
    (val_main_v338 (F := Ideal) x0 x1 x2 x3 x4 (ix4 0 h d e) : EReal) = ((sb N 3 h.val d e : ℝ) : EReal) := by
  refine sb_next N H 2 (by omega) (val_main_v333 (F := Ideal) x0 x1 x2 x3 x4) _ (back2_apply N H) (fun h d e => ?_) h d e
  pointwise [val_main_v338, val_main_v337, val_main_v336, val_main_v335, val_main_v334]

theorem back4_apply (h : Fin 8) (d : Fin 64) (e : Fin 128) :
    (val_main_v343 (F := Ideal) x0 x1 x2 x3 x4 (ix4 0 h d e) : EReal) = ((sb N 4 h.val d e : ℝ) : EReal) := by
  refine sb_next N H 3 (by omega) (val_main_v338 (F := Ideal) x0 x1 x2 x3 x4) _ (back3_apply N H) (fun h d e => ?_) h d e
  pointwise [val_main_v343, val_main_v342, val_main_v341, val_main_v340, val_main_v339]

theorem back5_apply (h : Fin 8) (d : Fin 64) (e : Fin 128) :
    (val_main_v348 (F := Ideal) x0 x1 x2 x3 x4 (ix4 0 h d e) : EReal) = ((sb N 5 h.val d e : ℝ) : EReal) := by
  refine sb_next N H 4 (by omega) (val_main_v343 (F := Ideal) x0 x1 x2 x3 x4) _ (back4_apply N H) (fun h d e => ?_) h d e
  pointwise [val_main_v348, val_main_v347, val_main_v346, val_main_v345, val_main_v344]

theorem back6_apply (h : Fin 8) (d : Fin 64) (e : Fin 128) :
    (val_main_v353 (F := Ideal) x0 x1 x2 x3 x4 (ix4 0 h d e) : EReal) = ((sb N 6 h.val d e : ℝ) : EReal) := by
  refine sb_next N H 5 (by omega) (val_main_v348 (F := Ideal) x0 x1 x2 x3 x4) _ (back5_apply N H) (fun h d e => ?_) h d e
  pointwise [val_main_v353, val_main_v352, val_main_v351, val_main_v350, val_main_v349]

theorem back7_apply (h : Fin 8) (d : Fin 64) (e : Fin 128) :
    (val_main_v358 (F := Ideal) x0 x1 x2 x3 x4 (ix4 0 h d e) : EReal) = ((sb N 7 h.val d e : ℝ) : EReal) := by
  refine sb_next N H 6 (by omega) (val_main_v353 (F := Ideal) x0 x1 x2 x3 x4) _ (back6_apply N H) (fun h d e => ?_) h d e
  pointwise [val_main_v358, val_main_v357, val_main_v356, val_main_v355, val_main_v354]

theorem back8_apply (h : Fin 8) (d : Fin 64) (e : Fin 128) :
    (val_main_v363 (F := Ideal) x0 x1 x2 x3 x4 (ix4 0 h d e) : EReal) = ((sb N 8 h.val d e : ℝ) : EReal) := by
  refine sb_next N H 7 (by omega) (val_main_v358 (F := Ideal) x0 x1 x2 x3 x4) _ (back7_apply N H) (fun h d e => ?_) h d e
  pointwise [val_main_v363, val_main_v362, val_main_v361, val_main_v360, val_main_v359]

theorem back9_apply (h : Fin 8) (d : Fin 64) (e : Fin 128) :
    (val_main_v368 (F := Ideal) x0 x1 x2 x3 x4 (ix4 0 h d e) : EReal) = ((sb N 9 h.val d e : ℝ) : EReal) := by
  refine sb_next N H 8 (by omega) (val_main_v363 (F := Ideal) x0 x1 x2 x3 x4) _ (back8_apply N H) (fun h d e => ?_) h d e
  pointwise [val_main_v368, val_main_v367, val_main_v366, val_main_v365, val_main_v364]

theorem back10_apply (h : Fin 8) (d : Fin 64) (e : Fin 128) :
    (val_main_v373 (F := Ideal) x0 x1 x2 x3 x4 (ix4 0 h d e) : EReal) = ((sb N 10 h.val d e : ℝ) : EReal) := by
  refine sb_next N H 9 (by omega) (val_main_v368 (F := Ideal) x0 x1 x2 x3 x4) _ (back9_apply N H) (fun h d e => ?_) h d e
  pointwise [val_main_v373, val_main_v372, val_main_v371, val_main_v370, val_main_v369]

theorem back11_apply (h : Fin 8) (d : Fin 64) (e : Fin 128) :
    (val_main_v378 (F := Ideal) x0 x1 x2 x3 x4 (ix4 0 h d e) : EReal) = ((sb N 11 h.val d e : ℝ) : EReal) := by
  refine sb_next N H 10 (by omega) (val_main_v373 (F := Ideal) x0 x1 x2 x3 x4) _ (back10_apply N H) (fun h d e => ?_) h d e
  pointwise [val_main_v378, val_main_v377, val_main_v376, val_main_v375, val_main_v374]

theorem back12_apply (h : Fin 8) (d : Fin 64) (e : Fin 128) :
    (val_main_v383 (F := Ideal) x0 x1 x2 x3 x4 (ix4 0 h d e) : EReal) = ((sb N 12 h.val d e : ℝ) : EReal) := by
  refine sb_next N H 11 (by omega) (val_main_v378 (F := Ideal) x0 x1 x2 x3 x4) _ (back11_apply N H) (fun h d e => ?_) h d e
  pointwise [val_main_v383, val_main_v382, val_main_v381, val_main_v380, val_main_v379]

theorem back13_apply (h : Fin 8) (d : Fin 64) (e : Fin 128) :
    (val_main_v388 (F := Ideal) x0 x1 x2 x3 x4 (ix4 0 h d e) : EReal) = ((sb N 13 h.val d e : ℝ) : EReal) := by
  refine sb_next N H 12 (by omega) (val_main_v383 (F := Ideal) x0 x1 x2 x3 x4) _ (back12_apply N H) (fun h d e => ?_) h d e
  pointwise [val_main_v388, val_main_v387, val_main_v386, val_main_v385, val_main_v384]

theorem back14_apply (h : Fin 8) (d : Fin 64) (e : Fin 128) :
    (val_main_v393 (F := Ideal) x0 x1 x2 x3 x4 (ix4 0 h d e) : EReal) = ((sb N 14 h.val d e : ℝ) : EReal) := by
  refine sb_next N H 13 (by omega) (val_main_v388 (F := Ideal) x0 x1 x2 x3 x4) _ (back13_apply N H) (fun h d e => ?_) h d e
  pointwise [val_main_v393, val_main_v392, val_main_v391, val_main_v390, val_main_v389]

theorem back15_apply (h : Fin 8) (d : Fin 64) (e : Fin 128) :
    (val_main_v398 (F := Ideal) x0 x1 x2 x3 x4 (ix4 0 h d e) : EReal) = ((sb N 15 h.val d e : ℝ) : EReal) := by
  refine sb_next N H 14 (by omega) (val_main_v393 (F := Ideal) x0 x1 x2 x3 x4) _ (back14_apply N H) (fun h d e => ?_) h d e
  pointwise [val_main_v398, val_main_v397, val_main_v396, val_main_v395, val_main_v394]

theorem back16_apply (h : Fin 8) (d : Fin 64) (e : Fin 128) :
    (val_main_v403 (F := Ideal) x0 x1 x2 x3 x4 (ix4 0 h d e) : EReal) = ((sb N 16 h.val d e : ℝ) : EReal) := by
  refine sb_next N H 15 (by omega) (val_main_v398 (F := Ideal) x0 x1 x2 x3 x4) _ (back15_apply N H) (fun h d e => ?_) h d e
  pointwise [val_main_v403, val_main_v402, val_main_v401, val_main_v400, val_main_v399]

theorem back17_apply (h : Fin 8) (d : Fin 64) (e : Fin 128) :
    (val_main_v408 (F := Ideal) x0 x1 x2 x3 x4 (ix4 0 h d e) : EReal) = ((sb N 17 h.val d e : ℝ) : EReal) := by
  refine sb_next N H 16 (by omega) (val_main_v403 (F := Ideal) x0 x1 x2 x3 x4) _ (back16_apply N H) (fun h d e => ?_) h d e
  pointwise [val_main_v408, val_main_v407, val_main_v406, val_main_v405, val_main_v404]

theorem back18_apply (h : Fin 8) (d : Fin 64) (e : Fin 128) :
    (val_main_v413 (F := Ideal) x0 x1 x2 x3 x4 (ix4 0 h d e) : EReal) = ((sb N 18 h.val d e : ℝ) : EReal) := by
  refine sb_next N H 17 (by omega) (val_main_v408 (F := Ideal) x0 x1 x2 x3 x4) _ (back17_apply N H) (fun h d e => ?_) h d e
  pointwise [val_main_v413, val_main_v412, val_main_v411, val_main_v410, val_main_v409]

theorem back19_apply (h : Fin 8) (d : Fin 64) (e : Fin 128) :
    (val_main_v418 (F := Ideal) x0 x1 x2 x3 x4 (ix4 0 h d e) : EReal) = ((sb N 19 h.val d e : ℝ) : EReal) := by
  refine sb_next N H 18 (by omega) (val_main_v413 (F := Ideal) x0 x1 x2 x3 x4) _ (back18_apply N H) (fun h d e => ?_) h d e
  pointwise [val_main_v418, val_main_v417, val_main_v416, val_main_v415, val_main_v414]

theorem back20_apply (h : Fin 8) (d : Fin 64) (e : Fin 128) :
    (val_main_v423 (F := Ideal) x0 x1 x2 x3 x4 (ix4 0 h d e) : EReal) = ((sb N 20 h.val d e : ℝ) : EReal) := by
  refine sb_next N H 19 (by omega) (val_main_v418 (F := Ideal) x0 x1 x2 x3 x4) _ (back19_apply N H) (fun h d e => ?_) h d e
  pointwise [val_main_v423, val_main_v422, val_main_v421, val_main_v420, val_main_v419]

theorem back21_apply (h : Fin 8) (d : Fin 64) (e : Fin 128) :
    (val_main_v428 (F := Ideal) x0 x1 x2 x3 x4 (ix4 0 h d e) : EReal) = ((sb N 21 h.val d e : ℝ) : EReal) := by
  refine sb_next N H 20 (by omega) (val_main_v423 (F := Ideal) x0 x1 x2 x3 x4) _ (back20_apply N H) (fun h d e => ?_) h d e
  pointwise [val_main_v428, val_main_v427, val_main_v426, val_main_v425, val_main_v424]

theorem back22_apply (h : Fin 8) (d : Fin 64) (e : Fin 128) :
    (val_main_v433 (F := Ideal) x0 x1 x2 x3 x4 (ix4 0 h d e) : EReal) = ((sb N 22 h.val d e : ℝ) : EReal) := by
  refine sb_next N H 21 (by omega) (val_main_v428 (F := Ideal) x0 x1 x2 x3 x4) _ (back21_apply N H) (fun h d e => ?_) h d e
  pointwise [val_main_v433, val_main_v432, val_main_v431, val_main_v430, val_main_v429]

theorem back23_apply (h : Fin 8) (d : Fin 64) (e : Fin 128) :
    (val_main_v438 (F := Ideal) x0 x1 x2 x3 x4 (ix4 0 h d e) : EReal) = ((sb N 23 h.val d e : ℝ) : EReal) := by
  refine sb_next N H 22 (by omega) (val_main_v433 (F := Ideal) x0 x1 x2 x3 x4) _ (back22_apply N H) (fun h d e => ?_) h d e
  pointwise [val_main_v438, val_main_v437, val_main_v436, val_main_v435, val_main_v434]

theorem back24_apply (h : Fin 8) (d : Fin 64) (e : Fin 128) :
    (val_main_v443 (F := Ideal) x0 x1 x2 x3 x4 (ix4 0 h d e) : EReal) = ((sb N 24 h.val d e : ℝ) : EReal) := by
  refine sb_next N H 23 (by omega) (val_main_v438 (F := Ideal) x0 x1 x2 x3 x4) _ (back23_apply N H) (fun h d e => ?_) h d e
  pointwise [val_main_v443, val_main_v442, val_main_v441, val_main_v440, val_main_v439]

theorem back25_apply (h : Fin 8) (d : Fin 64) (e : Fin 128) :
    (val_main_v448 (F := Ideal) x0 x1 x2 x3 x4 (ix4 0 h d e) : EReal) = ((sb N 25 h.val d e : ℝ) : EReal) := by
  refine sb_next N H 24 (by omega) (val_main_v443 (F := Ideal) x0 x1 x2 x3 x4) _ (back24_apply N H) (fun h d e => ?_) h d e
  pointwise [val_main_v448, val_main_v447, val_main_v446, val_main_v445, val_main_v444]

theorem back26_apply (h : Fin 8) (d : Fin 64) (e : Fin 128) :
    (val_main_v453 (F := Ideal) x0 x1 x2 x3 x4 (ix4 0 h d e) : EReal) = ((sb N 26 h.val d e : ℝ) : EReal) := by
  refine sb_next N H 25 (by omega) (val_main_v448 (F := Ideal) x0 x1 x2 x3 x4) _ (back25_apply N H) (fun h d e => ?_) h d e
  pointwise [val_main_v453, val_main_v452, val_main_v451, val_main_v450, val_main_v449]

theorem back27_apply (h : Fin 8) (d : Fin 64) (e : Fin 128) :
    (val_main_v458 (F := Ideal) x0 x1 x2 x3 x4 (ix4 0 h d e) : EReal) = ((sb N 27 h.val d e : ℝ) : EReal) := by
  refine sb_next N H 26 (by omega) (val_main_v453 (F := Ideal) x0 x1 x2 x3 x4) _ (back26_apply N H) (fun h d e => ?_) h d e
  pointwise [val_main_v458, val_main_v457, val_main_v456, val_main_v455, val_main_v454]

theorem back28_apply (h : Fin 8) (d : Fin 64) (e : Fin 128) :
    (val_main_v463 (F := Ideal) x0 x1 x2 x3 x4 (ix4 0 h d e) : EReal) = ((sb N 28 h.val d e : ℝ) : EReal) := by
  refine sb_next N H 27 (by omega) (val_main_v458 (F := Ideal) x0 x1 x2 x3 x4) _ (back27_apply N H) (fun h d e => ?_) h d e
  pointwise [val_main_v463, val_main_v462, val_main_v461, val_main_v460, val_main_v459]

theorem back29_apply (h : Fin 8) (d : Fin 64) (e : Fin 128) :
    (val_main_v468 (F := Ideal) x0 x1 x2 x3 x4 (ix4 0 h d e) : EReal) = ((sb N 29 h.val d e : ℝ) : EReal) := by
  refine sb_next N H 28 (by omega) (val_main_v463 (F := Ideal) x0 x1 x2 x3 x4) _ (back28_apply N H) (fun h d e => ?_) h d e
  pointwise [val_main_v468, val_main_v467, val_main_v466, val_main_v465, val_main_v464]

theorem back30_apply (h : Fin 8) (d : Fin 64) (e : Fin 128) :
    (val_main_v473 (F := Ideal) x0 x1 x2 x3 x4 (ix4 0 h d e) : EReal) = ((sb N 30 h.val d e : ℝ) : EReal) := by
  refine sb_next N H 29 (by omega) (val_main_v468 (F := Ideal) x0 x1 x2 x3 x4) _ (back29_apply N H) (fun h d e => ?_) h d e
  pointwise [val_main_v473, val_main_v472, val_main_v471, val_main_v470, val_main_v469]

theorem back31_apply (h : Fin 8) (d : Fin 64) (e : Fin 128) :
    (val_main_v478 (F := Ideal) x0 x1 x2 x3 x4 (ix4 0 h d e) : EReal) = ((sb N 31 h.val d e : ℝ) : EReal) := by
  refine sb_next N H 30 (by omega) (val_main_v473 (F := Ideal) x0 x1 x2 x3 x4) _ (back30_apply N H) (fun h d e => ?_) h d e
  pointwise [val_main_v478, val_main_v477, val_main_v476, val_main_v475, val_main_v474]

/-- The state before every chunk. -/
theorem states_apply (n : Fin 32) (h : Fin 8) (d : Fin 64) (e : Fin 128) :
    (val_main_v292 (F := Ideal) x0 x1 x2 x3 (ix5 n 0 h d e) : EReal) = ((st N n.val h.val d e : ℝ) : EReal) := by
  pointwise [val_main_v292, val_main_v291, val_main_v290, val_main_v289, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288]
  fin_vals n with hb
  all_goals simp only [hb, Nat.reduceSub, Nat.reduceLT, ↓reduceDIte]
  · exact st_first N h d e
  · exact state1_apply N H h d e
  · exact state2_apply N H h d e
  · exact state3_apply N H h d e
  · exact state4_apply N H h d e
  · exact state5_apply N H h d e
  · exact state6_apply N H h d e
  · exact state7_apply N H h d e
  · exact state8_apply N H h d e
  · exact state9_apply N H h d e
  · exact state10_apply N H h d e
  · exact state11_apply N H h d e
  · exact state12_apply N H h d e
  · exact state13_apply N H h d e
  · exact state14_apply N H h d e
  · exact state15_apply N H h d e
  · exact state16_apply N H h d e
  · exact state17_apply N H h d e
  · exact state18_apply N H h d e
  · exact state19_apply N H h d e
  · exact state20_apply N H h d e
  · exact state21_apply N H h d e
  · exact state22_apply N H h d e
  · exact state23_apply N H h d e
  · exact state24_apply N H h d e
  · exact state25_apply N H h d e
  · exact state26_apply N H h d e
  · exact state27_apply N H h d e
  · exact state28_apply N H h d e
  · exact state29_apply N H h d e
  · exact state30_apply N H h d e
  · exact state31_apply N H h d e

/-- What has been sent back to every chunk. -/
theorem backs_apply (n : Fin 32) (h : Fin 8) (d : Fin 64) (e : Fin 128) :
    (val_main_v519 (F := Ideal) x0 x1 x2 x3 x4 (ix5 n 0 h d e) : EReal) = ((sb N (31 - n.val) h.val d e : ℝ) : EReal) := by
  pointwise [val_main_v519, val_main_v518, val_main_v517, val_main_v516, val_main_v484, val_main_v485, val_main_v486, val_main_v487, val_main_v488, val_main_v489, val_main_v490, val_main_v491, val_main_v492, val_main_v493, val_main_v494, val_main_v495, val_main_v496, val_main_v497, val_main_v498, val_main_v499, val_main_v500, val_main_v501, val_main_v502, val_main_v503, val_main_v504, val_main_v505, val_main_v506, val_main_v507, val_main_v508, val_main_v509, val_main_v510, val_main_v511, val_main_v512, val_main_v513, val_main_v514, val_main_v515]
  fin_vals n with hb
  all_goals simp only [hb, Nat.reduceSub, Nat.reduceLT, ↓reduceDIte]
  · exact back31_apply N H h d e
  · exact back30_apply N H h d e
  · exact back29_apply N H h d e
  · exact back28_apply N H h d e
  · exact back27_apply N H h d e
  · exact back26_apply N H h d e
  · exact back25_apply N H h d e
  · exact back24_apply N H h d e
  · exact back23_apply N H h d e
  · exact back22_apply N H h d e
  · exact back21_apply N H h d e
  · exact back20_apply N H h d e
  · exact back19_apply N H h d e
  · exact back18_apply N H h d e
  · exact back17_apply N H h d e
  · exact back16_apply N H h d e
  · exact back15_apply N H h d e
  · exact back14_apply N H h d e
  · exact back13_apply N H h d e
  · exact back12_apply N H h d e
  · exact back11_apply N H h d e
  · exact back10_apply N H h d e
  · exact back9_apply N H h d e
  · exact back8_apply N H h d e
  · exact back7_apply N H h d e
  · exact back6_apply N H h d e
  · exact back5_apply N H h d e
  · exact back4_apply N H h d e
  · exact back3_apply N H h d e
  · exact back2_apply N H h d e
  · exact back1_apply N H h d e
  · exact sb_first N h d e

end Cert.ReferenceIdeal.Hand

end
-- ==== Proof.RefGrad.lean ====
/- The reference's three gradients by head and frame: the plain sums over all frames. -/
module

public import proofs.«01_k».proof.Proof.RefWalk

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Pair Cert.KernelIdeal.HostLine Cert.Numbers Cert.Retention

variable (N : Nums) {x0 : FVec Ideal S2048x6656 .bf16} {x1 : IVec S1x2048 32} {x2 : FVec Ideal S32 .f32}
  {x3 : FVec Ideal S8 .f32} {x4 : FVec Ideal S2048x1024 .bf16} (H : Holds N x0 x1 x2 x3 x4)

/-- The gradient of a head's rotated queries. -/
def gq (h i : ℕ) (d : Fin 64) : ℝ := gradQ (N.a h) (kh N h) (vh N h) (oh N h) 2048 i d

/-- The gradient of a head's rotated keys. -/
def gk (h i : ℕ) (d : Fin 64) : ℝ := gradK (N.a h) (qh N h) (vh N h) (oh N h) 2048 i d

/-- The gradient of a head's values. -/
def gv (h i : ℕ) (e : Fin 128) : ℝ := gradV (N.a h) (qh N h) (kh N h) (oh N h) 2048 i e

include H

/-- The scores with their weights. -/
theorem score_apply (n : Fin 32) (h : Fin 8) (r s : Fin 64) :
    (val_main_v74 (F := Ideal) x0 x1 x2 x3 (ix5 0 n h r s) : EReal)
      = (((∑ d, qh N h.val (64 * n.val + r.val) d * kh N h.val (64 * n.val + s.val) d) * decay (N.a h.val) r.val s.val : ℝ) : EReal) := by
  pointwise [val_main_v74, val_main_v73, val_main_v71]
  rw [weight_apply N H, EReal.coe_mul, ← coe_sum]
  congr 1
  refine Finset.sum_congr rfl fun d _ => ?_
  rw [chunkQ_apply N H, chunkK_apply N H, ← EReal.coe_mul]

/-- The cotangents of the scores. -/
theorem dscore_apply (n : Fin 32) (h : Fin 8) (r s : Fin 64) :
    (val_main_v532 (F := Ideal) x0 x3 x4 (ix5 0 n h r s) : EReal)
      = (((∑ e, oh N h.val (64 * n.val + r.val) e * vh N h.val (64 * n.val + s.val) e) * decay (N.a h.val) r.val s.val : ℝ) : EReal) := by
  pointwise [val_main_v532, val_main_v531, val_main_v527, val_main_v526]
  rw [weight_apply N H, EReal.coe_mul, ← coe_sum]
  congr 1
  refine Finset.sum_congr rfl fun e _ => ?_
  rw [chunkO_apply N H, chunkV_apply N H, ← EReal.coe_mul]

theorem gq_apply (n : Fin 32) (r : Fin 64) (h : Fin 8) (d : Fin 64) :
    (val_main_v538 (F := Ideal) x0 x1 x2 x3 x4 (ix5 0 n r h d) : EReal) = ((gq N h.val (64 * n.val + r.val) d : ℝ) : EReal) := by
  unfold gq
  rw [← gradQ_block (N.a h.val) (kh N h.val) (vh N h.val) (oh N h.val) 64 32 n.val r.val (dvd_refl 64) r.isLt n.isLt d]
  pointwise [val_main_v538, val_main_v537, val_main_v536, val_main_v319, val_main_v318, val_main_v315, val_main_v314, val_main_v313]
  rw [add_comm, EReal.coe_add, EReal.coe_mul, begin_apply N H, Finset.sum_range, ← coe_sum, ← coe_sum]
  congr 1
  · refine Finset.sum_congr rfl fun s _ => ?_
    rw [dscore_apply N H, chunkK_apply N H, ← EReal.coe_mul]
  · congr 1
    refine Finset.sum_congr rfl fun e _ => ?_
    rw [chunkO_apply N H, states_apply N H, ← EReal.coe_mul]
    rfl

theorem gk_apply (n : Fin 32) (s : Fin 64) (h : Fin 8) (d : Fin 64) :
    (val_main_v535 (F := Ideal) x0 x1 x2 x3 x4 (ix5 0 n s h d) : EReal) = ((gk N h.val (64 * n.val + s.val) d : ℝ) : EReal) := by
  unfold gk
  rw [← gradK_block (N.a h.val) (qh N h.val) (vh N h.val) (oh N h.val) 64 32 n.val s.val (dvd_refl 64) s.isLt n.isLt d]
  pointwise [val_main_v535, val_main_v534, val_main_v533, val_main_v525, val_main_v524, val_main_v523, val_main_v522]
  rw [add_comm, EReal.coe_add, EReal.coe_mul, end_apply N H, Finset.sum_range, ← coe_sum, ← coe_sum]
  congr 1
  · refine Finset.sum_congr rfl fun r _ => ?_
    rw [dscore_apply N H, chunkQ_apply N H, ← EReal.coe_mul]
  · congr 1
    refine Finset.sum_congr rfl fun e _ => ?_
    rw [chunkV_apply N H, backs_apply N H, ← EReal.coe_mul]
    unfold sb
    rw [mul_comm]

theorem gv_apply (n : Fin 32) (s : Fin 64) (h : Fin 8) (e : Fin 128) :
    (val_main_v530 (F := Ideal) x0 x1 x2 x3 x4 (ix5 0 n s h e) : EReal) = ((gv N h.val (64 * n.val + s.val) e : ℝ) : EReal) := by
  unfold gv
  rw [← gradV_block (N.a h.val) (qh N h.val) (kh N h.val) (oh N h.val) 64 32 n.val s.val (dvd_refl 64) s.isLt n.isLt e]
  pointwise [val_main_v530, val_main_v529, val_main_v528, val_main_v526, val_main_v521, val_main_v520, val_main_v87, val_main_v86]
  rw [add_comm, EReal.coe_add, Finset.sum_range, ← coe_sum, ← coe_sum]
  congr 1
  · refine Finset.sum_congr rfl fun r _ => ?_
    rw [score_apply N H, chunkO_apply N H, ← EReal.coe_mul, mul_comm]
  · refine Finset.sum_congr rfl fun d _ => ?_
    rw [chunkK_apply N H, end_apply N H, backs_apply N H, ← EReal.coe_mul, ← EReal.coe_mul]
    unfold sb
    rw [mul_comm]

/-! The same by frame. -/

theorem frameQ_apply (i : Fin 2048) (h : Fin 8) (d : Fin 64) :
    (val_main_v541 (F := Ideal) x0 x1 x2 x3 x4 (ix4 0 i h d) : EReal) = ((gq N h.val i.val d : ℝ) : EReal) := by
  pointwise [val_main_v541]
  rw [gq_apply N H]
  show ((gq N h.val (64 * (i.val / 64) + i.val % 64) d : ℝ) : EReal) = _
  rw [Nat.div_add_mod]

theorem frameK_apply (i : Fin 2048) (h : Fin 8) (d : Fin 64) :
    (val_main_v543 (F := Ideal) x0 x1 x2 x3 x4 (ix4 0 i h d) : EReal) = ((gk N h.val i.val d * (1 / 8) : ℝ) : EReal) := by
  pointwise [val_main_v543, val_main_v542, val_main_v540, val_main_cst_8]
  rw [gk_apply N H, ofBits_eighth, ← EReal.coe_mul]
  show ((gk N h.val (64 * (i.val / 64) + i.val % 64) d * (1 / 8) : ℝ) : EReal) = _
  rw [Nat.div_add_mod]

theorem frameV_apply (i : Fin 2048) (h : Fin 8) (e : Fin 128) :
    (val_main_v539 (F := Ideal) x0 x1 x2 x3 x4 (ix4 0 i h e) : EReal) = ((gv N h.val i.val e : ℝ) : EReal) := by
  pointwise [val_main_v539]
  rw [gv_apply N H]
  show ((gv N h.val (64 * (i.val / 64) + i.val % 64) e : ℝ) : EReal) = _
  rw [Nat.div_add_mod]

/-! The rotary map's transpose. -/

/-- The transpose of the rotary map on a head. -/
def backTurn (g : Fin 64 → ℝ) (i : ℕ) (d : Fin 64) : ℝ :=
  if h : d.val < 32 then
    g ⟨32 + d.val, by omega⟩ * Real.sin (N.ang i d.val) + g d * Real.cos (N.ang i d.val)
  else g d * Real.cos (N.ang i (d.val - 32)) + -g ⟨d.val - 32, by omega⟩ * Real.sin (N.ang i (d.val - 32))

theorem backK_apply (i : Fin 2048) (h : Fin 8) (d : Fin 64) :
    (val_main_v559 (F := Ideal) x0 x1 x2 x3 x4 (ix4 0 i h d) : EReal)
      = ((backTurn N (fun d => gk N h.val i.val d * (1 / 8)) i.val d : ℝ) : EReal) := by
  pointwise [val_main_v559, val_main_v558, val_main_v557, val_main_v556, val_main_v555, val_main_v554, val_main_v553, val_main_v552,
    val_main_v551, val_main_v550, val_main_v549, val_main_v548, val_main_v547, val_main_v546, val_main_v545, val_main_v544,
    val_main_cst_9, val_main_cst_10]
  have hd := d.isLt
  unfold backTurn
  by_cases hlt : d.val < 32
  · rw [dif_neg (by omega), dif_pos hlt, dif_pos hlt, frameK_apply N H, frameK_apply N H, sin_apply' N H, cos_apply' N H,
      ← EReal.coe_mul, ← EReal.coe_mul, ← EReal.coe_add, zero_add]
  · have e : ∀ q, (⟨32 + (d.val - 32), q⟩ : Fin 64) = d := fun q => Fin.ext (by show 32 + (d.val - 32) = d.val; omega)
    rw [dif_pos (by omega), dif_neg hlt, dif_neg hlt, e, frameK_apply N H, frameK_apply N H, sin_apply' N H, cos_apply' N H,
      ← EReal.coe_neg, ← EReal.coe_mul, ← EReal.coe_mul, ← EReal.coe_add, add_zero]

theorem backQ_apply (i : Fin 2048) (h : Fin 8) (d : Fin 64) :
    (val_main_v575 (F := Ideal) x0 x1 x2 x3 x4 (ix4 0 i h d) : EReal)
      = ((backTurn N (gq N h.val i.val) i.val d : ℝ) : EReal) := by
  pointwise [val_main_v575, val_main_v574, val_main_v573, val_main_v572, val_main_v571, val_main_v570, val_main_v569, val_main_v568,
    val_main_v567, val_main_v566, val_main_v565, val_main_v564, val_main_v563, val_main_v562, val_main_v561, val_main_v560,
    val_main_cst_11, val_main_cst_12]
  have hd := d.isLt
  unfold backTurn
  by_cases hlt : d.val < 32
  · rw [dif_neg (by omega), dif_pos hlt, dif_pos hlt, frameQ_apply N H, frameQ_apply N H, sin_apply N H, cos_apply N H,
      ← EReal.coe_mul, ← EReal.coe_mul, ← EReal.coe_add, zero_add]
  · have e : ∀ q, (⟨32 + (d.val - 32), q⟩ : Fin 64) = d := fun q => Fin.ext (by show 32 + (d.val - 32) = d.val; omega)
    rw [dif_pos (by omega), dif_neg hlt, dif_neg hlt, e, frameQ_apply N H, frameQ_apply N H, sin_apply N H, cos_apply N H,
      ← EReal.coe_neg, ← EReal.coe_mul, ← EReal.coe_mul, ← EReal.coe_add, add_zero]

end Cert.ReferenceIdeal.Hand

end
-- ==== Proof.Block.lean ====
/- One grid point of the kernel: what it leaves in its output block and in the two scratches it carries.

   The points walk the blocks from the last to the first; point `t` works on block `7 - t`. `Reads` says what the
   point's input blocks hold. The first point fills the masks and starts from nothing sent back; each later point reads
   both scratches as the point before left them. -/
module

public import proofs.«01_k».proof.Proof.Gen.KernelIdeal.Value
public import proofs.«01_k».proof.Proof.Pair
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.KernelIdeal.Pair Cert.Retention

variable (m : (ℓ : Loc nD τ sig) → Buf (Elt Ideal) ℓ) (D : Data)

/-- What the input blocks of point `t` hold. -/
structure Reads (c : Dev nD) (t : Fin cfg0.N) : Prop where
  lg : ∀ h : Fin 8, (iblk m c 0 t : Vec Ideal S8 .f32) (ix1 h) = (D.a h.val : EReal)
  q : ∀ (r : Fin 256) (j : Fin 512), (iblk m c 1 t : Vec Ideal S256x512 .bf16) (ix2 r j) = (D.q (256 * (7 - t.val) + r.val) j.val : EReal)
  k : ∀ (r : Fin 256) (j : Fin 512), (iblk m c 2 t : Vec Ideal S256x512 .bf16) (ix2 r j) = (D.k (256 * (7 - t.val) + r.val) j.val : EReal)
  v : ∀ (r : Fin 256) (j : Fin 1024), (X0_3 m c t : Vec Ideal S256x1024 .bf16) (ix2 r j) = (D.v (256 * (7 - t.val) + r.val) j.val : EReal)
  cos : ∀ (r : Fin 256) (l : Fin 128), (iblk m c 4 t : Vec Ideal S256x128 .f32) (ix2 r l) = (D.c (256 * (7 - t.val) + r.val) l : EReal)
  sin : ∀ (r : Fin 256) (l : Fin 128), (iblk m c 5 t : Vec Ideal S256x128 .f32) (ix2 r l) = (D.s (256 * (7 - t.val) + r.val) l : EReal)
  o : ∀ (r : Fin 256) (j : Fin 1024), (iblk m c 6 t : Vec Ideal S256x1024 .bf16) (ix2 r j) = (D.o (256 * (7 - t.val) + r.val) j.val : EReal)
  st : ∀ (p : Fin 4) (h : Fin 2) (l e : Fin 128), (iblk m c 7 t : Vec Ideal S4x1x2x128x128 .f32) (ix5 p 0 h l e)
    = (D.S p.val h.val (7 - t.val) l e : EReal)

/-- The gradient at a frame and a column of the result: the queries' 512 columns, the keys' 512, the values' 1024. -/
def grad (i j : ℕ) : ℝ :=
  if j < 512 then D.back (D.dQ (j / 128)) i ⟨j % 128, Nat.mod_lt _ (by norm_num)⟩
  else if j < 1024 then D.back (D.dK ((j - 512) / 128)) i ⟨j % 128, Nat.mod_lt _ (by norm_num)⟩
  else D.dV ((j - 1024) / 256) ((j - 1024) / 128 % 2) i ⟨j % 128, Nat.mod_lt _ (by norm_num)⟩

/-- What a point's carried scratches hold once `n` blocks are done. -/
structure Carried (g : Vec Ideal S4x2x128x128 .f32) (mk : Vec Ideal S8x256x256 .f32) (n : ℕ) : Prop where
  g : ∀ (p : Fin 4) (h : Fin 2) (l e : Fin 128), g (ix4 p h l e) = (D.G p.val h.val n l e : EReal)
  masks : ∀ (h : Fin 8) (r s : Fin 256), mk (ix3 h r s) = ((decay (D.a h.val) r.val s.val : ℝ) : EReal)

theorem N_eq : cfg0.N = 8 := by decide +kernel

theorem ld_cols {w : ℕ} (hw : 128 ≤ w) (X : Vec Ideal ⟨2, ![256, w]⟩ .bf16) (x : ℕ → ℕ → ℝ) (n o : ℕ)
    (hX : ∀ (r : Fin 256) (j : Fin w), X (ix2 r j) = (x (n + r.val) j.val : EReal))
    (inb : ∀ a, (![0, o] : Fin 2 → ℕ) a + (![256, 128] : Fin 2 → ℕ) a ≤ (⟨2, ![256, w]⟩ : Shape).size a) (r : Fin 256) (l : Fin 128) :
    View.ld X (Rect.unit ![0, o] ![256, 128] inb) (ix2 r l) = ((x (n + r.val) (o + l.val) : ℝ) : EReal) := by
  have h1 : o + 128 ≤ w := inb 1
  refine Eq.trans ?_ (hX r ⟨o + l.val, by omega⟩)
  refine congrArg X ?_
  funext a
  fin_cases a
  · apply Fin.ext; show 0 + 1 * r.val = r.val; omega
  · apply Fin.ext; show o + 1 * l.val = o + l.val; omega

theorem ld_rate (X : Vec Ideal S8 .f32) (hX : ∀ h : Fin 8, X (ix1 h) = (D.a h.val : EReal)) (o : ℕ)
    (inb : ∀ a, (![o] : Fin 1 → ℕ) a + (![1] : Fin 1 → ℕ) a ≤ S8.size a) (z) :
    View.ld X (Rect.unit ![o] ![1] inb) (Shape.Idx.first z) = (D.a o : EReal) := by
  have h1 : o + 1 ≤ 8 := inb 0
  refine Eq.trans ?_ (hX ⟨o, by omega⟩)
  refine congrArg X ?_
  funext a
  fin_cases a
  apply Fin.ext; show o + 0 * 1 = o; omega

theorem ld_mask (X : Vec Ideal S8x256x256 .f32) (x : ℕ → ℕ → ℕ → ℝ)
    (hX : ∀ (h : Fin 8) (r s : Fin 256), X (ix3 h r s) = (x h.val r.val s.val : EReal)) (o : ℕ)
    (inb : ∀ a, (![o, 0, 0] : Fin 3 → ℕ) a + (![1, 256, 256] : Fin 3 → ℕ) a ≤ S8x256x256.size a) (r s : Fin 256) :
    View.ld X (Rect.unit ![o, 0, 0] ![1, 256, 256] inb) (ix3 0 r s) = ((x o r.val s.val : ℝ) : EReal) := by
  have h1 : o + 1 ≤ 8 := inb 0
  refine Eq.trans ?_ (hX ⟨o, by omega⟩ r s)
  refine congrArg X ?_
  funext a
  fin_cases a
  · apply Fin.ext; show o + 0 * 1 = o; omega
  · apply Fin.ext; show 0 + 1 * r.val = r.val; omega
  · apply Fin.ext; show 0 + 1 * s.val = s.val; omega

theorem ld_sent (X : Vec Ideal S4x2x128x128 .f32) (x : ℕ → ℕ → Fin 128 → Fin 128 → ℝ)
    (hX : ∀ (p : Fin 4) (h : Fin 2) (l e : Fin 128), X (ix4 p h l e) = (x p.val h.val l e : EReal)) (o o' : ℕ)
    (inb : ∀ a, (![o, o', 0, 0] : Fin 4 → ℕ) a + (![1, 1, 128, 128] : Fin 4 → ℕ) a ≤ S4x2x128x128.size a) (l e : Fin 128) :
    View.ld X (Rect.unit ![o, o', 0, 0] ![1, 1, 128, 128] inb) (ix4 0 0 l e) = ((x o o' l e : ℝ) : EReal) := by
  have h1 : o + 1 ≤ 4 := inb 0
  have h2 : o' + 1 ≤ 2 := inb 1
  refine Eq.trans ?_ (hX ⟨o, by omega⟩ ⟨o', by omega⟩ l e)
  refine congrArg X ?_
  funext a
  fin_cases a
  · apply Fin.ext; show o + 0 * 1 = o; omega
  · apply Fin.ext; show o' + 0 * 1 = o'; omega
  · apply Fin.ext; show 0 + 1 * l.val = l.val; omega
  · apply Fin.ext; show 0 + 1 * e.val = e.val; omega

theorem ld_saved (X : Vec Ideal S4x1x2x128x128 .f32) (x : ℕ → ℕ → Fin 128 → Fin 128 → ℝ)
    (hX : ∀ (p : Fin 4) (h : Fin 2) (l e : Fin 128), X (ix5 p 0 h l e) = (x p.val h.val l e : EReal)) (o o' : ℕ)
    (inb : ∀ a, (![o, 0, o', 0, 0] : Fin 5 → ℕ) a + (![1, 1, 1, 128, 128] : Fin 5 → ℕ) a ≤ S4x1x2x128x128.size a) (l e : Fin 128) :
    View.ld X (Rect.unit ![o, 0, o', 0, 0] ![1, 1, 1, 128, 128] inb) (ix5 0 0 0 l e) = ((x o o' l e : ℝ) : EReal) := by
  have h1 : o + 1 ≤ 4 := inb 0
  have h2 : o' + 1 ≤ 2 := inb 2
  refine Eq.trans ?_ (hX ⟨o, by omega⟩ ⟨o', by omega⟩ l e)
  refine congrArg X ?_
  funext a
  fin_cases a
  · apply Fin.ext; show o + 0 * 1 = o; omega
  · rfl
  · apply Fin.ext; show o' + 0 * 1 = o'; omega
  · apply Fin.ext; show 0 + 1 * l.val = l.val; omega
  · apply Fin.ext; show 0 + 1 * e.val = e.val; omega

theorem grad_q (i p : ℕ) (l : Fin 128) (hp : p < 4) : grad D i (128 * p + l.val) = D.back (D.dQ p) i l := by
  have h1 : (128 * p + l.val) / 128 = p := by omega
  have h2 : (128 * p + l.val) % 128 = l.val := by omega
  unfold grad
  rw [if_pos (by omega), h1]
  congr 1
  exact Fin.ext h2

theorem grad_k (i p : ℕ) (l : Fin 128) (hp : p < 4) : grad D i (512 + 128 * p + l.val) = D.back (D.dK p) i l := by
  have h1 : (512 + 128 * p + l.val - 512) / 128 = p := by omega
  have h2 : (512 + 128 * p + l.val) % 128 = l.val := by omega
  unfold grad
  rw [if_neg (by omega), if_pos (by omega), h1]
  congr 1
  exact Fin.ext h2

theorem grad_v (i p h : ℕ) (l : Fin 128) (hp : p < 4) (hh : h < 2) :
    grad D i (1024 + 256 * p + 128 * h + l.val) = D.dV p h i l := by
  have h1 : (1024 + 256 * p + 128 * h + l.val - 1024) / 256 = p := by omega
  have h3 : (1024 + 256 * p + 128 * h + l.val - 1024) / 128 % 2 = h := by omega
  have h2 : (1024 + 256 * p + 128 * h + l.val) % 128 = l.val := by omega
  unfold grad
  rw [if_neg (by omega), if_neg (by omega), h1, h3]
  congr 1
  exact Fin.ext h2

theorem grad_q0 (i : ℕ) (l : Fin 128) : grad D i l.val = D.back (D.dQ 0) i l := by
  rw [← grad_q D i 0 l (by norm_num), mul_zero, zero_add]

/-- There are eight points. -/
theorem t_lt (t : Fin cfg0.N) : t.val < 8 := N_eq ▸ t.isLt

set_option maxHeartbeats 400000 in
/-- The output block of a point after the first. -/
theorem outB (c : Dev nD) (t : Fin cfg0.N) (h : ¬ t.val % 8 = 0) (hR : Reads m D c t)
    (hC : Carried D (outsAt0 m c (t.val - 1) (lt_of_le_of_lt (Nat.sub_le _ _) t.isLt)).2.1
      (outsAt0 m c (t.val - 1) (lt_of_le_of_lt (Nat.sub_le _ _) t.isLt)).2.2 t.val) (y : S256x2048.Idx) :
    (outsAt0 m c t.val t.isLt).1 y = ((grad D (256 * (7 - t.val) + (y 0).val) (y 1).val : ℝ) : EReal) := by
  have ht : t.val < 8 := t_lt t
  have hb : 7 - t.val < 8 := by omega
  have hg : ∀ g : Vec Ideal S4x2x128x128 .f32,
      (∀ (p : Fin 4) (h : Fin 2) (l e : Fin 128), g (ix4 p h l e) = (D.G p.val h.val t.val l e : EReal)) →
      ∀ (p : Fin 4) (h : Fin 2) (l e : Fin 128), g (ix4 p h l e) = (D.G p.val h.val (7 - (7 - t.val)) l e : EReal) := by
    rw [show 7 - (7 - t.val) = t.val by omega]
    exact fun _ h => h
  rw [outsAt0_B m c t h]
  frame_out
  simp only [read_unread_whole]
  canon_tiles x h
  case piece0 =>
    rw [h0, h1]
    idx_vars x
    exact Eq.trans (b := pairK (F := Ideal) _ _ _ _ _ _ _ _ _ _ _ _ _ _) rfl ((pairK_apply D 3 (7 - t.val) _ _ _ hR.cos hR.sin (ld_cols (by norm_num) _ D.q _ _ hR.q _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) (hg _ hC.g) _ _ _) (ld_sent _ (fun p h => D.G p h (7 - (7 - t.val))) (hg _ hC.g) _ _ _) hb _ _).trans (congrArg _ (grad_k D _ 3 _ (by norm_num)).symm))
  case piece1 =>
    rw [h0, h1]
    idx_vars x
    exact Eq.trans (b := pairQ (F := Ideal) _ _ _ _ _ _ _ _ _ _ _ _ _ _) rfl ((pairQ_apply D 3 (7 - t.val) _ _ _ hR.cos hR.sin (ld_cols (by norm_num) _ D.k _ _ hR.k _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 3 _ (by norm_num)).symm))
  case piece2 =>
    rw [h0, h1]
    idx_vars x
    exact Eq.trans (b := pairV (F := Ideal) _ _ _ _ _ _ _ _ _ _) rfl ((pairV_apply D 3 (7 - t.val) _ _ _ _ hR.cos hR.sin (ld_cols (by norm_num) _ D.q _ _ hR.q _) (ld_cols (by norm_num) _ D.k _ _ hR.k _) hb 1 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 3 1 _ (by norm_num) (by norm_num)).symm))
  case piece3 =>
    rw [h0, h1]
    idx_vars x
    exact Eq.trans (b := pairV (F := Ideal) _ _ _ _ _ _ _ _ _ _) rfl ((pairV_apply D 3 (7 - t.val) _ _ _ _ hR.cos hR.sin (ld_cols (by norm_num) _ D.q _ _ hR.q _) (ld_cols (by norm_num) _ D.k _ _ hR.k _) hb 0 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 3 0 _ (by norm_num) (by norm_num)).symm))
  case piece4 =>
    rw [h0, h1]
    idx_vars x
    exact Eq.trans (b := pairK (F := Ideal) _ _ _ _ _ _ _ _ _ _ _ _ _ _) rfl ((pairK_apply D 2 (7 - t.val) _ _ _ hR.cos hR.sin (ld_cols (by norm_num) _ D.q _ _ hR.q _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) (hg _ hC.g) _ _ _) (ld_sent _ (fun p h => D.G p h (7 - (7 - t.val))) (hg _ hC.g) _ _ _) hb _ _).trans (congrArg _ (grad_k D _ 2 _ (by norm_num)).symm))
  case piece5 =>
    rw [h0, h1]
    idx_vars x
    exact Eq.trans (b := pairQ (F := Ideal) _ _ _ _ _ _ _ _ _ _ _ _ _ _) rfl ((pairQ_apply D 2 (7 - t.val) _ _ _ hR.cos hR.sin (ld_cols (by norm_num) _ D.k _ _ hR.k _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 2 _ (by norm_num)).symm))
  case piece6 =>
    rw [h0, h1]
    idx_vars x
    exact Eq.trans (b := pairV (F := Ideal) _ _ _ _ _ _ _ _ _ _) rfl ((pairV_apply D 2 (7 - t.val) _ _ _ _ hR.cos hR.sin (ld_cols (by norm_num) _ D.q _ _ hR.q _) (ld_cols (by norm_num) _ D.k _ _ hR.k _) hb 1 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 2 1 _ (by norm_num) (by norm_num)).symm))
  case piece7 =>
    rw [h0, h1]
    idx_vars x
    exact Eq.trans (b := pairV (F := Ideal) _ _ _ _ _ _ _ _ _ _) rfl ((pairV_apply D 2 (7 - t.val) _ _ _ _ hR.cos hR.sin (ld_cols (by norm_num) _ D.q _ _ hR.q _) (ld_cols (by norm_num) _ D.k _ _ hR.k _) hb 0 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 2 0 _ (by norm_num) (by norm_num)).symm))
  case piece8 =>
    rw [h0, h1]
    idx_vars x
    exact Eq.trans (b := pairK (F := Ideal) _ _ _ _ _ _ _ _ _ _ _ _ _ _) rfl ((pairK_apply D 1 (7 - t.val) _ _ _ hR.cos hR.sin (ld_cols (by norm_num) _ D.q _ _ hR.q _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) (hg _ hC.g) _ _ _) (ld_sent _ (fun p h => D.G p h (7 - (7 - t.val))) (hg _ hC.g) _ _ _) hb _ _).trans (congrArg _ (grad_k D _ 1 _ (by norm_num)).symm))
  case piece9 =>
    rw [h0, h1]
    idx_vars x
    exact Eq.trans (b := pairQ (F := Ideal) _ _ _ _ _ _ _ _ _ _ _ _ _ _) rfl ((pairQ_apply D 1 (7 - t.val) _ _ _ hR.cos hR.sin (ld_cols (by norm_num) _ D.k _ _ hR.k _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 1 _ (by norm_num)).symm))
  case piece10 =>
    rw [h0, h1]
    idx_vars x
    exact Eq.trans (b := pairV (F := Ideal) _ _ _ _ _ _ _ _ _ _) rfl ((pairV_apply D 1 (7 - t.val) _ _ _ _ hR.cos hR.sin (ld_cols (by norm_num) _ D.q _ _ hR.q _) (ld_cols (by norm_num) _ D.k _ _ hR.k _) hb 1 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 1 1 _ (by norm_num) (by norm_num)).symm))
  case piece11 =>
    rw [h0, h1]
    idx_vars x
    exact Eq.trans (b := pairV (F := Ideal) _ _ _ _ _ _ _ _ _ _) rfl ((pairV_apply D 1 (7 - t.val) _ _ _ _ hR.cos hR.sin (ld_cols (by norm_num) _ D.q _ _ hR.q _) (ld_cols (by norm_num) _ D.k _ _ hR.k _) hb 0 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 1 0 _ (by norm_num) (by norm_num)).symm))
  case piece12 =>
    rw [h0, h1]
    idx_vars x
    exact Eq.trans (b := pairK (F := Ideal) _ _ _ _ _ _ _ _ _ _ _ _ _ _) rfl ((pairK_apply D 0 (7 - t.val) _ _ _ hR.cos hR.sin (ld_cols (by norm_num) _ D.q _ _ hR.q _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) (hg _ hC.g) _ _ _) (ld_sent _ (fun p h => D.G p h (7 - (7 - t.val))) (hg _ hC.g) _ _ _) hb _ _).trans (congrArg _ (grad_k D _ 0 _ (by norm_num)).symm))
  case piece13 =>
    rw [h0, h1]
    idx_vars x
    exact Eq.trans (b := pairQ (F := Ideal) _ _ _ _ _ _ _ _ _ _ _ _ _ _) rfl ((pairQ_apply D 0 (7 - t.val) _ _ _ hR.cos hR.sin (ld_cols (by norm_num) _ D.k _ _ hR.k _) _ _ _ _ _ _ _ _ _ _ (ld_rate D _ hR.lg _ _ _) (ld_rate D _ hR.lg _ _ _) (ld_mask _ (fun h r s => decay (D.a h) r s) hC.masks _ _) (ld_mask _ (fun h r s => decay (D.a h) r s) hC.masks _ _) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q0 D _ _).symm))
  case piece14 =>
    rw [h0, h1]
    idx_vars x
    exact Eq.trans (b := pairV (F := Ideal) _ _ _ _ _ _ _ _ _ _) rfl ((pairV_apply D 0 (7 - t.val) _ _ _ _ hR.cos hR.sin (ld_cols (by norm_num) _ D.q _ _ hR.q _) (ld_cols (by norm_num) _ D.k _ _ hR.k _) hb 1 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 0 1 _ (by norm_num) (by norm_num)).symm))
  case piece15 =>
    rw [h0, h1]
    idx_vars x
    exact Eq.trans (b := pairV (F := Ideal) _ _ _ _ _ _ _ _ _ _) rfl ((pairV_apply D 0 (7 - t.val) _ _ _ _ hR.cos hR.sin (ld_cols (by norm_num) _ D.q _ _ hR.q _) (ld_cols (by norm_num) _ D.k _ _ hR.k _) hb 0 _ _ _ _ (ld_rate D _ hR.lg _ _ _) (ld_mask _ (fun h r s => decay (D.a h) r s) hC.masks _ _) (ld_cols (by norm_num) _ D.o _ _ hR.o _) (ld_sent _ (fun p h => D.G p h (7 - (7 - t.val))) (hg _ hC.g) _ _ _) _ _).trans (congrArg _ (grad_v D _ 0 0 _ (by norm_num) (by norm_num)).symm))

/-- A store under stores that cover the place is not read there. -/
theorem canon_drop {S : Shape} {e : EltTy} (p : View.Piece (Elt Ideal) S e) : ∀ (L : List (View.Piece (Elt Ideal) S e)) (y : S.Idx),
    (∃ q ∈ L, y ∈ q.1.set) → View.canon (L ++ [p]) y = View.canon L y
  | [], y, h => by
    obtain ⟨q, hq, _⟩ := h
    exact absurd hq List.not_mem_nil
  | q :: L, y, h => by
    by_cases hm : y ∈ q.1.set
    · obtain ⟨x, rfl⟩ := q.1.exists_idx_of_mem hm
      rw [List.cons_append, show q.1.idx x = q.1.emb x from rfl, View.canon_cons_emb, View.canon_cons_emb]
    · rw [List.cons_append, View.canon_cons_of_not_mem _ _ hm, View.canon_cons_of_not_mem _ _ hm]
      refine canon_drop p L y ?_
      obtain ⟨r, hr, hy⟩ := h
      rcases List.mem_cons.mp hr with rfl | hr
      · exact absurd hy hm
      · exact ⟨r, hr, hy⟩

/-- Before the first point nothing has been sent back. -/
theorem zero_sent (t : ℕ) (h : t % 8 = 0) (ht : t < 8) (p : Fin 4) (h' : Fin 2) (l e : Fin 128) :
    k0_pay1 (F := Ideal) (ix4 p h' l e) = (D.G p.val h'.val (7 - (7 - t)) l e : EReal) := by
  obtain rfl : t = 0 := by omega
  pointwise [k0_pay1]
  exact EReal.coe_zero.symm

set_option maxHeartbeats 400000 in
/-- What a point after the first leaves to be sent back. -/
theorem sentB (c : Dev nD) (t : Fin cfg0.N) (h : ¬ t.val % 8 = 0) (hR : Reads m D c t)
    (hC : Carried D (outsAt0 m c (t.val - 1) (lt_of_le_of_lt (Nat.sub_le _ _) t.isLt)).2.1
      (outsAt0 m c (t.val - 1) (lt_of_le_of_lt (Nat.sub_le _ _) t.isLt)).2.2 t.val) (y : S4x2x128x128.Idx) :
    (outsAt0 m c t.val t.isLt).2.1 y = ((D.G (y 0).val (y 1).val (t.val + 1) (y 2) (y 3) : ℝ) : EReal) := by
  have ht : t.val < 8 := t_lt t
  have hn : 7 - (7 - t.val) + 1 = t.val + 1 := by omega
  have hg : ∀ g : Vec Ideal S4x2x128x128 .f32,
      (∀ (p : Fin 4) (h : Fin 2) (l e : Fin 128), g (ix4 p h l e) = (D.G p.val h.val t.val l e : EReal)) →
      ∀ (p : Fin 4) (h : Fin 2) (l e : Fin 128), g (ix4 p h l e) = (D.G p.val h.val (7 - (7 - t.val)) l e : EReal) := by
    rw [show 7 - (7 - t.val) = t.val by omega]
    exact fun _ h => h
  rw [outsAt0_B m c t h]
  frame_out
  simp only [read_unread_whole]
  canon_tiles x h
  case piece0 =>
    have e2 : (y 2 : Fin 128) = x 2 := Fin.ext h2
    have e3 : (y 3 : Fin 128) = x 3 := Fin.ext h3
    rw [show (y 0).val = 3 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 3 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) (hg _ hC.g) _ _ _) _ _)
  case piece1 =>
    have e2 : (y 2 : Fin 128) = x 2 := Fin.ext h2
    have e3 : (y 3 : Fin 128) = x 3 := Fin.ext h3
    rw [show (y 0).val = 3 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 3 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) (hg _ hC.g) _ _ _) _ _)
  case piece2 =>
    have e2 : (y 2 : Fin 128) = x 2 := Fin.ext h2
    have e3 : (y 3 : Fin 128) = x 3 := Fin.ext h3
    rw [show (y 0).val = 2 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 2 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) (hg _ hC.g) _ _ _) _ _)
  case piece3 =>
    have e2 : (y 2 : Fin 128) = x 2 := Fin.ext h2
    have e3 : (y 3 : Fin 128) = x 3 := Fin.ext h3
    rw [show (y 0).val = 2 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 2 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) (hg _ hC.g) _ _ _) _ _)
  case piece4 =>
    have e2 : (y 2 : Fin 128) = x 2 := Fin.ext h2
    have e3 : (y 3 : Fin 128) = x 3 := Fin.ext h3
    rw [show (y 0).val = 1 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 1 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) (hg _ hC.g) _ _ _) _ _)
  case piece5 =>
    have e2 : (y 2 : Fin 128) = x 2 := Fin.ext h2
    have e3 : (y 3 : Fin 128) = x 3 := Fin.ext h3
    rw [show (y 0).val = 1 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 1 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) (hg _ hC.g) _ _ _) _ _)
  case piece6 =>
    have e2 : (y 2 : Fin 128) = x 2 := Fin.ext h2
    have e3 : (y 3 : Fin 128) = x 3 := Fin.ext h3
    rw [show (y 0).val = 0 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 0 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) (hg _ hC.g) _ _ _) _ _)
  case piece7 =>
    have e2 : (y 2 : Fin 128) = x 2 := Fin.ext h2
    have e3 : (y 3 : Fin 128) = x 3 := Fin.ext h3
    rw [show (y 0).val = 0 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 0 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) (hg _ hC.g) _ _ _) _ _)

set_option maxHeartbeats 400000 in
/-- The output block of the first point. -/
theorem outA (c : Dev nD) (t : Fin cfg0.N) (h : t.val % 8 = 0) (hR : Reads m D c t) (y : S256x2048.Idx) :
    (outsAt0 m c t.val t.isLt).1 y = ((grad D (256 * (7 - t.val) + (y 0).val) (y 1).val : ℝ) : EReal) := by
  have ht : t.val < 8 := t_lt t
  have hb : 7 - t.val < 8 := by omega
  have hz := zero_sent D t.val h ht
  rw [outsAt0_A m c t h]
  frame_out
  simp (discharger := decide +kernel) only [↓View.readCov_skip, ↓View.readCov_fill, View.readCov_cons_toLoadRect]
  canon_tiles x h
  case piece0 =>
    rw [h0, h1]
    idx_vars x
    exact Eq.trans (b := pairK (F := Ideal) _ _ _ _ _ _ _ _ _ _ _ _ _ _) rfl ((pairK_apply D 3 (7 - t.val) _ _ _ hR.cos hR.sin (ld_cols (by norm_num) _ D.q _ _ hR.q _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) hz _ _ _) (ld_sent _ (fun p h => D.G p h (7 - (7 - t.val))) hz _ _ _) hb _ _).trans (congrArg _ (grad_k D _ 3 _ (by norm_num)).symm))
  case piece1 =>
    rw [h0, h1]
    idx_vars x
    exact Eq.trans (b := pairQ (F := Ideal) _ _ _ _ _ _ _ _ _ _ _ _ _ _) rfl ((pairQ_apply D 3 (7 - t.val) _ _ _ hR.cos hR.sin (ld_cols (by norm_num) _ D.k _ _ hR.k _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 3 _ (by norm_num)).symm))
  case piece2 =>
    rw [h0, h1]
    idx_vars x
    exact Eq.trans (b := pairV (F := Ideal) _ _ _ _ _ _ _ _ _ _) rfl ((pairV_apply D 3 (7 - t.val) _ _ _ _ hR.cos hR.sin (ld_cols (by norm_num) _ D.q _ _ hR.q _) (ld_cols (by norm_num) _ D.k _ _ hR.k _) hb 1 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 3 1 _ (by norm_num) (by norm_num)).symm))
  case piece3 =>
    rw [h0, h1]
    idx_vars x
    exact Eq.trans (b := pairV (F := Ideal) _ _ _ _ _ _ _ _ _ _) rfl ((pairV_apply D 3 (7 - t.val) _ _ _ _ hR.cos hR.sin (ld_cols (by norm_num) _ D.q _ _ hR.q _) (ld_cols (by norm_num) _ D.k _ _ hR.k _) hb 0 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 3 0 _ (by norm_num) (by norm_num)).symm))
  case piece4 =>
    rw [h0, h1]
    idx_vars x
    exact Eq.trans (b := pairK (F := Ideal) _ _ _ _ _ _ _ _ _ _ _ _ _ _) rfl ((pairK_apply D 2 (7 - t.val) _ _ _ hR.cos hR.sin (ld_cols (by norm_num) _ D.q _ _ hR.q _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) hz _ _ _) (ld_sent _ (fun p h => D.G p h (7 - (7 - t.val))) hz _ _ _) hb _ _).trans (congrArg _ (grad_k D _ 2 _ (by norm_num)).symm))
  case piece5 =>
    rw [h0, h1]
    idx_vars x
    exact Eq.trans (b := pairQ (F := Ideal) _ _ _ _ _ _ _ _ _ _ _ _ _ _) rfl ((pairQ_apply D 2 (7 - t.val) _ _ _ hR.cos hR.sin (ld_cols (by norm_num) _ D.k _ _ hR.k _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 2 _ (by norm_num)).symm))
  case piece6 =>
    rw [h0, h1]
    idx_vars x
    exact Eq.trans (b := pairV (F := Ideal) _ _ _ _ _ _ _ _ _ _) rfl ((pairV_apply D 2 (7 - t.val) _ _ _ _ hR.cos hR.sin (ld_cols (by norm_num) _ D.q _ _ hR.q _) (ld_cols (by norm_num) _ D.k _ _ hR.k _) hb 1 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 2 1 _ (by norm_num) (by norm_num)).symm))
  case piece7 =>
    rw [h0, h1]
    idx_vars x
    exact Eq.trans (b := pairV (F := Ideal) _ _ _ _ _ _ _ _ _ _) rfl ((pairV_apply D 2 (7 - t.val) _ _ _ _ hR.cos hR.sin (ld_cols (by norm_num) _ D.q _ _ hR.q _) (ld_cols (by norm_num) _ D.k _ _ hR.k _) hb 0 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 2 0 _ (by norm_num) (by norm_num)).symm))
  case piece8 =>
    rw [h0, h1]
    idx_vars x
    exact Eq.trans (b := pairK (F := Ideal) _ _ _ _ _ _ _ _ _ _ _ _ _ _) rfl ((pairK_apply D 1 (7 - t.val) _ _ _ hR.cos hR.sin (ld_cols (by norm_num) _ D.q _ _ hR.q _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) hz _ _ _) (ld_sent _ (fun p h => D.G p h (7 - (7 - t.val))) hz _ _ _) hb _ _).trans (congrArg _ (grad_k D _ 1 _ (by norm_num)).symm))
  case piece9 =>
    rw [h0, h1]
    idx_vars x
    exact Eq.trans (b := pairQ (F := Ideal) _ _ _ _ _ _ _ _ _ _ _ _ _ _) rfl ((pairQ_apply D 1 (7 - t.val) _ _ _ hR.cos hR.sin (ld_cols (by norm_num) _ D.k _ _ hR.k _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q D _ 1 _ (by norm_num)).symm))
  case piece10 =>
    rw [h0, h1]
    idx_vars x
    exact Eq.trans (b := pairV (F := Ideal) _ _ _ _ _ _ _ _ _ _) rfl ((pairV_apply D 1 (7 - t.val) _ _ _ _ hR.cos hR.sin (ld_cols (by norm_num) _ D.q _ _ hR.q _) (ld_cols (by norm_num) _ D.k _ _ hR.k _) hb 1 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 1 1 _ (by norm_num) (by norm_num)).symm))
  case piece11 =>
    rw [h0, h1]
    idx_vars x
    exact Eq.trans (b := pairV (F := Ideal) _ _ _ _ _ _ _ _ _ _) rfl ((pairV_apply D 1 (7 - t.val) _ _ _ _ hR.cos hR.sin (ld_cols (by norm_num) _ D.q _ _ hR.q _) (ld_cols (by norm_num) _ D.k _ _ hR.k _) hb 0 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 1 0 _ (by norm_num) (by norm_num)).symm))
  case piece12 =>
    rw [h0, h1]
    idx_vars x
    exact Eq.trans (b := pairK (F := Ideal) _ _ _ _ _ _ _ _ _ _ _ _ _ _) rfl ((pairK_apply D 0 (7 - t.val) _ _ _ hR.cos hR.sin (ld_cols (by norm_num) _ D.q _ _ hR.q _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_sent _ (fun p h => D.G p h (7 - (7 - t.val))) hz _ _ _) (ld_sent _ (fun p h => D.G p h (7 - (7 - t.val))) hz _ _ _) hb _ _).trans (congrArg _ (grad_k D _ 0 _ (by norm_num)).symm))
  case piece13 =>
    rw [h0, h1]
    idx_vars x
    exact Eq.trans (b := pairQ (F := Ideal) _ _ _ _ _ _ _ _ _ _ _ _ _ _) rfl ((pairQ_apply D 0 (7 - t.val) _ _ _ hR.cos hR.sin (ld_cols (by norm_num) _ D.k _ _ hR.k _) _ _ _ _ _ _ _ _ _ _ (ld_rate D _ hR.lg _ _ _) (ld_rate D _ hR.lg _ _ _) (pairM_apply _ _ (ld_rate D _ hR.lg _ _ _)) (pairM_apply _ _ (ld_rate D _ hR.lg _ _ _)) (ld_cols (by norm_num) _ D.v _ _ hR.v _) (ld_cols (by norm_num) _ D.v _ _ hR.v _) (ld_cols (by norm_num) _ D.o _ _ hR.o _) (ld_cols (by norm_num) _ D.o _ _ hR.o _) (ld_saved _ (fun p h => D.S p h (7 - t.val)) hR.st _ _ _) (ld_saved _ (fun p h => D.S p h (7 - t.val)) hR.st _ _ _) hb _ _).trans (congrArg _ (grad_q0 D _ _).symm))
  case piece14 =>
    rw [h0, h1]
    idx_vars x
    exact Eq.trans (b := pairV (F := Ideal) _ _ _ _ _ _ _ _ _ _) rfl ((pairV_apply D 0 (7 - t.val) _ _ _ _ hR.cos hR.sin (ld_cols (by norm_num) _ D.q _ _ hR.q _) (ld_cols (by norm_num) _ D.k _ _ hR.k _) hb 1 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 0 1 _ (by norm_num) (by norm_num)).symm))
  case piece15 =>
    rw [h0, h1]
    idx_vars x
    exact Eq.trans (b := pairV (F := Ideal) _ _ _ _ _ _ _ _ _ _) rfl ((pairV_apply D 0 (7 - t.val) _ _ _ _ hR.cos hR.sin (ld_cols (by norm_num) _ D.q _ _ hR.q _) (ld_cols (by norm_num) _ D.k _ _ hR.k _) hb 0 _ _ _ _ (ld_rate D _ hR.lg _ _ _) (pairM_apply _ _ (ld_rate D _ hR.lg _ _ _)) (ld_cols (by norm_num) _ D.o _ _ hR.o _) (ld_sent _ (fun p h => D.G p h (7 - (7 - t.val))) hz _ _ _) _ _).trans (congrArg _ (grad_v D _ 0 0 _ (by norm_num) (by norm_num)).symm))

set_option maxHeartbeats 400000 in
/-- What a point that starts the walk leaves to be sent back. -/
theorem sentA (c : Dev nD) (t : Fin cfg0.N) (h : t.val % 8 = 0) (hR : Reads m D c t) (y : S4x2x128x128.Idx) :
    (outsAt0 m c t.val t.isLt).2.1 y = ((D.G (y 0).val (y 1).val (t.val + 1) (y 2) (y 3) : ℝ) : EReal) := by
  have ht : t.val < 8 := t_lt t
  have hn : 7 - (7 - t.val) + 1 = t.val + 1 := by omega
  have hz := zero_sent D t.val h ht
  rw [outsAt0_A m c t h]
  frame_out
  simp (discharger := decide +kernel) only [↓View.readCov_skip, ↓View.readCov_fill, View.readCov_cons_toLoadRect]
  refine (canon_drop _ [_, _, _, _, _, _, _, _] y (View.cover_of_tiled_head _ _ _ (by rfl) y)).trans ?_
  canon_tiles x h
  case piece0 =>
    have e2 : (y 2 : Fin 128) = x 2 := Fin.ext h2
    have e3 : (y 3 : Fin 128) = x 3 := Fin.ext h3
    rw [show (y 0).val = 3 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 3 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) hz _ _ _) _ _)
  case piece1 =>
    have e2 : (y 2 : Fin 128) = x 2 := Fin.ext h2
    have e3 : (y 3 : Fin 128) = x 3 := Fin.ext h3
    rw [show (y 0).val = 3 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 3 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) hz _ _ _) _ _)
  case piece2 =>
    have e2 : (y 2 : Fin 128) = x 2 := Fin.ext h2
    have e3 : (y 3 : Fin 128) = x 3 := Fin.ext h3
    rw [show (y 0).val = 2 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 2 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) hz _ _ _) _ _)
  case piece3 =>
    have e2 : (y 2 : Fin 128) = x 2 := Fin.ext h2
    have e3 : (y 3 : Fin 128) = x 3 := Fin.ext h3
    rw [show (y 0).val = 2 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 2 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) hz _ _ _) _ _)
  case piece4 =>
    have e2 : (y 2 : Fin 128) = x 2 := Fin.ext h2
    have e3 : (y 3 : Fin 128) = x 3 := Fin.ext h3
    rw [show (y 0).val = 1 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 1 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) hz _ _ _) _ _)
  case piece5 =>
    have e2 : (y 2 : Fin 128) = x 2 := Fin.ext h2
    have e3 : (y 3 : Fin 128) = x 3 := Fin.ext h3
    rw [show (y 0).val = 1 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 1 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) hz _ _ _) _ _)
  case piece6 =>
    have e2 : (y 2 : Fin 128) = x 2 := Fin.ext h2
    have e3 : (y 3 : Fin 128) = x 3 := Fin.ext h3
    rw [show (y 0).val = 0 by omega, show (y 1).val = 1 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 0 (7 - t.val) _ _ _ hR.cos hR.sin (ld_cols (by norm_num) _ D.q _ _ hR.q _) (7 - (7 - t.val)) (by omega) 1 _ _ _ (ld_rate D _ hR.lg _ _ _) (ld_cols (by norm_num) _ D.o _ _ hR.o _) (ld_sent _ (fun p h => D.G p h (7 - (7 - t.val))) hz _ _ _) _ _)
  case piece7 =>
    have e2 : (y 2 : Fin 128) = x 2 := Fin.ext h2
    have e3 : (y 3 : Fin 128) = x 3 := Fin.ext h3
    rw [show (y 0).val = 0 by omega, show (y 1).val = 0 by omega, e2, e3, ← hn]
    idx_vars x
    obtain rfl : x0 = 0 := Subsingleton.elim _ _
    obtain rfl : x1 = 0 := Subsingleton.elim _ _
    exact Eq.trans (b := pairG (F := Ideal) _ _ _ _ _ _ _ _) rfl (pairG_apply D 0 (7 - t.val) _ _ _ hR.cos hR.sin (ld_cols (by norm_num) _ D.q _ _ hR.q _) (7 - (7 - t.val)) (by omega) 0 _ _ _ (ld_rate D _ hR.lg _ _ _) (ld_cols (by norm_num) _ D.o _ _ hR.o _) (ld_sent _ (fun p h => D.G p h (7 - (7 - t.val))) hz _ _ _) _ _)

/-- The masks as the first point leaves them. -/
theorem masksA (c : Dev nD) (t : Fin cfg0.N) (h : t.val % 8 = 0) (hR : Reads m D c t) (y : S8x256x256.Idx) :
    (outsAt0 m c t.val t.isLt).2.2 y = ((decay (D.a (y 0).val) (y 1).val (y 2).val : ℝ) : EReal) := by
  rw [outsAt0_A m c t h]
  frame_out
  canon_tiles x h
  case piece0 =>
    rw [show (y 0).val = 7 by omega, h1, h2]
    idx_vars x
    obtain rfl : x0 = 0 := Subsingleton.elim _ _
    exact Eq.trans (b := pairM (F := Ideal) _ _) rfl (pairM_apply _ _ (ld_rate D _ hR.lg _ _ _) _ _)
  case piece1 =>
    rw [show (y 0).val = 6 by omega, h1, h2]
    idx_vars x
    obtain rfl : x0 = 0 := Subsingleton.elim _ _
    exact Eq.trans (b := pairM (F := Ideal) _ _) rfl (pairM_apply _ _ (ld_rate D _ hR.lg _ _ _) _ _)
  case piece2 =>
    rw [show (y 0).val = 5 by omega, h1, h2]
    idx_vars x
    obtain rfl : x0 = 0 := Subsingleton.elim _ _
    exact Eq.trans (b := pairM (F := Ideal) _ _) rfl (pairM_apply _ _ (ld_rate D _ hR.lg _ _ _) _ _)
  case piece3 =>
    rw [show (y 0).val = 4 by omega, h1, h2]
    idx_vars x
    obtain rfl : x0 = 0 := Subsingleton.elim _ _
    exact Eq.trans (b := pairM (F := Ideal) _ _) rfl (pairM_apply _ _ (ld_rate D _ hR.lg _ _ _) _ _)
  case piece4 =>
    rw [show (y 0).val = 3 by omega, h1, h2]
    idx_vars x
    obtain rfl : x0 = 0 := Subsingleton.elim _ _
    exact Eq.trans (b := pairM (F := Ideal) _ _) rfl (pairM_apply _ _ (ld_rate D _ hR.lg _ _ _) _ _)
  case piece5 =>
    rw [show (y 0).val = 2 by omega, h1, h2]
    idx_vars x
    obtain rfl : x0 = 0 := Subsingleton.elim _ _
    exact Eq.trans (b := pairM (F := Ideal) _ _) rfl (pairM_apply _ _ (ld_rate D _ hR.lg _ _ _) _ _)
  case piece6 =>
    rw [show (y 0).val = 1 by omega, h1, h2]
    idx_vars x
    obtain rfl : x0 = 0 := Subsingleton.elim _ _
    exact Eq.trans (b := pairM (F := Ideal) _ _) rfl (pairM_apply _ _ (ld_rate D _ hR.lg _ _ _) _ _)
  case piece7 =>
    rw [show (y 0).val = 0 by omega, h1, h2]
    idx_vars x
    obtain rfl : x0 = 0 := Subsingleton.elim _ _
    exact Eq.trans (b := pairM (F := Ideal) _ _) rfl (pairM_apply _ _ (ld_rate D _ hR.lg _ _ _) _ _)

/-- The masks after the first point: as the point before left them. -/
theorem masksB (c : Dev nD) (t : Fin cfg0.N) (h : ¬ t.val % 8 = 0) :
    (outsAt0 m c t.val t.isLt).2.2 = (outsAt0 m c (t.val - 1) (lt_of_le_of_lt (Nat.sub_le _ _) t.isLt)).2.2 := by
  rw [outsAt0_B m c t h]
  rfl

/-- What each point leaves in the carried scratches. -/
theorem carried (c : Dev nD) (hR : ∀ t, Reads m D c t) : ∀ (n : ℕ) (h : n < cfg0.N),
    Carried D (outsAt0 m c n h).2.1 (outsAt0 m c n h).2.2 (n + 1)
  | 0, h => ⟨fun p h' l e => sentA m D c ⟨0, h⟩ rfl (hR _) (ix4 p h' l e), fun p r s => masksA m D c ⟨0, h⟩ rfl (hR _) (ix3 p r s)⟩
  | n + 1, h => by
    have ih := carried c hR n (by omega)
    have h' : ¬ (n + 1) % 8 = 0 := by
      have := N_eq ▸ h
      omega
    refine ⟨fun p h'' l e => sentB m D c ⟨n + 1, h⟩ h' (hR _) ih (ix4 p h'' l e), fun p r s => ?_⟩
    rw [masksB m c ⟨n + 1, h⟩ h']
    exact ih.masks p r s

/-- Every point's output block holds the gradient at the block's frames. -/
theorem out (c : Dev nD) (hR : ∀ t, Reads m D c t) (t : Fin cfg0.N) (y : S256x2048.Idx) :
    (outsAt0 m c t.val t.isLt).1 y = ((grad D (256 * (7 - t.val) + (y 0).val) (y 1).val : ℝ) : EReal) := by
  by_cases h : t.val % 8 = 0
  · exact outA m D c t h (hR t) y
  · refine outB m D c t h (hR t) ?_ y
    have h2 := carried m D c hR (t.val - 1) (lt_of_le_of_lt (Nat.sub_le _ _) t.isLt)
    rwa [Nat.sub_add_cancel (by omega)] at h2

end Cert.KernelIdeal.Block

end
-- ==== Proof.Blocks.lean ====
/- What the grid points' input blocks hold, and the kernel's whole result. -/
module

public import proofs.«01_k».proof.Proof.Block
public import proofs.«01_k».proof.Proof.HostValues

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.KernelIdeal.Pair Cert.Numbers Cert.Retention Cert.KernelIdeal.HostLine

theorem idx : ∀ t : Fin cfg0.N, win0_0.index t = ![0] ∧ win0_1.index t = ![7 - t.val, 0] ∧ win0_2.index t = ![7 - t.val, 1]
    ∧ win0_4.index t = ![7 - t.val, 0] ∧ win0_5.index t = ![7 - t.val, 0] ∧ win0_6.index t = ![7 - t.val, 0]
    ∧ win0_7.index t = ![0, 7 - t.val, 0, 0, 0] ∧ win0_8.index t = ![7 - t.val, 0] :=
  (by decide +kernel : ∀ t : Fin grid0.N, _)

theorem idx3 : ∀ t : Fin cfg0.N, win0_3.index t = ![7 - t.val, 1] :=
  (by decide +kernel : ∀ t : Fin grid0.N, _)

variable (m : (ℓ : Loc nD τ sig) → Buf (Elt Ideal) ℓ) (c : Dev nD) (t : Fin cfg0.N)

theorem q_block (r : Fin 256) (j : Fin 512) (i : Fin 2048) (k : Fin 6656) (hi : i.val = 256 * (7 - t.val) + r.val) (hk : k.val = j.val) :
    (iblk m c 1 t : Vec Ideal S256x512 .bf16) (ix2 r j) = (V m c main_arg0 : Vec Ideal S2048x6656 .bf16) (ix2 i k) := by
  blk_ext [iblk, idx t]

theorem v_block (r : Fin 256) (j : Fin 1024) (i : Fin 2048) (k : Fin 6656) (hi : i.val = 256 * (7 - t.val) + r.val) (hk : k.val = 1024 + j.val) :
    (X0_3 m c t : Vec Ideal S256x1024 .bf16) (ix2 r j) = (V m c main_arg0 : Vec Ideal S2048x6656 .bf16) (ix2 i k) := by
  unfold X0_3 Pipeline.Window.fill
  rw [dif_pos (moved0_3 t _)]
  blk_ext [iblk, idx3 t]

theorem st_block (p : Fin 4) (h : Fin 2) (l e : Fin 128) (b : Fin 8) (hb : b.val = 7 - t.val) :
    (iblk m c 7 t : Vec Ideal S4x1x2x128x128 .f32) (ix5 p 0 h l e) = (V m c main_v129 : Vec Ideal S4x8x2x128x128 .f32) (ix5 p b h l e) := by
  blk_ext [iblk, idx t]

theorem lg_block (h : Fin 8) :
    (iblk m c 0 t : Vec Ideal S8 .f32) (ix1 h) = (V m c main_arg3 : Vec Ideal S8 .f32) (ix1 h) := by
  blk_ext [iblk, idx t]

theorem k_block (r : Fin 256) (j : Fin 512) (i : Fin 2048) (k : Fin 6656) (hi : i.val = 256 * (7 - t.val) + r.val) (hk : k.val = 512 + j.val) :
    (iblk m c 2 t : Vec Ideal S256x512 .bf16) (ix2 r j) = (V m c main_arg0 : Vec Ideal S2048x6656 .bf16) (ix2 i k) := by
  blk_ext [iblk, idx t]

theorem cos_block (r : Fin 256) (j : Fin 128) (i : Fin 2048) (hi : i.val = 256 * (7 - t.val) + r.val) :
    (iblk m c 4 t : Vec Ideal S256x128 .f32) (ix2 r j) = (V m c main_v11 : Vec Ideal S2048x128 .f32) (ix2 i j) := by
  blk_ext [iblk, idx t]

theorem sin_block (r : Fin 256) (j : Fin 128) (i : Fin 2048) (hi : i.val = 256 * (7 - t.val) + r.val) :
    (iblk m c 5 t : Vec Ideal S256x128 .f32) (ix2 r j) = (V m c main_v14 : Vec Ideal S2048x128 .f32) (ix2 i j) := by
  blk_ext [iblk, idx t]

theorem o_block (r : Fin 256) (j : Fin 1024) (i : Fin 2048) (hi : i.val = 256 * (7 - t.val) + r.val) :
    (iblk m c 6 t : Vec Ideal S256x1024 .bf16) (ix2 r j) = (V m c main_arg4 : Vec Ideal S2048x1024 .bf16) (ix2 i j) := by
  blk_ext [iblk, idx t]

variable (N : Nums) (H : Holds N (m (c, Proc.tc.devRef main_arg0)) (m (c, Proc.tc.devRef main_arg1)) (m (c, Proc.tc.devRef main_arg2))
  (m (c, Proc.tc.devRef main_arg3)) (m (c, Proc.tc.devRef main_arg4)))

include H

omit H in
/-- The stack of eight states. -/
theorem stack_states (z : FVec Ideal S0x1x8x64x128 .f32) (s0 s1 s2 s3 s4 s5 s6 s7 : FVec Ideal S1x8x64x128 .f32)
    (h0 : ∀ (h : Fin 8) (d : Fin 64) (e : Fin 128), s0 (ix4 0 h d e) = ((stateAt N 0 h.val d e : ℝ) : EReal))
    (h1 : ∀ (h : Fin 8) (d : Fin 64) (e : Fin 128), s1 (ix4 0 h d e) = ((stateAt N 1 h.val d e : ℝ) : EReal))
    (h2 : ∀ (h : Fin 8) (d : Fin 64) (e : Fin 128), s2 (ix4 0 h d e) = ((stateAt N 2 h.val d e : ℝ) : EReal))
    (h3 : ∀ (h : Fin 8) (d : Fin 64) (e : Fin 128), s3 (ix4 0 h d e) = ((stateAt N 3 h.val d e : ℝ) : EReal))
    (h4 : ∀ (h : Fin 8) (d : Fin 64) (e : Fin 128), s4 (ix4 0 h d e) = ((stateAt N 4 h.val d e : ℝ) : EReal))
    (h5 : ∀ (h : Fin 8) (d : Fin 64) (e : Fin 128), s5 (ix4 0 h d e) = ((stateAt N 5 h.val d e : ℝ) : EReal))
    (h6 : ∀ (h : Fin 8) (d : Fin 64) (e : Fin 128), s6 (ix4 0 h d e) = ((stateAt N 6 h.val d e : ℝ) : EReal))
    (h7 : ∀ (h : Fin 8) (d : Fin 64) (e : Fin 128), s7 (ix4 0 h d e) = ((stateAt N 7 h.val d e : ℝ) : EReal))
    (b h : Fin 8) (d : Fin 64) (e : Fin 128) :
    stack z s0 s1 s2 s3 s4 s5 s6 s7 (ix5 b 0 h d e) = ((stateAt N b.val h.val d e : ℝ) : EReal) := by
  rw [stack_apply]
  fin_vals b with hb
  · rw [show b = 0 from Fin.ext hb]; exact h0 h d e
  · rw [show b = 1 from Fin.ext hb]; exact h1 h d e
  · rw [show b = 2 from Fin.ext hb]; exact h2 h d e
  · rw [show b = 3 from Fin.ext hb]; exact h3 h d e
  · rw [show b = 4 from Fin.ext hb]; exact h4 h d e
  · rw [show b = 5 from Fin.ext hb]; exact h5 h d e
  · rw [show b = 6 from Fin.ext hb]; exact h6 h d e
  · rw [show b = 7 from Fin.ext hb]; exact h7 h d e

theorem state0 (h : Fin 8) (d : Fin 64) (e : Fin 128) :
    (V m c main_v64 : FVec Ideal S1x8x64x128 .f32) (ix4 0 h d e) = ((stateAt N 0 h.val d e : ℝ) : EReal) := by
  rw [state0_eq]; exact state_first N h d e

theorem state1 (h : Fin 8) (d : Fin 64) (e : Fin 128) :
    (V m c main_v72 : FVec Ideal S1x8x64x128 .f32) (ix4 0 h d e) = ((stateAt N 1 h.val d e : ℝ) : EReal) :=
  state_next N H 0 (by norm_num) (V m c main_v64) (V m c main_v72) (state0 m c N H)
    (fun h d e => by rw [state1_eq, saves_eq, fade_eq]; exact step0_apply _ _ _ h d e) h d e

theorem state2 (h : Fin 8) (d : Fin 64) (e : Fin 128) :
    (V m c main_v77 : FVec Ideal S1x8x64x128 .f32) (ix4 0 h d e) = ((stateAt N 2 h.val d e : ℝ) : EReal) :=
  state_next N H 1 (by norm_num) (V m c main_v72) (V m c main_v77) (state1 m c N H)
    (fun h d e => by rw [state2_eq, saves_eq, fade_eq]; exact step1_apply _ _ _ h d e) h d e

theorem state3 (h : Fin 8) (d : Fin 64) (e : Fin 128) :
    (V m c main_v82 : FVec Ideal S1x8x64x128 .f32) (ix4 0 h d e) = ((stateAt N 3 h.val d e : ℝ) : EReal) :=
  state_next N H 2 (by norm_num) (V m c main_v77) (V m c main_v82) (state2 m c N H)
    (fun h d e => by rw [state3_eq, saves_eq, fade_eq]; exact step2_apply _ _ _ h d e) h d e

theorem state4 (h : Fin 8) (d : Fin 64) (e : Fin 128) :
    (V m c main_v87 : FVec Ideal S1x8x64x128 .f32) (ix4 0 h d e) = ((stateAt N 4 h.val d e : ℝ) : EReal) :=
  state_next N H 3 (by norm_num) (V m c main_v82) (V m c main_v87) (state3 m c N H)
    (fun h d e => by rw [state4_eq, saves_eq, fade_eq]; exact step3_apply _ _ _ h d e) h d e

theorem state5 (h : Fin 8) (d : Fin 64) (e : Fin 128) :
    (V m c main_v92 : FVec Ideal S1x8x64x128 .f32) (ix4 0 h d e) = ((stateAt N 5 h.val d e : ℝ) : EReal) :=
  state_next N H 4 (by norm_num) (V m c main_v87) (V m c main_v92) (state4 m c N H)
    (fun h d e => by rw [state5_eq, saves_eq, fade_eq]; exact step4_apply _ _ _ h d e) h d e

theorem state6 (h : Fin 8) (d : Fin 64) (e : Fin 128) :
    (V m c main_v97 : FVec Ideal S1x8x64x128 .f32) (ix4 0 h d e) = ((stateAt N 6 h.val d e : ℝ) : EReal) :=
  state_next N H 5 (by norm_num) (V m c main_v92) (V m c main_v97) (state5 m c N H)
    (fun h d e => by rw [state6_eq, saves_eq, fade_eq]; exact step5_apply _ _ _ h d e) h d e

theorem state7 (h : Fin 8) (d : Fin 64) (e : Fin 128) :
    (V m c main_v102 : FVec Ideal S1x8x64x128 .f32) (ix4 0 h d e) = ((stateAt N 7 h.val d e : ℝ) : EReal) :=
  state_next N H 6 (by norm_num) (V m c main_v97) (V m c main_v102) (state6 m c N H)
    (fun h d e => by rw [state7_eq, saves_eq, fade_eq]; exact step6_apply _ _ _ h d e) h d e

theorem states (p : Fin 4) (b : Fin 8) (h : Fin 2) (l e : Fin 128) :
    (V m c main_v129 : Vec Ideal S4x8x2x128x128 .f32) (ix5 p b h l e) = ((N.data.S p.val h.val b.val l e : ℝ) : EReal) := by
  rw [spread_eq]
  exact spread_apply N (stack (V m c main_v67) (V m c main_v64) (V m c main_v72) (V m c main_v77) (V m c main_v82) (V m c main_v87) (V m c main_v92) (V m c main_v97) (V m c main_v102))
    (stack_states N (V m c main_v67) (V m c main_v64) (V m c main_v72) (V m c main_v77) (V m c main_v82) (V m c main_v87) (V m c main_v92) (V m c main_v97) (V m c main_v102)
      (state0 m c N H) (state1 m c N H) (state2 m c N H) (state3 m c N H) (state4 m c N H) (state5 m c N H) (state6 m c N H) (state7 m c N H)) p b h l e

/-- What the input blocks of every point hold. -/
theorem reads : Block.Reads m N.data c t where
  lg := fun h => by rw [lg_block m c t h, arg3_eq]; exact H.a h
  q := fun r j => by
    have ht := Block.t_lt t
    have hr := r.isLt
    have hj := j.isLt
    rw [q_block m c t r j ⟨256 * (7 - t.val) + r.val, by omega⟩ ⟨j.val, by omega⟩ rfl rfl, arg0_eq]
    exact H.x _ _ (by show j.val < 2048; omega)
  k := fun r j => by
    have ht := Block.t_lt t
    have hr := r.isLt
    have hj := j.isLt
    rw [k_block m c t r j ⟨256 * (7 - t.val) + r.val, by omega⟩ ⟨512 + j.val, by omega⟩ rfl rfl, arg0_eq]
    exact H.x _ _ (by show 512 + j.val < 2048; omega)
  v := fun r j => by
    have ht := Block.t_lt t
    have hr := r.isLt
    have hj := j.isLt
    rw [v_block m c t r j ⟨256 * (7 - t.val) + r.val, by omega⟩ ⟨1024 + j.val, by omega⟩ rfl rfl, arg0_eq]
    exact H.x _ _ (by show 1024 + j.val < 2048; omega)
  cos := fun r l => by
    have ht := Block.t_lt t
    have hr := r.isLt
    rw [cos_block m c t r l ⟨256 * (7 - t.val) + r.val, by omega⟩ rfl, cos_eq]
    exact cosTab_apply N H _ l
  sin := fun r l => by
    have ht := Block.t_lt t
    have hr := r.isLt
    rw [sin_block m c t r l ⟨256 * (7 - t.val) + r.val, by omega⟩ rfl, sin_eq]
    exact sinTab_apply N H _ l
  o := fun r j => by
    have ht := Block.t_lt t
    have hr := r.isLt
    rw [o_block m c t r j ⟨256 * (7 - t.val) + r.val, by omega⟩ rfl, arg4_eq]
    exact H.o _ j
  st := fun p h l e => by
    have ht := Block.t_lt t
    rw [st_block m c t p h l e ⟨7 - t.val, by omega⟩ rfl]
    exact states m c N H p _ h l e

/-- The kernel's result. -/
def result (N : Nums) : FVec Ideal S2048x2048 .bf16 := fun y => ((Block.grad N.data (y 0).val (y 1).val : ℝ) : EReal)

theorem final : (dats m 0 c).arrAt 8 cfg0.N = result N := by
  refine (dats m 0 c).arrAt_eq_of_covers 8 _ (by decide +kernel) fun t hf y => ?_
  blk_simp
  rw [after0_8, Block.out m N.data c (fun t => reads m c t N H) t y]
  have e0 : (((win0_8.blk t).view.emb y) 0).val = 256 * (7 - t.val) + (y 0).val := by
    blk_simp [idx t]
    ring
  have e1 : (((win0_8.blk t).view.emb y) 1).val = (y 1).val := by
    blk_simp [idx t]
  unfold result
  rw [e0, e1]

end Cert.KernelIdeal.Blocks

end
-- ==== Proof.RefResult.lean ====
/- The reference's result is the kernel's: the gradient head by head on 64 lanes is the gradient pair by pair on 128. -/
module

public import proofs.«01_k».proof.Proof.RefGrad
public import proofs.«01_k».proof.Proof.Blocks

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal (Head.mate Block.grad)
open Cert.KernelIdeal.Pair Cert.KernelIdeal.HostLine Cert.Numbers Cert.Retention

variable (N : Nums)

theorem V_head (h : ℕ) : N.data.V (h / 2) (h % 2) = vh N h := by
  funext i e
  show N.x i (1024 + (256 * (h / 2) + 128 * (h % 2) + e.val)) = N.x i (1024 + (128 * h + e.val))
  rw [show 256 * (h / 2) + 128 * (h % 2) + e.val = 128 * h + e.val by omega]

theorem O_head (h : ℕ) : N.data.O (h / 2) (h % 2) = oh N h := by
  funext i e
  show N.o i (256 * (h / 2) + 128 * (h % 2) + e.val) = N.o i (128 * h + e.val)
  rw [show 256 * (h / 2) + 128 * (h % 2) + e.val = 128 * h + e.val by omega]

theorem A_head (h : ℕ) : N.data.A (h / 2) (h % 2) = N.a h := by
  show N.a (2 * (h / 2) + h % 2) = N.a h
  rw [show 2 * (h / 2) + h % 2 = h by omega]

theorem lane_head (h : ℕ) (d : Fin 64) : (lane h d).val / 64 = h % 2 := by
  have := d.isLt
  show (64 * (h % 2) + d.val) / 64 = h % 2
  omega

theorem Q_own (h i : ℕ) (d : Fin 64) : N.data.Q (h / 2) (h % 2) i (lane h d) = qh N h i d := by
  unfold Data.Q
  rw [if_pos (lane_head h d)]
  rfl

theorem K_own (h i : ℕ) (d : Fin 64) : N.data.K (h / 2) (h % 2) i (lane h d) = kh N h i d := by
  unfold Data.K
  rw [if_pos (lane_head h d)]
  rfl

theorem Q_other (p b i : ℕ) (l : Fin 128) (hb : l.val / 64 ≠ b) : N.data.Q p b i l = 0 := by
  unfold Data.Q
  rw [if_neg hb]

/-- On a head's own lanes the pair's gradient of the queries is the head's. -/
theorem dQ_lane (h i : ℕ) (d : Fin 64) : N.data.dQ (h / 2) i (lane h d) = gq N h i d := by
  have own : gradQ (N.data.A (h / 2) (h % 2)) (N.data.K (h / 2) (h % 2)) (N.data.V (h / 2) (h % 2)) (N.data.O (h / 2) (h % 2)) 2048 i (lane h d)
      = gq N h i d := by
    rw [A_head, V_head, O_head]
    unfold gq gradQ
    simp only [K_own]
  unfold Data.dQ
  rw [lane_head]
  rcases Nat.mod_two_eq_zero_or_one h with h2 | h2
  · rw [h2, if_pos rfl, if_neg (by decide), add_zero]
    rwa [h2] at own
  · rw [h2, if_neg (by decide), if_pos rfl, zero_add]
    rwa [h2] at own

/-- On a head's own lanes the pair's gradient of the keys is the head's. -/
theorem dK_lane (h i : ℕ) (d : Fin 64) : N.data.dK (h / 2) i (lane h d) = gk N h i d * (1 / 8) := by
  have own : gradK (N.data.A (h / 2) (h % 2)) (N.data.Q (h / 2) (h % 2)) (N.data.V (h / 2) (h % 2)) (N.data.O (h / 2) (h % 2)) 2048 i (lane h d)
      = gk N h i d := by
    rw [A_head, V_head, O_head]
    unfold gk gradK
    simp only [Q_own]
  have other : ∀ b, h % 2 ≠ b → gradK (N.data.A (h / 2) b) (N.data.Q (h / 2) b) (N.data.V (h / 2) b) (N.data.O (h / 2) b) 2048 i (lane h d) = 0 := by
    intro b hb
    unfold gradK
    refine Finset.sum_eq_zero fun j _ => ?_
    rw [Q_other N _ _ _ _ (by rw [lane_head]; exact hb), mul_zero]
  unfold Data.dK
  rcases Nat.mod_two_eq_zero_or_one h with h2 | h2
  · rw [other 1 (by omega), add_zero]
    rw [h2] at own
    rw [own]
  · rw [other 0 (by omega), zero_add]
    rw [h2] at own
    rw [own]

/-- A sum over a pair's lanes of what lives on one head's lanes. -/
theorem sum_lanes (h : ℕ) (f : Fin 128 → ℝ) (hf : ∀ l, l.val / 64 ≠ h % 2 → f l = 0) : ∑ l, f l = ∑ d, f (lane h d) := by
  have e : ∑ l, f l = ∑ d : Fin 64, f (Fin.castAdd 64 d) + ∑ d : Fin 64, f (Fin.natAdd 64 d) := Fin.sum_univ_add (a := 64) (b := 64) f
  rw [e]
  rcases Nat.mod_two_eq_zero_or_one h with h2 | h2
  · rw [Finset.sum_eq_zero (s := Finset.univ) (f := fun d : Fin 64 => f (Fin.natAdd 64 d)) (fun d _ => hf _ (by
      have := d.isLt
      show (64 + d.val) / 64 ≠ h % 2
      omega)), add_zero]
    refine Finset.sum_congr rfl fun d _ => congrArg f (Fin.ext ?_)
    show d.val = 64 * (h % 2) + d.val
    omega
  · rw [Finset.sum_eq_zero (s := Finset.univ) (f := fun d : Fin 64 => f (Fin.castAdd 64 d)) (fun d _ => hf _ (by
      have := d.isLt
      show d.val / 64 ≠ h % 2
      omega)), zero_add]
    refine Finset.sum_congr rfl fun d _ => congrArg f (Fin.ext ?_)
    show 64 + d.val = 64 * (h % 2) + d.val
    omega

/-- The gradient of a head's values is the same on 64 lanes. -/
theorem dV_head (h i : ℕ) (e : Fin 128) : N.data.dV (h / 2) (h % 2) i e = gv N h i e := by
  unfold Data.dV
  rw [A_head, O_head]
  unfold gv gradV
  refine Finset.sum_congr rfl fun r _ => ?_
  rw [sum_lanes h _ (fun l hl => by rw [Q_other N _ _ _ _ hl, zero_mul])]
  simp only [Q_own, K_own]

/-- On a head's own lanes the transpose of the pair's rotary map is the head's. -/
theorem back_lane (X : ℕ → Fin 128 → ℝ) (g : Fin 64 → ℝ) (h i : ℕ) (hX : ∀ d, X i (lane h d) = g d) (d : Fin 64) :
    N.data.back X i (lane h d) = backTurn N g i d := by
  have hd := d.isLt
  unfold Data.back backTurn
  by_cases hlt : d.val < 32
  · have em : Head.mate (lane h d) = lane h ⟨32 + d.val, by omega⟩ := Fin.ext (by
      unfold Head.mate lane
      rw [if_pos (by show (64 * (h % 2) + d.val) % 64 < 32; omega)]
      show (64 * (h % 2) + d.val + 32) % 128 = 64 * (h % 2) + (32 + d.val)
      omega)
    rw [dif_pos hlt, em, hX, hX]
    show g d * Real.cos (N.ang i (64 * (h % 2) + d.val)) + g _ * (if (64 * (h % 2) + (32 + d.val)) % 64 < 32
      then -Real.sin (N.ang i (64 * (h % 2) + (32 + d.val))) else Real.sin (N.ang i (64 * (h % 2) + (32 + d.val)))) = _
    rw [if_neg (by omega)]
    unfold Nums.ang
    rw [show (64 * (h % 2) + d.val) % 32 = d.val % 32 by omega, show (64 * (h % 2) + (32 + d.val)) % 32 = d.val % 32 by omega, add_comm]
  · have em : Head.mate (lane h d) = lane h ⟨d.val - 32, by omega⟩ := Fin.ext (by
      unfold Head.mate lane
      rw [if_neg (by show ¬ (64 * (h % 2) + d.val) % 64 < 32; omega)]
      show (64 * (h % 2) + d.val + 96) % 128 = 64 * (h % 2) + (d.val - 32)
      omega)
    rw [dif_neg hlt, em, hX, hX]
    show g d * Real.cos (N.ang i (64 * (h % 2) + d.val)) + g _ * (if (64 * (h % 2) + (d.val - 32)) % 64 < 32
      then -Real.sin (N.ang i (64 * (h % 2) + (d.val - 32))) else Real.sin (N.ang i (64 * (h % 2) + (d.val - 32)))) = _
    rw [if_pos (by omega)]
    unfold Nums.ang
    rw [show (64 * (h % 2) + d.val) % 32 = (d.val - 32) % 32 by omega, show (64 * (h % 2) + (d.val - 32)) % 32 = (d.val - 32) % 32 by omega]
    ring

theorem grad_queries (i j : ℕ) (h1 : j < 512) :
    Block.grad N.data i j = backTurn N (gq N (j / 64) i) i ⟨j % 64, Nat.mod_lt _ (by norm_num)⟩ := by
  unfold Block.grad
  rw [if_pos h1, ← back_lane N (N.data.dQ (j / 64 / 2)) (gq N (j / 64) i) (j / 64) i (fun d => dQ_lane N _ _ d),
    show j / 64 / 2 = j / 128 by omega]
  congr 1
  exact Fin.ext (by show j % 128 = 64 * (j / 64 % 2) + j % 64; omega)

theorem grad_keys (i j : ℕ) (h1 : ¬ j < 512) (h2 : j < 1024) :
    Block.grad N.data i j
      = backTurn N (fun d => gk N ((j - 512) / 64) i d * (1 / 8)) i ⟨(j - 512) % 64, Nat.mod_lt _ (by norm_num)⟩ := by
  unfold Block.grad
  rw [if_neg h1, if_pos h2, ← back_lane N (N.data.dK ((j - 512) / 64 / 2)) (fun d => gk N ((j - 512) / 64) i d * (1 / 8)) ((j - 512) / 64) i
      (fun d => dK_lane N _ _ d),
    show (j - 512) / 64 / 2 = (j - 512) / 128 by omega]
  congr 1
  exact Fin.ext (by show j % 128 = 64 * ((j - 512) / 64 % 2) + (j - 512) % 64; omega)

theorem grad_values (i j : ℕ) (h1 : ¬ j < 512) (h2 : ¬ j < 1024) :
    Block.grad N.data i j = gv N ((j - 512 - 512) / 128) i ⟨(j - 512 - 512) % 128, Nat.mod_lt _ (by norm_num)⟩ := by
  unfold Block.grad
  rw [if_neg h1, if_neg h2, ← dV_head, show (j - 512 - 512) / 128 / 2 = (j - 1024) / 256 by omega,
    show (j - 512 - 512) / 128 % 2 = (j - 1024) / 128 % 2 by omega]
  congr 1
  exact Fin.ext (by show j % 128 = (j - 512 - 512) % 128; omega)

variable {x0 : FVec Ideal S2048x6656 .bf16} {x1 : IVec S1x2048 32} {x2 : FVec Ideal S32 .f32}
  {x3 : FVec Ideal S8 .f32} {x4 : FVec Ideal S2048x1024 .bf16} (H : Holds N x0 x1 x2 x3 x4)

include H

/-- The reference's result, entry by entry. -/
theorem result_apply (i j : Fin 2048) :
    (val_main_v580 (F := Ideal) x0 x1 x2 x3 x4 (ix2 i j) : EReal) = ((Block.grad N.data i.val j.val : ℝ) : EReal) := by
  pointwise [val_main_v580, val_main_v579, val_main_v578, val_main_v577, val_main_v576]
  have hj := j.isLt
  show (_ : EReal) = _
  split
  · rename_i h1
    exact (backQ_apply N H i _ _).trans (congrArg _ (grad_queries N i.val j.val h1).symm)
  · rename_i h1
    show (_ : EReal) = _
    split
    · rename_i h2
      have h2' : j.val < 1024 := by omega
      exact (backK_apply N H i _ _).trans (congrArg _ (grad_keys N i.val j.val h1 h2').symm)
    · rename_i h2
      have h2' : ¬ j.val < 1024 := by omega
      exact (frameV_apply N H i _ _).trans (congrArg _ (grad_values N i.val j.val h1 h2').symm)

/-- The reference's result is the kernel's. -/
theorem result_eq : val_main_v580 (F := Ideal) x0 x1 x2 x3 x4 = Cert.KernelIdeal.Blocks.result N := by
  refine funext fun y => ?_
  rw [show y = ix2 (y 0) (y 1) from eq_ix2 y]
  exact result_apply N H (y 0) (y 1)

end Cert.ReferenceIdeal.Hand

end
-- ==== Proof.Finite.lean ====
/- The precondition, read back: every argument entry the programs use is a real number. -/
module

public import proofs.«01_k».proof.Proof.Numbers
public import proofs.«01_k».proof.Proof.Gen.Pre_finite
public import proofs.«01_k».proof.Defs
public import Idealize.ShloMosaic.Lib.ReduceAll
public import Idealize.ShloMosaic.Lib.Pointwise

@[expose] public section

set_option maxRecDepth 16384

noncomputable section

namespace Cert.Numbers

open Cert.KernelIdeal Cert.KernelIdeal.Gen Idealize.ShloMosaic

/-- An extended real whose difference with itself is zero is a real number. -/
theorem real_of_sub_self (x : EReal) (h : x - x = 0) : x = ((x.toReal : ℝ) : EReal) := by
  induction x using EReal.rec with
  | bot => simp at h
  | top => simp at h
  | coe r => rfl

/-- The numbers held by given arguments. -/
def numsOf (x0 : FVec Ideal S2048x6656 .bf16) (x1 : IVec S1x2048 32) (x2 : FVec Ideal S32 .f32)
    (x3 : FVec Ideal S8 .f32) (x4 : FVec Ideal S2048x1024 .bf16) : Nums where
  x := fun i j => EReal.toReal (x0 (ix2 ⟨i % 2048, Nat.mod_lt _ (by norm_num)⟩ ⟨j % 6656, Nat.mod_lt _ (by norm_num)⟩))
  pos := fun i => (x1 (ix2 0 ⟨i % 2048, Nat.mod_lt _ (by norm_num)⟩)).toInt
  inv := fun i => EReal.toReal (x2 (ix1 ⟨i % 32, Nat.mod_lt _ (by norm_num)⟩))
  a := fun h => EReal.toReal (x3 (ix1 ⟨h % 8, Nat.mod_lt _ (by norm_num)⟩))
  o := fun i j => EReal.toReal (x4 (ix2 ⟨i % 2048, Nat.mod_lt _ (by norm_num)⟩ ⟨j % 1024, Nat.mod_lt _ (by norm_num)⟩))

/-- The comparison the precondition makes, read back. -/
theorem real_of_word (x : EReal) (h : BitVec.ofBool (decide (x - x = 0)) = 1#1) : x = ((x.toReal : ℝ) : EReal) := by
  by_cases hx : x - x = 0
  · exact real_of_sub_self x hx
  · simp [hx] at h

/-- Under the precondition the arguments hold real numbers. -/
theorem holds_of_finite (x0 : FVec Ideal S2048x6656 .bf16) (x1 : IVec S1x2048 32) (x2 : FVec Ideal S32 .f32)
    (x3 : FVec Ideal S8 .f32) (x4 : FVec Ideal S2048x1024 .bf16)
    (h : Cert.Pre_finite.fn (F := Ideal) x0 x1 x2 x3 x4 = fun _ => 1#1) : Holds (numsOf x0 x1 x2 x3 x4) x0 x1 x2 x3 x4 := by
  have h0 := congrFun h ix0
  simp only [Cert.Pre_finite.fn, Cert.Pre_finite.fn_part1] at h0
  obtain ⟨h123, h4⟩ := IntOp.andi_eq_one.1 h0
  obtain ⟨h12, h3⟩ := IntOp.andi_eq_one.1 h123
  obtain ⟨h1, h2⟩ := IntOp.andi_eq_one.1 h12
  have : Subsingleton Cert.Pre_finite.S_.Idx := ⟨fun a b => funext fun k => k.elim0⟩
  have r0 := Host.reduce_andi_all _ _ _ _ _ h1
  have r2 := Host.reduce_andi_all _ _ _ _ _ h2
  have r3 := Host.reduce_andi_all _ _ _ _ _ h3
  have r4 := Host.reduce_andi_all _ _ _ _ _ h4
  constructor
  · intro i j hj
    have e := r0 (ix2 i ⟨j.val, hj⟩)
    pointwise at e
    refine (real_of_word _ e).trans ?_
    show _ = ((EReal.toReal (x0 (ix2 ⟨i.val % 2048, _⟩ ⟨j.val % 6656, _⟩)) : ℝ) : EReal)
    simp only [Nat.mod_eq_of_lt i.isLt, Nat.mod_eq_of_lt j.isLt]
  · intro i
    show ((_ : ℝ) : EReal) = (((x1 (ix2 0 ⟨i.val % 2048, _⟩)).toInt : ℝ) : EReal)
    rw [show (⟨i.val % 2048, Nat.mod_lt _ (by norm_num)⟩ : Fin 2048) = i from Fin.ext (Nat.mod_eq_of_lt i.isLt)]
  · intro i
    have e := r2 (ix1 i)
    pointwise at e
    refine (real_of_word _ e).trans ?_
    show _ = ((EReal.toReal (x2 (ix1 ⟨i.val % 32, _⟩)) : ℝ) : EReal)
    simp only [Nat.mod_eq_of_lt i.isLt]
  · intro h
    have e := r3 (ix1 h)
    pointwise at e
    refine (real_of_word _ e).trans ?_
    show _ = ((EReal.toReal (x3 (ix1 ⟨h.val % 8, _⟩)) : ℝ) : EReal)
    simp only [Nat.mod_eq_of_lt h.isLt]
  · intro i j
    have e := r4 (ix2 i j)
    pointwise at e
    refine (real_of_word _ e).trans ?_
    show _ = ((EReal.toReal (x4 (ix2 ⟨i.val % 2048, _⟩ ⟨j.val % 1024, _⟩)) : ℝ) : EReal)
    simp only [Nat.mod_eq_of_lt i.isLt, Nat.mod_eq_of_lt j.isLt]

end Cert.Numbers

end
-- ==== Proof.InBlock.lean ====
/- The gradient of the projection's input: the numbers one grid point computes.

   The point multiplies its 256 rows of the six gradients by the transposed weight, segment by segment; the nine
   products added up are the sum over all 6656 columns. From that row it takes the normalisation's gradient and the
   three column sums. -/
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InBack

open Idealize.ShloMosaic

/-- Entry `n` of row `i` of the six gradients laid side by side. -/
def joined {R : ℕ} (p0 : (⟨2, ![R, 2048]⟩ : Shape).Idx → EReal) (p1 : (⟨2, ![R, 1024]⟩ : Shape).Idx → EReal)
    (p2 p3 p4 : (⟨2, ![R, 512]⟩ : Shape).Idx → EReal) (p5 : (⟨2, ![R, 2048]⟩ : Shape).Idx → EReal) (i : Fin R) (n : ℕ) : EReal :=
  if h : n < 2048 then p0 (ix2 i ⟨n, h⟩)
  else if h1 : n - 2048 < 1024 then p1 (ix2 i ⟨n - 2048, h1⟩)
  else if h2 : n - 3072 < 512 then p2 (ix2 i ⟨n - 3072, h2⟩)
  else if h3 : n - 3584 < 512 then p3 (ix2 i ⟨n - 3584, h3⟩)
  else if h4 : n - 4096 < 512 then p4 (ix2 i ⟨n - 4096, h4⟩)
  else if h5 : n - 4608 < 2048 then p5 (ix2 i ⟨n - 4608, h5⟩)
  else 0

/-- Entry `(j, n)` of the weight, whose columns lie in four blocks of 1664. -/
def wAt (w : (⟨3, ![4, 1024, 1664]⟩ : Shape).Idx → EReal) (j : Fin 1024) (n : ℕ) : EReal :=
  if h : n / 1664 < 4 then w (ix3 ⟨n / 1664, h⟩ j ⟨n % 1664, Nat.mod_lt _ (by norm_num)⟩) else 0

/-- Row `p` times row `j` of the weight. -/
def back (p : ℕ → EReal) (w : (⟨3, ![4, 1024, 1664]⟩ : Shape).Idx → EReal) (j : Fin 1024) : EReal :=
  ∑ n ∈ Finset.range 6656, p n * wAt w j n

section
variable {R : ℕ} (p0 : (⟨2, ![R, 2048]⟩ : Shape).Idx → EReal) (p1 : (⟨2, ![R, 1024]⟩ : Shape).Idx → EReal)
  (p2 p3 p4 : (⟨2, ![R, 512]⟩ : Shape).Idx → EReal) (p5 : (⟨2, ![R, 2048]⟩ : Shape).Idx → EReal) (i : Fin R) (n k : ℕ)

theorem joined_0 (h : n < 2048) : joined p0 p1 p2 p3 p4 p5 i n = p0 (ix2 i ⟨n, h⟩) := by
  unfold joined
  rw [dif_pos h]

theorem joined_1 (h : k < 1024) (e : n = 2048 + k) : joined p0 p1 p2 p3 p4 p5 i n = p1 (ix2 i ⟨k, h⟩) := by
  subst e
  unfold joined
  rw [dif_neg (by omega), dif_pos (by omega)]
  simp only [Nat.add_sub_cancel_left]

theorem joined_2 (h : k < 512) (e : n = 3072 + k) : joined p0 p1 p2 p3 p4 p5 i n = p2 (ix2 i ⟨k, h⟩) := by
  subst e
  unfold joined
  rw [dif_neg (by omega), dif_neg (by omega), dif_pos (by omega)]
  simp only [Nat.add_sub_cancel_left]

theorem joined_3 (h : k < 512) (e : n = 3584 + k) : joined p0 p1 p2 p3 p4 p5 i n = p3 (ix2 i ⟨k, h⟩) := by
  subst e
  unfold joined
  rw [dif_neg (by omega), dif_neg (by omega), dif_neg (by omega), dif_pos (by omega)]
  simp only [Nat.add_sub_cancel_left]

theorem joined_4 (h : k < 512) (e : n = 4096 + k) : joined p0 p1 p2 p3 p4 p5 i n = p4 (ix2 i ⟨k, h⟩) := by
  subst e
  unfold joined
  rw [dif_neg (by omega), dif_neg (by omega), dif_neg (by omega), dif_neg (by omega), dif_pos (by omega)]
  simp only [Nat.add_sub_cancel_left]

theorem joined_5 (h : k < 2048) (e : n = 4608 + k) : joined p0 p1 p2 p3 p4 p5 i n = p5 (ix2 i ⟨k, h⟩) := by
  subst e
  unfold joined
  rw [dif_neg (by omega), dif_neg (by omega), dif_neg (by omega), dif_neg (by omega), dif_neg (by omega), dif_pos (by omega)]
  simp only [Nat.add_sub_cancel_left]

theorem wAt_eq (w : (⟨3, ![4, 1024, 1664]⟩ : Shape).Idx → EReal) (j : Fin 1024) (n : ℕ) (b : Fin 4) (q : Fin 1664)
    (e : n = b * 1664 + q) : wAt w j n = w (ix3 b j q) := by
  have hb := b.isLt
  have hq := q.isLt
  unfold wAt
  rw [dif_pos (by omega)]
  congr 2
  · exact Fin.ext (by show n / 1664 = b; omega)
  · exact Fin.ext (by show n % 1664 = q; omega)

end

/-- A sum over all columns is the sum of its nine segments. -/
theorem split9 (f : ℕ → EReal) :
    ∑ n ∈ Finset.range 6656, f n =
      (∑ k : Fin 1664, f k) + (∑ k : Fin 384, f (1664 + k)) + (∑ k : Fin 1024, f (2048 + k)) + (∑ k : Fin 256, f (3072 + k)) +
      (∑ k : Fin 256, f (3328 + k)) + (∑ k : Fin 512, f (3584 + k)) + (∑ k : Fin 512, f (4096 + k)) +
      (∑ k : Fin 384, f (4608 + k)) + (∑ k : Fin 1664, f (4992 + k)) := by
  rw [show (6656 : ℕ) = 1664 + 384 + 1024 + 256 + 256 + 512 + 512 + 384 + 1664 by norm_num]
  iterate 8 rw [Finset.sum_range_add]
  simp only [Finset.sum_range, Nat.reduceAdd]

/-- The normalisation's factor of a row. -/
def invRms (x : Fin 1024 → EReal) : EReal :=
  Ideal.rsqrt (Ideal.div (∑ k, x k * x k) (Ideal.ofBits FTy.f32 1149239296#32) + Ideal.ofBits FTy.f32 897988541#32)

/-- The gradient of the row `x` where the row `d` is that of its modulated normal form and `u` comes over the
    residual path; `g` is the gain and `s` the scale. -/
def gradRow (d x u g s : Fin 1024 → EReal) (j : Fin 1024) : EReal :=
  u j + invRms x * (d j * g j * (1 + s j) -
    x j * invRms x * Ideal.div (∑ k, d k * g k * (1 + s k) * (x k * invRms x)) (Ideal.ofBits FTy.f32 1149239296#32))

end Cert.InBack

namespace Cert.Kernel2Ideal.Hand

open Cert.Kernel2Ideal Cert.Kernel2Ideal.Gen Cert.InBack Idealize.ShloMosaic Idealize.ShloMosaic.TcCoe

/-- The nine products as the point adds them up. -/
def dh (p0 : Vec Ideal S256x2048 .bf16) (p1 : Vec Ideal S256x1024 .bf16) (p2 p3 p4 : Vec Ideal S256x512 .bf16)
    (p5 : Vec Ideal S256x2048 .bf16) (w : Vec Ideal S4x1024x1664 .bf16) : FVec Ideal S256x1024 .f32 :=
  k0_pay8
    (k0_pay7 (View.ld p0 (Rect.unit ![0, 0] ![256, 1664] inb_S256x2048_S256x1664_0_0))
      (View.ld w (Rect.unit ![0, 0, 0] ![1, 1024, 1664] inb_S4x1024x1664_S1x1024x1664_0_0_0))
      (View.ld p0 (Rect.unit ![0, 1664] ![256, 384] inb_S256x2048_S256x384_0_1664))
      (View.ld w (Rect.unit ![1, 0, 0] ![1, 1024, 384] inb_S4x1024x1664_S1x1024x384_1_0_0))
      p1
      (View.ld w (Rect.unit ![1, 0, 384] ![1, 1024, 1024] inb_S4x1024x1664_S1x1024x1024_1_0_384))
      (View.ld p2 (Rect.unit ![0, 0] ![256, 256] inb_S256x512_S256x256_0_0))
      (View.ld w (Rect.unit ![1, 0, 1408] ![1, 1024, 256] inb_S4x1024x1664_S1x1024x256_1_0_1408)))
    (View.ld p2 (Rect.unit ![0, 256] ![256, 256] inb_S256x512_S256x256_0_256))
    (View.ld w (Rect.unit ![2, 0, 0] ![1, 1024, 256] inb_S4x1024x1664_S1x1024x256_2_0_0))
    p3
    (View.ld w (Rect.unit ![2, 0, 256] ![1, 1024, 512] inb_S4x1024x1664_S1x1024x512_2_0_256))
    p4
    (View.ld w (Rect.unit ![2, 0, 768] ![1, 1024, 512] inb_S4x1024x1664_S1x1024x512_2_0_768))
    (View.ld p5 (Rect.unit ![0, 0] ![256, 384] inb_S256x2048_S256x384_0_0))
    (View.ld w (Rect.unit ![2, 0, 1280] ![1, 1024, 384] inb_S4x1024x1664_S1x1024x384_2_0_1280))
    (View.ld p5 (Rect.unit ![0, 384] ![256, 1664] inb_S256x2048_S256x1664_0_384))
    (View.ld w (Rect.unit ![3, 0, 0] ![1, 1024, 1664] inb_S4x1024x1664_S1x1024x1664_3_0_0))

set_option maxHeartbeats 2000000 in
theorem dh_apply (p0 : Vec Ideal S256x2048 .bf16) (p1 : Vec Ideal S256x1024 .bf16) (p2 p3 p4 : Vec Ideal S256x512 .bf16)
    (p5 : Vec Ideal S256x2048 .bf16) (w : Vec Ideal S4x1024x1664 .bf16) (i : Fin 256) (j : Fin 1024) :
    dh p0 p1 p2 p3 p4 p5 w (ix2 i j) = back (joined p0 p1 p2 p3 p4 p5 i) w j := by
  unfold dh back
  rw [split9]
  open_payloads
  pointwise
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_ <;> refine Finset.sum_congr rfl fun k _ => ?_
  · have hk := k.isLt
    refine congrArg₂ (· * ·) (joined_0 _ _ _ _ _ _ _ _ (by omega)).symm (wAt_eq w j _ 0 ⟨k, by omega⟩ ?_).symm
    show _ = 0 * 1664 + ((k : ℕ))
    omega
  · have hk := k.isLt
    refine congrArg₂ (· * ·) (joined_0 _ _ _ _ _ _ _ _ (by omega)).symm (wAt_eq w j _ 1 ⟨k, by omega⟩ ?_).symm
    show _ = 1 * 1664 + ((k : ℕ))
    omega
  · have hk := k.isLt
    refine congrArg₂ (· * ·) (joined_1 _ _ _ _ _ _ _ _ k k.isLt rfl).symm (wAt_eq w j _ 1 ⟨384 + k, by omega⟩ ?_).symm
    show _ = 1 * 1664 + (384 + (k : ℕ))
    omega
  · have hk := k.isLt
    refine congrArg₂ (· * ·) (joined_2 _ _ _ _ _ _ _ _ k (by omega) (by omega)).symm (wAt_eq w j _ 1 ⟨1408 + k, by omega⟩ ?_).symm
    show _ = 1 * 1664 + (1408 + (k : ℕ))
    omega
  · have hk := k.isLt
    refine congrArg₂ (· * ·) (joined_2 _ _ _ _ _ _ _ _ (256 + k) (by omega) (by omega)).symm (wAt_eq w j _ 2 ⟨k, by omega⟩ ?_).symm
    show _ = 2 * 1664 + ((k : ℕ))
    omega
  · have hk := k.isLt
    refine congrArg₂ (· * ·) (joined_3 _ _ _ _ _ _ _ _ k k.isLt rfl).symm (wAt_eq w j _ 2 ⟨256 + k, by omega⟩ ?_).symm
    show _ = 2 * 1664 + (256 + (k : ℕ))
    omega
  · have hk := k.isLt
    refine congrArg₂ (· * ·) (joined_4 _ _ _ _ _ _ _ _ k k.isLt rfl).symm (wAt_eq w j _ 2 ⟨768 + k, by omega⟩ ?_).symm
    show _ = 2 * 1664 + (768 + (k : ℕ))
    omega
  · have hk := k.isLt
    refine congrArg₂ (· * ·) (joined_5 _ _ _ _ _ _ _ _ k (by omega) rfl).symm (wAt_eq w j _ 2 ⟨1280 + k, by omega⟩ ?_).symm
    show _ = 2 * 1664 + (1280 + (k : ℕ))
    omega
  · have hk := k.isLt
    refine congrArg₂ (· * ·) (joined_5 _ _ _ _ _ _ _ _ (384 + k) (by omega) (by omega)).symm (wAt_eq w j _ 3 ⟨k, by omega⟩ ?_).symm
    show _ = 3 * 1664 + ((k : ℕ))
    omega

theorem dx_apply (d : FVec Ideal S256x1024 .f32) (x u : Vec Ideal S256x1024 .f32) (v : Vec Ideal S16x1024 .f32) (i : Fin 256) (j : Fin 1024) :
    k0_pay12 d x (k0_pay9 x) (FloatOps.ofBits FTy.f32 897988541#32) (View.ld v (Rect.unit ![6, 0] ![1, 1024] inb_S16x1024_S1x1024_6_0))
      (View.ld v (Rect.unit ![1, 0] ![1, 1024] inb_S16x1024_S1x1024_1_0)) u (ix2 i j) =
    gradRow (fun k => d (ix2 i k)) (fun k => x (ix2 i k)) (fun k => u (ix2 i k)) (fun k => v (ix2 6 k))
      (fun k => v (ix2 1 k)) j := by
  open_payloads
  pointwise
  unfold gradRow invRms
  rfl

theorem shift_apply (d : FVec Ideal S256x1024 .f32) (o : Vec Ideal S1x1024 .f32) (j : Fin 1024) :
    k0_pay13 d o (ix2 0 j) = o (ix2 0 j) + ∑ i : Fin 256, d (ix2 i j) := by
  open_payloads
  pointwise
  try rfl

theorem scale_apply (d : FVec Ideal S256x1024 .f32) (x : Vec Ideal S256x1024 .f32) (g o : Vec Ideal S1x1024 .f32) (j : Fin 1024) :
    k0_pay1 (k0_pay14 o) (k0_pay15 d x (k0_pay9 x) (FloatOps.ofBits FTy.f32 897988541#32) g) (ix2 0 j) =
      o (ix2 0 j) + ∑ i : Fin 256, d (ix2 i j) * (x (ix2 i j) * invRms fun k => x (ix2 i k)) * g (ix2 0 j) := by
  open_payloads
  pointwise
  try rfl

theorem gain_apply (d : FVec Ideal S256x1024 .f32) (x : Vec Ideal S256x1024 .f32) (s o : Vec Ideal S1x1024 .f32) (j : Fin 1024) :
    k0_pay2 d (k0_pay11 x (k0_pay9 x) (FloatOps.ofBits FTy.f32 897988541#32)) s o (ix2 0 j) =
      o (ix2 0 j) + ∑ i : Fin 256, d (ix2 i j) * (x (ix2 i j) * invRms fun k => x (ix2 i k)) * (1 + s (ix2 0 j)) := by
  open_payloads
  pointwise
  try rfl

end Cert.Kernel2Ideal.Hand

end
-- ==== Proof.InReal.lean ====
/- The normalisation's gradient over the real numbers: the way the kernel writes it and the way differentiating the
   forward line gives it. -/
module

public import proofs.«01_k».proof.Proof.InBlock
public import Idealize.ShloMosaic.Lib.IdealHost

@[expose] public section

set_option maxRecDepth 16384

noncomputable section

namespace Cert.InBack

open Idealize.ShloMosaic

/-- The gradient of the row as differentiation gives it: the factor's own share comes back once for each of the two
    equal terms of the square. -/
def gradRef (d x u g s : Fin 1024 → EReal) (j : Fin 1024) : EReal :=
  d j * (1 + s j) * g j * invRms x +
    x j * Ideal.div ((∑ k, x k * (d k * (1 + s k) * g k)) * (Ideal.ofBits FTy.f32 0xBF000000#32 *
      Ideal.div (invRms x) (Ideal.div (∑ k, x k * x k) (Ideal.ofBits FTy.f32 1149239296#32) + Ideal.ofBits FTy.f32 897988541#32)))
        (Ideal.ofBits FTy.f32 1149239296#32) +
    Ideal.div ((∑ k, x k * (d k * (1 + s k) * g k)) * (Ideal.ofBits FTy.f32 0xBF000000#32 *
      Ideal.div (invRms x) (Ideal.div (∑ k, x k * x k) (Ideal.ofBits FTy.f32 1149239296#32) + Ideal.ofBits FTy.f32 897988541#32)))
        (Ideal.ofBits FTy.f32 1149239296#32) * x j + u j

theorem width : Ideal.ofBits FTy.f32 1149239296#32 = ((1024 : ℝ) : EReal) := by
  simp [Ideal.ofBits, Ideal.ieee]
  norm_num
  rw [← EReal.coe_mul]
  norm_num

theorem half : Ideal.ofBits FTy.f32 0xBF000000#32 = ((-(1 / 2) : ℝ) : EReal) := by
  simp [Ideal.ofBits, Ideal.ieee]
  norm_num
  rw [← EReal.coe_mul]
  norm_num

theorem eps : ∃ e : ℝ, 0 < e ∧ Ideal.ofBits FTy.f32 897988541#32 = (e : EReal) := by
  refine ⟨_, ?_, by simp [Ideal.ofBits, Ideal.ieee]; rfl⟩
  norm_num

theorem coe_sum {ι : Type} (S : Finset ι) (f : ι → ℝ) : ∑ i ∈ S, ((f i : ℝ) : EReal) = ((∑ i ∈ S, f i : ℝ) : EReal) := by
  classical
  induction S using Finset.induction with
  | empty => simp
  | insert a S ha ih => rw [Finset.sum_insert ha, Finset.sum_insert ha, ih, EReal.coe_add]

theorem grad_real (d x g s : Fin 1024 → ℝ) (u : Fin 1024 → EReal) (j : Fin 1024) :
    gradRow (fun k => (d k : EReal)) (fun k => (x k : EReal)) u (fun k => (g k : EReal)) (fun k => (s k : EReal)) j =
      gradRef (fun k => (d k : EReal)) (fun k => (x k : EReal)) u (fun k => (g k : EReal)) (fun k => (s k : EReal)) j := by
  obtain ⟨e, he, hE⟩ := eps
  have hq : 0 < (∑ k, x k * x k) * (1 / 1024) + e :=
    add_pos_of_nonneg_of_pos (mul_nonneg (Finset.sum_nonneg fun k _ => mul_self_nonneg _) (by norm_num)) he
  obtain ⟨q, hqd⟩ : ∃ q, q = (∑ k, x k * x k) * (1 / 1024) + e := ⟨_, rfl⟩
  rw [← hqd] at hq
  have hQ : Ideal.div (∑ k, (x k : EReal) * (x k : EReal)) (Ideal.ofBits FTy.f32 1149239296#32) + Ideal.ofBits FTy.f32 897988541#32 = (q : EReal) := by
    rw [width, hE, Ideal.div_coe (by norm_num)]
    simp only [← EReal.coe_mul, coe_sum, ← EReal.coe_add, ← hqd]
  have hR : invRms (fun k => (x k : EReal)) = (((Real.sqrt q)⁻¹ : ℝ) : EReal) := by
    unfold invRms
    rw [hQ, Ideal.rsqrt_coe, if_neg (not_lt.2 hq.le), if_neg hq.ne']
  obtain ⟨r, hrd⟩ : ∃ r, r = (Real.sqrt q)⁻¹ := ⟨_, rfl⟩
  have hr : 1 / q = r * r := by
    rw [hrd, ← mul_inv, Real.mul_self_sqrt hq.le, one_div]
  rw [← hrd] at hR
  unfold gradRow gradRef
  rw [hQ, hR, width, half, Ideal.div_coe hq.ne', hr]
  simp only [Ideal.div_coe (show (1024 : ℝ) ≠ 0 by norm_num), ← EReal.coe_one, ← EReal.coe_mul, ← EReal.coe_add, ← EReal.coe_sub, coe_sum]
  rw [add_comm (u j)]
  refine congrArg (fun a : ℝ => (a : EReal) + u j) ?_
  have h1 : ∑ k, d k * g k * (1 + s k) * (x k * r) = (∑ k, x k * (d k * (1 + s k) * g k)) * r := by
    rw [Finset.sum_mul]
    exact Finset.sum_congr rfl fun k _ => by ring
  rw [h1]
  ring

end Cert.InBack

end
-- ==== Proof.MixModel.lean ====
/- The branches' mixture and the feed-forward layer, with the gradient through both: one row of every array, from one row of
   the inputs and the weights. -/
module

public import proofs.«01_k».proof.Proof.InReal

@[expose] public section

set_option maxRecDepth 16384

noncomputable section

namespace Cert.Mix

open Idealize.ShloMosaic
open Cert.InBack (invRms)

/-- What belongs to one frame: the retention's and the attention's outputs, the two gates' inputs, x and the target. -/
structure Row where
  r : Fin 1024 → EReal
  s : Fin 512 → EReal
  gr : Fin 1024 → EReal
  gs : Fin 1024 → EReal
  x : Fin 1024 → EReal
  t : Fin 1024 → EReal

/-- What all frames share: the modulation's rows with the gains, and the five weights. -/
structure Wts where
  v : (⟨2, ![16, 1024]⟩ : Shape).Idx → EReal
  wr : (⟨2, ![1024, 1024]⟩ : Shape).Idx → EReal
  ws : (⟨3, ![4, 512, 256]⟩ : Shape).Idx → EReal
  wo : (⟨2, ![1024, 1024]⟩ : Shape).Idx → EReal
  w1 : (⟨3, ![4, 1024, 1024]⟩ : Shape).Idx → EReal
  w2 : (⟨3, ![4, 1024, 1024]⟩ : Shape).Idx → EReal

/-- The frames' number as a float's word, and the inverse of the width. -/
def width : EReal := Ideal.ofBits FTy.f32 0x44800000#32
def inv : EReal := Ideal.ofBits FTy.f32 0x3A800000#32
def halfInv : EReal := Ideal.ofBits FTy.f32 0x3A000000#32
def two : EReal := Ideal.ofBits FTy.f32 0x40000000#32

/-- A normal form, and the gradient that the row `y` gets where its normal form gets `d`. -/
def norm (y : Fin 1024 → EReal) (j : Fin 1024) : EReal := y j * invRms y

def back (y d : Fin 1024 → EReal) (j : Fin 1024) : EReal :=
  invRms y * (d j - norm y j * Ideal.div (∑ k, d k * norm y k) width)

def gate (a : EReal) : EReal := Ideal.div 1 (1 + Ideal.exp (0 - a))

variable (W : Wts) (R : Row)

def gt1 (j : Fin 1024) : EReal := W.v (ix2 2 j)
def sh2 (j : Fin 1024) : EReal := W.v (ix2 3 j)
def sc2 (j : Fin 1024) : EReal := W.v (ix2 4 j)
def gt2 (j : Fin 1024) : EReal := W.v (ix2 5 j)
def g2 (j : Fin 1024) : EReal := W.v (ix2 7 j)
def g3 (j : Fin 1024) : EReal := W.v (ix2 8 j)
def g4 (j : Fin 1024) : EReal := W.v (ix2 9 j)

/-- The two branches through their weights, and their mixture. -/
def rb (j : Fin 1024) : EReal := ∑ k, R.r k * W.wr (ix2 k j)
def sp (j : Fin 1024) : EReal := ∑ k, R.s k * W.ws (ix3 ⟨j.val / 256, by omega⟩ k ⟨j.val % 256, Nat.mod_lt _ (by norm_num)⟩)
def mixed (j : Fin 1024) : EReal := gate (R.gr j) * rb W R j + gate (R.gs j) * sp W R j
def yy (j : Fin 1024) : EReal := ∑ k, mixed W R k * W.wo (ix2 k j)
/-- The residual stream after the branches, and its modulated normal form. -/
def h1 (j : Fin 1024) : EReal := R.x j + gt1 W j * norm (yy W R) j * g2 W j
def hb (j : Fin 1024) : EReal := norm (h1 W R) j * (g3 W j * (1 + sc2 W j)) + sh2 W j
/-- The feed-forward layer, its wide rows in four pieces. -/
def u (k : Fin 4) (j : Fin 1024) : EReal := ∑ q, hb W R q * W.w1 (ix3 k q j)
def act (k : Fin 4) (j : Fin 1024) : EReal := max (u W R k j) 0 * max (u W R k j) 0
def f (j : Fin 1024) : EReal := ∑ k : Fin 4, ∑ q, act W R k q * W.w2 (ix3 k q j)
/-- The step's error, and the gradient back through the layer. -/
def diff (j : Fin 1024) : EReal := h1 W R j + gt2 W j * norm (f W R) j * g4 W j - R.t j
def dout (j : Fin 1024) : EReal := diff W R j * inv
def dfn (j : Fin 1024) : EReal := dout W R j * gt2 W j * g4 W j
def df (j : Fin 1024) : EReal := back (f W R) (dfn W R) j
def du (k : Fin 4) (j : Fin 1024) : EReal := (∑ q, df W R q * W.w2 (ix3 k j q)) * (two * max (u W R k j) 0)
def dh2 (j : Fin 1024) : EReal := ∑ k : Fin 4, ∑ q, du W R k q * W.w1 (ix3 k j q)
def dhn (j : Fin 1024) : EReal := dh2 W R j * g3 W j * (1 + sc2 W j)
def dh1 (j : Fin 1024) : EReal := dout W R j + back (h1 W R) (dhn W R) j
def dyn (j : Fin 1024) : EReal := dh1 W R j * gt1 W j * g2 W j
def dy (j : Fin 1024) : EReal := back (yy W R) (dyn W R) j

/-- What some frames add to row `r` of the two arrays of sums. -/
def sta {n : ℕ} (Q : Fin n → Row) (r : ℕ) (j : Fin 1024) : EReal :=
  if r = 2 then (∑ i, diff W (Q i) j * diff W (Q i) j) * halfInv
  else if r = 1 then ∑ i, dout W (Q i) j * gt2 W j * norm (f W (Q i)) j
  else if r = 0 then ∑ i, dout W (Q i) j * norm (f W (Q i)) j * g4 W j
  else 0

def stb {n : ℕ} (Q : Fin n → Row) (r : ℕ) (j : Fin 1024) : EReal :=
  if r = 4 then ∑ i, dh1 W (Q i) j * gt1 W j * norm (yy W (Q i)) j
  else if r = 3 then ∑ i, dh1 W (Q i) j * norm (yy W (Q i)) j * g2 W j
  else if r = 2 then ∑ i, dh2 W (Q i) j * norm (h1 W (Q i)) j * (1 + sc2 W j)
  else if r = 1 then ∑ i, dh2 W (Q i) j * norm (h1 W (Q i)) j * g3 W j
  else if r = 0 then ∑ i, dh2 W (Q i) j
  else 0

end Cert.Mix

end
-- ==== Proof.MixBlock.lean ====
/- The mixture and the feed-forward layer: the payloads of a grid point as rows of the model, forward. -/
module

public import proofs.«01_k».proof.Proof.MixModel
public import proofs.«01_k».proof.Proof.Gen.Kernel6Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel6Ideal.Hand

open Cert.Kernel6Ideal Cert.Kernel6Ideal.Gen Idealize.ShloMosaic Idealize.ShloMosaic.TcCoe
open Cert.InBack (invRms)

/-- A grid point's blocks of the fourteen inputs. -/
structure Blk where
  x0 : Vec Ideal S256x1024 .bf16
  x1 : Vec Ideal S256x512 .bf16
  x2 : Vec Ideal S256x512 .bf16
  x3 : Vec Ideal S256x512 .bf16
  x4 : Vec Ideal S256x512 .bf16
  x5 : Vec Ideal S256x512 .bf16
  x6 : Vec Ideal S256x1024 .f32
  x7 : Vec Ideal S256x1024 .f32
  x8 : Vec Ideal S16x1024 .f32
  x9 : Vec Ideal S1024x1024 .bf16
  x10 : Vec Ideal S4x512x256 .bf16
  x11 : Vec Ideal S1024x1024 .bf16
  x12 : Vec Ideal S4x1024x1024 .bf16
  x13 : Vec Ideal S4x1024x1024 .bf16

namespace Blk

variable (b : Blk)

def wts : Mix.Wts := ⟨b.x8, b.x9, b.x10, b.x11, b.x12, b.x13⟩

/-- A row that lies in two halves. -/
def halves (p q : Vec Ideal S256x512 .bf16) (i : Fin 256) (k : Fin 1024) : EReal :=
  if h : k.val < 512 then p (ix2 i ⟨k.val, h⟩) else q (ix2 i ⟨k.val - 512, by omega⟩)

def row (i : Fin 256) : Mix.Row :=
  ⟨fun k => b.x0 (ix2 i k), fun k => b.x1 (ix2 i k), halves b.x2 b.x3 i, halves b.x4 b.x5 i, fun k => b.x6 (ix2 i k), fun k => b.x7 (ix2 i k)⟩

def v2 : Vec Ideal S1x1024 .f32 := View.ld b.x8 (Rect.unit ![2, 0] ![1, 1024] inb_S16x1024_S1x1024_2_0)
def v3 : Vec Ideal S1x1024 .f32 := View.ld b.x8 (Rect.unit ![3, 0] ![1, 1024] inb_S16x1024_S1x1024_3_0)
def v4 : Vec Ideal S1x1024 .f32 := View.ld b.x8 (Rect.unit ![4, 0] ![1, 1024] inb_S16x1024_S1x1024_4_0)
def v5 : Vec Ideal S1x1024 .f32 := View.ld b.x8 (Rect.unit ![5, 0] ![1, 1024] inb_S16x1024_S1x1024_5_0)
def v7 : Vec Ideal S1x1024 .f32 := View.ld b.x8 (Rect.unit ![7, 0] ![1, 1024] inb_S16x1024_S1x1024_7_0)
def v8 : Vec Ideal S1x1024 .f32 := View.ld b.x8 (Rect.unit ![8, 0] ![1, 1024] inb_S16x1024_S1x1024_8_0)
def v9 : Vec Ideal S1x1024 .f32 := View.ld b.x8 (Rect.unit ![9, 0] ![1, 1024] inb_S16x1024_S1x1024_9_0)
def p0 : Vec Ideal S1x1024x1024 .bf16 := View.ld b.x12 (Rect.unit ![0, 0, 0] ![1, 1024, 1024] inb_S4x1024x1024_S1x1024x1024_0_0_0)
def p1 : Vec Ideal S1x1024x1024 .bf16 := View.ld b.x12 (Rect.unit ![1, 0, 0] ![1, 1024, 1024] inb_S4x1024x1024_S1x1024x1024_1_0_0)
def p2 : Vec Ideal S1x1024x1024 .bf16 := View.ld b.x12 (Rect.unit ![2, 0, 0] ![1, 1024, 1024] inb_S4x1024x1024_S1x1024x1024_2_0_0)
def p3 : Vec Ideal S1x1024x1024 .bf16 := View.ld b.x12 (Rect.unit ![3, 0, 0] ![1, 1024, 1024] inb_S4x1024x1024_S1x1024x1024_3_0_0)
def q0 : Vec Ideal S1x1024x1024 .bf16 := View.ld b.x13 (Rect.unit ![0, 0, 0] ![1, 1024, 1024] inb_S4x1024x1024_S1x1024x1024_0_0_0)
def q1 : Vec Ideal S1x1024x1024 .bf16 := View.ld b.x13 (Rect.unit ![1, 0, 0] ![1, 1024, 1024] inb_S4x1024x1024_S1x1024x1024_1_0_0)
def q2 : Vec Ideal S1x1024x1024 .bf16 := View.ld b.x13 (Rect.unit ![2, 0, 0] ![1, 1024, 1024] inb_S4x1024x1024_S1x1024x1024_2_0_0)
def q3 : Vec Ideal S1x1024x1024 .bf16 := View.ld b.x13 (Rect.unit ![3, 0, 0] ![1, 1024, 1024] inb_S4x1024x1024_S1x1024x1024_3_0_0)

def one : Ideal .f32 := FloatOps.ofBits FTy.f32 1065353216#32
def zero : Ideal .f32 := FloatOps.ofBits FTy.f32 0#32

theorem one_eq : one = (1 : EReal) := by
  unfold one
  pointwise

theorem zero_eq : zero = (0 : EReal) := by
  unfold zero
  pointwise

theorem ld_vec (v : Vec Ideal S16x1024 .f32) (o : Fin 16)
    (inb : ∀ a : Fin 2, (![o.val, 0] : Fin 2 → ℕ) a + (![1, 1024] : Fin 2 → ℕ) a ≤ (![16, 1024] : Fin 2 → ℕ) a) (j : Fin 1024) :
    View.ld v (Rect.unit (s := S16x1024) ![o.val, 0] ![1, 1024] inb) (ix2 0 j : S1x1024.Idx) = v (ix2 o j) :=
  congrArg v (funext fun d => match d with
    | ⟨0, _⟩ => rfl
    | ⟨1, _⟩ => Fin.ext (by show 0 + 1 * j.val = j.val; omega))

theorem ld_mat (v : Vec Ideal S4x1024x1024 .bf16) (o : Fin 4)
    (inb : ∀ a : Fin 3, (![o.val, 0, 0] : Fin 3 → ℕ) a + (![1, 1024, 1024] : Fin 3 → ℕ) a ≤ (![4, 1024, 1024] : Fin 3 → ℕ) a) (k j : Fin 1024) :
    View.ld v (Rect.unit (s := S4x1024x1024) ![o.val, 0, 0] ![1, 1024, 1024] inb) (ix3 0 k j : S1x1024x1024.Idx) = v (ix3 o k j) :=
  congrArg v (funext fun d => match d with
    | ⟨0, _⟩ => rfl
    | ⟨1, _⟩ => Fin.ext (by show 0 + 1 * k.val = k.val; omega)
    | ⟨2, _⟩ => Fin.ext (by show 0 + 1 * j.val = j.val; omega))

theorem v2_apply (j : Fin 1024) : b.v2 (ix2 0 j) = Mix.gt1 b.wts j := ld_vec b.x8 2 _ j
theorem v3_apply (j : Fin 1024) : b.v3 (ix2 0 j) = Mix.sh2 b.wts j := ld_vec b.x8 3 _ j
theorem v4_apply (j : Fin 1024) : b.v4 (ix2 0 j) = Mix.sc2 b.wts j := ld_vec b.x8 4 _ j
theorem v5_apply (j : Fin 1024) : b.v5 (ix2 0 j) = Mix.gt2 b.wts j := ld_vec b.x8 5 _ j
theorem v7_apply (j : Fin 1024) : b.v7 (ix2 0 j) = Mix.g2 b.wts j := ld_vec b.x8 7 _ j
theorem v8_apply (j : Fin 1024) : b.v8 (ix2 0 j) = Mix.g3 b.wts j := ld_vec b.x8 8 _ j
theorem v9_apply (j : Fin 1024) : b.v9 (ix2 0 j) = Mix.g4 b.wts j := ld_vec b.x8 9 _ j
theorem p0_apply (k j : Fin 1024) : b.p0 (ix3 0 k j) = b.wts.w1 (ix3 0 k j) := ld_mat b.x12 0 _ k j
theorem q0_apply (k j : Fin 1024) : b.q0 (ix3 0 k j) = b.wts.w2 (ix3 0 k j) := ld_mat b.x13 0 _ k j
theorem p1_apply (k j : Fin 1024) : b.p1 (ix3 0 k j) = b.wts.w1 (ix3 1 k j) := ld_mat b.x12 1 _ k j
theorem q1_apply (k j : Fin 1024) : b.q1 (ix3 0 k j) = b.wts.w2 (ix3 1 k j) := ld_mat b.x13 1 _ k j
theorem p2_apply (k j : Fin 1024) : b.p2 (ix3 0 k j) = b.wts.w1 (ix3 2 k j) := ld_mat b.x12 2 _ k j
theorem q2_apply (k j : Fin 1024) : b.q2 (ix3 0 k j) = b.wts.w2 (ix3 2 k j) := ld_mat b.x13 2 _ k j
theorem p3_apply (k j : Fin 1024) : b.p3 (ix3 0 k j) = b.wts.w1 (ix3 3 k j) := ld_mat b.x12 3 _ k j
theorem q3_apply (k j : Fin 1024) : b.q3 (ix3 0 k j) = b.wts.w2 (ix3 3 k j) := ld_mat b.x13 3 _ k j

/-- The payloads up to the hidden state. -/
def rb : FVec Ideal S256x1024 .f32 := k0_pay6 b.x0 b.x9
def sp : FVec Ideal S256x1024 .f32 := k0_pay7 b.x1
  (View.ld b.x10 (Rect.unit ![0, 0, 0] ![1, 512, 256] inb_S4x512x256_S1x512x256_0_0_0))
  (View.ld b.x10 (Rect.unit ![1, 0, 0] ![1, 512, 256] inb_S4x512x256_S1x512x256_1_0_0))
  (View.ld b.x10 (Rect.unit ![2, 0, 0] ![1, 512, 256] inb_S4x512x256_S1x512x256_2_0_0))
  (View.ld b.x10 (Rect.unit ![3, 0, 0] ![1, 512, 256] inb_S4x512x256_S1x512x256_3_0_0))
def mx : FVec Ideal S256x1024 .bf16 := k0_pay9 b.rb b.sp (k0_pay8 b.x2 b.x3) one b.x4 b.x5
def yy : FVec Ideal S256x1024 .f32 := k0_pay12 b.rb b.sp (k0_pay8 b.x2 b.x3) one b.x4 b.x5 b.x11
def sq : FVec Ideal S256x1024 .f32 := k0_pay13 b.rb b.sp (k0_pay8 b.x2 b.x3) one b.x4 b.x5 b.x11
def h1 : FVec Ideal S256x1024 .f32 := k0_pay16 b.yy b.v2 b.v7 b.sq b.x6
def hn : FVec Ideal S256x1024 .f32 := k0_pay18 b.yy b.v2 b.v7 b.sq b.x6
def hb : FVec Ideal S256x1024 .bf16 := k0_pay19 b.yy b.v2 b.v7 b.v8 b.v4 b.sq b.x6 b.v3

theorem rb_apply (i : Fin 256) (j : Fin 1024) : b.rb (ix2 i j) = Mix.rb b.wts (b.row i) j := by
  unfold rb Mix.rb
  open_payloads
  pointwise
  rfl

theorem sp_term (i : Fin 256) (j : Fin 1024) (k : Fin 512) (o : Fin 4) (q : Fin 256) (e : j.val = o.val * 256 + q.val) :
    b.x1 (ix2 i k) * b.x10 (ix3 o k q) =
      (b.row i).s k * b.wts.ws (ix3 ⟨j.val / 256, by omega⟩ k ⟨j.val % 256, Nat.mod_lt _ (by norm_num)⟩) := by
  have ho := o.isLt
  have hq := q.isLt
  refine congrArg (b.x1 (ix2 i k) * ·) (congrArg b.x10 (congrArg₂ (fun p q => ix3 p k q) (Fin.ext ?_) (Fin.ext ?_)))
  · show o.val = j.val / 256
    omega
  · show q.val = j.val % 256
    omega

theorem sp_apply (i : Fin 256) (j : Fin 1024) : b.sp (ix2 i j) = Mix.sp b.wts (b.row i) j := by
  unfold sp Mix.sp
  open_payloads
  pointwise
  have hj := j.isLt
  simp only [Nat.sub_sub, Nat.reduceAdd]
  split_ifs
  all_goals first
    | exact Finset.sum_congr rfl fun k _ => b.sp_term i j k 0 ⟨j.val, by omega⟩ (by show j.val = 0 * 256 + j.val; omega)
    | exact Finset.sum_congr rfl fun k _ => b.sp_term i j k 1 ⟨j.val - 256, by omega⟩ (by show j.val = 1 * 256 + (j.val - 256); omega)
    | exact Finset.sum_congr rfl fun k _ => b.sp_term i j k 2 ⟨j.val - 512, by omega⟩ (by show j.val = 2 * 256 + (j.val - 512); omega)
    | exact Finset.sum_congr rfl fun k _ => b.sp_term i j k 3 ⟨j.val - 768, by omega⟩ (by show j.val = 3 * 256 + (j.val - 768); omega)

theorem mx_apply (i : Fin 256) (j : Fin 1024) : b.mx (ix2 i j) = Mix.mixed b.wts (b.row i) j := by
  have h0 := b.rb_apply i j
  have h1 := b.sp_apply i j
  unfold mx Mix.mixed Mix.gate
  unfold k0_pay9 k0_pay8
  pointwise
  rw [h0, h1, one_eq]
  rfl

theorem yy_apply (i : Fin 256) (j : Fin 1024) : b.yy (ix2 i j) = Mix.yy b.wts (b.row i) j := by
  have h := b.mx_apply i
  unfold mx at h
  unfold yy Mix.yy
  unfold k0_pay12
  pointwise
  exact Finset.sum_congr rfl fun k _ => congrArg (· * b.x11 (ix2 k j)) (h k)

theorem sq_apply (i : Fin 256) (j : Fin 1024) : b.sq (ix2 i j) = Mix.yy b.wts (b.row i) j * Mix.yy b.wts (b.row i) j := by
  have h := b.yy_apply i j
  unfold yy at h
  unfold sq
  unfold k0_pay13
  pointwise
  rw [h]

theorem r2_apply (i : Fin 256) : k0_pay14 b.sq (ix2 i 0) = invRms (Mix.yy b.wts (b.row i)) := by
  have h := b.sq_apply i
  unfold invRms
  unfold k0_pay14
  pointwise
  simp only [h]

theorem yn_apply (i : Fin 256) (j : Fin 1024) : k0_pay15 b.yy b.sq (ix2 i j) = Mix.norm (Mix.yy b.wts (b.row i)) j := by
  have h := b.yy_apply i j
  have h' := b.r2_apply i
  unfold Mix.norm
  unfold k0_pay15
  pointwise
  rw [h, h']

theorem h1_apply (i : Fin 256) (j : Fin 1024) : b.h1 (ix2 i j) = Mix.h1 b.wts (b.row i) j := by
  have h := b.yn_apply i j
  unfold h1 Mix.h1
  unfold k0_pay16
  pointwise
  rw [h, v2_apply, v7_apply]
  rfl

theorem r3_apply (i : Fin 256) : k0_pay17 b.yy b.v2 b.v7 b.sq b.x6 (ix2 i 0) = invRms (Mix.h1 b.wts (b.row i)) := by
  have h := b.h1_apply i
  unfold h1 at h
  unfold invRms
  unfold k0_pay17
  pointwise
  simp only [h]

theorem hn_apply (i : Fin 256) (j : Fin 1024) : b.hn (ix2 i j) = Mix.norm (Mix.h1 b.wts (b.row i)) j := by
  have h := b.h1_apply i j
  have h' := b.r3_apply i
  unfold h1 at h
  unfold hn Mix.norm
  unfold k0_pay18
  pointwise
  rw [h, h']

theorem hb_apply (i : Fin 256) (j : Fin 1024) : b.hb (ix2 i j) = Mix.hb b.wts (b.row i) j := by
  have h := b.hn_apply i j
  unfold hn at h
  unfold hb Mix.hb
  unfold k0_pay19
  pointwise
  rw [h, v8_apply, v4_apply, v3_apply]

end Blk

end Cert.Kernel6Ideal.Hand

end
-- ==== Proof.MixWide.lean ====
/- The mixture and the feed-forward layer: the payloads of a grid point as rows of the model, from the hidden state through
   the feed-forward layer to the error and back to the gradient of the layer's output. -/
module

public import proofs.«01_k».proof.Proof.MixBlock

@[expose] public section

set_option maxRecDepth 16384

noncomputable section

namespace Cert.Kernel6Ideal.Hand.Blk

open Cert.Kernel6Ideal Cert.Kernel6Ideal.Gen Idealize.ShloMosaic Idealize.ShloMosaic.TcCoe
open Cert.InBack (invRms)

variable (b : Blk)

/-- The wide rows' four pieces: the product, and its squared positive part. -/
def u0 : FVec Ideal S256x1024 .f32 := k0_pay21 b.yy b.v2 b.v7 b.v8 b.v4 b.sq b.x6 b.v3 b.p0
def m0 : FVec Ideal S256x1024 .f32 := k0_pay22 b.yy b.v2 b.v7 b.v8 b.v4 b.sq b.x6 b.v3 b.p0
def u1 : FVec Ideal S256x1024 .f32 := k0_pay25 b.hb b.p1
def u2 : FVec Ideal S256x1024 .f32 := k0_pay29 b.hb b.p2
def u3 : FVec Ideal S256x1024 .f32 := k0_pay32 b.hb b.p3
def a0 : FVec Ideal S256x1024 .bf16 := k0_pay23 b.m0
def a1 : FVec Ideal S256x1024 .bf16 := k0_pay26 b.hb b.p1
def a2 : FVec Ideal S256x1024 .bf16 := k0_pay30 b.u2 zero
def a3 : FVec Ideal S256x1024 .bf16 := k0_pay33 b.hb b.p3

theorem u0_apply (i : Fin 256) (j : Fin 1024) : b.u0 (ix2 i j) = Mix.u b.wts (b.row i) 0 j := by
  have h := b.hb_apply i
  unfold hb at h
  unfold u0 Mix.u k0_pay21
  pointwise
  exact Finset.sum_congr rfl fun k _ => congrArg₂ (· * ·) (h k) (b.p0_apply k j)

theorem u1_apply (i : Fin 256) (j : Fin 1024) : b.u1 (ix2 i j) = Mix.u b.wts (b.row i) 1 j := by
  unfold u1 Mix.u k0_pay25
  pointwise
  exact Finset.sum_congr rfl fun k _ => congrArg₂ (· * ·) (b.hb_apply i k) (b.p1_apply k j)

theorem u2_apply (i : Fin 256) (j : Fin 1024) : b.u2 (ix2 i j) = Mix.u b.wts (b.row i) 2 j := by
  unfold u2 Mix.u k0_pay29
  pointwise
  exact Finset.sum_congr rfl fun k _ => congrArg₂ (· * ·) (b.hb_apply i k) (b.p2_apply k j)

theorem u3_apply (i : Fin 256) (j : Fin 1024) : b.u3 (ix2 i j) = Mix.u b.wts (b.row i) 3 j := by
  unfold u3 Mix.u k0_pay32
  pointwise
  exact Finset.sum_congr rfl fun k _ => congrArg₂ (· * ·) (b.hb_apply i k) (b.p3_apply k j)

theorem a0_apply (i : Fin 256) (j : Fin 1024) : b.a0 (ix2 i j) = Mix.act b.wts (b.row i) 0 j := by
  have h := b.u0_apply i j
  unfold u0 at h
  unfold a0 m0 Mix.act k0_pay23 k0_pay22
  pointwise
  rw [h]

theorem a1_apply (i : Fin 256) (j : Fin 1024) : b.a1 (ix2 i j) = Mix.act b.wts (b.row i) 1 j := by
  have h := b.u1_apply i j
  unfold u1 at h
  unfold a1 Mix.act k0_pay26
  pointwise
  rw [h]

theorem a2_apply (i : Fin 256) (j : Fin 1024) : b.a2 (ix2 i j) = Mix.act b.wts (b.row i) 2 j := by
  have h := b.u2_apply i j
  unfold a2 Mix.act k0_pay30
  pointwise
  rw [h, zero_eq]

theorem a3_apply (i : Fin 256) (j : Fin 1024) : b.a3 (ix2 i j) = Mix.act b.wts (b.row i) 3 j := by
  have h := b.u3_apply i j
  unfold u3 at h
  unfold a3 Mix.act k0_pay33
  pointwise
  rw [h]

/-- The layer's output. -/
def f01 : FVec Ideal S256x1024 .f32 := k0_pay28 b.hb k0_pay20 b.m0 b.q0 b.p1 b.q1
def f : FVec Ideal S256x1024 .f32 := k0_pay35 b.hb b.f01 b.u2 zero b.q2 b.p3 b.q3
def fs : FVec Ideal S256x1 .f32 := k0_pay36 b.hb b.f01 b.u2 zero b.q2 b.p3 b.q3
def r4 : FVec Ideal S256x1 .f32 := k0_pay38 b.fs k0_pay37
def fn : FVec Ideal S256x1024 .f32 := k0_pay39 b.f b.fs k0_pay37
def diff : FVec Ideal S256x1024 .f32 := k0_pay40 b.h1 b.f b.fs k0_pay37 b.v5 b.v9 b.x7
def dout : FVec Ideal S256x1024 .f32 := k0_pay41 b.h1 b.f b.fs k0_pay37 b.v5 b.v9 b.x7
def df : FVec Ideal S256x1024 .bf16 := k0_pay42 b.h1 b.f b.fs k0_pay37 b.v5 b.v9 b.x7

theorem f01_apply (i : Fin 256) (j : Fin 1024) : b.f01 (ix2 i j) =
    (∑ q, Mix.act b.wts (b.row i) 0 q * b.wts.w2 (ix3 0 q j)) + ∑ q, Mix.act b.wts (b.row i) 1 q * b.wts.w2 (ix3 1 q j) := by
  have h0 := b.a0_apply i
  have h1 := b.a1_apply i
  unfold a0 at h0
  unfold a1 at h1
  unfold f01 k0_pay28 k0_pay20
  pointwise
  exact congrArg₂ (· + ·) (Finset.sum_congr rfl fun k _ => congrArg₂ (· * ·) (h0 k) (b.q0_apply k j))
    (Finset.sum_congr rfl fun k _ => congrArg₂ (· * ·) (h1 k) (b.q1_apply k j))

theorem f_apply (i : Fin 256) (j : Fin 1024) : b.f (ix2 i j) = Mix.f b.wts (b.row i) j := by
  have h0 := b.f01_apply i j
  have h2 := b.a2_apply i
  have h3 := b.a3_apply i
  unfold a2 at h2
  unfold a3 at h3
  unfold f Mix.f k0_pay35
  pointwise
  rw [Fin.sum_univ_four, h0]
  exact congrArg₂ (· + ·) (congrArg (_ + ·) (Finset.sum_congr rfl fun k _ => congrArg₂ (· * ·) (h2 k) (b.q2_apply k j)))
    (Finset.sum_congr rfl fun k _ => congrArg₂ (· * ·) (h3 k) (b.q3_apply k j))

theorem r4_apply (i : Fin 256) : b.r4 (ix2 i 0) = invRms (Mix.f b.wts (b.row i)) := by
  have h := b.f_apply i
  unfold f at h
  unfold r4 fs invRms k0_pay38 k0_pay36 k0_pay37
  pointwise
  simp only [h]

theorem fn_apply (i : Fin 256) (j : Fin 1024) : b.fn (ix2 i j) = Mix.norm (Mix.f b.wts (b.row i)) j := by
  have h := b.r4_apply i
  unfold r4 at h
  unfold fn Mix.norm k0_pay39
  pointwise
  rw [h, f_apply]

theorem diff_apply (i : Fin 256) (j : Fin 1024) : b.diff (ix2 i j) = Mix.diff b.wts (b.row i) j := by
  have h := b.fn_apply i j
  unfold fn at h
  unfold diff Mix.diff k0_pay40
  pointwise
  rw [h, h1_apply, v5_apply, v9_apply]
  rfl

theorem dout_apply (i : Fin 256) (j : Fin 1024) : b.dout (ix2 i j) = Mix.dout b.wts (b.row i) j := by
  have h := b.diff_apply i j
  unfold diff at h
  unfold dout Mix.dout Mix.inv k0_pay41
  pointwise
  rw [h]

theorem df_apply (i : Fin 256) (j : Fin 1024) : b.df (ix2 i j) = Mix.df b.wts (b.row i) j := by
  have h := b.dout_apply i
  have h' := b.fn_apply i
  have h'' := b.r4_apply i
  unfold dout at h
  unfold fn at h'
  unfold r4 at h''
  unfold df Mix.df Mix.back Mix.dfn Mix.width k0_pay42
  pointwise
  simp only [h, h', h'', v5_apply, v9_apply]

end Cert.Kernel6Ideal.Hand.Blk

end
-- ==== Proof.MixBack.lean ====
/- The mixture and the feed-forward layer: the payloads of a grid point as rows of the model, back through the layer and the
   two norms. -/
module

public import proofs.«01_k».proof.Proof.MixWide

@[expose] public section

set_option maxRecDepth 16384

noncomputable section

namespace Cert.Kernel6Ideal.Hand.Blk

open Cert.Kernel6Ideal Cert.Kernel6Ideal.Gen Idealize.ShloMosaic Idealize.ShloMosaic.TcCoe
open Cert.InBack (invRms)

variable (b : Blk)

/-- The wide rows as the scratch keeps them, and their gradients, in four pieces. -/
def c0 : FVec Ideal S256x1024 .bf16 := k0_pay24 b.u0
def c1 : FVec Ideal S256x1024 .bf16 := k0_pay27 b.hb b.p1
def c2 : FVec Ideal S256x1024 .bf16 := k0_pay31 b.u2
def c3 : FVec Ideal S256x1024 .bf16 := k0_pay34 b.hb b.p3
def d0 : FVec Ideal S256x1024 .bf16 := k0_pay47 b.df b.q0 b.c0
def d1 : FVec Ideal S256x1024 .bf16 := k0_pay48 b.df b.q1 b.c1
def d2 : FVec Ideal S256x1024 .bf16 := k0_pay50 b.df b.q2 b.c2
def d3 : FVec Ideal S256x1024 .bf16 := k0_pay51 b.df b.q3 b.c3

theorem c0_apply (i : Fin 256) (j : Fin 1024) : b.c0 (ix2 i j) = Mix.u b.wts (b.row i) 0 j := by
  have h := b.u0_apply i j
  unfold c0 k0_pay24
  pointwise
  exact h

theorem c1_apply (i : Fin 256) (j : Fin 1024) : b.c1 (ix2 i j) = Mix.u b.wts (b.row i) 1 j := by
  have h := b.u1_apply i j
  unfold u1 at h
  unfold c1 k0_pay27
  pointwise
  exact h

theorem c2_apply (i : Fin 256) (j : Fin 1024) : b.c2 (ix2 i j) = Mix.u b.wts (b.row i) 2 j := by
  have h := b.u2_apply i j
  unfold c2 k0_pay31
  pointwise
  exact h

theorem c3_apply (i : Fin 256) (j : Fin 1024) : b.c3 (ix2 i j) = Mix.u b.wts (b.row i) 3 j := by
  have h := b.u3_apply i j
  unfold u3 at h
  unfold c3 k0_pay34
  pointwise
  exact h

theorem d0_apply (i : Fin 256) (j : Fin 1024) : b.d0 (ix2 i j) = Mix.du b.wts (b.row i) 0 j := by
  unfold d0 Mix.du Mix.two k0_pay47
  pointwise
  rw [c0_apply]
  exact congrArg (· * _) (Finset.sum_congr rfl fun k _ => congrArg₂ (· * ·) (b.df_apply i k) (b.q0_apply j k))

theorem d1_apply (i : Fin 256) (j : Fin 1024) : b.d1 (ix2 i j) = Mix.du b.wts (b.row i) 1 j := by
  unfold d1 Mix.du Mix.two k0_pay48
  pointwise
  rw [c1_apply]
  exact congrArg (· * _) (Finset.sum_congr rfl fun k _ => congrArg₂ (· * ·) (b.df_apply i k) (b.q1_apply j k))

theorem d2_apply (i : Fin 256) (j : Fin 1024) : b.d2 (ix2 i j) = Mix.du b.wts (b.row i) 2 j := by
  unfold d2 Mix.du Mix.two k0_pay50
  pointwise
  rw [c2_apply]
  exact congrArg (· * _) (Finset.sum_congr rfl fun k _ => congrArg₂ (· * ·) (b.df_apply i k) (b.q2_apply j k))

theorem d3_apply (i : Fin 256) (j : Fin 1024) : b.d3 (ix2 i j) = Mix.du b.wts (b.row i) 3 j := by
  unfold d3 Mix.du Mix.two k0_pay51
  pointwise
  rw [c3_apply]
  exact congrArg (· * _) (Finset.sum_congr rfl fun k _ => congrArg₂ (· * ·) (b.df_apply i k) (b.q3_apply j k))

/-- The hidden state's gradient, and what follows from it. -/
def g01 : FVec Ideal S256x1024 .f32 := k0_pay49 b.df k0_pay46 b.d0 b.p0 b.q1 b.c1 b.p1
def dh2 : FVec Ideal S256x1024 .f32 := k0_pay52 b.df b.g01 b.d2 b.p2 b.q3 b.c3 b.p3
def r3 : FVec Ideal S256x1 .f32 := k0_pay17 b.yy b.v2 b.v7 b.sq b.x6
def dh1 : FVec Ideal S256x1024 .f32 := k0_pay53 b.v8 b.v4 b.r3 b.hn b.dout b.df b.g01 b.d2 b.p2 b.q3 b.c3 b.p3
def dt : FVec Ideal S256x1024 .f32 := k0_pay54 b.v2 b.v8 b.v4 b.r3 b.hn b.dout b.df b.g01 b.d2 b.p2 b.q3 b.c3 b.p3
def dy : FVec Ideal S256x1024 .bf16 := k0_pay55 b.v7 (k0_pay14 b.sq) (k0_pay15 b.yy b.sq) b.dt

theorem g01_apply (i : Fin 256) (j : Fin 1024) : b.g01 (ix2 i j) =
    (∑ q, Mix.du b.wts (b.row i) 0 q * b.wts.w1 (ix3 0 j q)) + ∑ q, Mix.du b.wts (b.row i) 1 q * b.wts.w1 (ix3 1 j q) := by
  have h1 := b.d1_apply i
  unfold d1 at h1
  unfold g01 k0_pay49 k0_pay46
  pointwise
  exact congrArg₂ (· + ·) (Finset.sum_congr rfl fun k _ => congrArg₂ (· * ·) (b.d0_apply i k) (b.p0_apply j k))
    (Finset.sum_congr rfl fun k _ => congrArg₂ (· * ·) (h1 k) (b.p1_apply j k))

theorem dh2_apply (i : Fin 256) (j : Fin 1024) : b.dh2 (ix2 i j) = Mix.dh2 b.wts (b.row i) j := by
  have h0 := b.g01_apply i j
  have h3 := b.d3_apply i
  unfold d3 at h3
  unfold dh2 Mix.dh2 k0_pay52
  pointwise
  rw [Fin.sum_univ_four, h0]
  exact congrArg₂ (· + ·) (congrArg (_ + ·) (Finset.sum_congr rfl fun k _ => congrArg₂ (· * ·) (b.d2_apply i k) (b.p2_apply j k)))
    (Finset.sum_congr rfl fun k _ => congrArg₂ (· * ·) (h3 k) (b.p3_apply j k))

theorem dh1_apply (i : Fin 256) (j : Fin 1024) : b.dh1 (ix2 i j) = Mix.dh1 b.wts (b.row i) j := by
  have h := b.dh2_apply i
  have h' := b.r3_apply i
  unfold dh2 at h
  unfold dh1 r3 Mix.dh1 Mix.back Mix.dhn Mix.width k0_pay53
  pointwise
  simp only [h, h', v8_apply, v4_apply, hn_apply, dout_apply]

theorem dt_apply (i : Fin 256) (j : Fin 1024) : b.dt (ix2 i j) = Mix.dh1 b.wts (b.row i) j * Mix.gt1 b.wts j := by
  have h := b.dh1_apply i j
  unfold dh1 at h
  unfold dt k0_pay54
  pointwise
  rw [h, v2_apply]

theorem dy_apply (i : Fin 256) (j : Fin 1024) : b.dy (ix2 i j) = Mix.dy b.wts (b.row i) j := by
  unfold dy Mix.dy Mix.back Mix.dyn Mix.width k0_pay55
  pointwise
  simp only [dt_apply, v7_apply, yn_apply, r2_apply]

/-- The rows of the two arrays of sums, each added to what was there. -/
theorem sta0_apply (o : Vec Ideal S1x1024 .f32) (j : Fin 1024) :
    k0_pay43 b.h1 b.f b.fs k0_pay37 b.v5 b.v9 b.x7 o (ix2 0 j) = o (ix2 0 j) + Mix.sta b.wts b.row 0 j := by
  have h := fun i => b.dout_apply i j
  have h' := fun i => b.fn_apply i j
  unfold dout at h
  unfold fn at h'
  unfold Mix.sta k0_pay43
  pointwise
  simp only [h, h', v9_apply]

theorem sta1_apply (o : Vec Ideal S1x1024 .f32) (j : Fin 1024) :
    k0_pay44 b.fn b.v5 b.dout o (ix2 0 j) = o (ix2 0 j) + Mix.sta b.wts b.row 1 j := by
  unfold Mix.sta k0_pay44
  pointwise
  simp only [fn_apply, dout_apply, v5_apply]

theorem sta2_apply (o : Vec Ideal S1x1024 .f32) (j : Fin 1024) :
    k0_pay45 b.diff o (ix2 0 j) = o (ix2 0 j) + Mix.sta b.wts b.row 2 j := by
  unfold Mix.sta Mix.halfInv k0_pay45
  pointwise
  simp only [diff_apply]

theorem stb0_apply (o : Vec Ideal S1x1024 .f32) (j : Fin 1024) :
    k0_pay56 b.dh2 o (ix2 0 j) = o (ix2 0 j) + Mix.stb b.wts b.row 0 j := by
  unfold Mix.stb k0_pay56
  pointwise
  simp only [dh2_apply]

theorem stb1_apply (o : Vec Ideal S1x1024 .f32) (j : Fin 1024) :
    k0_pay57 b.v8 b.hn b.dh2 o (ix2 0 j) = o (ix2 0 j) + Mix.stb b.wts b.row 1 j := by
  unfold Mix.stb k0_pay57
  pointwise
  simp only [dh2_apply, hn_apply, v8_apply]

theorem stb2_apply (o : Vec Ideal S1x1024 .f32) (j : Fin 1024) :
    k0_pay1 (k0_pay58 o) (k0_pay59 b.v4 b.hn b.dh2) (ix2 0 j) = o (ix2 0 j) + Mix.stb b.wts b.row 2 j := by
  unfold Mix.stb k0_pay1 k0_pay58 k0_pay59
  pointwise
  simp only [dh2_apply, hn_apply, v4_apply]

theorem stb3_apply (o : Vec Ideal S1x1024 .f32) (j : Fin 1024) :
    k0_pay2 b.v7 (k0_pay15 b.yy b.sq) b.dh1 o (ix2 0 j) = o (ix2 0 j) + Mix.stb b.wts b.row 3 j := by
  unfold Mix.stb k0_pay2
  pointwise
  simp only [dh1_apply, yn_apply, v7_apply]

theorem stb4_apply (o : Vec Ideal S1x1024 .f32) (j : Fin 1024) :
    k0_pay3 b.v2 (k0_pay15 b.yy b.sq) b.dh1 o (ix2 0 j) = o (ix2 0 j) + Mix.stb b.wts b.row 4 j := by
  unfold Mix.stb k0_pay3
  pointwise
  simp only [dh1_apply, yn_apply, v2_apply]

end Cert.Kernel6Ideal.Hand.Blk

end
-- ==== Proof.MixPoint.lean ====
/- The mixture and the feed-forward layer: what a grid point leaves in its forward output blocks. -/
module

public import proofs.«01_k».proof.Proof.MixBack
public import Idealize.ShloMosaic.Lib.WritesUnit

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The point's blocks. -/
def blk : Blk := ⟨iblk m c 0 t, iblk m c 1 t, iblk m c 2 t, iblk m c 3 t, iblk m c 4 t, iblk m c 5 t, iblk m c 6 t, iblk m c 7 t,
  iblk m c 8 t, iblk m c 9 t, iblk m c 10 t, iblk m c 11 t, iblk m c 12 t, iblk m c 13 t⟩

/-- A store of some columns is read there and nowhere else. -/
theorem canon_cols (o : ℕ) (inb : ∀ a : Fin 2, (![0, o] : Fin 2 → ℕ) a + (![256, 1024] : Fin 2 → ℕ) a ≤ (![256, 4096] : Fin 2 → ℕ) a)
    (w : S256x1024.Idx → EReal) (L : List (View.Piece (Elt Ideal) S256x4096 .bf16)) (i : Fin 256) (n : Fin 4096) :
    View.canon (Val := Elt Ideal) (e := .bf16) ((⟨Rect.unit (s := S256x4096) ![0, o] ![256, 1024] inb, w⟩ : View.Piece (Elt Ideal) S256x4096 .bf16) :: L) (ix2 i n) =
      if h : o ≤ n.val ∧ n.val - o < 1024 then w (ix2 i ⟨n.val - o, h.2⟩) else View.canon L (ix2 i n) := by
  split
  · rename_i h
    rw [show (ix2 i n : S256x4096.Idx) = (Rect.unit (s := S256x4096) ![0, o] ![256, 1024] inb).emb (ix2 i ⟨n.val - o, h.2⟩ : S256x1024.Idx) by
      funext d
      match d with
      | ⟨0, _⟩ => exact Fin.ext (by show i.val = 0 + 1 * i.val; omega)
      | ⟨1, _⟩ => exact Fin.ext (by show n.val = o + 1 * (n.val - o); omega)]
    exact View.canon_cons_emb _ _ _ _
  · rename_i h
    refine View.canon_cons_of_not_mem _ _ fun hm => ?_
    obtain ⟨x, hx⟩ := (Rect.unit (s := S256x4096) ![0, o] ![256, 1024] inb).exists_idx_of_mem hm
    have hv := congrArg Fin.val (congrFun hx 1)
    have hx1 : (x 1).val < 1024 := (x 1).isLt
    have hv' : o + 1 * (x 1).val = n.val := hv
    exact h ⟨by omega, by omega⟩

/-- A row that is written in four pieces. -/
theorem canon_wide (w0 w1 w2 w3 : S256x1024.Idx → EReal) (g : Fin 4 → Fin 1024 → EReal) (i : Fin 256) (n : Fin 4096)
    (h0 : ∀ j, w0 (ix2 i j) = g 0 j) (h1 : ∀ j, w1 (ix2 i j) = g 1 j) (h2 : ∀ j, w2 (ix2 i j) = g 2 j) (h3 : ∀ j, w3 (ix2 i j) = g 3 j) :
    View.canon (Val := Elt Ideal) (e := .bf16)
      [⟨Rect.unit (s := S256x4096) ![0, 3072] ![256, 1024] inb_S256x4096_S256x1024_0_3072, w3⟩,
       ⟨Rect.unit (s := S256x4096) ![0, 2048] ![256, 1024] inb_S256x4096_S256x1024_0_2048, w2⟩,
       ⟨Rect.unit (s := S256x4096) ![0, 1024] ![256, 1024] inb_S256x4096_S256x1024_0_1024, w1⟩,
       ⟨Rect.unit (s := S256x4096) ![0, 0] ![256, 1024] inb_S256x4096_S256x1024_0_0, w0⟩] (ix2 i n) =
      g ⟨n.val / 1024, by omega⟩ ⟨n.val % 1024, Nat.mod_lt _ (by norm_num)⟩ := by
  have hn := n.isLt
  refine (canon_cols 3072 _ _ _ i n).trans ?_
  split
  · exact (h3 _).trans (congrArg₂ g (Fin.ext (by show 3 = n.val / 1024; omega)) (Fin.ext (by show n.val - 3072 = n.val % 1024; omega)))
  refine (canon_cols 2048 _ _ _ i n).trans ?_
  split
  · exact (h2 _).trans (congrArg₂ g (Fin.ext (by show 2 = n.val / 1024; omega)) (Fin.ext (by show n.val - 2048 = n.val % 1024; omega)))
  refine (canon_cols 1024 _ _ _ i n).trans ?_
  split
  · exact (h1 _).trans (congrArg₂ g (Fin.ext (by show 1 = n.val / 1024; omega)) (Fin.ext (by show n.val - 1024 = n.val % 1024; omega)))
  refine (canon_cols 0 _ _ _ i n).trans ?_
  split
  · exact (h0 _).trans (congrArg₂ g (Fin.ext (by show 0 = n.val / 1024; omega)) (Fin.ext (by show n.val - 0 = n.val % 1024; omega)))
  · omega

theorem out0 : (outsAt0 m c t.val t.isLt).1 = (blk m c t).mx := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out1 : (outsAt0 m c t.val t.isLt).2.1 = k0_pay10 (blk m c t).rb := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out2 : (outsAt0 m c t.val t.isLt).2.2.1 = k0_pay11 (blk m c t).sp := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out3 : (outsAt0 m c t.val t.isLt).2.2.2.1 = (blk m c t).hb := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out4 : (outsAt0 m c t.val t.isLt).2.2.2.2.1 = View.canon (Val := Elt Ideal) (e := .bf16)
      [⟨Rect.unit (s := S256x4096) ![0, 3072] ![256, 1024] inb_S256x4096_S256x1024_0_3072, (blk m c t).a3⟩,
       ⟨Rect.unit (s := S256x4096) ![0, 2048] ![256, 1024] inb_S256x4096_S256x1024_0_2048, (blk m c t).a2⟩,
       ⟨Rect.unit (s := S256x4096) ![0, 1024] ![256, 1024] inb_S256x4096_S256x1024_0_1024, (blk m c t).a1⟩,
       ⟨Rect.unit (s := S256x4096) ![0, 0] ![256, 1024] inb_S256x4096_S256x1024_0_0, (blk m c t).a0⟩] := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out5 : (outsAt0 m c t.val t.isLt).2.2.2.2.2.1 = (blk m c t).df := by
  by_cases h : t.val % 8 = 0
  · rw [outsAt0_A m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem mix_point (i : Fin 256) (j : Fin 1024) :
    (outsAt0 m c t.val t.isLt).1 (ix2 i j) = Mix.mixed (blk m c t).wts ((blk m c t).row i) j := by
  rw [out0]
  exact Blk.mx_apply _ i j

theorem rb_point (i : Fin 256) (j : Fin 1024) :
    (outsAt0 m c t.val t.isLt).2.1 (ix2 i j) = Mix.rb (blk m c t).wts ((blk m c t).row i) j := by
  rw [out1]
  refine Eq.trans ?_ (Blk.rb_apply _ i j)
  unfold k0_pay10
  pointwise

theorem sp_point (i : Fin 256) (j : Fin 1024) :
    (outsAt0 m c t.val t.isLt).2.2.1 (ix2 i j) = Mix.sp (blk m c t).wts ((blk m c t).row i) j := by
  rw [out2]
  refine Eq.trans ?_ (Blk.sp_apply _ i j)
  unfold k0_pay11
  pointwise

theorem hb_point (i : Fin 256) (j : Fin 1024) :
    (outsAt0 m c t.val t.isLt).2.2.2.1 (ix2 i j) = Mix.hb (blk m c t).wts ((blk m c t).row i) j := by
  rw [out3]
  exact Blk.hb_apply _ i j

theorem act_point (i : Fin 256) (n : Fin 4096) :
    (outsAt0 m c t.val t.isLt).2.2.2.2.1 (ix2 i n) =
      Mix.act (blk m c t).wts ((blk m c t).row i) ⟨n.val / 1024, by omega⟩ ⟨n.val % 1024, Nat.mod_lt _ (by norm_num)⟩ := by
  rw [out4]
  exact canon_wide _ _ _ _ (Mix.act (blk m c t).wts ((blk m c t).row i)) i n (Blk.a0_apply _ i) (Blk.a1_apply _ i) (Blk.a2_apply _ i) (Blk.a3_apply _ i)

theorem df_point (i : Fin 256) (j : Fin 1024) :
    (outsAt0 m c t.val t.isLt).2.2.2.2.2.1 (ix2 i j) = Mix.df (blk m c t).wts ((blk m c t).row i) j := by
  rw [out5]
  exact Blk.df_apply _ i j

end Cert.Kernel6Ideal.Hand

end
-- ==== Proof.InPoint.lean ====
/- The gradient of the projection's input: what a grid point leaves in its output blocks. -/
module

public import proofs.«01_k».proof.Proof.InBlock
public import Idealize.ShloMosaic.Lib.WritesUnit

@[expose] public section

set_option maxRecDepth 16384

noncomputable section

namespace Cert.Kernel2Ideal.Hand

open Cert.Kernel2Ideal Cert.Kernel2Ideal.Gen Cert.InBack Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A point's rows of the modulated normal form's gradient. -/
def dhAt (i : Fin 256) (j : Fin 1024) : EReal :=
  back (joined (iblk m c 0 t) (iblk m c 1 t) (iblk m c 2 t) (iblk m c 3 t) (iblk m c 4 t) (iblk m c 5 t) i) (iblk m c 9 t) j

theorem dx_point (i : Fin 256) (j : Fin 1024) :
    (outsAt0 m c t.val t.isLt).1 (ix2 i j) =
      gradRow (fun k => dhAt m c t i k) (fun k => iblk m c 6 t (ix2 i k)) (fun k => iblk m c 7 t (ix2 i k))
        (fun k => iblk m c 8 t (ix2 6 k)) (fun k => iblk m c 8 t (ix2 1 k)) j := by
  have e : (outsAt0 m c t.val t.isLt).1 (ix2 i j) = k0_pay12 (dh (iblk m c 0 t) (iblk m c 1 t) (iblk m c 2 t) (iblk m c 3 t)
      (iblk m c 4 t) (iblk m c 5 t) (iblk m c 9 t)) (iblk m c 6 t) (k0_pay9 (iblk m c 6 t)) (FloatOps.ofBits FTy.f32 897988541#32)
      (View.ld (iblk m c 8 t) (Rect.unit ![6, 0] ![1, 1024] inb_S16x1024_S1x1024_6_0))
      (View.ld (iblk m c 8 t) (Rect.unit ![1, 0] ![1, 1024] inb_S16x1024_S1x1024_1_0)) (iblk m c 7 t) (ix2 i j) := by
    by_cases h : t.val % 8 = 0
    · rw [outsAt0_A m c t h]
      frame_out
      rfl
    · rw [outsAt0_B m c t h]
      frame_out
      rfl
  refine e.trans ((dx_apply _ _ _ _ _ _).trans ?_)
  refine congrArg (fun d => gradRow d _ _ _ _ j) ?_
  funext k
  exact dh_apply _ _ _ _ _ _ _ _ _

/-- A store of one row of the sums is read there and nowhere else. -/
theorem canon_row (o : ℕ) (inb : ∀ a : Fin 2, (![o, 0] : Fin 2 → ℕ) a + (![1, 1024] : Fin 2 → ℕ) a ≤ (![8, 1024] : Fin 2 → ℕ) a)
    (w : S1x1024.Idx → EReal) (L : List (View.Piece (Elt Ideal) S8x1024 .f32)) (r : Fin 8) (j : Fin 1024) :
    View.canon (Val := Elt Ideal) (e := .f32) ((⟨Rect.unit (s := S8x1024) ![o, 0] ![1, 1024] inb, w⟩ : View.Piece (Elt Ideal) S8x1024 .f32) :: L) (ix2 r j) =
      if r.val = o then w (ix2 0 j) else View.canon L (ix2 r j) := by
  have hv : ∀ x : S1x1024.Idx, ((Rect.unit (s := S8x1024) ![o, 0] ![1, 1024] inb).emb x 0).val = o := by
    intro x
    have hx : (x 0).val = 0 := by have : (x 0).val < 1 := (x 0).isLt; omega
    show o + 1 * (x 0).val = o
    omega
  split
  · rename_i h
    rw [show (ix2 r j : S8x1024.Idx) = (Rect.unit (s := S8x1024) ![o, 0] ![1, 1024] inb).emb (ix2 0 j : S1x1024.Idx) by
      funext d
      match d with
      | ⟨0, _⟩ => exact Fin.ext (h.trans (hv _).symm)
      | ⟨1, _⟩ => exact Fin.ext (by show j.val = 0 + 1 * j.val; omega)]
    exact View.canon_cons_emb _ _ _ _
  · rename_i h
    refine View.canon_cons_of_not_mem _ _ fun hm => ?_
    obtain ⟨x, hx⟩ := (Rect.unit (s := S8x1024) ![o, 0] ![1, 1024] inb).exists_idx_of_mem hm
    exact h ((congrArg Fin.val (congrFun hx 0)).symm.trans (hv x))

/-- What 256 rows add to the three sums over all rows: the shift's gradient, the scale's and the gain's. -/
def conRows (d : Fin 256 → Fin 1024 → EReal) (x : S256x1024.Idx → EReal) (v : S16x1024.Idx → EReal) (r : Fin 8) (j : Fin 1024) : EReal :=
  if r.val = 2 then ∑ i : Fin 256, d i j * (x (ix2 i j) * invRms fun k => x (ix2 i k)) * (1 + v (ix2 1 j))
  else if r.val = 1 then ∑ i : Fin 256, d i j * (x (ix2 i j) * invRms fun k => x (ix2 i k)) * v (ix2 6 j)
  else if r.val = 0 then ∑ i : Fin 256, d i j
  else 0

/-- What the point adds. -/
def con (r : Fin 8) (j : Fin 1024) : EReal := conRows (dhAt m c t) (iblk m c 6 t) (iblk m c 8 t) r j

/-- A row of the vectors as a row of its own. -/
theorem ld_vec (v : Vec Ideal S16x1024 .f32) (o : Fin 16)
    (inb : ∀ a : Fin 2, (![o.val, 0] : Fin 2 → ℕ) a + (![1, 1024] : Fin 2 → ℕ) a ≤ (![16, 1024] : Fin 2 → ℕ) a) (j : Fin 1024) :
    View.ld v (Rect.unit (s := S16x1024) ![o.val, 0] ![1, 1024] inb) (ix2 0 j : S1x1024.Idx) = v (ix2 o j) :=
  congrArg v (funext fun d => match d with
    | ⟨0, _⟩ => rfl
    | ⟨1, _⟩ => Fin.ext (by show 0 + 1 * j.val = j.val; omega))

theorem row2_point (o : Vec Ideal S1x1024 .f32) (j : Fin 1024) :
    k0_pay2 (dh (iblk m c 0 t) (iblk m c 1 t) (iblk m c 2 t) (iblk m c 3 t) (iblk m c 4 t) (iblk m c 5 t) (iblk m c 9 t))
      (k0_pay11 (iblk m c 6 t) (k0_pay9 (iblk m c 6 t)) (FloatOps.ofBits FTy.f32 897988541#32))
      (View.ld (iblk m c 8 t) (Rect.unit ![1, 0] ![1, 1024] inb_S16x1024_S1x1024_1_0)) o (ix2 0 j) = o (ix2 0 j) + con m c t 2 j := by
  unfold con conRows
  rw [if_pos (by decide)]
  refine (gain_apply _ _ _ _ _).trans (congrArg (o (ix2 0 j) + ·) ?_)
  refine Finset.sum_congr (M := EReal) rfl fun i _ => ?_
  exact congrArg₂ (fun a b : EReal => a * _ * (1 + b)) (dh_apply _ _ _ _ _ _ _ _ _) (ld_vec (iblk m c 8 t) 1 _ j)

theorem row1_point (o : Vec Ideal S1x1024 .f32) (j : Fin 1024) :
    k0_pay1 (k0_pay14 o) (k0_pay15 (dh (iblk m c 0 t) (iblk m c 1 t) (iblk m c 2 t) (iblk m c 3 t) (iblk m c 4 t) (iblk m c 5 t) (iblk m c 9 t))
      (iblk m c 6 t) (k0_pay9 (iblk m c 6 t)) (FloatOps.ofBits FTy.f32 897988541#32)
      (View.ld (iblk m c 8 t) (Rect.unit ![6, 0] ![1, 1024] inb_S16x1024_S1x1024_6_0))) (ix2 0 j) = o (ix2 0 j) + con m c t 1 j := by
  unfold con conRows
  rw [if_neg (by decide), if_pos (by decide)]
  refine (scale_apply _ _ _ _ _).trans (congrArg (o (ix2 0 j) + ·) ?_)
  refine Finset.sum_congr (M := EReal) rfl fun i _ => ?_
  exact congrArg₂ (fun a b : EReal => a * _ * b) (dh_apply _ _ _ _ _ _ _ _ _) (ld_vec (iblk m c 8 t) 6 _ j)

theorem row0_point (o : Vec Ideal S1x1024 .f32) (j : Fin 1024) :
    k0_pay13 (dh (iblk m c 0 t) (iblk m c 1 t) (iblk m c 2 t) (iblk m c 3 t) (iblk m c 4 t) (iblk m c 5 t) (iblk m c 9 t))
      o (ix2 0 j) = o (ix2 0 j) + con m c t 0 j := by
  unfold con conRows
  rw [if_neg (by decide), if_neg (by decide), if_pos (by decide)]
  refine (shift_apply _ _ _).trans (congrArg (o (ix2 0 j) + ·) ?_)
  exact Finset.sum_congr rfl fun i _ => dh_apply _ _ _ _ _ _ _ _ _

/-- A row of the running sums as a row of its own. -/
theorem ld_row (x : Vec Ideal S8x1024 .f32) (o : Fin 8)
    (inb : ∀ a : Fin 2, (![o.val, 0] : Fin 2 → ℕ) a + (![1, 1024] : Fin 2 → ℕ) a ≤ (![8, 1024] : Fin 2 → ℕ) a) (j : Fin 1024) :
    View.ld x (Rect.unit (s := S8x1024) ![o.val, 0] ![1, 1024] inb) (ix2 0 j : S1x1024.Idx) = x (ix2 o j) :=
  congrArg x (funext fun d => match d with
    | ⟨0, _⟩ => rfl
    | ⟨1, _⟩ => Fin.ext (by show 0 + 1 * j.val = j.val; omega))

theorem stA (h : t.val % 8 = 0) (r : Fin 8) (j : Fin 1024) :
    (outsAt0 m c t.val t.isLt).2.1 (ix2 r j) = con m c t r j := by
  rw [outsAt0_A m c t h]
  frame_out
  simp (discharger := decide +kernel) only [↓View.readCov_skip, ↓View.readCov_fill, View.readCov_cons_toLoadRect]
  have z : ∀ y : S8x1024.Idx, (k0_pay6 (F := Ideal)) y = 0 := by
    intro y
    pointwise [k0_pay6]
  refine (canon_row 2 _ _ _ r j).trans ?_
  split
  · obtain rfl : r = 2 := Fin.ext ‹_›
    refine (row2_point m c t _ j).trans ?_
    exact (congrArg (· + con m c t 2 j) (z _)).trans (zero_add _)
  refine (canon_row 1 _ _ _ r j).trans ?_
  split
  · obtain rfl : r = 1 := Fin.ext ‹_›
    refine (row1_point m c t _ j).trans ?_
    exact (congrArg (· + con m c t 1 j) (z _)).trans (zero_add _)
  refine (canon_row 0 _ _ _ r j).trans ?_
  split
  · obtain rfl : r = 0 := Fin.ext ‹_›
    refine (row0_point m c t _ j).trans ?_
    exact (congrArg (· + con m c t 0 j) (z _)).trans (zero_add _)
  unfold con conRows
  rw [if_neg ‹_›, if_neg ‹_›, if_neg ‹_›]
  refine (congrFun (View.canon_cons_unit_lit (S := S8x1024) _ _ _ (by decide)) _).trans (z _)

theorem read_row {κ : Kind} {sp : Space} (v : View sig κ sp S8x1024 .f32) (f : v.ty.Contents (Elt Ideal)) (o : ℕ)
    (inb : ∀ a : Fin 2, (![o, 0] : Fin 2 → ℕ) a + (![1, 1024] : Fin 2 → ℕ) a ≤ (![8, 1024] : Fin 2 → ℕ) a)
    (w : S1x1024.Idx → EReal) (L : List (View.Piece (Elt Ideal) S8x1024 .f32)) (r : Fin 8) (j : Fin 1024) :
    v.read (Elt Ideal) (v.writes (Elt Ideal) f ((⟨Rect.unit (s := S8x1024) ![o, 0] ![1, 1024] inb, w⟩ : View.Piece (Elt Ideal) S8x1024 .f32) :: L)) (ix2 r j) =
      if r.val = o then w (ix2 0 j) else v.read (Elt Ideal) (v.writes (Elt Ideal) f L) (ix2 r j) := by
  split
  · rename_i h
    refine View.read_writes_cons_rows_of_mem (o := o) v f inb w L _ (ix2 0 j : S1x1024.Idx) rfl ?_ rfl
    show r.val = o + 0
    omega
  · rename_i h
    exact View.read_writes_cons_rows_of_not_mem (o := o) (W := 1) v f inb w L _ rfl rfl (by show r.val < o ∨ o + 1 ≤ r.val; omega)

theorem stB (h : ¬ t.val % 8 = 0) (r : Fin 8) (j : Fin 1024) :
    (outsAt0 m c t.val t.isLt).2.1 (ix2 r j) =
      (outsAt0 m c (t.val - 1) (Nat.lt_of_le_of_lt (Nat.sub_le _ _) t.isLt)).2.1 (ix2 r j) + con m c t r j := by
  rw [outsAt0_B m c t h]
  frame_out
  refine (read_row _ _ 2 _ _ _ r j).trans ?_
  split
  · obtain rfl : r = 2 := Fin.ext ‹_›
    exact (row2_point m c t _ j).trans (congrArg (· + con m c t 2 j) (ld_row _ 2 _ j))
  refine (read_row _ _ 1 _ _ _ r j).trans ?_
  split
  · obtain rfl : r = 1 := Fin.ext ‹_›
    exact (row1_point m c t _ j).trans (congrArg (· + con m c t 1 j) (ld_row _ 1 _ j))
  refine (read_row _ _ 0 _ _ _ r j).trans ?_
  split
  · obtain rfl : r = 0 := Fin.ext ‹_›
    exact (row0_point m c t _ j).trans (congrArg (· + con m c t 0 j) (ld_row _ 0 _ j))
  unfold con conRows
  rw [if_neg ‹_›, if_neg ‹_›, if_neg ‹_›]
  refine Eq.trans ?_ (add_zero _).symm
  exact congrFun (Memref.IsWhole.read_unread _ _) _

end Cert.Kernel2Ideal.Hand

end
-- ==== Proof.MixSumA.lean ====
/- The mixture and the feed-forward layer: what a grid point adds to the sums of the layer's output. -/
module

public import proofs.«01_k».proof.Proof.MixPoint
public import proofs.«01_k».proof.Proof.InPoint
public import Idealize.ShloMosaic.Lib.WritesUnit

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- A store of one row of the sums is read there and nowhere else. -/
theorem canon_row (o : ℕ) (inb : ∀ a : Fin 2, (![o, 0] : Fin 2 → ℕ) a + (![1, 1024] : Fin 2 → ℕ) a ≤ (![8, 1024] : Fin 2 → ℕ) a)
    (w : S1x1024.Idx → EReal) (L : List (View.Piece (Elt Ideal) S8x1024 .f32)) (r : Fin 8) (j : Fin 1024) :
    View.canon (Val := Elt Ideal) (e := .f32) ((⟨Rect.unit (s := S8x1024) ![o, 0] ![1, 1024] inb, w⟩ : View.Piece (Elt Ideal) S8x1024 .f32) :: L) (ix2 r j) =
      if r.val = o then w (ix2 0 j) else View.canon L (ix2 r j) :=
  Cert.Kernel2Ideal.Hand.canon_row o inb w L r j

/-- A row of the running sums as a row of its own. -/
theorem ld_row (x : Vec Ideal S8x1024 .f32) (o : Fin 8)
    (inb : ∀ a : Fin 2, (![o.val, 0] : Fin 2 → ℕ) a + (![1, 1024] : Fin 2 → ℕ) a ≤ (![8, 1024] : Fin 2 → ℕ) a) (j : Fin 1024) :
    View.ld x (Rect.unit (s := S8x1024) ![o.val, 0] ![1, 1024] inb) (ix2 0 j : S1x1024.Idx) = x (ix2 o j) :=
  Cert.Kernel2Ideal.Hand.ld_row x o inb j

theorem read_row {κ : Kind} {sp : Space} (v : View sig κ sp S8x1024 .f32) (f : v.ty.Contents (Elt Ideal)) (o : ℕ)
    (inb : ∀ a : Fin 2, (![o, 0] : Fin 2 → ℕ) a + (![1, 1024] : Fin 2 → ℕ) a ≤ (![8, 1024] : Fin 2 → ℕ) a)
    (w : S1x1024.Idx → EReal) (L : List (View.Piece (Elt Ideal) S8x1024 .f32)) (r : Fin 8) (j : Fin 1024) :
    v.read (Elt Ideal) (v.writes (Elt Ideal) f ((⟨Rect.unit (s := S8x1024) ![o, 0] ![1, 1024] inb, w⟩ : View.Piece (Elt Ideal) S8x1024 .f32) :: L)) (ix2 r j) =
      if r.val = o then w (ix2 0 j) else v.read (Elt Ideal) (v.writes (Elt Ideal) f L) (ix2 r j) := by
  split
  · rename_i h
    refine View.read_writes_cons_rows_of_mem (o := o) v f inb w L _ (ix2 0 j : S1x1024.Idx) rfl ?_ rfl
    show r.val = o + 0
    omega
  · rename_i h
    exact View.read_writes_cons_rows_of_not_mem (o := o) (W := 1) v f inb w L _ rfl rfl (by show r.val < o ∨ o + 1 ≤ r.val; omega)

theorem sta_zero (b : Blk) (r : ℕ) (j : Fin 1024) (h : ∀ k < 3, r ≠ k) : Mix.sta b.wts b.row r j = 0 := by
  unfold Mix.sta
  rw [if_neg (h 2 (by decide)), if_neg (h 1 (by decide)), if_neg (h 0 (by decide))]

theorem staA (h : t.val % 8 = 0) (r : Fin 8) (j : Fin 1024) :
    (outsAt0 m c t.val t.isLt).2.2.2.2.2.2.2.2.2.1 (ix2 r j) = Mix.sta (blk m c t).wts (blk m c t).row r j := by
  rw [outsAt0_A m c t h]
  frame_out
  simp (discharger := decide +kernel) only [↓View.readCov_skip, ↓View.readCov_fill, View.readCov_cons_toLoadRect]
  have z := fun h => sta_zero (blk m c t) r.val j h
  have s2 := fun o => (blk m c t).sta2_apply o j
  have s1 := fun o => (blk m c t).sta1_apply o j
  have s0 := fun o => (blk m c t).sta0_apply o j
  generalize Mix.sta (blk m c t).wts (blk m c t).row = C at z s2 s1 s0 ⊢
  dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero] at s2 s1 s0
  have z0 : ∀ y : S8x1024.Idx, (k0_pay4 (F := Ideal)) y = 0 := by
    intro y
    pointwise [k0_pay4]
  refine (canon_row 2 _ _ _ r j).trans ?_
  split
  · obtain rfl : r = 2 := Fin.ext ‹_›
    exact (s2 _).trans ((congrArg (· + C 2 j) (z0 _)).trans (zero_add _))
  refine (canon_row 1 _ _ _ r j).trans ?_
  split
  · obtain rfl : r = 1 := Fin.ext ‹_›
    exact (s1 _).trans ((congrArg (· + C 1 j) (z0 _)).trans (zero_add _))
  refine (canon_row 0 _ _ _ r j).trans ?_
  split
  · obtain rfl : r = 0 := Fin.ext ‹_›
    exact (s0 _).trans ((congrArg (· + C 0 j) (z0 _)).trans (zero_add _))
  rw [z (fun k hk => by have h0 : k < 3 := hk; interval_cases k <;> assumption)]
  refine (congrFun (View.canon_cons_unit_lit (S := S8x1024) _ _ _ (by decide)) _).trans (z0 _)

theorem staB (h : ¬ t.val % 8 = 0) (r : Fin 8) (j : Fin 1024) :
    (outsAt0 m c t.val t.isLt).2.2.2.2.2.2.2.2.2.1 (ix2 r j) =
      (outsAt0 m c (t.val - 1) (Nat.lt_of_le_of_lt (Nat.sub_le _ _) t.isLt)).2.2.2.2.2.2.2.2.2.1 (ix2 r j) + Mix.sta (blk m c t).wts (blk m c t).row r j := by
  rw [outsAt0_B m c t h]
  frame_out
  have z := fun h => sta_zero (blk m c t) r.val j h
  have s2 := fun o => (blk m c t).sta2_apply o j
  have s1 := fun o => (blk m c t).sta1_apply o j
  have s0 := fun o => (blk m c t).sta0_apply o j
  generalize Mix.sta (blk m c t).wts (blk m c t).row = C at z s2 s1 s0 ⊢
  dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero] at s2 s1 s0
  refine (read_row _ _ 2 _ _ _ r j).trans ?_
  split
  · obtain rfl : r = 2 := Fin.ext ‹_›
    exact (s2 _).trans (congrArg (· + C 2 j) (ld_row _ 2 _ j))
  refine (read_row _ _ 1 _ _ _ r j).trans ?_
  split
  · obtain rfl : r = 1 := Fin.ext ‹_›
    exact (s1 _).trans (congrArg (· + C 1 j) (ld_row _ 1 _ j))
  refine (read_row _ _ 0 _ _ _ r j).trans ?_
  split
  · obtain rfl : r = 0 := Fin.ext ‹_›
    exact (s0 _).trans (congrArg (· + C 0 j) (ld_row _ 0 _ j))
  rw [z (fun k hk => by have h0 : k < 3 := hk; interval_cases k <;> assumption)]
  refine Eq.trans ?_ (add_zero _).symm
  exact congrFun (Memref.IsWhole.read_unread _ _) _

end Cert.Kernel6Ideal.Hand

end
-- ==== Proof.MixSumB.lean ====
/- The mixture and the feed-forward layer: what a grid point adds to the sums of the layer's input and of the branches. -/
module

public import proofs.«01_k».proof.Proof.MixSumA
public import proofs.«01_k».proof.Proof.InPoint
public import Idealize.ShloMosaic.Lib.WritesUnit

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem stb_zero (b : Blk) (r : ℕ) (j : Fin 1024) (h : ∀ k < 5, r ≠ k) : Mix.stb b.wts b.row r j = 0 := by
  unfold Mix.stb
  rw [if_neg (h 4 (by decide)), if_neg (h 3 (by decide)), if_neg (h 2 (by decide)), if_neg (h 1 (by decide)), if_neg (h 0 (by decide))]

theorem stbA (h : t.val % 8 = 0) (r : Fin 8) (j : Fin 1024) :
    (outsAt0 m c t.val t.isLt).2.2.2.2.2.2.2.2.2.2 (ix2 r j) = Mix.stb (blk m c t).wts (blk m c t).row r j := by
  rw [outsAt0_A m c t h]
  frame_out
  simp (discharger := decide +kernel) only [↓View.readCov_skip, ↓View.readCov_fill, View.readCov_cons_toLoadRect]
  have z := fun h => stb_zero (blk m c t) r.val j h
  have s4 := fun o => (blk m c t).stb4_apply o j
  have s3 := fun o => (blk m c t).stb3_apply o j
  have s2 := fun o => (blk m c t).stb2_apply o j
  have s1 := fun o => (blk m c t).stb1_apply o j
  have s0 := fun o => (blk m c t).stb0_apply o j
  generalize Mix.stb (blk m c t).wts (blk m c t).row = C at z s4 s3 s2 s1 s0 ⊢
  dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero] at s4 s3 s2 s1 s0
  have z0 : ∀ y : S8x1024.Idx, (k0_pay5 (F := Ideal)) y = 0 := by
    intro y
    pointwise [k0_pay5]
  refine (canon_row 4 _ _ _ r j).trans ?_
  split
  · obtain rfl : r = 4 := Fin.ext ‹_›
    exact (s4 _).trans ((congrArg (· + C 4 j) (z0 _)).trans (zero_add _))
  refine (canon_row 3 _ _ _ r j).trans ?_
  split
  · obtain rfl : r = 3 := Fin.ext ‹_›
    exact (s3 _).trans ((congrArg (· + C 3 j) (z0 _)).trans (zero_add _))
  refine (canon_row 2 _ _ _ r j).trans ?_
  split
  · obtain rfl : r = 2 := Fin.ext ‹_›
    exact (s2 _).trans ((congrArg (· + C 2 j) (z0 _)).trans (zero_add _))
  refine (canon_row 1 _ _ _ r j).trans ?_
  split
  · obtain rfl : r = 1 := Fin.ext ‹_›
    exact (s1 _).trans ((congrArg (· + C 1 j) (z0 _)).trans (zero_add _))
  refine (canon_row 0 _ _ _ r j).trans ?_
  split
  · obtain rfl : r = 0 := Fin.ext ‹_›
    exact (s0 _).trans ((congrArg (· + C 0 j) (z0 _)).trans (zero_add _))
  rw [z (fun k hk => by have h0 : k < 5 := hk; interval_cases k <;> assumption)]
  refine (congrFun (View.canon_cons_unit_lit (S := S8x1024) _ _ _ (by decide)) _).trans (z0 _)

theorem stbB (h : ¬ t.val % 8 = 0) (r : Fin 8) (j : Fin 1024) :
    (outsAt0 m c t.val t.isLt).2.2.2.2.2.2.2.2.2.2 (ix2 r j) =
      (outsAt0 m c (t.val - 1) (Nat.lt_of_le_of_lt (Nat.sub_le _ _) t.isLt)).2.2.2.2.2.2.2.2.2.2 (ix2 r j) + Mix.stb (blk m c t).wts (blk m c t).row r j := by
  rw [outsAt0_B m c t h]
  frame_out
  simp (discharger := decide +kernel) only [↓View.readCov_skip, ↓View.readCov_fill, View.readCov_cons_toLoadRect]
  have z := fun h => stb_zero (blk m c t) r.val j h
  have s4 := fun o => (blk m c t).stb4_apply o j
  have s3 := fun o => (blk m c t).stb3_apply o j
  have s2 := fun o => (blk m c t).stb2_apply o j
  have s1 := fun o => (blk m c t).stb1_apply o j
  have s0 := fun o => (blk m c t).stb0_apply o j
  generalize Mix.stb (blk m c t).wts (blk m c t).row = C at z s4 s3 s2 s1 s0 ⊢
  dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero] at s4 s3 s2 s1 s0
  refine (read_row _ _ 4 _ _ _ r j).trans ?_
  split
  · obtain rfl : r = 4 := Fin.ext ‹_›
    exact (s4 _).trans (congrArg (· + C 4 j) (ld_row _ 4 _ j))
  refine (read_row _ _ 3 _ _ _ r j).trans ?_
  split
  · obtain rfl : r = 3 := Fin.ext ‹_›
    exact (s3 _).trans (congrArg (· + C 3 j) (ld_row _ 3 _ j))
  refine (read_row _ _ 2 _ _ _ r j).trans ?_
  split
  · obtain rfl : r = 2 := Fin.ext ‹_›
    exact (s2 _).trans (congrArg (· + C 2 j) (ld_row _ 2 _ j))
  refine (read_row _ _ 1 _ _ _ r j).trans ?_
  split
  · obtain rfl : r = 1 := Fin.ext ‹_›
    exact (s1 _).trans (congrArg (· + C 1 j) (ld_row _ 1 _ j))
  refine (read_row _ _ 0 _ _ _ r j).trans ?_
  split
  · obtain rfl : r = 0 := Fin.ext ‹_›
    exact (s0 _).trans (congrArg (· + C 0 j) (ld_row _ 0 _ j))
  rw [z (fun k hk => by have h0 : k < 5 := hk; interval_cases k <;> assumption)]
  refine Eq.trans ?_ (add_zero _).symm
  exact congrFun (Memref.IsWhole.read_unread _ _) _

end Cert.Kernel6Ideal.Hand

end
-- ==== Proof.InAdam.lean ====
/- The weight's update: one entry of the step, at a point and in the reference. -/
module

public import proofs.«01_k».proof.Proof.InPoint
public import proofs.«01_k».proof.Proof.Gen.Reference2Ideal.Read

@[expose] public section

set_option maxRecDepth 16384

noncomputable section

namespace Cert.InBack

open Idealize.ShloMosaic

/-- The new first moment of an entry. -/
def first (m g : EReal) : EReal := Ideal.ofBits FTy.f32 0x3F666666#32 * m + Ideal.ofBits FTy.f32 0x3DCCCCCD#32 * g

/-- The new second moment of an entry. -/
def second (v g : EReal) : EReal := Ideal.ofBits FTy.f32 0x3F7FBE77#32 * v + Ideal.ofBits FTy.f32 0x3A83126F#32 * (g * g)

/-- The change of an entry of the weight. -/
def change (w m v g : EReal) : EReal :=
  Ideal.ofBits FTy.f32 0xBA83126F#32 *
    (Ideal.div (Ideal.div (first m g) (Ideal.ofBits FTy.f32 0x3F26BD02#32))
      (Ideal.sqrt (Ideal.div (second v g) (Ideal.ofBits FTy.f32 0x3C231ACC#32)) + Ideal.ofBits FTy.f32 0x322BCC77#32) +
      Ideal.ofBits FTy.f32 0x3C23D70A#32 * w)

end Cert.InBack

namespace Cert.Kernel2Ideal.Hand

open Cert.Kernel2Ideal Cert.Kernel2Ideal.Gen Cert.InBack Idealize.ShloMosaic Idealize.ShloMosaic.TcCoe Idealize.SL.Sem
open Idealize.ShloMosaic.Pipeline (Dat)

theorem first_apply (g m : Vec Ideal S128x1024 .f32) (y : S128x1024.Idx) : k0_pay3 (F := Ideal) g m y = first (m y) (g y) := by
  pointwise [k0_pay3]
  rfl

theorem second_apply (g v : Vec Ideal S128x1024 .f32) (y : S128x1024.Idx) : k0_pay4 (F := Ideal) g v y = second (v y) (g y) := by
  pointwise [k0_pay4]
  rfl

theorem change_apply (g w m v : Vec Ideal S128x1024 .f32) (y : S128x1024.Idx) :
    k0_pay5 (F := Ideal) g w m v y = change (w y) (m y) (v y) (g y) := by
  pointwise [k0_pay5, k0_pay4, k0_pay3]
  rfl

variable (m : (ℓ : Loc nD τ sig) → Buf (Elt Ideal) ℓ) (c : Dev nD) (t : Fin cfg0.N) (y : S128x1024.Idx)

theorem change_point :
    (outsAt0 m c t.val t.isLt).2.2.2.1 y = change (iblk m c 10 t y) (iblk m c 11 t y) (iblk m c 12 t y) (iblk m c 13 t y) := by
  refine Eq.trans ?_ (change_apply _ _ _ _ _)
  by_cases h : t.val % 8 = 0
  · rw [outsAt0_A m c t h]
    frame_out
  · rw [outsAt0_B m c t h]
    frame_out

theorem first_point :
    (outsAt0 m c t.val t.isLt).2.2.2.2.1 y = first (iblk m c 11 t y) (iblk m c 13 t y) := by
  refine Eq.trans ?_ (first_apply _ _ _)
  by_cases h : t.val % 8 = 0
  · rw [outsAt0_A m c t h]
    frame_out
  · rw [outsAt0_B m c t h]
    frame_out

theorem second_point :
    (outsAt0 m c t.val t.isLt).2.2.2.2.2 y = second (iblk m c 12 t y) (iblk m c 13 t y) := by
  refine Eq.trans ?_ (second_apply _ _ _)
  by_cases h : t.val % 8 = 0
  · rw [outsAt0_A m c t h]
    frame_out
  · rw [outsAt0_B m c t h]
    frame_out

end Cert.Kernel2Ideal.Hand

namespace Cert.Reference2Ideal.Hand

open Cert.Reference2Ideal Cert.Reference2Ideal.Read Cert.InBack Idealize.ShloMosaic

theorem first_eq (m g : FVec Ideal S1024x1024 .f32) (y : S1024x1024.Idx) : val_main_v78 (F := Ideal) m g y = first (m y) (g y) := by
  pointwise [val_main_v78, val_main_v77, val_main_v76, val_main_v75, val_main_v74, val_main_cst_15, val_main_cst_16]
  rfl

theorem second_eq (v g : FVec Ideal S1024x1024 .f32) (y : S1024x1024.Idx) : val_main_v84 (F := Ideal) v g y = second (v y) (g y) := by
  pointwise [val_main_v84, val_main_v83, val_main_v82, val_main_v81, val_main_v80, val_main_v79, val_main_cst_17, val_main_cst_18]
  rfl

theorem change_eq (w m v g : FVec Ideal S1024x1024 .f32) (y : S1024x1024.Idx) :
    val_main_v97 (F := Ideal) w m v g y = change (w y) (m y) (v y) (g y) := by
  have h1 := first_eq m g y
  have h2 := second_eq v g y
  pointwise [val_main_v97, val_main_v96, val_main_v95, val_main_v94, val_main_v93, val_main_v92, val_main_v91, val_main_v90, val_main_v89, val_main_v88, val_main_v87, val_main_v86, val_main_v85, val_main_cst_19, val_main_cst_20, val_main_cst_21, val_main_cst_22, val_main_cst_23]
  rw [h1, h2]
  rfl

end Cert.Reference2Ideal.Hand

end
-- ==== Proof.InFinal.lean ====
/- The gradient of the projection's input: the five arrays the kernel leaves. -/
module

public import proofs.«01_k».proof.Proof.InAdam

@[expose] public section

set_option maxRecDepth 16384

noncomputable section

namespace Cert.Kernel2Ideal.Hand

open Cert.Kernel2Ideal Cert.Kernel2Ideal.Gen Cert.InBack Idealize.ShloMosaic Idealize.ShloMosaic.TcCoe Idealize.SL.Sem
open Idealize.ShloMosaic.Pipeline (Dat)

/-- The gradient of the modulated normal form. -/
def dhAll (p0 : S2048x2048.Idx → EReal) (p1 : S2048x1024.Idx → EReal) (p2 p3 p4 : S2048x512.Idx → EReal) (p5 : S2048x2048.Idx → EReal) (w : S4x1024x1664.Idx → EReal) (i : Fin 2048) (j : Fin 1024) : EReal := back (joined p0 p1 p2 p3 p4 p5 i) w j

/-- The gradient of the input. -/
def dxAll (d : Fin 2048 → Fin 1024 → EReal) (x u : S2048x1024.Idx → EReal) (v : S16x1024.Idx → EReal) : S2048x1024.Idx → EReal := fun y =>
  gradRow (d (y 0)) (fun k => x (ix2 (y 0) k)) (fun k => u (ix2 (y 0) k)) (fun k => v (ix2 6 k)) (fun k => v (ix2 1 k)) (y 1)

/-- What one row adds to the sums over all rows. -/
def part (d : EReal) (x : Fin 1024 → EReal) (g s : EReal) (r : ℕ) (j : Fin 1024) : EReal :=
  if r = 2 then d * (x j * invRms x) * (1 + s) else if r = 1 then d * (x j * invRms x) * g else if r = 0 then d else 0

/-- The sums over all rows: the gradients of the shift, the scale and the gain. -/
def stAll (d : Fin 2048 → Fin 1024 → EReal) (x : S2048x1024.Idx → EReal) (v : S16x1024.Idx → EReal) : S8x1024.Idx → EReal := fun y =>
  ∑ i : Fin 2048, part (d i (y 1)) (fun k => x (ix2 i k)) (v (ix2 6 (y 1))) (v (ix2 1 (y 1))) (y 0).val (y 1)

def changeAll (w m v g : S1024x1024.Idx → EReal) : S1024x1024.Idx → EReal := fun y => change (w y) (m y) (v y) (g y)
def firstAll (m g : S1024x1024.Idx → EReal) : S1024x1024.Idx → EReal := fun y => first (m y) (g y)
def secondAll (v g : S1024x1024.Idx → EReal) : S1024x1024.Idx → EReal := fun y => second (v y) (g y)

theorem change_congr {w m v g w' m' v' g' : EReal} (hw : w = w') (hm : m = m') (hv : v = v') (hg : g = g') : change w m v g = change w' m' v' g' := by
  rw [hw, hm, hv, hg]
theorem first_congr {m g m' g' : EReal} (hm : m = m') (hg : g = g') : first m g = first m' g' := by
  rw [hm, hg]
theorem second_congr {m g m' g' : EReal} (hm : m = m') (hg : g = g') : second m g = second m' g' := by
  rw [hm, hg]

theorem conRows_eq (d : Fin 256 → Fin 1024 → EReal) (x : S256x1024.Idx → EReal) (v : S16x1024.Idx → EReal) (r : Fin 8) (j : Fin 1024) :
    conRows d x v r j = ∑ i : Fin 256, part (d i j) (fun k => x (ix2 i k)) (v (ix2 6 j)) (v (ix2 1 j)) r.val j := by
  unfold conRows part
  split_ifs <;> simp

/-- Rows in eight groups of 256 are all rows. -/
theorem sum_groups (f : ℕ → EReal) (n : ℕ) : ∑ s ∈ Finset.range n, ∑ i : Fin 256, f (256 * s + i) = ∑ k ∈ Finset.range (256 * n), f k := by
  induction n with
  | zero => simp
  | succ n ih => rw [Finset.sum_range_succ, ih, Nat.mul_succ, Finset.sum_range_add, Finset.sum_range (n := 256)]

theorem joined_congr {R S : ℕ} {p0 : (⟨2, ![R, 2048]⟩ : Shape).Idx → EReal} {p1 : (⟨2, ![R, 1024]⟩ : Shape).Idx → EReal}
    {p2 p3 p4 : (⟨2, ![R, 512]⟩ : Shape).Idx → EReal} {p5 : (⟨2, ![R, 2048]⟩ : Shape).Idx → EReal}
    {q0 : (⟨2, ![S, 2048]⟩ : Shape).Idx → EReal} {q1 : (⟨2, ![S, 1024]⟩ : Shape).Idx → EReal}
    {q2 q3 q4 : (⟨2, ![S, 512]⟩ : Shape).Idx → EReal} {q5 : (⟨2, ![S, 2048]⟩ : Shape).Idx → EReal} {k : Fin R} {i : Fin S}
    (h0 : ∀ j, p0 (ix2 k j) = q0 (ix2 i j)) (h1 : ∀ j, p1 (ix2 k j) = q1 (ix2 i j)) (h2 : ∀ j, p2 (ix2 k j) = q2 (ix2 i j))
    (h3 : ∀ j, p3 (ix2 k j) = q3 (ix2 i j)) (h4 : ∀ j, p4 (ix2 k j) = q4 (ix2 i j)) (h5 : ∀ j, p5 (ix2 k j) = q5 (ix2 i j)) :
    joined p0 p1 p2 p3 p4 p5 k = joined q0 q1 q2 q3 q4 q5 i := by
  funext n
  unfold joined
  simp only [h0, h1, h2, h3, h4, h5]

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0, 0] ∧ win0_10.index t = ![t.val, 0] ∧ win0_11.index t = ![t.val, 0] ∧ win0_12.index t = ![t.val, 0] ∧ win0_13.index t = ![t.val, 0] ∧ win0_14.index t = ![t.val, 0] ∧ win0_15.index t = ![0, 0] ∧ win0_17.index t = ![t.val, 0] ∧ win0_18.index t = ![t.val, 0] ∧ win0_19.index t = ![t.val, 0] :=
  (by decide +kernel : ∀ t : Fin grid0.N, _)

theorem block0 (k : Fin 256) (j : Fin 2048) (i : Fin 2048) (hi : i.val = 256 * t.val + k.val) :
    (iblk m c 0 t : Vec Ideal S256x2048 .bf16) (ix2 k j) = (m (c, Proc.tc.devRef main_arg0) : Vec Ideal S2048x2048 .bf16) (ix2 i j) := by
  blk_ext [iblk, idx t]
theorem block1 (k : Fin 256) (j : Fin 1024) (i : Fin 2048) (hi : i.val = 256 * t.val + k.val) :
    (iblk m c 1 t : Vec Ideal S256x1024 .bf16) (ix2 k j) = (m (c, Proc.tc.devRef main_arg1) : Vec Ideal S2048x1024 .bf16) (ix2 i j) := by
  blk_ext [iblk, idx t]
theorem block2 (k : Fin 256) (j : Fin 512) (i : Fin 2048) (hi : i.val = 256 * t.val + k.val) :
    (iblk m c 2 t : Vec Ideal S256x512 .bf16) (ix2 k j) = (m (c, Proc.tc.devRef main_arg2) : Vec Ideal S2048x512 .bf16) (ix2 i j) := by
  blk_ext [iblk, idx t]
theorem block3 (k : Fin 256) (j : Fin 512) (i : Fin 2048) (hi : i.val = 256 * t.val + k.val) :
    (iblk m c 3 t : Vec Ideal S256x512 .bf16) (ix2 k j) = (m (c, Proc.tc.devRef main_arg3) : Vec Ideal S2048x512 .bf16) (ix2 i j) := by
  blk_ext [iblk, idx t]
theorem block4 (k : Fin 256) (j : Fin 512) (i : Fin 2048) (hi : i.val = 256 * t.val + k.val) :
    (iblk m c 4 t : Vec Ideal S256x512 .bf16) (ix2 k j) = (m (c, Proc.tc.devRef main_arg4) : Vec Ideal S2048x512 .bf16) (ix2 i j) := by
  blk_ext [iblk, idx t]
theorem block5 (k : Fin 256) (j : Fin 2048) (i : Fin 2048) (hi : i.val = 256 * t.val + k.val) :
    (iblk m c 5 t : Vec Ideal S256x2048 .bf16) (ix2 k j) = (m (c, Proc.tc.devRef main_arg5) : Vec Ideal S2048x2048 .bf16) (ix2 i j) := by
  blk_ext [iblk, idx t]
theorem block6 (k : Fin 256) (j : Fin 1024) (i : Fin 2048) (hi : i.val = 256 * t.val + k.val) :
    (iblk m c 6 t : Vec Ideal S256x1024 .f32) (ix2 k j) = (m (c, Proc.tc.devRef main_arg6) : Vec Ideal S2048x1024 .f32) (ix2 i j) := by
  blk_ext [iblk, idx t]
theorem block7 (k : Fin 256) (j : Fin 1024) (i : Fin 2048) (hi : i.val = 256 * t.val + k.val) :
    (iblk m c 7 t : Vec Ideal S256x1024 .f32) (ix2 k j) = (m (c, Proc.tc.devRef main_arg7) : Vec Ideal S2048x1024 .f32) (ix2 i j) := by
  blk_ext [iblk, idx t]
theorem block10 (k : Fin 128) (j : Fin 1024) (i : Fin 1024) (hi : i.val = 128 * t.val + k.val) :
    (iblk m c 10 t : Vec Ideal S128x1024 .f32) (ix2 k j) = (m (c, Proc.tc.devRef main_arg10) : Vec Ideal S1024x1024 .f32) (ix2 i j) := by
  blk_ext [iblk, idx t]
theorem block11 (k : Fin 128) (j : Fin 1024) (i : Fin 1024) (hi : i.val = 128 * t.val + k.val) :
    (iblk m c 11 t : Vec Ideal S128x1024 .f32) (ix2 k j) = (m (c, Proc.tc.devRef main_arg11) : Vec Ideal S1024x1024 .f32) (ix2 i j) := by
  blk_ext [iblk, idx t]
theorem block12 (k : Fin 128) (j : Fin 1024) (i : Fin 1024) (hi : i.val = 128 * t.val + k.val) :
    (iblk m c 12 t : Vec Ideal S128x1024 .f32) (ix2 k j) = (m (c, Proc.tc.devRef main_arg12) : Vec Ideal S1024x1024 .f32) (ix2 i j) := by
  blk_ext [iblk, idx t]
theorem block13 (k : Fin 128) (j : Fin 1024) (i : Fin 1024) (hi : i.val = 128 * t.val + k.val) :
    (iblk m c 13 t : Vec Ideal S128x1024 .f32) (ix2 k j) = (m (c, Proc.tc.devRef main_arg13) : Vec Ideal S1024x1024 .f32) (ix2 i j) := by
  blk_ext [iblk, idx t]
theorem block8 : (iblk m c 8 t : Vec Ideal S16x1024 .f32) = m (c, Proc.tc.devRef main_arg8) := by
  funext i; blk_ext [iblk, idx t]
theorem block9 : (iblk m c 9 t : Vec Ideal S4x1024x1664 .bf16) = m (c, Proc.tc.devRef main_arg9) := by
  funext i; blk_ext [iblk, idx t]
theorem entry10 (y : S128x1024.Idx) (z : S1024x1024.Idx) (e0 : (z 0).val = 128 * t.val + (y 0).val) (e1 : (z 1).val = (y 1).val) :
    (iblk m c 10 t : Vec Ideal S128x1024 .f32) y = (m (c, Proc.tc.devRef main_arg10) : Vec Ideal S1024x1024 .f32) z := by
  rw [show y = ix2 (y 0) (y 1) by simp, show z = ix2 (z 0) (y 1) by rw [show y 1 = z 1 from Fin.ext e1.symm]; simp]
  exact block10 m c t (y 0) (y 1) (z 0) e0
theorem entry11 (y : S128x1024.Idx) (z : S1024x1024.Idx) (e0 : (z 0).val = 128 * t.val + (y 0).val) (e1 : (z 1).val = (y 1).val) :
    (iblk m c 11 t : Vec Ideal S128x1024 .f32) y = (m (c, Proc.tc.devRef main_arg11) : Vec Ideal S1024x1024 .f32) z := by
  rw [show y = ix2 (y 0) (y 1) by simp, show z = ix2 (z 0) (y 1) by rw [show y 1 = z 1 from Fin.ext e1.symm]; simp]
  exact block11 m c t (y 0) (y 1) (z 0) e0
theorem entry12 (y : S128x1024.Idx) (z : S1024x1024.Idx) (e0 : (z 0).val = 128 * t.val + (y 0).val) (e1 : (z 1).val = (y 1).val) :
    (iblk m c 12 t : Vec Ideal S128x1024 .f32) y = (m (c, Proc.tc.devRef main_arg12) : Vec Ideal S1024x1024 .f32) z := by
  rw [show y = ix2 (y 0) (y 1) by simp, show z = ix2 (z 0) (y 1) by rw [show y 1 = z 1 from Fin.ext e1.symm]; simp]
  exact block12 m c t (y 0) (y 1) (z 0) e0
theorem entry13 (y : S128x1024.Idx) (z : S1024x1024.Idx) (e0 : (z 0).val = 128 * t.val + (y 0).val) (e1 : (z 1).val = (y 1).val) :
    (iblk m c 13 t : Vec Ideal S128x1024 .f32) y = (m (c, Proc.tc.devRef main_arg13) : Vec Ideal S1024x1024 .f32) z := by
  rw [show y = ix2 (y 0) (y 1) by simp, show z = ix2 (z 0) (y 1) by rw [show y 1 = z 1 from Fin.ext e1.symm]; simp]
  exact block13 m c t (y 0) (y 1) (z 0) e0

/-- The gradient of the modulated normal form from the arguments. -/
def dhArgs : Fin 2048 → Fin 1024 → EReal :=
  dhAll (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg9))

theorem dhAt_eq (k : Fin 256) (i : Fin 2048) (hi : i.val = 256 * t.val + k.val) : dhAt m c t k = dhArgs m c i := by
  funext j
  unfold dhAt dhArgs dhAll
  rw [block9]
  refine congrArg (fun p => back p _ j) ?_
  exact joined_congr (fun q => block0 m c t k q i hi) (fun q => block1 m c t k q i hi) (fun q => block2 m c t k q i hi)
    (fun q => block3 m c t k q i hi) (fun q => block4 m c t k q i hi) (fun q => block5 m c t k q i hi)

/-- The gradient of the input. -/
theorem final14 : (dats m 0 c).arrAt 14 cfg0.N = dxAll (dhArgs m c) (m (c, Proc.tc.devRef main_arg6)) (m (c, Proc.tc.devRef main_arg7)) (m (c, Proc.tc.devRef main_arg8)) := by
  refine (dats m 0 c).arrAt_eq_of_covers 14 _ (by decide +kernel) fun t hf y => ?_
  blk_simp
  rw [after0_14]
  have e0 : (((win0_14.blk t).view.emb y) 0).val = 256 * t.val + (y 0).val := by blk_simp [idx t]; ring
  have e1 : (((win0_14.blk t).view.emb y) 1) = y 1 := Fin.ext (by blk_simp [idx t])
  refine (congrArg (outsAt0 m c t.val t.isLt).1 (show y = ix2 (y 0) (y 1) by simp)).trans ((dx_point m c t (y 0) (y 1)).trans ?_)
  unfold dxAll
  rw [e1, block8]
  have h1 := dhAt_eq m c t (y 0) _ e0
  have h2 := funext fun k => block6 m c t (y 0) k _ e0
  have h3 := funext fun k => block7 m c t (y 0) k _ e0
  rw [h1]
  exact congrArg₂ (fun a b => gradRow _ a b _ _ _) h2 h3

/-- Row `n`'s part of the sums. -/
def partAt (r : ℕ) (j : Fin 1024) (n : ℕ) : EReal :=
  if h : n < 2048 then part (dhArgs m c ⟨n, h⟩ j) (fun k => (m (c, Proc.tc.devRef main_arg6) : S2048x1024.Idx → EReal) (ix2 ⟨n, h⟩ k))
    ((m (c, Proc.tc.devRef main_arg8) : S16x1024.Idx → EReal) (ix2 6 j)) ((m (c, Proc.tc.devRef main_arg8) : S16x1024.Idx → EReal) (ix2 1 j)) r j
  else 0

theorem con_eq (r : Fin 8) (j : Fin 1024) : con m c t r j = ∑ i : Fin 256, partAt m c r.val j (256 * t.val + i) := by
  unfold con
  rw [conRows_eq]
  refine Finset.sum_congr rfl fun i _ => ?_
  have ht : t.val < 8 := t.isLt
  have hi := i.isLt
  unfold partAt
  rw [dif_pos (by omega), block8, dhAt_eq m c t i ⟨256 * t.val + i, by omega⟩ rfl]
  exact congrArg (fun x => part _ x _ _ _ _) (funext fun k => block6 m c t i k ⟨256 * t.val + i, by omega⟩ rfl)

theorem st_point (r : Fin 8) (j : Fin 1024) : ∀ (n : ℕ) (hn : n < cfg0.N),
    (outsAt0 m c n hn).2.1 (ix2 r j) = ∑ s ∈ Finset.range (n + 1), ∑ i : Fin 256, partAt m c r.val j (256 * s + i) := by
  intro n
  induction n with
  | zero =>
    intro hn
    rw [Finset.sum_range_one]
    exact (stA m c ⟨0, hn⟩ rfl r j).trans (con_eq m c ⟨0, hn⟩ r j)
  | succ n ih =>
    intro hn
    have h8 : n + 1 < 8 := hn
    rw [Finset.sum_range_succ, ← ih (by omega)]
    refine (stB m c ⟨n + 1, hn⟩ (by show ¬ (n + 1) % 8 = 0; omega) r j).trans ?_
    rw [con_eq]
    rfl

/-- The sums over all rows. -/
theorem final15 : (dats m 0 c).arrAt 15 cfg0.N = stAll (dhArgs m c) (m (c, Proc.tc.devRef main_arg6)) (m (c, Proc.tc.devRef main_arg8)) := by
  refine (dats m 0 c).arrAt_eq_of_covers 15 _ (by decide +kernel) fun t hf y => ?_
  have ht : t.val = 7 := (by decide +kernel : ∀ t : Fin cfg0.N, (cfg0.win 15).flush t = true → t.val = 7) t hf
  blk_simp
  rw [after0_15]
  have e0 : (((win0_15.blk t).view.emb y) 0) = y 0 := Fin.ext (by blk_simp [idx t])
  have e1 : (((win0_15.blk t).view.emb y) 1) = y 1 := Fin.ext (by blk_simp [idx t])
  refine (congrArg (outsAt0 m c t.val t.isLt).2.1 (show y = ix2 (y 0) (y 1) by simp)).trans ((st_point m c (y 0) (y 1) t.val t.isLt).trans ?_)
  rw [sum_groups, ht]
  unfold stAll
  rw [e0, e1, Finset.sum_range]
  refine Finset.sum_congr rfl fun i _ => ?_
  unfold partAt
  rw [dif_pos i.isLt]

theorem final17 : (dats m 0 c).arrAt 17 cfg0.N =
    changeAll (m (c, Proc.tc.devRef main_arg10)) (m (c, Proc.tc.devRef main_arg11)) (m (c, Proc.tc.devRef main_arg12)) (m (c, Proc.tc.devRef main_arg13)) := by
  refine (dats m 0 c).arrAt_eq_of_covers 17 _ (by decide +kernel) fun t hf y => ?_
  blk_simp
  rw [after0_17, change_point]
  have e0 : (((win0_17.blk t).view.emb y) 0).val = 128 * t.val + (y 0).val := by blk_simp [idx t]; ring
  have e1 : (((win0_17.blk t).view.emb y) 1).val = (y 1).val := by blk_simp [idx t]
  refine change_congr ?_ ?_ ?_ ?_
  · exact entry10 m c t y _ e0 e1
  · exact entry11 m c t y _ e0 e1
  · exact entry12 m c t y _ e0 e1
  · exact entry13 m c t y _ e0 e1

theorem final18 : (dats m 0 c).arrAt 18 cfg0.N =
    firstAll (m (c, Proc.tc.devRef main_arg11)) (m (c, Proc.tc.devRef main_arg13)) := by
  refine (dats m 0 c).arrAt_eq_of_covers 18 _ (by decide +kernel) fun t hf y => ?_
  blk_simp
  rw [after0_18, first_point]
  have e0 : (((win0_18.blk t).view.emb y) 0).val = 128 * t.val + (y 0).val := by blk_simp [idx t]; ring
  have e1 : (((win0_18.blk t).view.emb y) 1).val = (y 1).val := by blk_simp [idx t]
  refine first_congr ?_ ?_
  · exact entry11 m c t y _ e0 e1
  · exact entry13 m c t y _ e0 e1

theorem final19 : (dats m 0 c).arrAt 19 cfg0.N =
    secondAll (m (c, Proc.tc.devRef main_arg12)) (m (c, Proc.tc.devRef main_arg13)) := by
  refine (dats m 0 c).arrAt_eq_of_covers 19 _ (by decide +kernel) fun t hf y => ?_
  blk_simp
  rw [after0_19, second_point]
  have e0 : (((win0_19.blk t).view.emb y) 0).val = 128 * t.val + (y 0).val := by blk_simp [idx t]; ring
  have e1 : (((win0_19.blk t).view.emb y) 1).val = (y 1).val := by blk_simp [idx t]
  refine second_congr ?_ ?_
  · exact entry12 m c t y _ e0 e1
  · exact entry13 m c t y _ e0 e1

end Cert.Kernel2Ideal.Hand

end
-- ==== Proof.MixArgs.lean ====
/- The mixture and the feed-forward layer: a frame's row from the arguments, and the sums over groups of frames. -/
module

public import proofs.«01_k».proof.Proof.MixModel
public import proofs.«01_k».proof.Proof.InFinal

@[expose] public section

set_option maxRecDepth 16384

noncomputable section

namespace Cert.Mix

open Idealize.ShloMosaic

/-- The row of frame `i`; the two gates' inputs lie in the projection's columns from 4608 and from 5632 on. -/
def rowOf (x0 : (⟨2, ![2048, 1024]⟩ : Shape).Idx → EReal) (x1 : (⟨2, ![2048, 512]⟩ : Shape).Idx → EReal)
    (x2 : (⟨2, ![2048, 6656]⟩ : Shape).Idx → EReal) (x3 x4 : (⟨2, ![2048, 1024]⟩ : Shape).Idx → EReal) (i : Fin 2048) : Row :=
  ⟨fun k => x0 (ix2 i k), fun k => x1 (ix2 i k), fun k => x2 (ix2 i ⟨4608 + k.val, by omega⟩),
    fun k => x2 (ix2 i ⟨5632 + k.val, by omega⟩), fun k => x3 (ix2 i k), fun k => x4 (ix2 i k)⟩

/-- A wide row from its four pieces. -/
def wide (g : Fin 4 → Fin 1024 → EReal) (n : Fin 4096) : EReal :=
  g ⟨n.val / 1024, by omega⟩ ⟨n.val % 1024, Nat.mod_lt _ (by norm_num)⟩

theorem groups (f : ℕ → EReal) : ∑ s ∈ Finset.range (7 + 1), ∑ i : Fin 256, f (256 * s + i) = ∑ i : Fin 2048, f i :=
  (Cert.Kernel2Ideal.Hand.sum_groups f 8).trans (Finset.sum_range (n := 2048) f)

theorem halfInv_eq : halfInv = ((1 / 2048 : ℝ) : EReal) := by
  unfold halfInv
  simp [Ideal.ofBits, Ideal.ieee]
  norm_num
  rw [← EReal.coe_mul]
  norm_num

theorem sum_scale (f : ℕ → EReal) (n : ℕ) : ∑ s ∈ Finset.range n, f s * halfInv = (∑ s ∈ Finset.range n, f s) * halfInv := by
  rw [halfInv_eq]
  induction n with
  | zero => simp
  | succ n ih =>
    rw [Finset.sum_range_succ, Finset.sum_range_succ, ih]
    exact (EReal.right_distrib_of_nonneg_of_ne_top (by exact_mod_cast (by norm_num : (0 : ℝ) ≤ 1 / 2048)) (EReal.coe_ne_top _) _ _).symm

variable (W : Wts) (Q : ℕ → Row) (r : ℕ) (j : Fin 1024)

theorem sta_groups : ∑ s ∈ Finset.range (7 + 1), sta W (fun i : Fin 256 => Q (256 * s + i)) r j = sta W (fun i : Fin 2048 => Q i) r j := by
  unfold sta
  split_ifs
  · rw [sum_scale, groups fun n => diff W (Q n) j * diff W (Q n) j]
  · exact groups fun n => dout W (Q n) j * gt2 W j * norm (f W (Q n)) j
  · exact groups fun n => dout W (Q n) j * norm (f W (Q n)) j * g4 W j
  · simp

theorem stb_groups : ∑ s ∈ Finset.range (7 + 1), stb W (fun i : Fin 256 => Q (256 * s + i)) r j = stb W (fun i : Fin 2048 => Q i) r j := by
  unfold stb
  split_ifs
  · exact groups fun n => dh1 W (Q n) j * gt1 W j * norm (yy W (Q n)) j
  · exact groups fun n => dh1 W (Q n) j * norm (yy W (Q n)) j * g2 W j
  · exact groups fun n => dh2 W (Q n) j * norm (h1 W (Q n)) j * (1 + sc2 W j)
  · exact groups fun n => dh2 W (Q n) j * norm (h1 W (Q n)) j * g3 W j
  · exact groups fun n => dh2 W (Q n) j
  · simp

end Cert.Mix

end
-- ==== Proof.MixPointBack.lean ====
/- The mixture and the feed-forward layer: what a grid point leaves in its backward output blocks. -/
module

public import proofs.«01_k».proof.Proof.MixPoint
public import Idealize.ShloMosaic.Lib.WritesUnit

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem out6 : (outsAt0 m c t.val t.isLt).2.2.2.2.2.2.1 = View.canon (Val := Elt Ideal) (e := .bf16)
      [⟨Rect.unit (s := S256x4096) ![0, 3072] ![256, 1024] inb_S256x4096_S256x1024_0_3072, (blk m c t).d3⟩,
       ⟨Rect.unit (s := S256x4096) ![0, 2048] ![256, 1024] inb_S256x4096_S256x1024_0_2048, (blk m c t).d2⟩,
       ⟨Rect.unit (s := S256x4096) ![0, 1024] ![256, 1024] inb_S256x4096_S256x1024_0_1024, (blk m c t).d1⟩,
       ⟨Rect.unit (s := S256x4096) ![0, 0] ![256, 1024] inb_S256x4096_S256x1024_0_0, (blk m c t).d0⟩] := by
  by_cases h : t.val % 8 = 0
  · rw [outsAt0_A m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out7 : (outsAt0 m c t.val t.isLt).2.2.2.2.2.2.2.1 = (blk m c t).dh1 := by
  by_cases h : t.val % 8 = 0
  · rw [outsAt0_A m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem out8 : (outsAt0 m c t.val t.isLt).2.2.2.2.2.2.2.2.1 = (blk m c t).dy := by
  by_cases h : t.val % 8 = 0
  · rw [outsAt0_A m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]
  · rw [outsAt0_B m c t h]
    frame_out
    simp (discharger := decide +kernel) only [↓View.readCov_skip, ↓View.readCov_fill, View.readCov_cons_toLoadRect]
    dsimp only [blk, Blk.mx, Blk.d0, Blk.d1, Blk.d2, Blk.d3, Blk.c0, Blk.c1, Blk.c2, Blk.c3, Blk.df, Blk.f, Blk.fs, Blk.f01, Blk.h1, Blk.yy, Blk.sq, Blk.rb, Blk.sp, Blk.hb, Blk.hn, Blk.r3, Blk.u0, Blk.m0, Blk.u1, Blk.u2, Blk.u3, Blk.a0, Blk.a1, Blk.a2, Blk.a3, Blk.fn, Blk.diff, Blk.dout, Blk.g01, Blk.dh2, Blk.dh1, Blk.dt, Blk.dy, Blk.v2, Blk.v3, Blk.v4, Blk.v5, Blk.v7, Blk.v8, Blk.v9, Blk.p0, Blk.p1, Blk.p2, Blk.p3, Blk.q0, Blk.q1, Blk.q2, Blk.q3, Blk.one, Blk.zero]

theorem du_point (i : Fin 256) (n : Fin 4096) :
    (outsAt0 m c t.val t.isLt).2.2.2.2.2.2.1 (ix2 i n) =
      Mix.du (blk m c t).wts ((blk m c t).row i) ⟨n.val / 1024, by omega⟩ ⟨n.val % 1024, Nat.mod_lt _ (by norm_num)⟩ := by
  rw [out6]
  exact canon_wide _ _ _ _ (Mix.du (blk m c t).wts ((blk m c t).row i)) i n (Blk.d0_apply _ i) (Blk.d1_apply _ i) (Blk.d2_apply _ i) (Blk.d3_apply _ i)

theorem dh1_point (i : Fin 256) (j : Fin 1024) :
    (outsAt0 m c t.val t.isLt).2.2.2.2.2.2.2.1 (ix2 i j) = Mix.dh1 (blk m c t).wts ((blk m c t).row i) j := by
  rw [out7]
  exact Blk.dh1_apply _ i j

theorem dy_point (i : Fin 256) (j : Fin 1024) :
    (outsAt0 m c t.val t.isLt).2.2.2.2.2.2.2.2.1 (ix2 i j) = Mix.dy (blk m c t).wts ((blk m c t).row i) j := by
  rw [out8]
  exact Blk.dy_apply _ i j

end Cert.Kernel6Ideal.Hand

end
-- ==== Proof.MixFinal.lean ====
/- The mixture and the feed-forward layer: the kernel's eleven arrays after the last grid point. -/
module

public import proofs.«01_k».proof.Proof.MixSumB
public import proofs.«01_k».proof.Proof.MixArgs
public import proofs.«01_k».proof.Proof.MixPointBack
public import proofs.«01_k».proof.Proof.InFinal

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 9] ∧ win0_3.index t = ![t.val, 10] ∧ win0_4.index t = ![t.val, 11] ∧ win0_5.index t = ![t.val, 12] ∧ win0_6.index t = ![t.val, 0] ∧ win0_7.index t = ![t.val, 0] ∧ win0_8.index t = ![0, 0] ∧ win0_9.index t = ![0, 0] ∧ win0_10.index t = ![0, 0, 0] ∧ win0_11.index t = ![0, 0] ∧ win0_12.index t = ![0, 0, 0] ∧ win0_13.index t = ![0, 0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![0, 0] ∧ win0_24.index t = ![0, 0] :=
  (by decide +kernel : ∀ t : Fin grid0.N, _)

theorem block0 (k : Fin 256) (j : Fin 1024) (i : Fin 2048) (hi : i.val = 256 * t.val + k.val) :
    (iblk m c 0 t : Vec Ideal S256x1024 .bf16) (ix2 k j) = (m (c, Proc.tc.devRef main_arg0) : Vec Ideal S2048x1024 .bf16) (ix2 i j) := by
  blk_ext [iblk, idx t]
theorem block1 (k : Fin 256) (j : Fin 512) (i : Fin 2048) (hi : i.val = 256 * t.val + k.val) :
    (iblk m c 1 t : Vec Ideal S256x512 .bf16) (ix2 k j) = (m (c, Proc.tc.devRef main_arg1) : Vec Ideal S2048x512 .bf16) (ix2 i j) := by
  blk_ext [iblk, idx t]
theorem block6 (k : Fin 256) (j : Fin 1024) (i : Fin 2048) (hi : i.val = 256 * t.val + k.val) :
    (iblk m c 6 t : Vec Ideal S256x1024 .f32) (ix2 k j) = (m (c, Proc.tc.devRef main_arg3) : Vec Ideal S2048x1024 .f32) (ix2 i j) := by
  blk_ext [iblk, idx t]
theorem block7 (k : Fin 256) (j : Fin 1024) (i : Fin 2048) (hi : i.val = 256 * t.val + k.val) :
    (iblk m c 7 t : Vec Ideal S256x1024 .f32) (ix2 k j) = (m (c, Proc.tc.devRef main_arg4) : Vec Ideal S2048x1024 .f32) (ix2 i j) := by
  blk_ext [iblk, idx t]
theorem block2 (k : Fin 256) (j : Fin 512) (i : Fin 2048) (n : Fin 6656) (hi : i.val = 256 * t.val + k.val) (hn : n.val = 4608 + j.val) :
    (iblk m c 2 t : Vec Ideal S256x512 .bf16) (ix2 k j) = (m (c, Proc.tc.devRef main_arg2) : Vec Ideal S2048x6656 .bf16) (ix2 i n) := by
  blk_ext [iblk, idx t]
theorem block3 (k : Fin 256) (j : Fin 512) (i : Fin 2048) (n : Fin 6656) (hi : i.val = 256 * t.val + k.val) (hn : n.val = 5120 + j.val) :
    (iblk m c 3 t : Vec Ideal S256x512 .bf16) (ix2 k j) = (m (c, Proc.tc.devRef main_arg2) : Vec Ideal S2048x6656 .bf16) (ix2 i n) := by
  blk_ext [iblk, idx t]
theorem block4 (k : Fin 256) (j : Fin 512) (i : Fin 2048) (n : Fin 6656) (hi : i.val = 256 * t.val + k.val) (hn : n.val = 5632 + j.val) :
    (iblk m c 4 t : Vec Ideal S256x512 .bf16) (ix2 k j) = (m (c, Proc.tc.devRef main_arg2) : Vec Ideal S2048x6656 .bf16) (ix2 i n) := by
  blk_ext [iblk, idx t]
theorem block5 (k : Fin 256) (j : Fin 512) (i : Fin 2048) (n : Fin 6656) (hi : i.val = 256 * t.val + k.val) (hn : n.val = 6144 + j.val) :
    (iblk m c 5 t : Vec Ideal S256x512 .bf16) (ix2 k j) = (m (c, Proc.tc.devRef main_arg2) : Vec Ideal S2048x6656 .bf16) (ix2 i n) := by
  blk_ext [iblk, idx t]
theorem block8 : (iblk m c 8 t : Vec Ideal S16x1024 .f32) = m (c, Proc.tc.devRef main_arg5) := by
  funext i; blk_ext [iblk, idx t]
theorem block9 : (iblk m c 9 t : Vec Ideal S1024x1024 .bf16) = m (c, Proc.tc.devRef main_arg6) := by
  funext i; blk_ext [iblk, idx t]
theorem block10 : (iblk m c 10 t : Vec Ideal S4x512x256 .bf16) = m (c, Proc.tc.devRef main_arg7) := by
  funext i; blk_ext [iblk, idx t]
theorem block11 : (iblk m c 11 t : Vec Ideal S1024x1024 .bf16) = m (c, Proc.tc.devRef main_arg8) := by
  funext i; blk_ext [iblk, idx t]
theorem block12 : (iblk m c 12 t : Vec Ideal S4x1024x1024 .bf16) = m (c, Proc.tc.devRef main_arg9) := by
  funext i; blk_ext [iblk, idx t]
theorem block13 : (iblk m c 13 t : Vec Ideal S4x1024x1024 .bf16) = m (c, Proc.tc.devRef main_arg10) := by
  funext i; blk_ext [iblk, idx t]

/-- The weights, and the row of a frame, from the arguments. -/
def wtsA : Mix.Wts := (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)))
def rowA (i : Fin 2048) : Mix.Row := Mix.rowOf (m (c, Proc.tc.devRef main_arg0)) (m (c, Proc.tc.devRef main_arg1)) (m (c, Proc.tc.devRef main_arg2)) (m (c, Proc.tc.devRef main_arg3)) (m (c, Proc.tc.devRef main_arg4)) i

theorem wts_eq : (blk m c t).wts = wtsA m c := by
  unfold Blk.wts wtsA blk
  dsimp only
  rw [block8, block9, block10, block11, block12, block13]

theorem row_eq (k : Fin 256) (i : Fin 2048) (hi : i.val = 256 * t.val + k.val) : (blk m c t).row k = rowA m c i := by
  unfold Blk.row rowA Mix.rowOf blk
  dsimp only
  have h0 := funext fun q => block0 m c t k q i hi
  have h1 := funext fun q => block1 m c t k q i hi
  have h6 := funext fun q => block6 m c t k q i hi
  have h7 := funext fun q => block7 m c t k q i hi
  rw [h0, h1, h6, h7]
  have ha : Blk.halves (iblk m c 2 t) (iblk m c 3 t) k = fun q : Fin 1024 => (m (c, Proc.tc.devRef main_arg2) : Vec Ideal S2048x6656 .bf16) (ix2 i ⟨4608 + q.val, by omega⟩) := by
    funext q
    unfold Blk.halves
    split
    · exact block2 m c t k _ i _ hi rfl
    · exact block3 m c t k _ i _ hi (by show 4608 + q.val = 5120 + (q.val - 512); omega)
  have hs : Blk.halves (iblk m c 4 t) (iblk m c 5 t) k = fun q : Fin 1024 => (m (c, Proc.tc.devRef main_arg2) : Vec Ideal S2048x6656 .bf16) (ix2 i ⟨5632 + q.val, by omega⟩) := by
    funext q
    unfold Blk.halves
    split
    · exact block4 m c t k _ i _ hi rfl
    · exact block5 m c t k _ i _ hi (by show 5632 + q.val = 6144 + (q.val - 512); omega)
  rw [ha, hs]

theorem final14 : (dats m 0 c).arrAt 14 cfg0.N = fun y => Mix.mixed (wtsA m c) (rowA m c (y 0)) (y 1) := by
  refine (dats m 0 c).arrAt_eq_of_covers 14 _ (by decide +kernel) fun t hf y => ?_
  blk_simp
  rw [after0_14]
  have e0 : (((win0_14.blk t).view.emb y) 0).val = 256 * t.val + (y 0).val := by blk_simp [idx t]; ring
  have e1 : (((win0_14.blk t).view.emb y) 1) = y 1 := Fin.ext (by blk_simp [idx t])
  refine (congrArg (outsAt0 m c t.val t.isLt).1 (show y = ix2 (y 0) (y 1) by simp)).trans ((mix_point m c t (y 0) (y 1)).trans ?_)
  rw [e1, wts_eq, row_eq m c t (y 0) _ e0]

theorem final15 : (dats m 0 c).arrAt 15 cfg0.N = fun y => Mix.rb (wtsA m c) (rowA m c (y 0)) (y 1) := by
  refine (dats m 0 c).arrAt_eq_of_covers 15 _ (by decide +kernel) fun t hf y => ?_
  blk_simp
  rw [after0_15]
  have e0 : (((win0_15.blk t).view.emb y) 0).val = 256 * t.val + (y 0).val := by blk_simp [idx t]; ring
  have e1 : (((win0_15.blk t).view.emb y) 1) = y 1 := Fin.ext (by blk_simp [idx t])
  refine (congrArg (outsAt0 m c t.val t.isLt).2.1 (show y = ix2 (y 0) (y 1) by simp)).trans ((rb_point m c t (y 0) (y 1)).trans ?_)
  rw [e1, wts_eq, row_eq m c t (y 0) _ e0]

theorem final16 : (dats m 0 c).arrAt 16 cfg0.N = fun y => Mix.sp (wtsA m c) (rowA m c (y 0)) (y 1) := by
  refine (dats m 0 c).arrAt_eq_of_covers 16 _ (by decide +kernel) fun t hf y => ?_
  blk_simp
  rw [after0_16]
  have e0 : (((win0_16.blk t).view.emb y) 0).val = 256 * t.val + (y 0).val := by blk_simp [idx t]; ring
  have e1 : (((win0_16.blk t).view.emb y) 1) = y 1 := Fin.ext (by blk_simp [idx t])
  refine (congrArg (outsAt0 m c t.val t.isLt).2.2.1 (show y = ix2 (y 0) (y 1) by simp)).trans ((sp_point m c t (y 0) (y 1)).trans ?_)
  rw [e1, wts_eq, row_eq m c t (y 0) _ e0]

theorem final17 : (dats m 0 c).arrAt 17 cfg0.N = fun y => Mix.hb (wtsA m c) (rowA m c (y 0)) (y 1) := by
  refine (dats m 0 c).arrAt_eq_of_covers 17 _ (by decide +kernel) fun t hf y => ?_
  blk_simp
  rw [after0_17]
  have e0 : (((win0_17.blk t).view.emb y) 0).val = 256 * t.val + (y 0).val := by blk_simp [idx t]; ring
  have e1 : (((win0_17.blk t).view.emb y) 1) = y 1 := Fin.ext (by blk_simp [idx t])
  refine (congrArg (outsAt0 m c t.val t.isLt).2.2.2.1 (show y = ix2 (y 0) (y 1) by simp)).trans ((hb_point m c t (y 0) (y 1)).trans ?_)
  rw [e1, wts_eq, row_eq m c t (y 0) _ e0]

theorem final18 : (dats m 0 c).arrAt 18 cfg0.N = fun y => Mix.wide (Mix.act (wtsA m c) (rowA m c (y 0))) (y 1) := by
  refine (dats m 0 c).arrAt_eq_of_covers 18 _ (by decide +kernel) fun t hf y => ?_
  blk_simp
  rw [after0_18]
  have e0 : (((win0_18.blk t).view.emb y) 0).val = 256 * t.val + (y 0).val := by blk_simp [idx t]; ring
  have e1 : (((win0_18.blk t).view.emb y) 1) = y 1 := Fin.ext (by blk_simp [idx t])
  refine (congrArg (outsAt0 m c t.val t.isLt).2.2.2.2.1 (show y = ix2 (y 0) (y 1) by simp)).trans ((act_point m c t (y 0) (y 1)).trans ?_)
  rw [e1, wts_eq, row_eq m c t (y 0) _ e0]
  rfl
theorem final19 : (dats m 0 c).arrAt 19 cfg0.N = fun y => Mix.df (wtsA m c) (rowA m c (y 0)) (y 1) := by
  refine (dats m 0 c).arrAt_eq_of_covers 19 _ (by decide +kernel) fun t hf y => ?_
  blk_simp
  rw [after0_19]
  have e0 : (((win0_19.blk t).view.emb y) 0).val = 256 * t.val + (y 0).val := by blk_simp [idx t]; ring
  have e1 : (((win0_19.blk t).view.emb y) 1) = y 1 := Fin.ext (by blk_simp [idx t])
  refine (congrArg (outsAt0 m c t.val t.isLt).2.2.2.2.2.1 (show y = ix2 (y 0) (y 1) by simp)).trans ((df_point m c t (y 0) (y 1)).trans ?_)
  rw [e1, wts_eq, row_eq m c t (y 0) _ e0]

theorem final20 : (dats m 0 c).arrAt 20 cfg0.N = fun y => Mix.wide (Mix.du (wtsA m c) (rowA m c (y 0))) (y 1) := by
  refine (dats m 0 c).arrAt_eq_of_covers 20 _ (by decide +kernel) fun t hf y => ?_
  blk_simp
  rw [after0_20]
  have e0 : (((win0_20.blk t).view.emb y) 0).val = 256 * t.val + (y 0).val := by blk_simp [idx t]; ring
  have e1 : (((win0_20.blk t).view.emb y) 1) = y 1 := Fin.ext (by blk_simp [idx t])
  refine (congrArg (outsAt0 m c t.val t.isLt).2.2.2.2.2.2.1 (show y = ix2 (y 0) (y 1) by simp)).trans ((du_point m c t (y 0) (y 1)).trans ?_)
  rw [e1, wts_eq, row_eq m c t (y 0) _ e0]
  rfl
theorem final21 : (dats m 0 c).arrAt 21 cfg0.N = fun y => Mix.dh1 (wtsA m c) (rowA m c (y 0)) (y 1) := by
  refine (dats m 0 c).arrAt_eq_of_covers 21 _ (by decide +kernel) fun t hf y => ?_
  blk_simp
  rw [after0_21]
  have e0 : (((win0_21.blk t).view.emb y) 0).val = 256 * t.val + (y 0).val := by blk_simp [idx t]; ring
  have e1 : (((win0_21.blk t).view.emb y) 1) = y 1 := Fin.ext (by blk_simp [idx t])
  refine (congrArg (outsAt0 m c t.val t.isLt).2.2.2.2.2.2.2.1 (show y = ix2 (y 0) (y 1) by simp)).trans ((dh1_point m c t (y 0) (y 1)).trans ?_)
  rw [e1, wts_eq, row_eq m c t (y 0) _ e0]

theorem final22 : (dats m 0 c).arrAt 22 cfg0.N = fun y => Mix.dy (wtsA m c) (rowA m c (y 0)) (y 1) := by
  refine (dats m 0 c).arrAt_eq_of_covers 22 _ (by decide +kernel) fun t hf y => ?_
  blk_simp
  rw [after0_22]
  have e0 : (((win0_22.blk t).view.emb y) 0).val = 256 * t.val + (y 0).val := by blk_simp [idx t]; ring
  have e1 : (((win0_22.blk t).view.emb y) 1) = y 1 := Fin.ext (by blk_simp [idx t])
  refine (congrArg (outsAt0 m c t.val t.isLt).2.2.2.2.2.2.2.2.1 (show y = ix2 (y 0) (y 1) by simp)).trans ((dy_point m c t (y 0) (y 1)).trans ?_)
  rw [e1, wts_eq, row_eq m c t (y 0) _ e0]

/-- Row `n` of the whole sequence. -/
def rowN (n : ℕ) : Mix.Row := if h : n < 2048 then rowA m c ⟨n, h⟩ else rowA m c 0

theorem rows_eq : (blk m c t).row = fun i : Fin 256 => rowN m c (256 * t.val + i) := by
  funext i
  have ht : t.val < 8 := t.isLt
  have hi := i.isLt
  unfold rowN
  rw [dif_pos (by omega)]
  exact row_eq m c t i _ rfl

theorem rows_all : (fun i : Fin 2048 => rowN m c i) = rowA m c := by
  funext i
  unfold rowN
  rw [dif_pos i.isLt]

theorem sta_point (r : Fin 8) (j : Fin 1024) : ∀ (n : ℕ) (hn : n < cfg0.N),
    (outsAt0 m c n hn).2.2.2.2.2.2.2.2.2.1 (ix2 r j) = ∑ s ∈ Finset.range (n + 1), Mix.sta (wtsA m c) (fun i : Fin 256 => rowN m c (256 * s + i)) r j := by
  intro n
  induction n with
  | zero =>
    intro hn
    rw [Finset.sum_range_one]
    refine (staA m c ⟨0, hn⟩ rfl r j).trans ?_
    rw [wts_eq, rows_eq]
  | succ n ih =>
    intro hn
    have h8 : n + 1 < 8 := hn
    rw [Finset.sum_range_succ, ← ih (by omega)]
    refine (staB m c ⟨n + 1, hn⟩ (by show ¬ (n + 1) % 8 = 0; omega) r j).trans ?_
    rw [wts_eq, rows_eq]
    rfl

theorem final23 : (dats m 0 c).arrAt 23 cfg0.N = fun y => Mix.sta (wtsA m c) (rowA m c) (y 0).val (y 1) := by
  refine (dats m 0 c).arrAt_eq_of_covers 23 _ (by decide +kernel) fun t hf y => ?_
  have ht : t.val = 7 := (by decide +kernel : ∀ t : Fin cfg0.N, (cfg0.win 23).flush t = true → t.val = 7) t hf
  blk_simp
  rw [after0_23]
  have e0 : (((win0_23.blk t).view.emb y) 0) = y 0 := Fin.ext (by blk_simp [idx t])
  have e1 : (((win0_23.blk t).view.emb y) 1) = y 1 := Fin.ext (by blk_simp [idx t])
  refine (congrArg (outsAt0 m c t.val t.isLt).2.2.2.2.2.2.2.2.2.1 (show y = ix2 (y 0) (y 1) by simp)).trans ((sta_point m c (y 0) (y 1) t.val t.isLt).trans ?_)
  rw [show win0_23.index t 0 = 0 from by simp [idx t], Nat.zero_mul, Nat.zero_add, e1, ht]
  have e := Mix.sta_groups (wtsA m c) (rowN m c) (y 0).val (y 1)
  rw [rows_all] at e
  exact e

theorem stb_point (r : Fin 8) (j : Fin 1024) : ∀ (n : ℕ) (hn : n < cfg0.N),
    (outsAt0 m c n hn).2.2.2.2.2.2.2.2.2.2 (ix2 r j) = ∑ s ∈ Finset.range (n + 1), Mix.stb (wtsA m c) (fun i : Fin 256 => rowN m c (256 * s + i)) r j := by
  intro n
  induction n with
  | zero =>
    intro hn
    rw [Finset.sum_range_one]
    refine (stbA m c ⟨0, hn⟩ rfl r j).trans ?_
    rw [wts_eq, rows_eq]
  | succ n ih =>
    intro hn
    have h8 : n + 1 < 8 := hn
    rw [Finset.sum_range_succ, ← ih (by omega)]
    refine (stbB m c ⟨n + 1, hn⟩ (by show ¬ (n + 1) % 8 = 0; omega) r j).trans ?_
    rw [wts_eq, rows_eq]
    rfl

theorem final24 : (dats m 0 c).arrAt 24 cfg0.N = fun y => Mix.stb (wtsA m c) (rowA m c) (y 0).val (y 1) := by
  refine (dats m 0 c).arrAt_eq_of_covers 24 _ (by decide +kernel) fun t hf y => ?_
  have ht : t.val = 7 := (by decide +kernel : ∀ t : Fin cfg0.N, (cfg0.win 24).flush t = true → t.val = 7) t hf
  blk_simp
  rw [after0_24]
  have e0 : (((win0_24.blk t).view.emb y) 0) = y 0 := Fin.ext (by blk_simp [idx t])
  have e1 : (((win0_24.blk t).view.emb y) 1) = y 1 := Fin.ext (by blk_simp [idx t])
  refine (congrArg (outsAt0 m c t.val t.isLt).2.2.2.2.2.2.2.2.2.2 (show y = ix2 (y 0) (y 1) by simp)).trans ((stb_point m c (y 0) (y 1) t.val t.isLt).trans ?_)
  rw [show win0_24.index t 0 = 0 from by simp [idx t], Nat.zero_mul, Nat.zero_add, e1, ht]
  have e := Mix.stb_groups (wtsA m c) (rowN m c) (y 0).val (y 1)
  rw [rows_all] at e
  exact e

end Cert.Kernel6Ideal.Hand

end
-- ==== Proof.MixDiff.lean ====
/- The gradient of a normal form as differentiation gives it, and the kernel's form of it over the real numbers. -/
module

public import proofs.«01_k».proof.Proof.MixArgs

@[expose] public section

set_option maxRecDepth 16384

noncomputable section

namespace Cert.Mix

open Idealize.ShloMosaic
open Cert.InBack (invRms)

/-- The factor's own derivative, and its share in the row's gradient. -/
def slope (y : Fin 1024 → EReal) : EReal :=
  Ideal.ofBits FTy.f32 0xBF000000#32 *
    Ideal.div (invRms y) (Ideal.div (∑ k, y k * y k) (Ideal.ofBits FTy.f32 1149239296#32) + Ideal.ofBits FTy.f32 897988541#32)

def share (y d : Fin 1024 → EReal) : EReal :=
  Ideal.div ((∑ k, y k * d k) * slope y) (Ideal.ofBits FTy.f32 1149239296#32)

/-- The gradient of the row: the factor's share comes back once for each of the two equal terms of the square. -/
def refBack (y d : Fin 1024 → EReal) (j : Fin 1024) : EReal := d j * invRms y + y j * share y d + share y d * y j

/-- An extended real that is a real number. -/
def Re (x : EReal) : Prop := ∃ r : ℝ, x = (r : EReal)

theorem re_zero : Re 0 := ⟨0, rfl⟩
theorem re_one : Re 1 := ⟨1, rfl⟩

theorem Re.add {x y : EReal} (hx : Re x) (hy : Re y) : Re (x + y) := by
  obtain ⟨a, rfl⟩ := hx
  obtain ⟨b, rfl⟩ := hy
  exact ⟨a + b, (EReal.coe_add a b).symm⟩

theorem Re.sub {x y : EReal} (hx : Re x) (hy : Re y) : Re (x - y) := by
  obtain ⟨a, rfl⟩ := hx
  obtain ⟨b, rfl⟩ := hy
  exact ⟨a - b, (EReal.coe_sub a b).symm⟩

theorem Re.mul {x y : EReal} (hx : Re x) (hy : Re y) : Re (x * y) := by
  obtain ⟨a, rfl⟩ := hx
  obtain ⟨b, rfl⟩ := hy
  exact ⟨a * b, (EReal.coe_mul a b).symm⟩

theorem Re.max {x y : EReal} (hx : Re x) (hy : Re y) : Re (max x y) := by
  rcases max_choice x y with h | h <;> rw [h] <;> assumption

theorem re_sum {ι : Type} [Fintype ι] (f : ι → EReal) (h : ∀ i, Re (f i)) : Re (∑ i, f i) :=
  Finset.sum_induction f Re (fun _ _ => Re.add) re_zero fun i _ => h i

theorem re_inv : Re inv := by
  refine ⟨1 / 1024, ?_⟩
  unfold inv
  simp [Ideal.ofBits, Ideal.ieee]
  norm_num
  rw [← EReal.coe_mul]
  norm_num

theorem two_eq : two = ((2 : ℝ) : EReal) := by
  unfold two
  simp [Ideal.ofBits, Ideal.ieee]
  norm_num
  try (rw [← EReal.coe_mul]; norm_num)

theorem inv_eq : inv = ((1 / 1024 : ℝ) : EReal) := by
  unfold inv
  simp [Ideal.ofBits, Ideal.ieee]
  norm_num
  rw [← EReal.coe_mul]
  norm_num

theorem re_gate {a : EReal} (h : Re a) : Re (gate a) := by
  obtain ⟨a, rfl⟩ := h
  have hp : (1 : ℝ) + Real.exp (0 - a) ≠ 0 := (add_pos one_pos (Real.exp_pos _)).ne'
  refine ⟨1 * (1 / (1 + Real.exp (0 - a))), ?_⟩
  unfold gate
  rw [← EReal.coe_zero, ← EReal.coe_sub, Ideal.exp_coe, ← EReal.coe_one, ← EReal.coe_add, Ideal.div_coe hp, ← EReal.coe_mul]

/-- The inverse root of a real row's mean square is real, and its square is the mean's inverse. -/
theorem root (y : Fin 1024 → ℝ) : ∃ r q : ℝ, 0 < q ∧ 1 / q = r * r ∧ invRms (fun k => (y k : EReal)) = (r : EReal) ∧
    Ideal.div (∑ k, (y k : EReal) * (y k : EReal)) (Ideal.ofBits FTy.f32 1149239296#32) + Ideal.ofBits FTy.f32 897988541#32 = (q : EReal) := by
  obtain ⟨e, he, hE⟩ := InBack.eps
  have hq : 0 < (∑ k, y k * y k) * (1 / 1024) + e :=
    add_pos_of_nonneg_of_pos (mul_nonneg (Finset.sum_nonneg fun k _ => mul_self_nonneg _) (by norm_num)) he
  obtain ⟨q, hqd⟩ : ∃ q, q = (∑ k, y k * y k) * (1 / 1024) + e := ⟨_, rfl⟩
  rw [← hqd] at hq
  have hQ : Ideal.div (∑ k, (y k : EReal) * (y k : EReal)) (Ideal.ofBits FTy.f32 1149239296#32) + Ideal.ofBits FTy.f32 897988541#32 = (q : EReal) := by
    rw [InBack.width, hE, Ideal.div_coe (by norm_num)]
    simp only [← EReal.coe_mul, InBack.coe_sum, ← EReal.coe_add, ← hqd]
  refine ⟨(Real.sqrt q)⁻¹, q, hq, by rw [← mul_inv, Real.mul_self_sqrt hq.le, one_div], ?_, hQ⟩
  unfold invRms
  rw [hQ, Ideal.rsqrt_coe, if_neg (not_lt.2 hq.le), if_neg hq.ne']

theorem real_row {y : Fin 1024 → EReal} (h : ∀ k, Re (y k)) : ∃ z : Fin 1024 → ℝ, y = fun k => (z k : EReal) :=
  ⟨fun k => (h k).choose, funext fun k => (h k).choose_spec⟩

theorem re_invRms {y : Fin 1024 → EReal} (h : ∀ k, Re (y k)) : Re (invRms y) := by
  obtain ⟨z, rfl⟩ := real_row h
  obtain ⟨r, q, -, -, hr, -⟩ := root z
  exact ⟨r, hr⟩

theorem re_norm {y : Fin 1024 → EReal} (h : ∀ k, Re (y k)) (j : Fin 1024) : Re (norm y j) := (h j).mul (re_invRms h)

theorem re_div_width {x : EReal} (h : Re x) : Re (Ideal.div x width) := by
  obtain ⟨a, rfl⟩ := h
  refine ⟨a * (1 / 1024), ?_⟩
  rw [show width = ((1024 : ℝ) : EReal) from InBack.width, Ideal.div_coe (by norm_num), ← EReal.coe_mul]

theorem re_back {y d : Fin 1024 → EReal} (h : ∀ k, Re (y k)) (h' : ∀ k, Re (d k)) (j : Fin 1024) : Re (back y d j) :=
  (re_invRms h).mul ((h' j).sub ((re_norm h j).mul (re_div_width (re_sum _ fun k => (h' k).mul (re_norm h k)))))

theorem refBack_eq {y d : Fin 1024 → EReal} (h : ∀ k, Re (y k)) (h' : ∀ k, Re (d k)) (j : Fin 1024) : refBack y d j = back y d j := by
  obtain ⟨y, rfl⟩ := real_row h
  obtain ⟨d, rfl⟩ := real_row h'
  obtain ⟨r, q, hq, hr, hR, hQ⟩ := root y
  unfold refBack back share slope norm
  rw [show width = ((1024 : ℝ) : EReal) from InBack.width, hQ, hR, InBack.width, InBack.half, Ideal.div_coe hq.ne', hr]
  simp only [Ideal.div_coe (show (1024 : ℝ) ≠ 0 by norm_num), ← EReal.coe_mul, ← EReal.coe_add, ← EReal.coe_sub, InBack.coe_sum]
  refine congrArg (fun a : ℝ => (a : EReal)) ?_
  have h1 : ∑ k, d k * (y k * r) = (∑ k, y k * d k) * r := by
    rw [Finset.sum_mul]
    exact Finset.sum_congr rfl fun k _ => by ring
  rw [h1]
  ring

/-- What is assumed of a frame's row and of the weights. -/
structure Reals (W : Wts) (R : Row) : Prop where
  r : ∀ k, Re (R.r k)
  s : ∀ k, Re (R.s k)
  gr : ∀ k, Re (R.gr k)
  gs : ∀ k, Re (R.gs k)
  x : ∀ k, Re (R.x k)
  t : ∀ k, Re (R.t k)
  v : ∀ i j, (2 ≤ i.val ∧ i.val ≤ 5) ∨ (7 ≤ i.val ∧ i.val ≤ 9) → Re (W.v (ix2 i j))
  wr : ∀ i j, Re (W.wr (ix2 i j))
  ws : ∀ b i j, Re (W.ws (ix3 b i j))
  wo : ∀ i j, Re (W.wo (ix2 i j))
  w1 : ∀ b i j, Re (W.w1 (ix3 b i j))
  w2 : ∀ b i j, Re (W.w2 (ix3 b i j))

namespace Reals

variable {W : Wts} {R : Row} (H : Reals W R)
include H

theorem gt1 (j : Fin 1024) : Re (gt1 W j) := H.v 2 j (by decide)
theorem sh2 (j : Fin 1024) : Re (sh2 W j) := H.v 3 j (by decide)
theorem sc2 (j : Fin 1024) : Re (sc2 W j) := H.v 4 j (by decide)
theorem gt2 (j : Fin 1024) : Re (gt2 W j) := H.v 5 j (by decide)
theorem g2 (j : Fin 1024) : Re (g2 W j) := H.v 7 j (by decide)
theorem g3 (j : Fin 1024) : Re (g3 W j) := H.v 8 j (by decide)
theorem g4 (j : Fin 1024) : Re (g4 W j) := H.v 9 j (by decide)
theorem rb (j : Fin 1024) : Re (rb W R j) := re_sum _ fun k => (H.r k).mul (H.wr k j)
theorem sp (j : Fin 1024) : Re (sp W R j) := re_sum _ fun k => (H.s k).mul (H.ws _ k _)
theorem mixed (j : Fin 1024) : Re (mixed W R j) := ((re_gate (H.gr j)).mul (H.rb j)).add ((re_gate (H.gs j)).mul (H.sp j))
theorem yy (j : Fin 1024) : Re (yy W R j) := re_sum _ fun k => (H.mixed k).mul (H.wo k j)
theorem h1 (j : Fin 1024) : Re (h1 W R j) := (H.x j).add (((H.gt1 j).mul (re_norm H.yy j)).mul (H.g2 j))
theorem hb (j : Fin 1024) : Re (hb W R j) := ((re_norm H.h1 j).mul ((H.g3 j).mul (re_one.add (H.sc2 j)))).add (H.sh2 j)
theorem u (k : Fin 4) (j : Fin 1024) : Re (u W R k j) := re_sum _ fun q => (H.hb q).mul (H.w1 k q j)
theorem act (k : Fin 4) (j : Fin 1024) : Re (act W R k j) := ((H.u k j).max re_zero).mul ((H.u k j).max re_zero)
theorem f (j : Fin 1024) : Re (f W R j) := re_sum _ fun k => re_sum _ fun q => (H.act k q).mul (H.w2 k q j)
theorem diff (j : Fin 1024) : Re (diff W R j) := ((H.h1 j).add (((H.gt2 j).mul (re_norm H.f j)).mul (H.g4 j))).sub (H.t j)
theorem dout (j : Fin 1024) : Re (dout W R j) := (H.diff j).mul re_inv
theorem dfn (j : Fin 1024) : Re (dfn W R j) := ((H.dout j).mul (H.gt2 j)).mul (H.g4 j)
theorem df (j : Fin 1024) : Re (df W R j) := re_back H.f H.dfn j
theorem du (k : Fin 4) (j : Fin 1024) : Re (du W R k j) :=
  (re_sum _ fun q => (H.df q).mul (H.w2 k j q)).mul (Re.mul ⟨2, two_eq⟩ ((H.u k j).max re_zero))
theorem dh2 (j : Fin 1024) : Re (dh2 W R j) := re_sum _ fun k => re_sum _ fun q => (H.du k q).mul (H.w1 k j q)
theorem dhn (j : Fin 1024) : Re (dhn W R j) := ((H.dh2 j).mul (H.g3 j)).mul (re_one.add (H.sc2 j))
theorem dh1 (j : Fin 1024) : Re (dh1 W R j) := (H.dout j).add (re_back H.h1 H.dhn j)
theorem dyn (j : Fin 1024) : Re (dyn W R j) := ((H.dh1 j).mul (H.gt1 j)).mul (H.g2 j)

end Reals

end Cert.Mix

end
-- ==== Proof.MixRef.lean ====
/- The mixture and the feed-forward layer: the reference's forward pass entry by entry. -/
module

public import proofs.«01_k».proof.Proof.MixDiff
public import proofs.«01_k».proof.Proof.Gen.Reference6Ideal.Read
public import Idealize.ShloMosaic.Lib.IdealHost

@[expose] public section

set_option maxRecDepth 16384

noncomputable section

namespace Cert.Reference6Ideal.Hand

open Cert.Reference6Ideal Cert.Reference6Ideal.Gen Cert.Reference6Ideal.Read Cert.InBack Idealize.ShloMosaic

variable (x0 : FVec Ideal S2048x1024 .bf16) (x1 : FVec Ideal S2048x512 .bf16) (x2 : FVec Ideal S2048x6656 .bf16)
  (x3 x4 : FVec Ideal S2048x1024 .f32) (x5 : FVec Ideal S16x1024 .f32) (x6 : FVec Ideal S1024x1024 .bf16)
  (x7 : FVec Ideal S4x512x256 .bf16) (x8 : FVec Ideal S1024x1024 .bf16) (x9 x10 : FVec Ideal S4x1024x1024 .bf16)

theorem v14_eq (i : Fin 2048) (j : Fin 1024) : (val_main_v14 (F := Ideal) x0 x6) (ix2 i j) = (Mix.rb (Mix.Wts.mk x5 x6 x7 x8 x9 x10) (Mix.rowOf x0 x1 x2 x3 x4 i)) j := by
  unfold Mix.rb
  pointwise [val_main_v14, val_main_v13, val_main_v12]
  try rfl

theorem v16_eq (i : Fin 2048) (j : Fin 1024) : (val_main_v16 (F := Ideal) x1 x7) (ix2 i j) = (Mix.sp (Mix.Wts.mk x5 x6 x7 x8 x9 x10) (Mix.rowOf x0 x1 x2 x3 x4 i)) j := by
  unfold Mix.sp
  pointwise [val_main_v16, val_main_v2, val_main_v1, val_main_v0, val_main_v15]
  try rfl

theorem v31_eq (i : Fin 2048) (j : Fin 1024) : (val_main_v31 (F := Ideal) x0 x1 x2 x6 x7) (ix2 i j) = (Mix.mixed (Mix.Wts.mk x5 x6 x7 x8 x9 x10) (Mix.rowOf x0 x1 x2 x3 x4 i)) j := by
  have ha := v14_eq x0 x1 x2 x3 x4 x5 x6 x7 x8 x9 x10 i j
  have hb := v16_eq x0 x1 x2 x3 x4 x5 x6 x7 x8 x9 x10 i j
  unfold Mix.mixed Mix.gate
  pointwise [val_main_v31, val_main_v30, val_main_v29, val_main_v28, val_main_cst_2, val_main_v27, val_main_v26, val_main_cst_1, val_main_v25, val_main_v24, val_main_v11, val_main_v10, val_main_v23, val_main_v22, val_main_v21, val_main_cst_0, val_main_v20, val_main_v19, val_main_cst, val_main_v18, val_main_v17, val_main_v9, val_main_v8]
  rw [ha, hb]
  simp only [zero_sub]
  try rfl

theorem v33_eq (i : Fin 2048) (j : Fin 1024) : (val_main_v33 (F := Ideal) x0 x1 x2 x6 x7 x8) (ix2 i j) = (Mix.yy (Mix.Wts.mk x5 x6 x7 x8 x9 x10) (Mix.rowOf x0 x1 x2 x3 x4 i)) j := by
  have h := v31_eq x0 x1 x2 x3 x4 x5 x6 x7 x8 x9 x10 i
  unfold Mix.yy
  pointwise [val_main_v33, val_main_v32]
  simp only [h]
  try rfl

theorem v34_eq (i : Fin 2048) (j : Fin 1024) : (val_main_v34 (F := Ideal) x0 x1 x2 x6 x7 x8) (ix3 0 i j) = (Mix.yy (Mix.Wts.mk x5 x6 x7 x8 x9 x10) (Mix.rowOf x0 x1 x2 x3 x4 i)) j := by
  have h := v33_eq x0 x1 x2 x3 x4 x5 x6 x7 x8 x9 x10 i j
  pointwise [val_main_v34]
  exact h

theorem v56_eq (i : Fin 2048) : (val_main_v56 (F := Ideal) x0 x1 x2 x6 x7 x8) (ix3 0 i 0) = invRms (Mix.yy (Mix.Wts.mk x5 x6 x7 x8 x9 x10) (Mix.rowOf x0 x1 x2 x3 x4 i)) := by
  have h := v34_eq x0 x1 x2 x3 x4 x5 x6 x7 x8 x9 x10 i
  unfold invRms
  pointwise [val_main_v56, val_main_v55, val_main_v54, val_main_cst_7, val_main_v53, val_main_v52, val_main_cst_6, val_main_v51, val_main_v50, val_main_v49, val_main_cst_5]
  simp only [h]
  try rfl

theorem v59_eq (i : Fin 2048) : (val_main_v59 (F := Ideal) x0 x1 x2 x6 x7 x8) (ix3 0 i 0) = Mix.slope (Mix.yy (Mix.Wts.mk x5 x6 x7 x8 x9 x10) (Mix.rowOf x0 x1 x2 x3 x4 i)) := by
  have h := v34_eq x0 x1 x2 x3 x4 x5 x6 x7 x8 x9 x10 i
  have hr := v56_eq x0 x1 x2 x3 x4 x5 x6 x7 x8 x9 x10 i
  unfold Mix.slope
  pointwise [val_main_v59, val_main_v58, val_main_cst_8, val_main_v57, val_main_v55, val_main_v54, val_main_cst_7, val_main_v53, val_main_v52, val_main_cst_6, val_main_v51, val_main_v50, val_main_v49, val_main_cst_5]
  simp only [h, hr]
  try rfl

theorem v61_eq (i : Fin 2048) (j : Fin 1024) : (val_main_v61 (F := Ideal) x0 x1 x2 x6 x7 x8) (ix3 0 i j) = Mix.norm (Mix.yy (Mix.Wts.mk x5 x6 x7 x8 x9 x10) (Mix.rowOf x0 x1 x2 x3 x4 i)) j := by
  have h := v34_eq x0 x1 x2 x3 x4 x5 x6 x7 x8 x9 x10 i j
  have hr := v56_eq x0 x1 x2 x3 x4 x5 x6 x7 x8 x9 x10 i
  unfold Mix.norm
  pointwise [val_main_v61, val_main_v60]
  rw [h, hr]

theorem v64_eq (i : Fin 2048) (j : Fin 1024) : (val_main_v64 (F := Ideal) x0 x1 x2 x5 x6 x7 x8) (ix3 0 i j) = Mix.norm (Mix.yy (Mix.Wts.mk x5 x6 x7 x8 x9 x10) (Mix.rowOf x0 x1 x2 x3 x4 i)) j * (Mix.g2 (Mix.Wts.mk x5 x6 x7 x8 x9 x10)) j := by
  have h := v61_eq x0 x1 x2 x3 x4 x5 x6 x7 x8 x9 x10 i j
  unfold Mix.g2
  pointwise [val_main_v64, val_main_v63, val_main_v62, val_main_v38, val_main_v37]
  rw [h]

theorem v67_eq (i : Fin 2048) (j : Fin 1024) : (val_main_v67 (F := Ideal) x0 x1 x2 x3 x5 x6 x7 x8) (ix3 0 i j) = (Mix.h1 (Mix.Wts.mk x5 x6 x7 x8 x9 x10) (Mix.rowOf x0 x1 x2 x3 x4 i)) j := by
  have h := v64_eq x0 x1 x2 x3 x4 x5 x6 x7 x8 x9 x10 i j
  unfold Mix.h1 Mix.gt1
  pointwise [val_main_v67, val_main_v66, val_main_v65, val_main_v48, val_main_v36, val_main_v35]
  rw [h, ← mul_assoc]
  try rfl

theorem v75_eq (i : Fin 2048) : (val_main_v75 (F := Ideal) x0 x1 x2 x3 x5 x6 x7 x8) (ix3 0 i 0) = invRms (Mix.h1 (Mix.Wts.mk x5 x6 x7 x8 x9 x10) (Mix.rowOf x0 x1 x2 x3 x4 i)) := by
  have h := v67_eq x0 x1 x2 x3 x4 x5 x6 x7 x8 x9 x10 i
  unfold invRms
  pointwise [val_main_v75, val_main_v74, val_main_v73, val_main_cst_11, val_main_v72, val_main_v71, val_main_cst_10, val_main_v70, val_main_v69, val_main_v68, val_main_cst_9]
  simp only [h]
  try rfl

theorem v78_eq (i : Fin 2048) : (val_main_v78 (F := Ideal) x0 x1 x2 x3 x5 x6 x7 x8) (ix3 0 i 0) = Mix.slope (Mix.h1 (Mix.Wts.mk x5 x6 x7 x8 x9 x10) (Mix.rowOf x0 x1 x2 x3 x4 i)) := by
  have h := v67_eq x0 x1 x2 x3 x4 x5 x6 x7 x8 x9 x10 i
  have hr := v75_eq x0 x1 x2 x3 x4 x5 x6 x7 x8 x9 x10 i
  unfold Mix.slope
  pointwise [val_main_v78, val_main_v77, val_main_cst_12, val_main_v76, val_main_v74, val_main_v73, val_main_cst_11, val_main_v72, val_main_v71, val_main_cst_10, val_main_v70, val_main_v69, val_main_v68, val_main_cst_9]
  simp only [h, hr]
  try rfl

theorem v80_eq (i : Fin 2048) (j : Fin 1024) : (val_main_v80 (F := Ideal) x0 x1 x2 x3 x5 x6 x7 x8) (ix3 0 i j) = Mix.norm (Mix.h1 (Mix.Wts.mk x5 x6 x7 x8 x9 x10) (Mix.rowOf x0 x1 x2 x3 x4 i)) j := by
  have h := v67_eq x0 x1 x2 x3 x4 x5 x6 x7 x8 x9 x10 i j
  have hr := v75_eq x0 x1 x2 x3 x4 x5 x6 x7 x8 x9 x10 i
  unfold Mix.norm
  pointwise [val_main_v80, val_main_v79]
  rw [h, hr]

theorem v83_eq (i : Fin 2048) (j : Fin 1024) : (val_main_v83 (F := Ideal) x0 x1 x2 x3 x5 x6 x7 x8) (ix3 0 i j) = Mix.norm (Mix.h1 (Mix.Wts.mk x5 x6 x7 x8 x9 x10) (Mix.rowOf x0 x1 x2 x3 x4 i)) j * (Mix.g3 (Mix.Wts.mk x5 x6 x7 x8 x9 x10)) j := by
  have h := v80_eq x0 x1 x2 x3 x4 x5 x6 x7 x8 x9 x10 i j
  unfold Mix.g3
  pointwise [val_main_v83, val_main_v82, val_main_v81, val_main_v40, val_main_v39]
  rw [h]

theorem v86_eq (j : Fin 1024) : (val_main_v86 (F := Ideal) x5) (ix3 0 0 j) = 1 + (Mix.sc2 (Mix.Wts.mk x5 x6 x7 x8 x9 x10)) j := by
  unfold Mix.sc2
  pointwise [val_main_v86, val_main_v85, val_main_cst_13, val_main_v84, val_main_v42]
  try rfl

theorem v91_eq (i : Fin 2048) (j : Fin 1024) : (val_main_v91 (F := Ideal) x0 x1 x2 x3 x5 x6 x7 x8) (ix3 0 i j) = (Mix.hb (Mix.Wts.mk x5 x6 x7 x8 x9 x10) (Mix.rowOf x0 x1 x2 x3 x4 i)) j := by
  have h := v83_eq x0 x1 x2 x3 x4 x5 x6 x7 x8 x9 x10 i j
  have hs := v86_eq x5 x6 x7 x8 x9 x10 j
  unfold Mix.hb Mix.sh2
  pointwise [val_main_v91, val_main_v90, val_main_v89, val_main_v41, val_main_v88, val_main_v87]
  rw [h, hs, mul_assoc]

theorem v93_eq (i : Fin 2048) (n : Fin 4096) : (val_main_v93 (F := Ideal) x0 x1 x2 x3 x5 x6 x7 x8 x9) (ix3 0 i n) = Mix.wide (Mix.u (Mix.Wts.mk x5 x6 x7 x8 x9 x10) (Mix.rowOf x0 x1 x2 x3 x4 i)) n := by
  have h := v91_eq x0 x1 x2 x3 x4 x5 x6 x7 x8 x9 x10 i
  unfold Mix.wide Mix.u
  pointwise [val_main_v93, val_main_v92, val_main_v5, val_main_v4, val_main_v3, val_main_v46, val_main_cst_3]
  simp only [h]
  try rfl

theorem v94_eq (i : Fin 2048) (n : Fin 4096) : (val_main_v94 (F := Ideal) x0 x1 x2 x3 x5 x6 x7 x8 x9) (ix3 0 i n) = max (Mix.wide (Mix.u (Mix.Wts.mk x5 x6 x7 x8 x9 x10) (Mix.rowOf x0 x1 x2 x3 x4 i)) n) 0 := by
  have h := v93_eq x0 x1 x2 x3 x4 x5 x6 x7 x8 x9 x10 i n
  pointwise [val_main_v94, val_main_call0_v0, val_main_call0_cst]
  rw [h]

theorem v98_eq (i : Fin 2048) (n : Fin 4096) : (val_main_v98 (F := Ideal) x0 x1 x2 x3 x5 x6 x7 x8 x9) (ix3 0 i n) = Mix.wide (Mix.act (Mix.Wts.mk x5 x6 x7 x8 x9 x10) (Mix.rowOf x0 x1 x2 x3 x4 i)) n := by
  have h := v94_eq x0 x1 x2 x3 x4 x5 x6 x7 x8 x9 x10 i n
  unfold Mix.wide Mix.act
  pointwise [val_main_v98]
  rw [h]
  try rfl

/-- A sum over a wide row is the sum over its four pieces. -/
theorem sum4 (g : Fin 4096 → EReal) : ∑ n, g n = ∑ k : Fin 4, ∑ q : Fin 1024, g ⟨1024 * k.val + q.val, by omega⟩ := by
  refine ((Fintype.sum_equiv (finProdFinEquiv : Fin 4 × Fin 1024 ≃ Fin 4096) (fun p => g ⟨1024 * p.1.val + p.2.val, by omega⟩) g fun p => congrArg g (Fin.ext ?_)).symm).trans (Fintype.sum_prod_type _)
  simp [finProdFinEquiv]
  ring

theorem wide_at (g : Fin 4 → Fin 1024 → EReal) (k : Fin 4) (q : Fin 1024) : Mix.wide g ⟨1024 * k.val + q.val, by omega⟩ = g k q := by
  have hq := q.isLt
  unfold Mix.wide
  congr 1 <;> first | exact Fin.ext (by show (1024 * k.val + q.val) / 1024 = k.val; omega) | exact Fin.ext (by show (1024 * k.val + q.val) % 1024 = q.val; omega) | skip
  all_goals first | (congr 1; exact Fin.ext (by show (1024 * k.val + q.val) / 1024 = k.val; omega)) | skip

theorem v7_at (k : Fin 4) (q j : Fin 1024) : (val_main_v7 (F := Ideal) x10) (ix2 ⟨1024 * k.val + q.val, by omega⟩ j) = x10 (ix3 k q j) := by
  have hq := q.isLt
  have e0 : (1024 * k.val + q.val) / 1024 = k.val := by omega
  have e1 : (1024 * k.val + q.val) % 1024 = q.val := by omega
  pointwise [val_main_v7, val_main_v6]
  try simp only [e0, e1]

theorem v5_at (k : Fin 4) (q j : Fin 1024) : (val_main_v5 (F := Ideal) x9) (ix2 j ⟨1024 * k.val + q.val, by omega⟩) = x9 (ix3 k j q) := by
  have hq := q.isLt
  have e0 : (1024 * k.val + q.val) / 1024 = k.val := by omega
  have e1 : (1024 * k.val + q.val) % 1024 = q.val := by omega
  pointwise [val_main_v5, val_main_v4, val_main_v3]
  try simp only [e0, e1]

theorem v102_eq (i : Fin 2048) (j : Fin 1024) : (val_main_v102 (F := Ideal) x0 x1 x2 x3 x5 x6 x7 x8 x9 x10) (ix3 0 i j) = (Mix.f (Mix.Wts.mk x5 x6 x7 x8 x9 x10) (Mix.rowOf x0 x1 x2 x3 x4 i)) j := by
  have h := v98_eq x0 x1 x2 x3 x4 x5 x6 x7 x8 x9 x10 i
  unfold Mix.f
  pointwise [val_main_v102, val_main_v47, val_main_cst_4, val_main_v101]
  simp only [h]
  rw [sum4]
  exact Finset.sum_congr rfl fun k _ => Finset.sum_congr rfl fun q _ => congrArg₂ (· * ·) (wide_at _ k q) (v7_at x10 k q j)

theorem v111_eq (i : Fin 2048) : (val_main_v111 (F := Ideal) x0 x1 x2 x3 x5 x6 x7 x8 x9 x10) (ix3 0 i 0) = invRms (Mix.f (Mix.Wts.mk x5 x6 x7 x8 x9 x10) (Mix.rowOf x0 x1 x2 x3 x4 i)) := by
  have h := v102_eq x0 x1 x2 x3 x4 x5 x6 x7 x8 x9 x10 i
  unfold invRms
  pointwise [val_main_v111, val_main_v110, val_main_v109, val_main_cst_19, val_main_v108, val_main_v107, val_main_cst_18, val_main_v106, val_main_v105, val_main_v104, val_main_cst_17]
  simp only [h]
  try rfl

theorem v114_eq (i : Fin 2048) : (val_main_v114 (F := Ideal) x0 x1 x2 x3 x5 x6 x7 x8 x9 x10) (ix3 0 i 0) = Mix.slope (Mix.f (Mix.Wts.mk x5 x6 x7 x8 x9 x10) (Mix.rowOf x0 x1 x2 x3 x4 i)) := by
  have h := v102_eq x0 x1 x2 x3 x4 x5 x6 x7 x8 x9 x10 i
  have hr := v111_eq x0 x1 x2 x3 x4 x5 x6 x7 x8 x9 x10 i
  unfold Mix.slope
  pointwise [val_main_v114, val_main_v113, val_main_cst_20, val_main_v112, val_main_v110, val_main_v109, val_main_cst_19, val_main_v108, val_main_v107, val_main_cst_18, val_main_v106, val_main_v105, val_main_v104, val_main_cst_17]
  simp only [h, hr]
  try rfl

theorem v116_eq (i : Fin 2048) (j : Fin 1024) : (val_main_v116 (F := Ideal) x0 x1 x2 x3 x5 x6 x7 x8 x9 x10) (ix3 0 i j) = Mix.norm (Mix.f (Mix.Wts.mk x5 x6 x7 x8 x9 x10) (Mix.rowOf x0 x1 x2 x3 x4 i)) j := by
  have h := v102_eq x0 x1 x2 x3 x4 x5 x6 x7 x8 x9 x10 i j
  have hr := v111_eq x0 x1 x2 x3 x4 x5 x6 x7 x8 x9 x10 i
  unfold Mix.norm
  pointwise [val_main_v116, val_main_v115]
  rw [h, hr]

theorem v119_eq (i : Fin 2048) (j : Fin 1024) : (val_main_v119 (F := Ideal) x0 x1 x2 x3 x5 x6 x7 x8 x9 x10) (ix3 0 i j) = Mix.norm (Mix.f (Mix.Wts.mk x5 x6 x7 x8 x9 x10) (Mix.rowOf x0 x1 x2 x3 x4 i)) j * (Mix.g4 (Mix.Wts.mk x5 x6 x7 x8 x9 x10)) j := by
  have h := v116_eq x0 x1 x2 x3 x4 x5 x6 x7 x8 x9 x10 i j
  unfold Mix.g4
  pointwise [val_main_v119, val_main_v118, val_main_v117, val_main_v45, val_main_v44]
  rw [h]

theorem v124_eq (i : Fin 2048) (j : Fin 1024) : (val_main_v124 (F := Ideal) x0 x1 x2 x3 x4 x5 x6 x7 x8 x9 x10) (ix3 0 i j) = (Mix.diff (Mix.Wts.mk x5 x6 x7 x8 x9 x10) (Mix.rowOf x0 x1 x2 x3 x4 i)) j := by
  have h := v119_eq x0 x1 x2 x3 x4 x5 x6 x7 x8 x9 x10 i j
  have h1 := v67_eq x0 x1 x2 x3 x4 x5 x6 x7 x8 x9 x10 i j
  unfold Mix.diff Mix.gt2
  pointwise [val_main_v124, val_main_v123, val_main_v122, val_main_v121, val_main_v120, val_main_v103, val_main_v43]
  rw [h, h1, ← mul_assoc]
  try rfl

theorem half_pos : Ideal.ofBits FTy.f32 0x3F000000#32 = ((1 / 2 : ℝ) : EReal) := by
  simp [Ideal.ofBits, Ideal.ieee]
  norm_num
  rw [← EReal.coe_mul]
  norm_num

theorem v141_eq (i : Fin 2048) : (val_main_v141 (F := Ideal)) (ix2 0 i) = ((1 / 2048 : ℝ) : EReal) := by
  pointwise [val_main_v141, val_main_v140, val_main_cst_31, val_main_v139, val_main_v138, val_main_cst_30, val_main_cst_29]
  try rw [half_pos, width, Ideal.div_coe (by norm_num)]
  try norm_num [← EReal.coe_one, ← EReal.coe_mul]

theorem v143_eq (i : Fin 2048) (j : Fin 1024) : (val_main_v143 (F := Ideal) x0 x1 x2 x3 x4 x5 x6 x7 x8 x9 x10) (ix3 0 i j) = (Mix.dout (Mix.Wts.mk x5 x6 x7 x8 x9 x10) (Mix.rowOf x0 x1 x2 x3 x4 i)) j := by
  have h := v124_eq x0 x1 x2 x3 x4 x5 x6 x7 x8 x9 x10 i j
  have hc := v141_eq i
  unfold Mix.dout
  pointwise [val_main_v143, val_main_v142, val_main_v127, val_main_v126, val_main_cst_21]
  rw [h, hc, ← mul_assoc, mul_comm]
  refine congrArg ((Mix.diff (Mix.Wts.mk x5 x6 x7 x8 x9 x10) (Mix.rowOf x0 x1 x2 x3 x4 i)) j * ·) ?_
  rw [Mix.inv_eq, show Ideal.ofBits FTy.f32 0x40000000#32 = ((2 : ℝ) : EReal) from Mix.two_eq, ← EReal.coe_mul]
  norm_num

theorem v145_eq (i : Fin 2048) (j : Fin 1024) : (val_main_v145 (F := Ideal) x0 x1 x2 x3 x4 x5 x6 x7 x8 x9 x10) (ix3 0 i j) = (Mix.dout (Mix.Wts.mk x5 x6 x7 x8 x9 x10) (Mix.rowOf x0 x1 x2 x3 x4 i)) j * (Mix.gt2 (Mix.Wts.mk x5 x6 x7 x8 x9 x10)) j := by
  have h := v143_eq x0 x1 x2 x3 x4 x5 x6 x7 x8 x9 x10 i j
  unfold Mix.gt2
  pointwise [val_main_v145, val_main_v144, val_main_v103, val_main_v43]
  rw [h, mul_comm]

theorem v153_eq (i : Fin 2048) (j : Fin 1024) : (val_main_v153 (F := Ideal) x0 x1 x2 x3 x4 x5 x6 x7 x8 x9 x10) (ix3 0 i j) = (Mix.dfn (Mix.Wts.mk x5 x6 x7 x8 x9 x10) (Mix.rowOf x0 x1 x2 x3 x4 i)) j := by
  have h := v145_eq x0 x1 x2 x3 x4 x5 x6 x7 x8 x9 x10 i j
  unfold Mix.dfn Mix.g4
  pointwise [val_main_v153, val_main_v152, val_main_v117, val_main_v45, val_main_v44]
  rw [h]

end Cert.Reference6Ideal.Hand

end
-- ==== Proof.MixRefBack.lean ====
/- The mixture and the feed-forward layer: the reference's backward pass entry by entry. -/
module

public import proofs.«01_k».proof.Proof.MixRef
public import proofs.«01_k».proof.Proof.Gen.Reference6Ideal.Read
public import Idealize.ShloMosaic.Lib.IdealHost

@[expose] public section

set_option maxRecDepth 16384

noncomputable section

namespace Cert.Reference6Ideal.Hand

open Cert.Reference6Ideal Cert.Reference6Ideal.Gen Cert.Reference6Ideal.Read Cert.InBack Idealize.ShloMosaic

/-- A sum over two axes of one entry each. -/
theorem red01 (v : S1x1x1024.Idx → EReal) (z : S_.Idx → EReal) (j : Fin 1024) :
    Host.reduceAdd (F := Ideal) (φ := .f32) v z reducesTo_S1x1x1024_S1024_d0_1 h_S_ (ix1 j) = z (Shape.Idx.first h_S_) + v (ix3 0 0 j) := by
  refine (ValueIdx.hostReduceAdd_apply _ _ _ _ _).trans (congrArg (z (Shape.Idx.first h_S_) + ·) ?_)
  rw [Finset.sum_filter]
  refine (Finset.sum_eq_single (ix3 0 0 j) (fun i _ hi => ?_) (fun h => absurd (Finset.mem_univ _) h)).trans ?_
  · rw [if_neg]
    intro h
    refine hi (funext fun d => ?_)
    have hd := Shape.ReducesTo.drop_apply_val_of_eq reducesTo_S1x1x1024_S1024_d0_1 i 0 2
    rw [h] at hd
    match d with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => exact Fin.ext hd.symm
  · rw [if_pos]
    funext d
    match d with
    | ⟨0, _⟩ => exact Fin.ext (Shape.ReducesTo.drop_apply_val_of_eq reducesTo_S1x1x1024_S1024_d0_1 (ix3 0 0 j) 0 2)

theorem red02 (v : S1x2048x1.Idx → EReal) (z : S_.Idx → EReal) (j : Fin 2048) :
    Host.reduceAdd (F := Ideal) (φ := .f32) v z reducesTo_S1x2048x1_S2048_d0_2 h_S_ (ix1 j) = z (Shape.Idx.first h_S_) + v (ix3 0 j 0) := by
  refine (ValueIdx.hostReduceAdd_apply _ _ _ _ _).trans (congrArg (z (Shape.Idx.first h_S_) + ·) ?_)
  rw [Finset.sum_filter]
  refine (Finset.sum_eq_single (ix3 0 j 0) (fun i _ hi => ?_) (fun h => absurd (Finset.mem_univ _) h)).trans ?_
  · rw [if_neg]
    intro h
    refine hi (funext fun d => ?_)
    have hd := Shape.ReducesTo.drop_apply_val_of_eq reducesTo_S1x2048x1_S2048_d0_2 i 0 1
    rw [h] at hd
    match d with
    | ⟨0, _⟩ => exact Fin.ext (by have : (i 0).val < 1 := (i 0).isLt; show (i 0).val = 0; omega)
    | ⟨1, _⟩ => exact Fin.ext hd.symm
    | ⟨2, _⟩ => exact Fin.ext (by have : (i 2).val < 1 := (i 2).isLt; show (i 2).val = 0; omega)
  · rw [if_pos]
    funext d
    match d with
    | ⟨0, _⟩ => exact Fin.ext (Shape.ReducesTo.drop_apply_val_of_eq reducesTo_S1x2048x1_S2048_d0_2 (ix3 0 j 0) 0 1)

variable (x0 : FVec Ideal S2048x1024 .bf16) (x1 : FVec Ideal S2048x512 .bf16) (x2 : FVec Ideal S2048x6656 .bf16)
  (x3 x4 : FVec Ideal S2048x1024 .f32) (x5 : FVec Ideal S16x1024 .f32) (x6 : FVec Ideal S1024x1024 .bf16)
  (x7 : FVec Ideal S4x512x256 .bf16) (x8 : FVec Ideal S1024x1024 .bf16) (x9 x10 : FVec Ideal S4x1024x1024 .bf16)

theorem v163_eq (i : Fin 2048) : (val_main_v163 (F := Ideal) x0 x1 x2 x3 x4 x5 x6 x7 x8 x9 x10) (ix1 i) = Mix.share (Mix.f (Mix.Wts.mk x5 x6 x7 x8 x9 x10) (Mix.rowOf x0 x1 x2 x3 x4 i)) (Mix.dfn (Mix.Wts.mk x5 x6 x7 x8 x9 x10) (Mix.rowOf x0 x1 x2 x3 x4 i)) := by
  refine (red02 _ _ i).trans ?_
  have h := v102_eq x0 x1 x2 x3 x4 x5 x6 x7 x8 x9 x10 i
  have hd := v153_eq x0 x1 x2 x3 x4 x5 x6 x7 x8 x9 x10 i
  have hs := v114_eq x0 x1 x2 x3 x4 x5 x6 x7 x8 x9 x10 i
  unfold Mix.share
  pointwise [val_main_v162, val_main_v161, val_main_cst_36, val_main_v160, val_main_v157, val_main_v156, val_main_v155, val_main_cst_35, val_main_cst_37]
  simp only [h, hd, hs]
  try rfl

theorem v169_eq (H : ∀ i : Fin 2048, Mix.Reals (Mix.Wts.mk x5 x6 x7 x8 x9 x10) (Mix.rowOf x0 x1 x2 x3 x4 i)) (i : Fin 2048) (j : Fin 1024) : (val_main_v169 (F := Ideal) x0 x1 x2 x3 x4 x5 x6 x7 x8 x9 x10) (ix3 0 i j) = (Mix.df (Mix.Wts.mk x5 x6 x7 x8 x9 x10) (Mix.rowOf x0 x1 x2 x3 x4 i)) j := by
  have h := v102_eq x0 x1 x2 x3 x4 x5 x6 x7 x8 x9 x10 i j
  have hd := v153_eq x0 x1 x2 x3 x4 x5 x6 x7 x8 x9 x10 i j
  have hr := v111_eq x0 x1 x2 x3 x4 x5 x6 x7 x8 x9 x10 i
  have hs := v163_eq x0 x1 x2 x3 x4 x5 x6 x7 x8 x9 x10 i
  refine Eq.trans ?_ (Mix.refBack_eq (H i).f (H i).dfn j)
  unfold Mix.refBack
  pointwise [val_main_v169, val_main_v168, val_main_v165, val_main_v164, val_main_v167, val_main_v166, val_main_v159, val_main_v158]
  rw [h, hd, hr, hs]

theorem v173_eq (H : ∀ i : Fin 2048, Mix.Reals (Mix.Wts.mk x5 x6 x7 x8 x9 x10) (Mix.rowOf x0 x1 x2 x3 x4 i)) (i : Fin 2048) (n : Fin 4096) : (val_main_v173 (F := Ideal) x0 x1 x2 x3 x4 x5 x6 x7 x8 x9 x10) (ix3 0 i n) = Mix.wide (fun k q => (∑ p, (Mix.df (Mix.Wts.mk x5 x6 x7 x8 x9 x10) (Mix.rowOf x0 x1 x2 x3 x4 i)) p * x10 (ix3 k q p)) * (Mix.two * max ((Mix.u (Mix.Wts.mk x5 x6 x7 x8 x9 x10) (Mix.rowOf x0 x1 x2 x3 x4 i)) k q) 0)) n := by
  have h := v169_eq x0 x1 x2 x3 x4 x5 x6 x7 x8 x9 x10 H i
  have hm := v94_eq x0 x1 x2 x3 x4 x5 x6 x7 x8 x9 x10 i n
  have h7 := fun p => v7_at x10 ⟨n.val / 1024, by omega⟩ ⟨n.val % 1024, Nat.mod_lt _ (by norm_num)⟩ p
  simp only [Nat.div_add_mod] at h7
  pointwise [val_main_v173, val_main_v172, val_main_v100, val_main_v99, val_main_cst_16]
  simp only [h, hm]
  unfold Mix.wide
  exact congrArg (· * _) (Finset.sum_congr rfl fun p _ => congrArg (_ * ·) (h7 p))

theorem v175_eq (H : ∀ i : Fin 2048, Mix.Reals (Mix.Wts.mk x5 x6 x7 x8 x9 x10) (Mix.rowOf x0 x1 x2 x3 x4 i)) (i : Fin 2048) (n : Fin 4096) : (val_main_v175 (F := Ideal) x0 x1 x2 x3 x4 x5 x6 x7 x8 x9 x10) (ix3 0 i n) = Mix.wide (Mix.du (Mix.Wts.mk x5 x6 x7 x8 x9 x10) (Mix.rowOf x0 x1 x2 x3 x4 i)) n := by
  have h := v173_eq x0 x1 x2 x3 x4 x5 x6 x7 x8 x9 x10 H i n
  have hu := v93_eq x0 x1 x2 x3 x4 x5 x6 x7 x8 x9 x10 i n
  pointwise [val_main_v175, val_main_v96, val_main_v95, val_main_cst_14, val_main_v174, val_main_cst_39]
  rw [h, hu]
  unfold Mix.wide Mix.du
  by_cases hp : (0 : EReal) < (Mix.u (Mix.Wts.mk x5 x6 x7 x8 x9 x10) (Mix.rowOf x0 x1 x2 x3 x4 i)) ⟨n.val / 1024, by omega⟩ ⟨n.val % 1024, Nat.mod_lt _ (by norm_num)⟩
  · simp [hp]
  · rw [max_eq_right (not_lt.1 hp)]
    simp [hp]

theorem v176_eq (H : ∀ i : Fin 2048, Mix.Reals (Mix.Wts.mk x5 x6 x7 x8 x9 x10) (Mix.rowOf x0 x1 x2 x3 x4 i)) (i : Fin 2048) (j : Fin 1024) : (val_main_v176 (F := Ideal) x0 x1 x2 x3 x4 x5 x6 x7 x8 x9 x10) (ix3 0 i j) = (Mix.dh2 (Mix.Wts.mk x5 x6 x7 x8 x9 x10) (Mix.rowOf x0 x1 x2 x3 x4 i)) j := by
  have h := v175_eq x0 x1 x2 x3 x4 x5 x6 x7 x8 x9 x10 H i
  unfold Mix.dh2
  pointwise [val_main_v176]
  simp only [h]
  rw [sum4]
  exact Finset.sum_congr rfl fun k _ => Finset.sum_congr rfl fun q _ => congrArg₂ (· * ·) (wide_at _ k q) (v5_at x9 k q j)

theorem v185_eq (H : ∀ i : Fin 2048, Mix.Reals (Mix.Wts.mk x5 x6 x7 x8 x9 x10) (Mix.rowOf x0 x1 x2 x3 x4 i)) (i : Fin 2048) (j : Fin 1024) : (val_main_v185 (F := Ideal) x0 x1 x2 x3 x4 x5 x6 x7 x8 x9 x10) (ix3 0 i j) = (Mix.dh2 (Mix.Wts.mk x5 x6 x7 x8 x9 x10) (Mix.rowOf x0 x1 x2 x3 x4 i)) j * (1 + (Mix.sc2 (Mix.Wts.mk x5 x6 x7 x8 x9 x10)) j) := by
  have h := v176_eq x0 x1 x2 x3 x4 x5 x6 x7 x8 x9 x10 H i j
  have hs := v86_eq x5 x6 x7 x8 x9 x10 j
  pointwise [val_main_v185, val_main_v184]
  rw [h, hs]

theorem v192_eq (H : ∀ i : Fin 2048, Mix.Reals (Mix.Wts.mk x5 x6 x7 x8 x9 x10) (Mix.rowOf x0 x1 x2 x3 x4 i)) (i : Fin 2048) (j : Fin 1024) : (val_main_v192 (F := Ideal) x0 x1 x2 x3 x4 x5 x6 x7 x8 x9 x10) (ix3 0 i j) = (Mix.dhn (Mix.Wts.mk x5 x6 x7 x8 x9 x10) (Mix.rowOf x0 x1 x2 x3 x4 i)) j := by
  have h := v185_eq x0 x1 x2 x3 x4 x5 x6 x7 x8 x9 x10 H i j
  unfold Mix.dhn Mix.g3
  pointwise [val_main_v192, val_main_v191, val_main_v81, val_main_v40, val_main_v39]
  rw [h, mul_right_comm]

theorem v203_eq (H : ∀ i : Fin 2048, Mix.Reals (Mix.Wts.mk x5 x6 x7 x8 x9 x10) (Mix.rowOf x0 x1 x2 x3 x4 i)) (i : Fin 2048) : (val_main_v203 (F := Ideal) x0 x1 x2 x3 x4 x5 x6 x7 x8 x9 x10) (ix1 i) = Mix.share (Mix.h1 (Mix.Wts.mk x5 x6 x7 x8 x9 x10) (Mix.rowOf x0 x1 x2 x3 x4 i)) (Mix.dhn (Mix.Wts.mk x5 x6 x7 x8 x9 x10) (Mix.rowOf x0 x1 x2 x3 x4 i)) := by
  refine (red02 _ _ i).trans ?_
  have h := v67_eq x0 x1 x2 x3 x4 x5 x6 x7 x8 x9 x10 i
  have hd := v192_eq x0 x1 x2 x3 x4 x5 x6 x7 x8 x9 x10 H i
  have hs := v78_eq x0 x1 x2 x3 x4 x5 x6 x7 x8 x9 x10 i
  unfold Mix.share
  pointwise [val_main_v202, val_main_v201, val_main_cst_47, val_main_v200, val_main_v196, val_main_v195, val_main_v194, val_main_cst_46, val_main_cst_48]
  simp only [h, hd, hs]
  try rfl

theorem v209_eq (H : ∀ i : Fin 2048, Mix.Reals (Mix.Wts.mk x5 x6 x7 x8 x9 x10) (Mix.rowOf x0 x1 x2 x3 x4 i)) (i : Fin 2048) (j : Fin 1024) : (val_main_v209 (F := Ideal) x0 x1 x2 x3 x4 x5 x6 x7 x8 x9 x10) (ix3 0 i j) = (Mix.dh1 (Mix.Wts.mk x5 x6 x7 x8 x9 x10) (Mix.rowOf x0 x1 x2 x3 x4 i)) j := by
  have h := v67_eq x0 x1 x2 x3 x4 x5 x6 x7 x8 x9 x10 i j
  have hd := v192_eq x0 x1 x2 x3 x4 x5 x6 x7 x8 x9 x10 H i j
  have hr := v75_eq x0 x1 x2 x3 x4 x5 x6 x7 x8 x9 x10 i
  have hs := v203_eq x0 x1 x2 x3 x4 x5 x6 x7 x8 x9 x10 H i
  have ho := v143_eq x0 x1 x2 x3 x4 x5 x6 x7 x8 x9 x10 i j
  have hb := Mix.refBack_eq (H i).h1 (H i).dhn j
  unfold Mix.dh1
  rw [← hb]
  unfold Mix.refBack
  pointwise [val_main_v209, val_main_v208, val_main_v205, val_main_v204, val_main_v207, val_main_v206, val_main_v199, val_main_v198, val_main_v197]
  rw [h, hd, hr, hs, ho, add_assoc, add_assoc, add_assoc]

theorem v211_eq (H : ∀ i : Fin 2048, Mix.Reals (Mix.Wts.mk x5 x6 x7 x8 x9 x10) (Mix.rowOf x0 x1 x2 x3 x4 i)) (i : Fin 2048) (j : Fin 1024) : (val_main_v211 (F := Ideal) x0 x1 x2 x3 x4 x5 x6 x7 x8 x9 x10) (ix3 0 i j) = (Mix.dh1 (Mix.Wts.mk x5 x6 x7 x8 x9 x10) (Mix.rowOf x0 x1 x2 x3 x4 i)) j * (Mix.gt1 (Mix.Wts.mk x5 x6 x7 x8 x9 x10)) j := by
  have h := v209_eq x0 x1 x2 x3 x4 x5 x6 x7 x8 x9 x10 H i j
  unfold Mix.gt1
  pointwise [val_main_v211, val_main_v210, val_main_v48, val_main_v36]
  rw [h, mul_comm]

theorem v219_eq (H : ∀ i : Fin 2048, Mix.Reals (Mix.Wts.mk x5 x6 x7 x8 x9 x10) (Mix.rowOf x0 x1 x2 x3 x4 i)) (i : Fin 2048) (j : Fin 1024) : (val_main_v219 (F := Ideal) x0 x1 x2 x3 x4 x5 x6 x7 x8 x9 x10) (ix3 0 i j) = (Mix.dyn (Mix.Wts.mk x5 x6 x7 x8 x9 x10) (Mix.rowOf x0 x1 x2 x3 x4 i)) j := by
  have h := v211_eq x0 x1 x2 x3 x4 x5 x6 x7 x8 x9 x10 H i j
  unfold Mix.dyn Mix.g2
  pointwise [val_main_v219, val_main_v218, val_main_v62, val_main_v38, val_main_v37]
  rw [h]

theorem v229_eq (H : ∀ i : Fin 2048, Mix.Reals (Mix.Wts.mk x5 x6 x7 x8 x9 x10) (Mix.rowOf x0 x1 x2 x3 x4 i)) (i : Fin 2048) : (val_main_v229 (F := Ideal) x0 x1 x2 x3 x4 x5 x6 x7 x8 x9 x10) (ix1 i) = Mix.share (Mix.yy (Mix.Wts.mk x5 x6 x7 x8 x9 x10) (Mix.rowOf x0 x1 x2 x3 x4 i)) (Mix.dyn (Mix.Wts.mk x5 x6 x7 x8 x9 x10) (Mix.rowOf x0 x1 x2 x3 x4 i)) := by
  refine (red02 _ _ i).trans ?_
  have h := v34_eq x0 x1 x2 x3 x4 x5 x6 x7 x8 x9 x10 i
  have hd := v219_eq x0 x1 x2 x3 x4 x5 x6 x7 x8 x9 x10 H i
  have hs := v59_eq x0 x1 x2 x3 x4 x5 x6 x7 x8 x9 x10 i
  unfold Mix.share
  pointwise [val_main_v228, val_main_v227, val_main_cst_53, val_main_v226, val_main_v223, val_main_v222, val_main_v221, val_main_cst_52, val_main_cst_54]
  simp only [h, hd, hs]
  try rfl

theorem v235_eq (H : ∀ i : Fin 2048, Mix.Reals (Mix.Wts.mk x5 x6 x7 x8 x9 x10) (Mix.rowOf x0 x1 x2 x3 x4 i)) (i : Fin 2048) (j : Fin 1024) : (val_main_v235 (F := Ideal) x0 x1 x2 x3 x4 x5 x6 x7 x8 x9 x10) (ix3 0 i j) = (Mix.dy (Mix.Wts.mk x5 x6 x7 x8 x9 x10) (Mix.rowOf x0 x1 x2 x3 x4 i)) j := by
  have h := v34_eq x0 x1 x2 x3 x4 x5 x6 x7 x8 x9 x10 i j
  have hd := v219_eq x0 x1 x2 x3 x4 x5 x6 x7 x8 x9 x10 H i j
  have hr := v56_eq x0 x1 x2 x3 x4 x5 x6 x7 x8 x9 x10 i
  have hs := v229_eq x0 x1 x2 x3 x4 x5 x6 x7 x8 x9 x10 H i
  refine Eq.trans ?_ (Mix.refBack_eq (H i).yy (H i).dyn j)
  unfold Mix.refBack
  pointwise [val_main_v235, val_main_v234, val_main_v231, val_main_v230, val_main_v233, val_main_v232, val_main_v225, val_main_v224]
  rw [h, hd, hr, hs]

end Cert.Reference6Ideal.Hand

end
-- ==== Proof.MixRefSum.lean ====
/- The mixture and the feed-forward layer: the reference's sums over the frames, and its eleven results. -/
module

public import proofs.«01_k».proof.Proof.MixRefBack
public import proofs.«01_k».proof.Proof.Gen.Reference6Ideal.Read
public import Idealize.ShloMosaic.Lib.IdealHost

@[expose] public section

set_option maxRecDepth 16384

noncomputable section

namespace Cert.Reference6Ideal.Hand

open Cert.Reference6Ideal Cert.Reference6Ideal.Gen Cert.Reference6Ideal.Read Cert.InBack Idealize.ShloMosaic

variable (x0 : FVec Ideal S2048x1024 .bf16) (x1 : FVec Ideal S2048x512 .bf16) (x2 : FVec Ideal S2048x6656 .bf16)
  (x3 x4 : FVec Ideal S2048x1024 .f32) (x5 : FVec Ideal S16x1024 .f32) (x6 : FVec Ideal S1024x1024 .bf16)
  (x7 : FVec Ideal S4x512x256 .bf16) (x8 : FVec Ideal S1024x1024 .bf16) (x9 x10 : FVec Ideal S4x1024x1024 .bf16)

theorem v171_eq (j : Fin 1024) : (val_main_v171 (F := Ideal) x0 x1 x2 x3 x4 x5 x6 x7 x8 x9 x10) (ix2 0 j) = ∑ i, (Mix.dout (Mix.Wts.mk x5 x6 x7 x8 x9 x10) (Mix.rowOf x0 x1 x2 x3 x4 i)) j * Mix.norm (Mix.f (Mix.Wts.mk x5 x6 x7 x8 x9 x10) (Mix.rowOf x0 x1 x2 x3 x4 i)) j * (Mix.g4 (Mix.Wts.mk x5 x6 x7 x8 x9 x10)) j := by
  have ha := fun i => v143_eq x0 x1 x2 x3 x4 x5 x6 x7 x8 x9 x10 i j
  have hb := fun i => v119_eq x0 x1 x2 x3 x4 x5 x6 x7 x8 x9 x10 i j
  pointwise [val_main_v171]
  refine (red01 _ _ j).trans ?_
  pointwise [val_main_v148, val_main_v147, val_main_v146, val_main_cst_32, val_main_cst_38]
  refine Finset.sum_congr rfl fun i _ => ?_
  refine (congrArg₂ (· * ·) (ha i) (hb i)).trans ?_
  rw [← mul_assoc]

theorem v238_eq (j : Fin 1024) : (val_main_v238 (F := Ideal) x0 x1 x2 x3 x4 x5 x6 x7 x8 x9 x10) (ix2 0 j) = ∑ i, (Mix.dout (Mix.Wts.mk x5 x6 x7 x8 x9 x10) (Mix.rowOf x0 x1 x2 x3 x4 i)) j * (Mix.gt2 (Mix.Wts.mk x5 x6 x7 x8 x9 x10)) j * Mix.norm (Mix.f (Mix.Wts.mk x5 x6 x7 x8 x9 x10) (Mix.rowOf x0 x1 x2 x3 x4 i)) j := by
  have ha := fun i => v116_eq x0 x1 x2 x3 x4 x5 x6 x7 x8 x9 x10 i j
  have hb := fun i => v145_eq x0 x1 x2 x3 x4 x5 x6 x7 x8 x9 x10 i j
  pointwise [val_main_v238]
  refine (red01 _ _ j).trans ?_
  pointwise [val_main_v151, val_main_v150, val_main_v149, val_main_cst_33, val_main_cst_34]
  refine Finset.sum_congr rfl fun i _ => ?_
  exact (congrArg₂ (· * ·) (ha i) (hb i)).trans (mul_comm _ _)

theorem v180_eq (H : ∀ i : Fin 2048, Mix.Reals (Mix.Wts.mk x5 x6 x7 x8 x9 x10) (Mix.rowOf x0 x1 x2 x3 x4 i)) (j : Fin 1024) : (val_main_v180 (F := Ideal) x0 x1 x2 x3 x4 x5 x6 x7 x8 x9 x10) (ix2 0 j) = ∑ i, (Mix.dh2 (Mix.Wts.mk x5 x6 x7 x8 x9 x10) (Mix.rowOf x0 x1 x2 x3 x4 i)) j := by
  have ha := fun i => v176_eq x0 x1 x2 x3 x4 x5 x6 x7 x8 x9 x10 H i j
  pointwise [val_main_v180]
  refine (red01 _ _ j).trans ?_
  pointwise [val_main_v178, val_main_v177, val_main_cst_40, val_main_cst_41]
  refine Finset.sum_congr rfl fun i _ => ?_
  exact ha i

theorem v187_eq (H : ∀ i : Fin 2048, Mix.Reals (Mix.Wts.mk x5 x6 x7 x8 x9 x10) (Mix.rowOf x0 x1 x2 x3 x4 i)) (j : Fin 1024) : (val_main_v187 (F := Ideal) x0 x1 x2 x3 x4 x5 x6 x7 x8 x9 x10) (ix2 0 j) = ∑ i, (Mix.dh2 (Mix.Wts.mk x5 x6 x7 x8 x9 x10) (Mix.rowOf x0 x1 x2 x3 x4 i)) j * Mix.norm (Mix.h1 (Mix.Wts.mk x5 x6 x7 x8 x9 x10) (Mix.rowOf x0 x1 x2 x3 x4 i)) j * (Mix.g3 (Mix.Wts.mk x5 x6 x7 x8 x9 x10)) j := by
  have ha := fun i => v83_eq x0 x1 x2 x3 x4 x5 x6 x7 x8 x9 x10 i j
  have hb := fun i => v176_eq x0 x1 x2 x3 x4 x5 x6 x7 x8 x9 x10 H i j
  pointwise [val_main_v187]
  refine (red01 _ _ j).trans ?_
  pointwise [val_main_v183, val_main_v182, val_main_v181, val_main_cst_42, val_main_cst_43]
  refine Finset.sum_congr rfl fun i _ => ?_
  refine (congrArg₂ (· * ·) (ha i) (hb i)).trans ?_
  rw [mul_comm, ← mul_assoc]

theorem v241_eq (H : ∀ i : Fin 2048, Mix.Reals (Mix.Wts.mk x5 x6 x7 x8 x9 x10) (Mix.rowOf x0 x1 x2 x3 x4 i)) (j : Fin 1024) : (val_main_v241 (F := Ideal) x0 x1 x2 x3 x4 x5 x6 x7 x8 x9 x10) (ix2 0 j) = ∑ i, (Mix.dh2 (Mix.Wts.mk x5 x6 x7 x8 x9 x10) (Mix.rowOf x0 x1 x2 x3 x4 i)) j * Mix.norm (Mix.h1 (Mix.Wts.mk x5 x6 x7 x8 x9 x10) (Mix.rowOf x0 x1 x2 x3 x4 i)) j * (1 + (Mix.sc2 (Mix.Wts.mk x5 x6 x7 x8 x9 x10)) j) := by
  have ha := fun i => v80_eq x0 x1 x2 x3 x4 x5 x6 x7 x8 x9 x10 i j
  have hb := fun i => v185_eq x0 x1 x2 x3 x4 x5 x6 x7 x8 x9 x10 H i j
  pointwise [val_main_v241]
  refine (red01 _ _ j).trans ?_
  pointwise [val_main_v190, val_main_v189, val_main_v188, val_main_cst_44, val_main_cst_45]
  refine Finset.sum_congr rfl fun i _ => ?_
  refine (congrArg₂ (· * ·) (ha i) (hb i)).trans ?_
  rw [mul_left_comm, ← mul_assoc]

theorem v237_eq (H : ∀ i : Fin 2048, Mix.Reals (Mix.Wts.mk x5 x6 x7 x8 x9 x10) (Mix.rowOf x0 x1 x2 x3 x4 i)) (j : Fin 1024) : (val_main_v237 (F := Ideal) x0 x1 x2 x3 x4 x5 x6 x7 x8 x9 x10) (ix2 0 j) = ∑ i, (Mix.dh1 (Mix.Wts.mk x5 x6 x7 x8 x9 x10) (Mix.rowOf x0 x1 x2 x3 x4 i)) j * Mix.norm (Mix.yy (Mix.Wts.mk x5 x6 x7 x8 x9 x10) (Mix.rowOf x0 x1 x2 x3 x4 i)) j * (Mix.g2 (Mix.Wts.mk x5 x6 x7 x8 x9 x10)) j := by
  have ha := fun i => v209_eq x0 x1 x2 x3 x4 x5 x6 x7 x8 x9 x10 H i j
  have hb := fun i => v64_eq x0 x1 x2 x3 x4 x5 x6 x7 x8 x9 x10 i j
  pointwise [val_main_v237]
  refine (red01 _ _ j).trans ?_
  pointwise [val_main_v214, val_main_v213, val_main_v212, val_main_cst_49, val_main_cst_55]
  refine Finset.sum_congr rfl fun i _ => ?_
  refine (congrArg₂ (· * ·) (ha i) (hb i)).trans ?_
  rw [← mul_assoc]

theorem v242_eq (H : ∀ i : Fin 2048, Mix.Reals (Mix.Wts.mk x5 x6 x7 x8 x9 x10) (Mix.rowOf x0 x1 x2 x3 x4 i)) (j : Fin 1024) : (val_main_v242 (F := Ideal) x0 x1 x2 x3 x4 x5 x6 x7 x8 x9 x10) (ix2 0 j) = ∑ i, (Mix.dh1 (Mix.Wts.mk x5 x6 x7 x8 x9 x10) (Mix.rowOf x0 x1 x2 x3 x4 i)) j * (Mix.gt1 (Mix.Wts.mk x5 x6 x7 x8 x9 x10)) j * Mix.norm (Mix.yy (Mix.Wts.mk x5 x6 x7 x8 x9 x10) (Mix.rowOf x0 x1 x2 x3 x4 i)) j := by
  have ha := fun i => v61_eq x0 x1 x2 x3 x4 x5 x6 x7 x8 x9 x10 i j
  have hb := fun i => v211_eq x0 x1 x2 x3 x4 x5 x6 x7 x8 x9 x10 H i j
  pointwise [val_main_v242]
  refine (red01 _ _ j).trans ?_
  pointwise [val_main_v217, val_main_v216, val_main_v215, val_main_cst_50, val_main_cst_51]
  refine Finset.sum_congr rfl fun i _ => ?_
  exact (congrArg₂ (· * ·) (ha i) (hb i)).trans (mul_comm _ _)

theorem v137_eq (j : Fin 1024) : (val_main_v137 (F := Ideal) x0 x1 x2 x3 x4 x5 x6 x7 x8 x9 x10) (ix2 0 j) = (∑ i, (Mix.diff (Mix.Wts.mk x5 x6 x7 x8 x9 x10) (Mix.rowOf x0 x1 x2 x3 x4 i)) j * (Mix.diff (Mix.Wts.mk x5 x6 x7 x8 x9 x10) (Mix.rowOf x0 x1 x2 x3 x4 i)) j) * Mix.halfInv := by
  have h := fun i => v124_eq x0 x1 x2 x3 x4 x5 x6 x7 x8 x9 x10 i j
  pointwise [val_main_v137, val_main_v136, val_main_cst_28, val_main_v135, val_main_v134, val_main_cst_27, val_main_v133, val_main_v125, val_main_cst_26]
  simp only [h]
  rw [Mix.halfInv_eq, half_pos, width, Ideal.div_coe (by norm_num), mul_comm ((1 / 2 : ℝ) : EReal), mul_assoc, ← EReal.coe_mul]
  norm_num

theorem v240_eq (r : Fin 8) (j : Fin 1024) : (val_main_v240 (F := Ideal) x0 x1 x2 x3 x4 x5 x6 x7 x8 x9 x10) (ix2 r j) = Mix.sta (Mix.Wts.mk x5 x6 x7 x8 x9 x10) (fun i => (Mix.rowOf x0 x1 x2 x3 x4 i)) r j := by
  have h0 := v171_eq x0 x1 x2 x3 x4 x5 x6 x7 x8 x9 x10 j
  have h1 := v238_eq x0 x1 x2 x3 x4 x5 x6 x7 x8 x9 x10 j
  have h2 := v137_eq x0 x1 x2 x3 x4 x5 x6 x7 x8 x9 x10 j
  unfold Mix.sta
  pointwise [val_main_v240, val_main_v239, val_main_cst_56]
  obtain ⟨r, hr⟩ := r
  match r, hr with
  | 0, _ => exact h0
  | 1, _ => exact h1
  | 2, _ => exact h2
  | n + 3, _ =>
    rw [if_neg (show ¬ n + 3 = 2 by omega), if_neg (show ¬ n + 3 = 1 by omega), if_neg (show ¬ n + 3 = 0 by omega)]
    exact (dif_neg (show ¬ n + 3 < 1 by omega)).trans ((dif_neg (show ¬ n + 3 - 1 < 1 by omega)).trans (dif_neg (show ¬ n + 3 - 1 - 1 < 1 by omega)))

theorem v244_eq (H : ∀ i : Fin 2048, Mix.Reals (Mix.Wts.mk x5 x6 x7 x8 x9 x10) (Mix.rowOf x0 x1 x2 x3 x4 i)) (r : Fin 8) (j : Fin 1024) : (val_main_v244 (F := Ideal) x0 x1 x2 x3 x4 x5 x6 x7 x8 x9 x10) (ix2 r j) = Mix.stb (Mix.Wts.mk x5 x6 x7 x8 x9 x10) (fun i => (Mix.rowOf x0 x1 x2 x3 x4 i)) r j := by
  have h0 := v180_eq x0 x1 x2 x3 x4 x5 x6 x7 x8 x9 x10 H j
  have h1 := v187_eq x0 x1 x2 x3 x4 x5 x6 x7 x8 x9 x10 H j
  have h2 := v241_eq x0 x1 x2 x3 x4 x5 x6 x7 x8 x9 x10 H j
  have h3 := v237_eq x0 x1 x2 x3 x4 x5 x6 x7 x8 x9 x10 H j
  have h4 := v242_eq x0 x1 x2 x3 x4 x5 x6 x7 x8 x9 x10 H j
  unfold Mix.stb
  pointwise [val_main_v244, val_main_v243, val_main_cst_57]
  obtain ⟨r, hr⟩ := r
  match r, hr with
  | 0, _ => exact h0
  | 1, _ => exact h1
  | 2, _ => exact h2
  | 3, _ => exact h3
  | 4, _ => exact h4
  | n + 5, _ =>
    rw [if_neg (show ¬ n + 5 = 4 by omega), if_neg (show ¬ n + 5 = 3 by omega), if_neg (show ¬ n + 5 = 2 by omega), if_neg (show ¬ n + 5 = 1 by omega), if_neg (show ¬ n + 5 = 0 by omega)]
    exact (dif_neg (show ¬ n + 5 < 1 by omega)).trans ((dif_neg (show ¬ n + 5 - 1 < 1 by omega)).trans ((dif_neg (show ¬ n + 5 - 1 - 1 < 1 by omega)).trans ((dif_neg (show ¬ n + 5 - 1 - 1 - 1 < 1 by omega)).trans (dif_neg (show ¬ n + 5 - 1 - 1 - 1 - 1 < 1 by omega)))))

theorem v249_eq (i : Fin 2048) (j : Fin 1024) : (val_main_v249 (F := Ideal) x0 x1 x2 x3 x5 x6 x7 x8) (ix2 i j) = (Mix.hb (Mix.Wts.mk x5 x6 x7 x8 x9 x10) (Mix.rowOf x0 x1 x2 x3 x4 i)) j := by
  have h := v91_eq x0 x1 x2 x3 x4 x5 x6 x7 x8 x9 x10 i j
  pointwise [val_main_v249, val_main_v248]
  exact h

theorem v253_eq (H : ∀ i : Fin 2048, Mix.Reals (Mix.Wts.mk x5 x6 x7 x8 x9 x10) (Mix.rowOf x0 x1 x2 x3 x4 i)) (i : Fin 2048) (j : Fin 1024) : (val_main_v253 (F := Ideal) x0 x1 x2 x3 x4 x5 x6 x7 x8 x9 x10) (ix2 i j) = (Mix.df (Mix.Wts.mk x5 x6 x7 x8 x9 x10) (Mix.rowOf x0 x1 x2 x3 x4 i)) j := by
  have h := v169_eq x0 x1 x2 x3 x4 x5 x6 x7 x8 x9 x10 H i j
  pointwise [val_main_v253, val_main_v252]
  exact h

theorem v256_eq (H : ∀ i : Fin 2048, Mix.Reals (Mix.Wts.mk x5 x6 x7 x8 x9 x10) (Mix.rowOf x0 x1 x2 x3 x4 i)) (i : Fin 2048) (j : Fin 1024) : (val_main_v256 (F := Ideal) x0 x1 x2 x3 x4 x5 x6 x7 x8 x9 x10) (ix2 i j) = (Mix.dh1 (Mix.Wts.mk x5 x6 x7 x8 x9 x10) (Mix.rowOf x0 x1 x2 x3 x4 i)) j := by
  have h := v209_eq x0 x1 x2 x3 x4 x5 x6 x7 x8 x9 x10 H i j
  pointwise [val_main_v256]
  exact h

theorem v258_eq (H : ∀ i : Fin 2048, Mix.Reals (Mix.Wts.mk x5 x6 x7 x8 x9 x10) (Mix.rowOf x0 x1 x2 x3 x4 i)) (i : Fin 2048) (j : Fin 1024) : (val_main_v258 (F := Ideal) x0 x1 x2 x3 x4 x5 x6 x7 x8 x9 x10) (ix2 i j) = (Mix.dy (Mix.Wts.mk x5 x6 x7 x8 x9 x10) (Mix.rowOf x0 x1 x2 x3 x4 i)) j := by
  have h := v235_eq x0 x1 x2 x3 x4 x5 x6 x7 x8 x9 x10 H i j
  pointwise [val_main_v258, val_main_v257]
  exact h

theorem v251_eq (i : Fin 2048) (n : Fin 4096) : (val_main_v251 (F := Ideal) x0 x1 x2 x3 x5 x6 x7 x8 x9) (ix2 i n) = Mix.wide (Mix.act (Mix.Wts.mk x5 x6 x7 x8 x9 x10) (Mix.rowOf x0 x1 x2 x3 x4 i)) n := by
  have h := v98_eq x0 x1 x2 x3 x4 x5 x6 x7 x8 x9 x10 i n
  pointwise [val_main_v251, val_main_v250]
  exact h

theorem v255_eq (H : ∀ i : Fin 2048, Mix.Reals (Mix.Wts.mk x5 x6 x7 x8 x9 x10) (Mix.rowOf x0 x1 x2 x3 x4 i)) (i : Fin 2048) (n : Fin 4096) : (val_main_v255 (F := Ideal) x0 x1 x2 x3 x4 x5 x6 x7 x8 x9 x10) (ix2 i n) = Mix.wide (Mix.du (Mix.Wts.mk x5 x6 x7 x8 x9 x10) (Mix.rowOf x0 x1 x2 x3 x4 i)) n := by
  have h := v175_eq x0 x1 x2 x3 x4 x5 x6 x7 x8 x9 x10 H i n
  pointwise [val_main_v255, val_main_v254]
  exact h

theorem v245_eq (i : Fin 2048) (j : Fin 1024) : (val_main_v245 (F := Ideal) x0 x1 x2 x6 x7) (ix2 i j) = (Mix.mixed (Mix.Wts.mk x5 x6 x7 x8 x9 x10) (Mix.rowOf x0 x1 x2 x3 x4 i)) j := by
  have h := v31_eq x0 x1 x2 x3 x4 x5 x6 x7 x8 x9 x10 i j
  pointwise [val_main_v245]
  exact h

theorem v246_eq (i : Fin 2048) (j : Fin 1024) : (val_main_v246 (F := Ideal) x0 x6) (ix2 i j) = (Mix.rb (Mix.Wts.mk x5 x6 x7 x8 x9 x10) (Mix.rowOf x0 x1 x2 x3 x4 i)) j := by
  have h := v14_eq x0 x1 x2 x3 x4 x5 x6 x7 x8 x9 x10 i j
  pointwise [val_main_v246]
  exact h

theorem v247_eq (i : Fin 2048) (j : Fin 1024) : (val_main_v247 (F := Ideal) x1 x7) (ix2 i j) = (Mix.sp (Mix.Wts.mk x5 x6 x7 x8 x9 x10) (Mix.rowOf x0 x1 x2 x3 x4 i)) j := by
  have h := v16_eq x0 x1 x2 x3 x4 x5 x6 x7 x8 x9 x10 i j
  pointwise [val_main_v247]
  exact h

end Cert.Reference6Ideal.Hand

end
-- ==== Proof.MixResult.lean ====
/- The mixture and the feed-forward layer: each of the kernel's eleven arrays is the reference's. -/
module

public import proofs.«01_k».proof.Proof.MixFinal
public import proofs.«01_k».proof.Proof.MixRefSum

@[expose] public section

set_option maxRecDepth 16384

noncomputable section

namespace Cert.Kernel6Ideal.Hand

open Cert.Kernel6Ideal Cert.Kernel6Ideal.Gen Idealize.ShloMosaic Idealize.SL.Sem
open Cert.Reference6Ideal.Read

variable (m : (ℓ : Loc nD τ sig) → Buf (Elt Ideal) ℓ) (c : Dev nD)
variable {y0 : FVec Ideal S2048x1024 .bf16} {y1 : FVec Ideal S2048x512 .bf16} {y2 : FVec Ideal S2048x6656 .bf16} {y3 : FVec Ideal S2048x1024 .f32} {y4 : FVec Ideal S2048x1024 .f32} {y5 : FVec Ideal S16x1024 .f32} {y6 : FVec Ideal S1024x1024 .bf16} {y7 : FVec Ideal S4x512x256 .bf16} {y8 : FVec Ideal S1024x1024 .bf16} {y9 : FVec Ideal S4x1024x1024 .bf16} {y10 : FVec Ideal S4x1024x1024 .bf16}
theorem result245 (h0 : y0 = m (c, Proc.tc.devRef main_arg0)) (h1 : y1 = m (c, Proc.tc.devRef main_arg1)) (h2 : y2 = m (c, Proc.tc.devRef main_arg2)) (h6 : y6 = m (c, Proc.tc.devRef main_arg6)) (h7 : y7 = m (c, Proc.tc.devRef main_arg7)) :
    val_main_v245 (F := Ideal) y0 y1 y2 y6 y7 = (dats m 0 c).arrAt 14 cfg0.N := by
  subst h0 h1 h2 h6 h7
  refine Eq.trans (funext fun y => ?_) (final14 m c).symm
  exact (congrArg _ (show y = ix2 (y 0) (y 1) by simp)).trans (Cert.Reference6Ideal.Hand.v245_eq _ _ _ _ _ _ _ _ _ _ _ (y 0) (y 1))

theorem result246 (h0 : y0 = m (c, Proc.tc.devRef main_arg0)) (h6 : y6 = m (c, Proc.tc.devRef main_arg6)) :
    val_main_v246 (F := Ideal) y0 y6 = (dats m 0 c).arrAt 15 cfg0.N := by
  subst h0 h6
  refine Eq.trans (funext fun y => ?_) (final15 m c).symm
  exact (congrArg _ (show y = ix2 (y 0) (y 1) by simp)).trans (Cert.Reference6Ideal.Hand.v246_eq _ _ _ _ _ _ _ _ _ _ _ (y 0) (y 1))

theorem result247 (h1 : y1 = m (c, Proc.tc.devRef main_arg1)) (h7 : y7 = m (c, Proc.tc.devRef main_arg7)) :
    val_main_v247 (F := Ideal) y1 y7 = (dats m 0 c).arrAt 16 cfg0.N := by
  subst h1 h7
  refine Eq.trans (funext fun y => ?_) (final16 m c).symm
  exact (congrArg _ (show y = ix2 (y 0) (y 1) by simp)).trans (Cert.Reference6Ideal.Hand.v247_eq _ _ _ _ _ _ _ _ _ _ _ (y 0) (y 1))

theorem result249 (h0 : y0 = m (c, Proc.tc.devRef main_arg0)) (h1 : y1 = m (c, Proc.tc.devRef main_arg1)) (h2 : y2 = m (c, Proc.tc.devRef main_arg2)) (h3 : y3 = m (c, Proc.tc.devRef main_arg3)) (h5 : y5 = m (c, Proc.tc.devRef main_arg5)) (h6 : y6 = m (c, Proc.tc.devRef main_arg6)) (h7 : y7 = m (c, Proc.tc.devRef main_arg7)) (h8 : y8 = m (c, Proc.tc.devRef main_arg8)) :
    val_main_v249 (F := Ideal) y0 y1 y2 y3 y5 y6 y7 y8 = (dats m 0 c).arrAt 17 cfg0.N := by
  subst h0 h1 h2 h3 h5 h6 h7 h8
  refine Eq.trans (funext fun y => ?_) (final17 m c).symm
  exact (congrArg _ (show y = ix2 (y 0) (y 1) by simp)).trans (Cert.Reference6Ideal.Hand.v249_eq _ _ _ _ _ _ _ _ _ _ _ (y 0) (y 1))

theorem result251 (h0 : y0 = m (c, Proc.tc.devRef main_arg0)) (h1 : y1 = m (c, Proc.tc.devRef main_arg1)) (h2 : y2 = m (c, Proc.tc.devRef main_arg2)) (h3 : y3 = m (c, Proc.tc.devRef main_arg3)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) :
    val_main_v251 (F := Ideal) y0 y1 y2 y3 y5 y6 y7 y8 y9 = (dats m 0 c).arrAt 18 cfg0.N := by
  subst h0 h1 h2 h3 h5 h6 h7 h8 h9
  refine Eq.trans (funext fun y => ?_) (final18 m c).symm
  exact (congrArg _ (show y = ix2 (y 0) (y 1) by simp)).trans (Cert.Reference6Ideal.Hand.v251_eq _ _ _ _ _ _ _ _ _ _ _ (y 0) (y 1))

theorem result253 (H : ∀ i : Fin 2048, Mix.Reals (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))) (Mix.rowOf (m (c, Proc.tc.devRef main_arg0)) (m (c, Proc.tc.devRef main_arg1)) (m (c, Proc.tc.devRef main_arg2)) (m (c, Proc.tc.devRef main_arg3)) (m (c, Proc.tc.devRef main_arg4)) i)) (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v253 (F := Ideal) y0 y1 y2 y3 y4 y5 y6 y7 y8 y9 y10 = (dats m 0 c).arrAt 19 cfg0.N := by
  subst h0 h1 h2 h3 h4 h5 h6 h7 h8 h9 h10
  refine Eq.trans (funext fun y => ?_) (final19 m c).symm
  exact (congrArg _ (show y = ix2 (y 0) (y 1) by simp)).trans (Cert.Reference6Ideal.Hand.v253_eq _ _ _ _ _ _ _ _ _ _ _ H (y 0) (y 1))

theorem result255 (H : ∀ i : Fin 2048, Mix.Reals (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))) (Mix.rowOf (m (c, Proc.tc.devRef main_arg0)) (m (c, Proc.tc.devRef main_arg1)) (m (c, Proc.tc.devRef main_arg2)) (m (c, Proc.tc.devRef main_arg3)) (m (c, Proc.tc.devRef main_arg4)) i)) (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v255 (F := Ideal) y0 y1 y2 y3 y4 y5 y6 y7 y8 y9 y10 = (dats m 0 c).arrAt 20 cfg0.N := by
  subst h0 h1 h2 h3 h4 h5 h6 h7 h8 h9 h10
  refine Eq.trans (funext fun y => ?_) (final20 m c).symm
  exact (congrArg _ (show y = ix2 (y 0) (y 1) by simp)).trans (Cert.Reference6Ideal.Hand.v255_eq _ _ _ _ _ _ _ _ _ _ _ H (y 0) (y 1))

theorem result256 (H : ∀ i : Fin 2048, Mix.Reals (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))) (Mix.rowOf (m (c, Proc.tc.devRef main_arg0)) (m (c, Proc.tc.devRef main_arg1)) (m (c, Proc.tc.devRef main_arg2)) (m (c, Proc.tc.devRef main_arg3)) (m (c, Proc.tc.devRef main_arg4)) i)) (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v256 (F := Ideal) y0 y1 y2 y3 y4 y5 y6 y7 y8 y9 y10 = (dats m 0 c).arrAt 21 cfg0.N := by
  subst h0 h1 h2 h3 h4 h5 h6 h7 h8 h9 h10
  refine Eq.trans (funext fun y => ?_) (final21 m c).symm
  exact (congrArg _ (show y = ix2 (y 0) (y 1) by simp)).trans (Cert.Reference6Ideal.Hand.v256_eq _ _ _ _ _ _ _ _ _ _ _ H (y 0) (y 1))

theorem result258 (H : ∀ i : Fin 2048, Mix.Reals (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))) (Mix.rowOf (m (c, Proc.tc.devRef main_arg0)) (m (c, Proc.tc.devRef main_arg1)) (m (c, Proc.tc.devRef main_arg2)) (m (c, Proc.tc.devRef main_arg3)) (m (c, Proc.tc.devRef main_arg4)) i)) (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v258 (F := Ideal) y0 y1 y2 y3 y4 y5 y6 y7 y8 y9 y10 = (dats m 0 c).arrAt 22 cfg0.N := by
  subst h0 h1 h2 h3 h4 h5 h6 h7 h8 h9 h10
  refine Eq.trans (funext fun y => ?_) (final22 m c).symm
  exact (congrArg _ (show y = ix2 (y 0) (y 1) by simp)).trans (Cert.Reference6Ideal.Hand.v258_eq _ _ _ _ _ _ _ _ _ _ _ H (y 0) (y 1))

theorem result240 (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v240 (F := Ideal) y0 y1 y2 y3 y4 y5 y6 y7 y8 y9 y10 = (dats m 0 c).arrAt 23 cfg0.N := by
  subst h0 h1 h2 h3 h4 h5 h6 h7 h8 h9 h10
  refine Eq.trans (funext fun y => ?_) (final23 m c).symm
  exact (congrArg _ (show y = ix2 (y 0) (y 1) by simp)).trans (Cert.Reference6Ideal.Hand.v240_eq _ _ _ _ _ _ _ _ _ _ _ (y 0) (y 1))

theorem result244 (H : ∀ i : Fin 2048, Mix.Reals (Mix.Wts.mk (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10))) (Mix.rowOf (m (c, Proc.tc.devRef main_arg0)) (m (c, Proc.tc.devRef main_arg1)) (m (c, Proc.tc.devRef main_arg2)) (m (c, Proc.tc.devRef main_arg3)) (m (c, Proc.tc.devRef main_arg4)) i)) (h0 : y0 = m (c, Proc.tc.devRef main_arg0)) (h1 : y1 = m (c, Proc.tc.devRef main_arg1)) (h2 : y2 = m (c, Proc.tc.devRef main_arg2)) (h3 : y3 = m (c, Proc.tc.devRef main_arg3)) (h4 : y4 = m (c, Proc.tc.devRef main_arg4)) (h5 : y5 = m (c, Proc.tc.devRef main_arg5)) (h6 : y6 = m (c, Proc.tc.devRef main_arg6)) (h7 : y7 = m (c, Proc.tc.devRef main_arg7)) (h8 : y8 = m (c, Proc.tc.devRef main_arg8)) (h9 : y9 = m (c, Proc.tc.devRef main_arg9)) (h10 : y10 = m (c, Proc.tc.devRef main_arg10)) :
    val_main_v244 (F := Ideal) y0 y1 y2 y3 y4 y5 y6 y7 y8 y9 y10 = (dats m 0 c).arrAt 24 cfg0.N := by
  subst h0 h1 h2 h3 h4 h5 h6 h7 h8 h9 h10
  refine Eq.trans (funext fun y => ?_) (final24 m c).symm
  exact (congrArg _ (show y = ix2 (y 0) (y 1) by simp)).trans (Cert.Reference6Ideal.Hand.v244_eq _ _ _ _ _ _ _ _ _ _ _ H (y 0) (y 1))

end Cert.Kernel6Ideal.Hand

end
-- ==== Proof.InRef.lean ====
/- The gradient of the projection's input: the reference's arrays entry by entry. -/
module

public import Idealize.ShloMosaic.Lib.IdealHost
public import proofs.«01_k».proof.Proof.InReal
public import proofs.«01_k».proof.Proof.InFinal
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Cert.InBack Idealize.ShloMosaic
open Cert.Kernel2Ideal.Hand (dhAll dxAll stAll part)

/-- A sum over two axes of one entry each. -/
theorem red01 (v : S1x1x1024.Idx → EReal) (z : S_.Idx → EReal) (j : Fin 1024) :
    Host.reduceAdd (F := Ideal) (φ := .f32) v z reducesTo_S1x1x1024_S1024_d0_1 h_S_ (ix1 j) = z (Shape.Idx.first h_S_) + v (ix3 0 0 j) := by
  refine (ValueIdx.hostReduceAdd_apply _ _ _ _ _).trans (congrArg (z (Shape.Idx.first h_S_) + ·) ?_)
  rw [Finset.sum_filter]
  refine (Finset.sum_eq_single (ix3 0 0 j) (fun i _ hi => ?_) (fun h => absurd (Finset.mem_univ _) h)).trans ?_
  · rw [if_neg]
    intro h
    refine hi (funext fun d => ?_)
    have hd := Shape.ReducesTo.drop_apply_val_of_eq reducesTo_S1x1x1024_S1024_d0_1 i 0 2
    rw [h] at hd
    match d with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => exact Fin.ext hd.symm
  · rw [if_pos]
    funext d
    match d with
    | ⟨0, _⟩ => exact Fin.ext (Shape.ReducesTo.drop_apply_val_of_eq reducesTo_S1x1x1024_S1024_d0_1 (ix3 0 0 j) 0 2)

theorem red02 (v : S1x2048x1.Idx → EReal) (z : S_.Idx → EReal) (j : Fin 2048) :
    Host.reduceAdd (F := Ideal) (φ := .f32) v z reducesTo_S1x2048x1_S2048_d0_2 h_S_ (ix1 j) = z (Shape.Idx.first h_S_) + v (ix3 0 j 0) := by
  refine (ValueIdx.hostReduceAdd_apply _ _ _ _ _).trans (congrArg (z (Shape.Idx.first h_S_) + ·) ?_)
  rw [Finset.sum_filter]
  refine (Finset.sum_eq_single (ix3 0 j 0) (fun i _ hi => ?_) (fun h => absurd (Finset.mem_univ _) h)).trans ?_
  · rw [if_neg]
    intro h
    refine hi (funext fun d => ?_)
    have hd := Shape.ReducesTo.drop_apply_val_of_eq reducesTo_S1x2048x1_S2048_d0_2 i 0 1
    rw [h] at hd
    match d with
    | ⟨0, _⟩ => exact Fin.ext (by have : (i 0).val < 1 := (i 0).isLt; show (i 0).val = 0; omega)
    | ⟨1, _⟩ => exact Fin.ext hd.symm
    | ⟨2, _⟩ => exact Fin.ext (by have : (i 2).val < 1 := (i 2).isLt; show (i 2).val = 0; omega)
  · rw [if_pos]
    funext d
    match d with
    | ⟨0, _⟩ => exact Fin.ext (Shape.ReducesTo.drop_apply_val_of_eq reducesTo_S1x2048x1_S2048_d0_2 (ix3 0 j 0) 0 1)

variable (x0 : FVec Ideal S2048x2048 .bf16) (x1 : FVec Ideal S2048x1024 .bf16) (x2 x3 x4 : FVec Ideal S2048x512 .bf16)
  (x5 : FVec Ideal S2048x2048 .bf16) (x6 x7 : FVec Ideal S2048x1024 .f32) (x8 : FVec Ideal S16x1024 .f32) (x9 : FVec Ideal S4x1024x1664 .bf16)

theorem weight_eq (j : Fin 1024) (n : Fin 6656) : val_main_v2 (F := Ideal) x9 (ix2 j n) = wAt x9 j n := by
  unfold wAt
  pointwise [val_main_v2, val_main_v1, val_main_v0]
  have hn := n.isLt
  rw [dif_pos (show n.val / 1664 < 4 by omega)]

theorem joined_eq (i : Fin 2048) (n : Fin 6656) : val_main_v4 (F := Ideal) x0 x1 x2 x3 x4 x5 (ix2 i n) = joined x0 x1 x2 x3 x4 x5 i n := by
  have hn := n.isLt
  unfold joined
  pointwise [val_main_v4, val_main_v3]
  simp only [Nat.sub_sub, Nat.reduceAdd]
  split_ifs
  all_goals first | (exfalso; omega) | skip
  all_goals first | rw [dif_pos (show n.val - 4608 < 2048 by omega)] | rfl

/-- The gradient of the modulated normal form. -/
theorem dh_eq (i : Fin 2048) (j : Fin 1024) :
    val_main_v36 (F := Ideal) x0 x1 x2 x3 x4 x5 x9 (ix3 0 i j) = dhAll x0 x1 x2 x3 x4 x5 x9 i j := by
  pointwise [val_main_v36, val_main_v35]
  unfold dhAll back
  rw [Finset.sum_range]
  exact Finset.sum_congr rfl fun k _ => congrArg₂ (· * ·) (joined_eq x0 x1 x2 x3 x4 x5 i k) (weight_eq x9 j k)

/-- The normalised input. -/
theorem norm_eq (i : Fin 2048) (j : Fin 1024) :
    val_main_v22 (F := Ideal) x6 (ix3 0 i j) = x6 (ix2 i j) * invRms fun k => x6 (ix2 i k) := by
  pointwise [val_main_v22, val_main_v21, val_main_v17, val_main_v16, val_main_v15, val_main_v14, val_main_v13, val_main_v12, val_main_v11, val_main_v10, val_main_v9, val_main_cst, val_main_cst_0, val_main_cst_1]
  rfl

theorem gained_eq (i : Fin 2048) (j : Fin 1024) :
    val_main_v25 (F := Ideal) x6 x8 (ix3 0 i j) = x6 (ix2 i j) * (invRms fun k => x6 (ix2 i k)) * x8 (ix2 6 j) := by
  have h := norm_eq x6 i j
  pointwise [val_main_v25, val_main_v24, val_main_v23, val_main_v6, val_main_v5]
  rw [h]

theorem scaled_eq (i : Fin 2048) (j : Fin 1024) :
    val_main_v45 (F := Ideal) x0 x1 x2 x3 x4 x5 x8 x9 (ix3 0 i j) = dhAll x0 x1 x2 x3 x4 x5 x9 i j * (1 + x8 (ix2 1 j)) := by
  have h := dh_eq x0 x1 x2 x3 x4 x5 x9 i j
  pointwise [val_main_v45, val_main_v44, val_main_v28, val_main_v27, val_main_v26, val_main_v8, val_main_cst_3]
  rw [h]

theorem shift_eq (j : Fin 1024) :
    val_main_v40 (F := Ideal) x0 x1 x2 x3 x4 x5 x9 (ix2 0 j) = ∑ i : Fin 2048, dhAll x0 x1 x2 x3 x4 x5 x9 i j := by
  pointwise [val_main_v40]
  refine (red01 _ _ j).trans ?_
  pointwise [val_main_v38, val_main_v37, val_main_cst_4, val_main_cst_5]
  exact Finset.sum_congr rfl fun i _ => dh_eq x0 x1 x2 x3 x4 x5 x9 i j

theorem scale_eq (j : Fin 1024) :
    val_main_v47 (F := Ideal) x0 x1 x2 x3 x4 x5 x6 x8 x9 (ix2 0 j) =
      ∑ i : Fin 2048, dhAll x0 x1 x2 x3 x4 x5 x9 i j * (x6 (ix2 i j) * invRms fun k => x6 (ix2 i k)) * x8 (ix2 6 j) := by
  pointwise [val_main_v47]
  refine (red01 _ _ j).trans ?_
  pointwise [val_main_v43, val_main_v42, val_main_v41, val_main_cst_6, val_main_cst_7]
  refine Finset.sum_congr rfl fun i _ => ?_
  refine (congrArg₂ (· * ·) (gained_eq x6 x8 i j) (dh_eq x0 x1 x2 x3 x4 x5 x9 i j)).trans ?_
  rw [mul_comm, ← mul_assoc]

theorem gain_eq (j : Fin 1024) :
    val_main_v70 (F := Ideal) x0 x1 x2 x3 x4 x5 x6 x8 x9 (ix2 0 j) =
      ∑ i : Fin 2048, dhAll x0 x1 x2 x3 x4 x5 x9 i j * (x6 (ix2 i j) * invRms fun k => x6 (ix2 i k)) * (1 + x8 (ix2 1 j)) := by
  pointwise [val_main_v70]
  refine (red01 _ _ j).trans ?_
  pointwise [val_main_v50, val_main_v49, val_main_v48, val_main_cst_8, val_main_cst_9]
  refine Finset.sum_congr rfl fun i _ => ?_
  refine (congrArg₂ (· * ·) (norm_eq x6 i j) (scaled_eq x0 x1 x2 x3 x4 x5 x8 x9 i j)).trans ?_
  rw [mul_left_comm, ← mul_assoc]

/-- The three sums over all rows. -/
theorem st_eq : val_main_v72 (F := Ideal) x0 x1 x2 x3 x4 x5 x6 x8 x9 = stAll (dhAll x0 x1 x2 x3 x4 x5 x9) x6 x8 := by
  funext y
  obtain ⟨r, j, rfl⟩ : ∃ (r : Fin 8) (j : Fin 1024), y = ix2 r j := ⟨y 0, y 1, by simp⟩
  have h0 := shift_eq x0 x1 x2 x3 x4 x5 x9 j
  have h1 := scale_eq x0 x1 x2 x3 x4 x5 x6 x8 x9 j
  have h2 := gain_eq x0 x1 x2 x3 x4 x5 x6 x8 x9 j
  unfold stAll part
  pointwise [val_main_v72, val_main_v71, val_main_cst_14]
  obtain ⟨r, hr⟩ := r
  match r, hr with
  | 0, _ => exact h0
  | 1, _ => exact h1
  | 2, _ => exact h2
  | n + 3, _ =>
    refine Eq.trans (b := 0) ?_ (Finset.sum_eq_zero fun x _ => ?_).symm
    · exact (dif_neg (show ¬ n + 3 < 1 by omega)).trans ((dif_neg (show ¬ n + 3 - 1 < 1 by omega)).trans (dif_neg (show ¬ n + 3 - 1 - 1 < 1 by omega)))
    · exact (if_neg (show ¬ n + 3 = 2 by omega)).trans ((if_neg (show ¬ n + 3 = 1 by omega)).trans (if_neg (show ¬ n + 3 = 0 by omega)))

/-- The gradient of the normal form at the input's place. -/
theorem inner_eq (i : Fin 2048) (j : Fin 1024) :
    val_main_v52 (F := Ideal) x0 x1 x2 x3 x4 x5 x8 x9 (ix3 0 i j) = dhAll x0 x1 x2 x3 x4 x5 x9 i j * (1 + x8 (ix2 1 j)) * x8 (ix2 6 j) := by
  have h := scaled_eq x0 x1 x2 x3 x4 x5 x8 x9 i j
  pointwise [val_main_v52, val_main_v51, val_main_v23, val_main_v6, val_main_v5]
  rw [h]

/-- The factor's share. -/
theorem share_eq (i : Fin 2048) :
    val_main_v62 (F := Ideal) x0 x1 x2 x3 x4 x5 x6 x8 x9 (ix1 i) =
      Ideal.div ((∑ k : Fin 1024, x6 (ix2 i k) * (dhAll x0 x1 x2 x3 x4 x5 x9 i k * (1 + x8 (ix2 1 k)) * x8 (ix2 6 k))) *
        (Ideal.ofBits FTy.f32 0xBF000000#32 * Ideal.div (invRms fun k => x6 (ix2 i k))
          (Ideal.div (∑ k : Fin 1024, x6 (ix2 i k) * x6 (ix2 i k)) (Ideal.ofBits FTy.f32 1149239296#32) + Ideal.ofBits FTy.f32 897988541#32)))
        (Ideal.ofBits FTy.f32 1149239296#32) := by
  refine (red02 _ _ i).trans ?_
  have h := inner_eq x0 x1 x2 x3 x4 x5 x8 x9 i
  pointwise [val_main_v61, val_main_v60, val_main_v59, val_main_v56, val_main_v55, val_main_v54, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_10, val_main_cst_11, val_main_cst_12]
  simp only [h]
  rfl

theorem dx_eq (y : S2048x1024.Idx) :
    val_main_v73 (F := Ideal) x0 x1 x2 x3 x4 x5 x6 x7 x8 x9 y =
      gradRef (dhAll x0 x1 x2 x3 x4 x5 x9 (y 0)) (fun k => x6 (ix2 (y 0) k)) (fun k => x7 (ix2 (y 0) k)) (fun k => x8 (ix2 6 k)) (fun k => x8 (ix2 1 k)) (y 1) := by
  obtain ⟨i, j, rfl⟩ : ∃ (i : Fin 2048) (j : Fin 1024), y = ix2 i j := ⟨y 0, y 1, by simp⟩
  have h := inner_eq x0 x1 x2 x3 x4 x5 x8 x9 i j
  have hz := share_eq x0 x1 x2 x3 x4 x5 x6 x8 x9 i
  pointwise [val_main_v73, val_main_v69, val_main_v68, val_main_v67, val_main_v66, val_main_v65, val_main_v64, val_main_v63, val_main_v58, val_main_v57, val_main_v17, val_main_v16, val_main_v15, val_main_v14, val_main_v13, val_main_v12, val_main_v11, val_main_v10, val_main_v9, val_main_cst, val_main_cst_0, val_main_cst_1, val_main_cst_13]
  refine (congrArg (· + x7 (ix2 i j)) (Fin.sum_univ_one _)).trans ?_
  rw [h, hz]
  rfl

end Cert.Reference2Ideal.Hand

end
-- ==== Proof.InFinite.lean ====
/- The precondition of the projection's gradient, read back: the entries that are regrouped are real numbers, so that the
   gradient of the norm may be written in either way. -/
module

public import proofs.«01_k».proof.Proof.InRef
public import proofs.«01_k».proof.Proof.Gen.Pre_finite2
public import Idealize.ShloMosaic.Lib.ReduceAll
public import Idealize.ShloMosaic.Lib.Pointwise

@[expose] public section

set_option maxRecDepth 16384

noncomputable section

namespace Cert.InBack

open Idealize.ShloMosaic
open Cert.Pre_finite2 (S2048x2048 S2048x1024 S2048x512 S16x1024 S4x1024x1664 S1024x1024 S_)
open Cert.Kernel2Ideal.Hand (dhAll)

/-- An extended real that is a real number. -/
def Re (x : EReal) : Prop := ∃ r : ℝ, x = (r : EReal)

theorem Re.toReal {x : EReal} (h : Re x) : x = ((x.toReal : ℝ) : EReal) := by
  obtain ⟨r, rfl⟩ := h
  rfl

theorem re_zero : Re 0 := ⟨0, rfl⟩

theorem Re.add {x y : EReal} (hx : Re x) (hy : Re y) : Re (x + y) := by
  obtain ⟨a, rfl⟩ := hx
  obtain ⟨b, rfl⟩ := hy
  exact ⟨a + b, (EReal.coe_add a b).symm⟩

theorem Re.mul {x y : EReal} (hx : Re x) (hy : Re y) : Re (x * y) := by
  obtain ⟨a, rfl⟩ := hx
  obtain ⟨b, rfl⟩ := hy
  exact ⟨a * b, (EReal.coe_mul a b).symm⟩

/-- An extended real whose difference with itself is zero is a real number. -/
theorem re_of_sub_self (x : EReal) (h : x - x = 0) : Re x := by
  induction x using EReal.rec with
  | bot => simp at h
  | top => simp at h
  | coe r => exact ⟨r, rfl⟩

theorem re_of_word (x : EReal) (h : BitVec.ofBool (decide (x - x = 0)) = 1#1) : Re x := by
  by_cases hx : x - x = 0
  · exact re_of_sub_self x hx
  · simp [hx] at h

/-- What the precondition says. -/
structure Reals (x0 : S2048x2048.Idx → EReal) (x1 : S2048x1024.Idx → EReal) (x2 x3 x4 : S2048x512.Idx → EReal)
    (x5 : S2048x2048.Idx → EReal) (x6 : S2048x1024.Idx → EReal) (x8 : S16x1024.Idx → EReal) (x9 : S4x1024x1664.Idx → EReal) : Prop where
  h0 : ∀ i j, Re (x0 (ix2 i j))
  h1 : ∀ i j, Re (x1 (ix2 i j))
  h2 : ∀ i j, Re (x2 (ix2 i j))
  h3 : ∀ i j, Re (x3 (ix2 i j))
  h4 : ∀ i j, Re (x4 (ix2 i j))
  h5 : ∀ i j, Re (x5 (ix2 i j))
  h6 : ∀ i j, Re (x6 (ix2 i j))
  scale : ∀ j, Re (x8 (ix2 1 j))
  gain : ∀ j, Re (x8 (ix2 6 j))
  weight : ∀ b i j, Re (x9 (ix3 b i j))

theorem reals_of_finite (x0 : FVec Ideal S2048x2048 .bf16) (x1 : FVec Ideal S2048x1024 .bf16) (x2 x3 x4 : FVec Ideal S2048x512 .bf16)
    (x5 : FVec Ideal S2048x2048 .bf16) (x6 x7 : FVec Ideal S2048x1024 .f32) (x8 : FVec Ideal S16x1024 .f32)
    (x9 : FVec Ideal S4x1024x1664 .bf16) (x10 x11 x12 x13 : FVec Ideal S1024x1024 .f32)
    (h : Cert.Pre_finite2.fn (F := Ideal) x0 x1 x2 x3 x4 x5 x6 x7 x8 x9 x10 x11 x12 x13 = fun _ => 1#1) :
    Reals x0 x1 x2 x3 x4 x5 x6 x8 x9 := by
  have h0 := congrFun h ix0
  simp only [Cert.Pre_finite2.fn, Cert.Pre_finite2.fn_part1, Cert.Pre_finite2.fn_part2, Cert.Pre_finite2.fn_part3] at h0
  obtain ⟨h0, k9⟩ := IntOp.andi_eq_one.1 h0
  obtain ⟨h0, k8⟩ := IntOp.andi_eq_one.1 h0
  obtain ⟨h0, k7⟩ := IntOp.andi_eq_one.1 h0
  obtain ⟨h0, k6⟩ := IntOp.andi_eq_one.1 h0
  obtain ⟨h0, k5⟩ := IntOp.andi_eq_one.1 h0
  obtain ⟨h0, k4⟩ := IntOp.andi_eq_one.1 h0
  obtain ⟨h0, k3⟩ := IntOp.andi_eq_one.1 h0
  obtain ⟨h0, k2⟩ := IntOp.andi_eq_one.1 h0
  obtain ⟨k0, k1⟩ := IntOp.andi_eq_one.1 h0
  have : Subsingleton Cert.Pre_finite2.S_.Idx := ⟨fun a b => funext fun k => k.elim0⟩
  constructor
  · intro i j
    have e := Host.reduce_andi_all _ _ _ _ _ k0 (ix2 i j)
    pointwise at e
    exact re_of_word _ e
  · intro i j
    have e := Host.reduce_andi_all _ _ _ _ _ k1 (ix2 i j)
    pointwise at e
    exact re_of_word _ e
  · intro i j
    have e := Host.reduce_andi_all _ _ _ _ _ k2 (ix2 i j)
    pointwise at e
    exact re_of_word _ e
  · intro i j
    have e := Host.reduce_andi_all _ _ _ _ _ k3 (ix2 i j)
    pointwise at e
    exact re_of_word _ e
  · intro i j
    have e := Host.reduce_andi_all _ _ _ _ _ k4 (ix2 i j)
    pointwise at e
    exact re_of_word _ e
  · intro i j
    have e := Host.reduce_andi_all _ _ _ _ _ k5 (ix2 i j)
    pointwise at e
    exact re_of_word _ e
  · intro i j
    have e := Host.reduce_andi_all _ _ _ _ _ k6 (ix2 i j)
    pointwise at e
    exact re_of_word _ e
  · intro j
    have e := Host.reduce_andi_all _ _ _ _ _ k7 (ix2 0 j)
    pointwise at e
    exact re_of_word _ e
  · intro j
    have e := Host.reduce_andi_all _ _ _ _ _ k8 (ix2 0 j)
    pointwise at e
    exact re_of_word _ e
  · intro b i j
    have e := Host.reduce_andi_all _ _ _ _ _ k9 (ix3 b i j)
    pointwise at e
    exact re_of_word _ e

section
variable {x0 : S2048x2048.Idx → EReal} {x1 : S2048x1024.Idx → EReal} {x2 x3 x4 : S2048x512.Idx → EReal}
  {x5 : S2048x2048.Idx → EReal} {x6 : S2048x1024.Idx → EReal} {x8 : S16x1024.Idx → EReal} {x9 : S4x1024x1664.Idx → EReal}

theorem Reals.joined (H : Reals x0 x1 x2 x3 x4 x5 x6 x8 x9) (i : Fin 2048) (n : ℕ) : Re (joined x0 x1 x2 x3 x4 x5 i n) := by
  unfold Cert.InBack.joined
  split_ifs
  · exact H.h0 _ _
  · exact H.h1 _ _
  · exact H.h2 _ _
  · exact H.h3 _ _
  · exact H.h4 _ _
  · exact H.h5 _ _
  · exact re_zero

theorem Reals.wAt (H : Reals x0 x1 x2 x3 x4 x5 x6 x8 x9) (j : Fin 1024) (n : ℕ) : Re (wAt x9 j n) := by
  unfold Cert.InBack.wAt
  split_ifs
  · exact H.weight _ _ _
  · exact re_zero

/-- The gradient of the modulated normal form is a real number. -/
theorem Reals.dh (H : Reals x0 x1 x2 x3 x4 x5 x6 x8 x9) (i : Fin 2048) (j : Fin 1024) : Re (dhAll x0 x1 x2 x3 x4 x5 x9 i j) := by
  unfold Cert.Kernel2Ideal.Hand.dhAll back
  exact Finset.sum_induction _ Re (fun _ _ => Re.add) re_zero fun n _ => (H.joined i n).mul (H.wAt j n)

/-- The two ways of writing the gradient of the input agree. -/
theorem Reals.grad (H : Reals x0 x1 x2 x3 x4 x5 x6 x8 x9) (u : Fin 1024 → EReal) (i : Fin 2048) (j : Fin 1024) :
    gradRef (dhAll x0 x1 x2 x3 x4 x5 x9 i) (fun k => x6 (ix2 i k)) u (fun k => x8 (ix2 6 k)) (fun k => x8 (ix2 1 k)) j =
      gradRow (dhAll x0 x1 x2 x3 x4 x5 x9 i) (fun k => x6 (ix2 i k)) u (fun k => x8 (ix2 6 k)) (fun k => x8 (ix2 1 k)) j := by
  have e0 : dhAll x0 x1 x2 x3 x4 x5 x9 i = fun k => (((dhAll x0 x1 x2 x3 x4 x5 x9 i k).toReal : ℝ) : EReal) := funext fun k => (H.dh i k).toReal
  have e1 : (fun k => x6 (ix2 i k)) = fun k => (((x6 (ix2 i k)).toReal : ℝ) : EReal) := funext fun k => (H.h6 i k).toReal
  have e2 : (fun k => x8 (ix2 6 k)) = fun k => (((x8 (ix2 6 k)).toReal : ℝ) : EReal) := funext fun k => (H.gain k).toReal
  have e3 : (fun k => x8 (ix2 1 k)) = fun k => (((x8 (ix2 1 k)).toReal : ℝ) : EReal) := funext fun k => (H.scale k).toReal
  rw [e0, e1, e2, e3]
  exact (grad_real _ _ _ _ u j).symm

end

end Cert.InBack

end
-- ==== Proof.MixFinite.lean ====
/- The precondition of the mixture and the feed-forward layer, read back: every entry that the call uses is a real
   number, so that the three norms' gradients may be written in either way. -/
module

public import proofs.«01_k».proof.Proof.MixDiff
public import proofs.«01_k».proof.Proof.InFinite
public import proofs.«01_k».proof.Proof.Gen.Pre_finite6
public import Idealize.ShloMosaic.Lib.ReduceAll
public import Idealize.ShloMosaic.Lib.Pointwise

@[expose] public section

set_option maxRecDepth 16384

noncomputable section

namespace Cert.Mix

open Idealize.ShloMosaic
open Cert.Pre_finite6 (S2048x1024 S2048x512 S2048x6656 S16x1024 S1024x1024 S4x512x256 S4x1024x1024 S_)

theorem reals_of_finite (x0 : FVec Ideal S2048x1024 .bf16) (x1 : FVec Ideal S2048x512 .bf16) (x2 : FVec Ideal S2048x6656 .bf16)
    (x3 x4 : FVec Ideal S2048x1024 .f32) (x5 : FVec Ideal S16x1024 .f32) (x6 : FVec Ideal S1024x1024 .bf16)
    (x7 : FVec Ideal S4x512x256 .bf16) (x8 : FVec Ideal S1024x1024 .bf16) (x9 x10 : FVec Ideal S4x1024x1024 .bf16)
    (h : Cert.Pre_finite6.fn (F := Ideal) x0 x1 x2 x3 x4 x5 x6 x7 x8 x9 x10 = fun _ => 1#1) (i : Fin 2048) :
    Reals (Wts.mk x5 x6 x7 x8 x9 x10) (rowOf x0 x1 x2 x3 x4 i) := by
  have h0 := congrFun h ix0
  simp only [Cert.Pre_finite6.fn, Cert.Pre_finite6.fn_part1, Cert.Pre_finite6.fn_part2, Cert.Pre_finite6.fn_part3] at h0
  obtain ⟨h0, k11⟩ := IntOp.andi_eq_one.1 h0
  obtain ⟨h0, k10⟩ := IntOp.andi_eq_one.1 h0
  obtain ⟨h0, k9⟩ := IntOp.andi_eq_one.1 h0
  obtain ⟨h0, k8⟩ := IntOp.andi_eq_one.1 h0
  obtain ⟨h0, k7⟩ := IntOp.andi_eq_one.1 h0
  obtain ⟨h0, k6⟩ := IntOp.andi_eq_one.1 h0
  obtain ⟨h0, k5⟩ := IntOp.andi_eq_one.1 h0
  obtain ⟨h0, k4⟩ := IntOp.andi_eq_one.1 h0
  obtain ⟨h0, k3⟩ := IntOp.andi_eq_one.1 h0
  obtain ⟨h0, k2⟩ := IntOp.andi_eq_one.1 h0
  obtain ⟨k0, k1⟩ := IntOp.andi_eq_one.1 h0
  have : Subsingleton Cert.Pre_finite6.S_.Idx := ⟨fun a b => funext fun k => k.elim0⟩
  have hp : ∀ j : Fin 2048, InBack.Re (x2 (ix2 i ⟨4608 + j.val, by omega⟩)) := by
    intro j
    have e := Host.reduce_andi_all _ _ _ _ _ k2 (ix2 i j)
    pointwise at e
    exact InBack.re_of_word _ e
  constructor
  · intro k
    have e := Host.reduce_andi_all _ _ _ _ _ k0 (ix2 i k)
    pointwise at e
    exact InBack.re_of_word _ e
  · intro k
    have e := Host.reduce_andi_all _ _ _ _ _ k1 (ix2 i k)
    pointwise at e
    exact InBack.re_of_word _ e
  · exact fun k => hp ⟨k.val, by omega⟩
  · intro k
    have e := hp ⟨1024 + k.val, by omega⟩
    simp only [← Nat.add_assoc, Nat.reduceAdd] at e
    exact e
  · intro k
    have e := Host.reduce_andi_all _ _ _ _ _ k3 (ix2 i k)
    pointwise at e
    exact InBack.re_of_word _ e
  · intro k
    have e := Host.reduce_andi_all _ _ _ _ _ k4 (ix2 i k)
    pointwise at e
    exact InBack.re_of_word _ e
  · intro n j hn
    obtain ⟨n, hn'⟩ := n
    rcases hn with ⟨ha, hb⟩ | ⟨ha, hb⟩
    · have e := Host.reduce_andi_all _ _ _ _ _ k5 (ix2 ⟨n - 2, by dsimp only at ha hb; omega⟩ j)
      pointwise at e
      have e' := InBack.re_of_word _ e
      simp only [Nat.add_sub_cancel' (show 2 ≤ n from ha)] at e'
      exact e'
    · have e := Host.reduce_andi_all _ _ _ _ _ k6 (ix2 ⟨n - 7, by dsimp only at ha hb; omega⟩ j)
      pointwise at e
      have e' := InBack.re_of_word _ e
      simp only [Nat.add_sub_cancel' (show 7 ≤ n from ha)] at e'
      exact e'
  · intro n j
    have e := Host.reduce_andi_all _ _ _ _ _ k7 (ix2 n j)
    pointwise at e
    exact InBack.re_of_word _ e
  · intro b n j
    have e := Host.reduce_andi_all _ _ _ _ _ k8 (ix3 b n j)
    pointwise at e
    exact InBack.re_of_word _ e
  · intro n j
    have e := Host.reduce_andi_all _ _ _ _ _ k9 (ix2 n j)
    pointwise at e
    exact InBack.re_of_word _ e
  · intro b n j
    have e := Host.reduce_andi_all _ _ _ _ _ k10 (ix3 b n j)
    pointwise at e
    exact InBack.re_of_word _ e
  · intro b n j
    have e := Host.reduce_andi_all _ _ _ _ _ k11 (ix3 b n j)
    pointwise at e
    exact InBack.re_of_word _ e

end Cert.Mix

end
-- ==== Proof.MixClaim.lean ====
/- The mixture and the feed-forward layer: the reference's run, and the kernel's eleven results as the reference's. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.MixResult
public import proofs.«01_k».proof.Proof.MixFinite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference6_frame : Cert.quiescent_Reference6Ideal := fun m ρ _ =>
  (θ_run _ _ _).mono (fun r h => ⟨fun c => (h c).2.2.2.2.2.2.2.2.2.2.2, sem_eq_zero_of_no_sems (by decide) r.2⟩)
    (Cert.Reference6Ideal.Value.run (F := Ideal) m ρ)

/-- The kernel's eleven results are the reference's. -/
theorem algebraic6 : Cert.algebraic_Kernel6Ideal_Reference6Ideal_pre_finite6 := by
  intro m g m' g' hpre hagree
  refine ⟨_, _, _, _, _, _, _, _, _, _, _, (θ_run _ _ _).mono (fun r h c => h c) (Cert.Kernel6Ideal.Value.run_blocks m g), ?_⟩
  refine (θ_run _ _ _).mono (fun r h c => ?_) (Cert.Reference6Ideal.Value.run (F := Ideal) m' g')
  obtain ⟨e0, e1, e2, e3, e4, e5, e6, e7, e8, e9, e10, hargs⟩ := h c
  obtain ⟨h0, h1, h2, h3, h4, h5, h6, h7, h8, h9, h10⟩ := hagree c
  have H := Cert.Mix.reals_of_finite _ _ _ _ _ _ _ _ _ _ _ (hpre c)
  refine ⟨e0.trans ?_, e1.trans ?_, e2.trans ?_, e3.trans ?_, e4.trans ?_, e5.trans ?_, e6.trans ?_, e7.trans ?_, e8.trans ?_, e9.trans ?_, e10.trans ?_, hargs⟩
  · exact (Cert.Reference6Ideal.Read.val_main_v245_eq (F := Ideal) (StableHlo.launchContents m' c)).trans (Cert.Kernel6Ideal.Hand.result245 m c ((StableHlo.launchContents_devRef _ _ _).trans h0) ((StableHlo.launchContents_devRef _ _ _).trans h1) ((StableHlo.launchContents_devRef _ _ _).trans h2) ((StableHlo.launchContents_devRef _ _ _).trans h6) ((StableHlo.launchContents_devRef _ _ _).trans h7))
  · exact (Cert.Reference6Ideal.Read.val_main_v246_eq (F := Ideal) (StableHlo.launchContents m' c)).trans (Cert.Kernel6Ideal.Hand.result246 m c ((StableHlo.launchContents_devRef _ _ _).trans h0) ((StableHlo.launchContents_devRef _ _ _).trans h6))
  · exact (Cert.Reference6Ideal.Read.val_main_v247_eq (F := Ideal) (StableHlo.launchContents m' c)).trans (Cert.Kernel6Ideal.Hand.result247 m c ((StableHlo.launchContents_devRef _ _ _).trans h1) ((StableHlo.launchContents_devRef _ _ _).trans h7))
  · exact (Cert.Reference6Ideal.Read.val_main_v249_eq (F := Ideal) (StableHlo.launchContents m' c)).trans (Cert.Kernel6Ideal.Hand.result249 m c ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h5) ((StableHlo.launchContents_devRef _ _ _).trans h6) ((StableHlo.launchContents_devRef _ _ _).trans h7) ((StableHlo.launchContents_devRef _ _ _).trans h8))
  · exact (Cert.Reference6Ideal.Read.val_main_v251_eq (F := Ideal) (StableHlo.launchContents m' c)).trans (Cert.Kernel6Ideal.Hand.result251 m c ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9))
  · exact (Cert.Reference6Ideal.Read.val_main_v253_eq (F := Ideal) (StableHlo.launchContents m' c)).trans (Cert.Kernel6Ideal.Hand.result253 m c H ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))
  · exact (Cert.Reference6Ideal.Read.val_main_v255_eq (F := Ideal) (StableHlo.launchContents m' c)).trans (Cert.Kernel6Ideal.Hand.result255 m c H ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))
  · exact (Cert.Reference6Ideal.Read.val_main_v256_eq (F := Ideal) (StableHlo.launchContents m' c)).trans (Cert.Kernel6Ideal.Hand.result256 m c H ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))
  · exact (Cert.Reference6Ideal.Read.val_main_v258_eq (F := Ideal) (StableHlo.launchContents m' c)).trans (Cert.Kernel6Ideal.Hand.result258 m c H ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))
  · exact (Cert.Reference6Ideal.Read.val_main_v240_eq (F := Ideal) (StableHlo.launchContents m' c)).trans (Cert.Kernel6Ideal.Hand.result240 m c ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))
  · exact (Cert.Reference6Ideal.Read.val_main_v244_eq (F := Ideal) (StableHlo.launchContents m' c)).trans (Cert.Kernel6Ideal.Hand.result244 m c H ((StableHlo.launchContents_devRef _ _ _).trans h0) ((StableHlo.launchContents_devRef _ _ _).trans h1) ((StableHlo.launchContents_devRef _ _ _).trans h2) ((StableHlo.launchContents_devRef _ _ _).trans h3) ((StableHlo.launchContents_devRef _ _ _).trans h4) ((StableHlo.launchContents_devRef _ _ _).trans h5) ((StableHlo.launchContents_devRef _ _ _).trans h6) ((StableHlo.launchContents_devRef _ _ _).trans h7) ((StableHlo.launchContents_devRef _ _ _).trans h8) ((StableHlo.launchContents_devRef _ _ _).trans h9) ((StableHlo.launchContents_devRef _ _ _).trans h10))

end Cert.Proof

end
-- ==== Proof.InClaim.lean ====
/- The gradient of the projection's input: the reference's run, and the kernel's five results as the reference's. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.InFinite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference2_frame : Cert.quiescent_Reference2Ideal := fun m ρ _ =>
  (θ_run _ _ _).mono (fun r h => ⟨fun c => (h c).2.2.2.2.2, sem_eq_zero_of_no_sems (by decide) r.2⟩)
    (Cert.Reference2Ideal.Value.run (F := Ideal) m ρ)

/-- The kernel's five results are the reference's. -/
theorem algebraic2 : Cert.algebraic_Kernel2Ideal_Reference2Ideal_pre_finite2 := by
  intro m g m' g' hpre hagree
  refine ⟨_, _, _, _, _, (θ_run _ _ _).mono (fun r h c => ⟨(h c).1, (h c).2.1, (h c).2.2.2.1, (h c).2.2.2.2.1, (h c).2.2.2.2.2.1, (h c).2.2.2.2.2.2⟩)
    (Cert.Kernel2Ideal.Value.run_blocks m g), ?_⟩
  refine (θ_run _ _ _).mono (fun r h c => ?_) (Cert.Reference2Ideal.Value.run (F := Ideal) m' g')
  obtain ⟨e0, e1, e2, e3, e4, hargs⟩ := h c
  obtain ⟨h0, h1, h2, h3, h4, h5, h6, h7, h8, h9, h10, h11, h12, h13⟩ := hagree c
  have H := Cert.InBack.reals_of_finite _ _ _ _ _ _ _ _ _ _ _ _ _ _ (hpre c)
  refine ⟨e0.trans ?_, e1.trans ?_, e2.trans ?_, e3.trans ?_, e4.trans ?_, hargs⟩
  · rw [Cert.Reference2Ideal.Read.val_main_v73_eq, h0, h1, h2, h3, h4, h5, h6, h7, h8, h9]
    refine (funext fun y => ?_ : _ = _).trans (Cert.Kernel2Ideal.Hand.final14 m c).symm
    exact (Cert.Reference2Ideal.Hand.dx_eq _ _ _ _ _ _ _ _ _ _ y).trans (H.grad _ (y 0) (y 1))
  · rw [Cert.Reference2Ideal.Read.val_main_v72_eq, h0, h1, h2, h3, h4, h5, h6, h8, h9]
    exact (Cert.Reference2Ideal.Hand.st_eq _ _ _ _ _ _ _ _ _).trans (Cert.Kernel2Ideal.Hand.final15 m c).symm
  · rw [h10, h11, h12, h13]
    refine (Cert.Reference2Ideal.Read.val_main_v97_eq _ _ _ _).trans ?_
    exact (funext fun y => Cert.Reference2Ideal.Hand.change_eq _ _ _ _ y).trans (Cert.Kernel2Ideal.Hand.final17 m c).symm
  · rw [h11, h13]
    refine (Cert.Reference2Ideal.Read.val_main_v78_eq _ _).trans ?_
    exact (funext fun y => Cert.Reference2Ideal.Hand.first_eq _ _ y).trans (Cert.Kernel2Ideal.Hand.final18 m c).symm
  · rw [h12, h13]
    refine (Cert.Reference2Ideal.Read.val_main_v84_eq _ _).trans ?_
    exact (funext fun y => Cert.Reference2Ideal.Hand.second_eq _ _ y).trans (Cert.Kernel2Ideal.Hand.final19 m c).symm

end Cert.Proof

end
-- ==== Proof.WeightBlock.lean ====
/- One grid point of the input projection's weight gradient: the block it writes.

   The point has a block of 512 columns of the hidden state and the whole of the six gradients that lie side by side in
   the projection's gradient. Each entry of its block is one sum over the 2048 frames. -/
module

public import proofs.«01_k».proof.Proof.Gen.Kernel3Ideal.Value
public import Idealize.ShloMosaic.Lib.Pipeline.ReadBack
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

/-- An array's entry at a frame and a column counted by a natural number; nothing lies beyond the last column. -/
def at2 {w : ℕ} (X : (⟨2, ![2048, w]⟩ : Shape).Idx → EReal) (k : Fin 2048) (n : ℕ) : EReal :=
  if h : n < w then X (ix2 k ⟨n, h⟩) else 0

/-- The projection's gradient at a frame and a column: the six pieces side by side. -/
def joined (a : S2048x2048.Idx → EReal) (b : S2048x1024.Idx → EReal) (p q r : S2048x512.Idx → EReal) (e : S2048x2048.Idx → EReal)
    (k : Fin 2048) (n : ℕ) : EReal :=
  if n < 2048 then at2 a k n else if n < 3072 then at2 b k (n - 2048) else if n < 3584 then at2 p k (n - 3072)
    else if n < 4096 then at2 q k (n - 3584) else if n < 4608 then at2 r k (n - 4096) else at2 e k (n - 4608)

/-- One entry of a point's block: the sum over the frames of the point's hidden column times a gradient column. -/
def entry (x : S2048x512.Idx → EReal) (g : Fin 2048 → ℕ → EReal) (y : S4x512x1664.Idx) : EReal :=
  ∑ k : Fin 2048, x (ix2 k (y 1)) * g k (1664 * (y 0).val + (y 2).val)

section pieces

variable (a : S2048x2048.Idx → EReal) (b : S2048x1024.Idx → EReal) (p q r : S2048x512.Idx → EReal) (e : S2048x2048.Idx → EReal)
  (k : Fin 2048) (n l : ℕ)

theorem joined_a (hl : l < 2048) (hn : n = l) : joined a b p q r e k n = a (ix2 k ⟨l, hl⟩) := by
  subst hn
  unfold joined at2
  rw [if_pos hl, dif_pos hl]

theorem joined_b (hl : l < 1024) (hn : n = 2048 + l) : joined a b p q r e k n = b (ix2 k ⟨l, hl⟩) := by
  subst hn
  unfold joined at2
  rw [if_neg (by omega), if_pos (by omega), dif_pos (by omega)]
  exact congrArg (fun i => b (ix2 k i)) (Fin.ext (Nat.add_sub_cancel_left ..))

theorem joined_p (hl : l < 512) (hn : n = 3072 + l) : joined a b p q r e k n = p (ix2 k ⟨l, hl⟩) := by
  subst hn
  unfold joined at2
  rw [if_neg (by omega), if_neg (by omega), if_pos (by omega), dif_pos (by omega)]
  exact congrArg (fun i => p (ix2 k i)) (Fin.ext (Nat.add_sub_cancel_left ..))

theorem joined_q (hl : l < 512) (hn : n = 3584 + l) : joined a b p q r e k n = q (ix2 k ⟨l, hl⟩) := by
  subst hn
  unfold joined at2
  rw [if_neg (by omega), if_neg (by omega), if_neg (by omega), if_pos (by omega), dif_pos (by omega)]
  exact congrArg (fun i => q (ix2 k i)) (Fin.ext (Nat.add_sub_cancel_left ..))

theorem joined_r (hl : l < 512) (hn : n = 4096 + l) : joined a b p q r e k n = r (ix2 k ⟨l, hl⟩) := by
  subst hn
  unfold joined at2
  rw [if_neg (by omega), if_neg (by omega), if_neg (by omega), if_neg (by omega), if_pos (by omega), dif_pos (by omega)]
  exact congrArg (fun i => r (ix2 k i)) (Fin.ext (Nat.add_sub_cancel_left ..))

theorem joined_e (hl : l < 2048) (hn : n = 4608 + l) : joined a b p q r e k n = e (ix2 k ⟨l, hl⟩) := by
  subst hn
  unfold joined at2
  rw [if_neg (by omega), if_neg (by omega), if_neg (by omega), if_neg (by omega), if_neg (by omega), dif_pos (by omega)]
  exact congrArg (fun i => e (ix2 k i)) (Fin.ext (Nat.add_sub_cancel_left ..))

end pieces

variable (m : (ℓ : Loc nD τ sig) → Buf (Elt Ideal) ℓ)

set_option maxHeartbeats 400000 in
/-- What a point leaves in its output block. -/
theorem out (c : Dev nD) (t : Fin cfg0.N) (y : S4x512x1664.Idx) :
    (outsAt0 m c t : Vec Ideal S4x512x1664 .bf16) y
      = entry (iblk m c 6 t) (joined (iblk m c 0 t) (iblk m c 1 t) (iblk m c 2 t) (iblk m c 3 t) (iblk m c 4 t) (iblk m c 5 t)) y := by
  unfold outsAt0
  frame_out
  canon_tiles x h using (View.cover_of_tiledBy _ ![1, 512, 128] (by sl_kernel_rfl) y)
  case piece0 =>
    open_payloads
    pointwise
    unfold entry
    rw [show y 1 = x 1 from Fin.ext h1]
    exact Finset.sum_congr rfl fun k _ => congrArg _ (joined_e _ _ _ _ _ _ k _ _ _ (by rw [h0, h2]; omega)).symm
  case piece1 =>
    open_payloads
    pointwise
    unfold entry
    rw [show y 1 = x 1 from Fin.ext h1]
    exact Finset.sum_congr rfl fun k _ => congrArg _ (joined_e _ _ _ _ _ _ k _ _ _ (by rw [h0, h2]; omega)).symm
  case piece2 =>
    open_payloads
    pointwise
    unfold entry
    rw [show y 1 = x 1 from Fin.ext h1]
    exact Finset.sum_congr rfl fun k _ => congrArg _ (joined_r _ _ _ _ _ _ k _ _ _ (by rw [h0, h2]; omega)).symm
  case piece3 =>
    open_payloads
    pointwise
    unfold entry
    rw [show y 1 = x 1 from Fin.ext h1]
    exact Finset.sum_congr rfl fun k _ => congrArg _ (joined_q _ _ _ _ _ _ k _ _ _ (by rw [h0, h2]; omega)).symm
  case piece4 =>
    open_payloads
    pointwise
    unfold entry
    rw [show y 1 = x 1 from Fin.ext h1]
    exact Finset.sum_congr rfl fun k _ => congrArg _ (joined_p _ _ _ _ _ _ k _ _ _ (by rw [h0, h2]; omega)).symm
  case piece5 =>
    open_payloads
    pointwise
    unfold entry
    rw [show y 1 = x 1 from Fin.ext h1]
    exact Finset.sum_congr rfl fun k _ => congrArg _ (joined_p _ _ _ _ _ _ k _ _ _ (by rw [h0, h2]; omega)).symm
  case piece6 =>
    open_payloads
    pointwise
    unfold entry
    rw [show y 1 = x 1 from Fin.ext h1]
    exact Finset.sum_congr rfl fun k _ => congrArg _ (joined_b _ _ _ _ _ _ k _ _ _ (by rw [h0, h2]; omega)).symm
  case piece7 =>
    open_payloads
    pointwise
    unfold entry
    rw [show y 1 = x 1 from Fin.ext h1]
    exact Finset.sum_congr rfl fun k _ => congrArg _ (joined_a _ _ _ _ _ _ k _ _ _ (by rw [h0, h2]; omega)).symm
  case piece8 =>
    open_payloads
    pointwise
    unfold entry
    rw [show y 1 = x 1 from Fin.ext h1]
    exact Finset.sum_congr rfl fun k _ => congrArg _ (joined_a _ _ _ _ _ _ k _ _ _ (by rw [h0, h2]; omega)).symm

end Cert.Kernel3Ideal.Hand

end
-- ==== Proof.WeightFinal.lean ====
/- The input projection's weight gradient, whole: the kernel's array block by block, and the reference's line. -/
module

public import proofs.«01_k».proof.Proof.WeightBlock
public import proofs.«01_k».proof.Proof.Gen.Reference3Ideal.Read

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

/-- Every entry of the weight gradient: a hidden column against a column of the projection's gradient. -/
def grad (x : S2048x1024.Idx → EReal) (g : Fin 2048 → ℕ → EReal) : S4x1024x1664.Idx → EReal := fun y =>
  ∑ k : Fin 2048, x (ix2 k (y 1)) * g k (1664 * (y 0).val + (y 2).val)

variable (m : (ℓ : Loc nD τ sig) → Buf (Elt Ideal) ℓ) (c : Dev nD) (t : Fin cfg0.N)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, t.val]
    ∧ win0_7.index t = ![0, t.val, 0] :=
  (by decide +kernel : ∀ t : Fin grid0.N, _)

theorem block0 : (iblk m c 0 t : Vec Ideal S2048x2048 .bf16) = m (c, Proc.tc.devRef main_arg1) := by
  funext i; blk_ext [iblk, idx t]
theorem block1 : (iblk m c 1 t : Vec Ideal S2048x1024 .bf16) = m (c, Proc.tc.devRef main_arg2) := by
  funext i; blk_ext [iblk, idx t]
theorem block2 : (iblk m c 2 t : Vec Ideal S2048x512 .bf16) = m (c, Proc.tc.devRef main_arg3) := by
  funext i; blk_ext [iblk, idx t]
theorem block3 : (iblk m c 3 t : Vec Ideal S2048x512 .bf16) = m (c, Proc.tc.devRef main_arg4) := by
  funext i; blk_ext [iblk, idx t]
theorem block4 : (iblk m c 4 t : Vec Ideal S2048x512 .bf16) = m (c, Proc.tc.devRef main_arg5) := by
  funext i; blk_ext [iblk, idx t]
theorem block5 : (iblk m c 5 t : Vec Ideal S2048x2048 .bf16) = m (c, Proc.tc.devRef main_arg6) := by
  funext i; blk_ext [iblk, idx t]
theorem block6 (k : Fin 2048) (j : Fin 512) (i : Fin 1024) (hi : i.val = 512 * t.val + j.val) :
    (iblk m c 6 t : Vec Ideal S2048x512 .bf16) (ix2 k j) = (m (c, Proc.tc.devRef main_arg0) : Vec Ideal S2048x1024 .bf16) (ix2 k i) := by
  blk_ext [iblk, idx t]

omit m c t in
/-- A point's entry is the whole result's entry at the same place. -/
theorem entry_eq_grad (x : S2048x512.Idx → EReal) (X : S2048x1024.Idx → EReal) (g : Fin 2048 → ℕ → EReal) (y : S4x512x1664.Idx)
    (z : S4x1024x1664.Idx) (e0 : (z 0).val = (y 0).val) (e2 : (z 2).val = (y 2).val)
    (hx : ∀ k, x (ix2 k (y 1)) = X (ix2 k (z 1))) : entry x g y = grad X g z := by
  unfold entry grad
  rw [e0, e2]
  exact Finset.sum_congr rfl fun k _ => congrArg (· * _) (hx k)

/-- The kernel's whole result. -/
theorem final : (dats m 0 c).arrAt 7 cfg0.N = grad (m (c, Proc.tc.devRef main_arg0))
    (joined (m (c, Proc.tc.devRef main_arg1)) (m (c, Proc.tc.devRef main_arg2)) (m (c, Proc.tc.devRef main_arg3))
      (m (c, Proc.tc.devRef main_arg4)) (m (c, Proc.tc.devRef main_arg5)) (m (c, Proc.tc.devRef main_arg6))) := by
  refine (dats m 0 c).arrAt_eq_of_covers 7 _ (by decide +kernel) fun t hf y => ?_
  blk_simp
  rw [after0_7, out m c t y]
  have e0 : (((win0_7.blk t).view.emb y) 0).val = (y 0).val := by blk_simp [idx t]
  have e1 : (((win0_7.blk t).view.emb y) 1).val = 512 * t.val + (y 1).val := by
    blk_simp [idx t]; ring
  have e2 : (((win0_7.blk t).view.emb y) 2).val = (y 2).val := by blk_simp [idx t]
  rw [block0, block1, block2, block3, block4, block5]
  exact entry_eq_grad _ _ _ y _ e0 e2 fun k => block6 m c t k (y 1) _ e1

end Cert.Kernel3Ideal.Hand

namespace Cert.Reference3Ideal.Hand

open Cert.Reference3Ideal Cert.Reference3Ideal.Read Idealize.ShloMosaic

/-- The reference's line gives the same sums. -/
theorem result_eq (x0 : FVec Ideal S2048x1024 .bf16) (x1 : FVec Ideal S2048x2048 .bf16) (x2 : FVec Ideal S2048x1024 .bf16)
    (x3 x4 x5 : FVec Ideal S2048x512 .bf16) (x6 : FVec Ideal S2048x2048 .bf16) :
    val_main_v9 (F := Ideal) x0 x1 x2 x3 x4 x5 x6
      = Cert.Kernel3Ideal.Hand.grad x0 (Cert.Kernel3Ideal.Hand.joined x1 x2 x3 x4 x5 x6) := by
  funext y
  have h0 : (y 0).val < 4 := (y 0).isLt
  have h2 : (y 2).val < 1664 := (y 2).isLt
  pointwise [val_main_v9, val_main_v8, val_main_v7, val_main_v6, val_main_v5, val_main_v1, val_main_v0, val_main_v3]
  unfold Cert.Kernel3Ideal.Hand.grad
  refine Finset.sum_congr rfl fun k _ => (mul_comm _ _).trans (congrArg _ ?_)
  split
  · exact (Cert.Kernel3Ideal.Hand.joined_a _ _ _ _ _ _ k _ _ _ (by omega)).symm
  split
  · exact (Cert.Kernel3Ideal.Hand.joined_b _ _ _ _ _ _ k _ _ _ (by omega)).symm
  split
  · exact (Cert.Kernel3Ideal.Hand.joined_p _ _ _ _ _ _ k _ _ _ (by omega)).symm
  split
  · exact (Cert.Kernel3Ideal.Hand.joined_q _ _ _ _ _ _ k _ _ _ (by omega)).symm
  split
  · exact (Cert.Kernel3Ideal.Hand.joined_r _ _ _ _ _ _ k _ _ _ (by omega)).symm
  · exact (Cert.Kernel3Ideal.Hand.joined_e _ _ _ _ _ _ k _ _ _ (by omega)).symm

end Cert.Reference3Ideal.Hand

end
-- ==== Proof.WeightClaim.lean ====
/- The input projection's weight gradient: the reference's run, and the kernel's result as the reference's. -/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.WeightFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference3_frame : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- The kernel's result is the reference's. -/
theorem algebraic3 : Cert.algebraic_Kernel3Ideal_Reference3Ideal := by
  intro m g m' g' _ hagree
  refine ⟨_, Cert.Kernel3Ideal.Value.run_blocks m g, ?_⟩
  refine (θ_run _ _ _).mono (fun r h c => ?_) (Cert.Reference3Ideal.Value.run (F := Ideal) m' g')
  obtain ⟨hv, hargs⟩ := h c
  refine ⟨hv.trans ?_, hargs⟩
  obtain ⟨h0, h1, h2, h3, h4, h5, h6⟩ := hagree c
  rw [Cert.Reference3Ideal.Read.val_main_v9_eq, Cert.Reference3Ideal.Hand.result_eq, h0, h1, h2, h3, h4, h5, h6]
  exact (Cert.Kernel3Ideal.Hand.final m c).symm

end Cert.Proof

end
-- ==== Proof.ProjBlock.lean ====
/- The input projection: one grid point's two blocks.

   The point normalises 512 rows, scales and shifts them by the modulation's vectors, and multiplies the result by the
   four column blocks of the weight. -/
module

public import proofs.«01_k».proof.Proof.Gen.Kernel5Ideal.Value
public import proofs.«01_k».proof.Proof.Gen.Reference5Ideal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

/-- One row of the normalised input at column `j`: the row over its root mean square, times the gain and one plus the
    scale, plus the shift. The vectors' rows 0, 1 and 6 are the shift, the scale and the gain. -/
def row (x : Fin 1024 → EReal) (v : S16x1024.Idx → EReal) (j : Fin 1024) : EReal :=
  x j * Ideal.rsqrt (Ideal.div (∑ k, x k * x k) (Ideal.ofBits FTy.f32 1149239296#32) + Ideal.ofBits FTy.f32 897988541#32) *
      (v (ix2 6 j) * (1 + v (ix2 1 j))) + v (ix2 0 j)

/-- The row times column `q` of the weight's column block `b`. -/
def rowProj (x : Fin 1024 → EReal) (v : S16x1024.Idx → EReal) (w : S4x1024x1664.Idx → EReal) (b : Fin 4) (q : Fin 1664) : EReal :=
  ∑ k, row x v k * w (ix3 b k q)

theorem hidden (x : Vec Ideal S512x1024 .f32) (v : Vec Ideal S16x1024 .f32) (w : Vec Ideal S4x1024x1664 .bf16) (y : S512x1024.Idx) :
    out0_3 (F := Ideal) x v w y = row (fun k => x (ix2 (y 0) k)) v (y 1) := by
  unfold out0_3
  canon_tiles x' h
  case piece0 =>
    obtain rfl : y = x' := by
      funext d
      match d with
      | ⟨0, _⟩ => exact Fin.ext h0
      | ⟨1, _⟩ => exact Fin.ext h1
    open_payloads
    pointwise
    unfold row
    rw [show y = ix2 (y 0) (y 1) by simp]
    try rfl

theorem proj (x : Vec Ideal S512x1024 .f32) (v : Vec Ideal S16x1024 .f32) (w : Vec Ideal S4x1024x1664 .bf16) (y : S512x6656.Idx) :
    out0_4 (F := Ideal) x v w y =
      rowProj (fun k => x (ix2 (y 0) k)) v w ⟨(y 1 : ℕ) / 1664, by have := (y 1).isLt; simp at this; omega⟩
        ⟨(y 1 : ℕ) % 1664, Nat.mod_lt _ (by omega)⟩ := by
  unfold out0_4
  canon_tiles x' h
  case piece0 =>
    have e0 : y 0 = x' 0 := Fin.ext h0
    have e1 : (⟨(y 1 : ℕ) / 1664, by have := (y 1).isLt; simp at this; omega⟩ : Fin 4) = 3 := Fin.ext (by show (y 1 : ℕ) / 1664 = 3; omega)
    have e2 : (⟨(y 1 : ℕ) % 1664, Nat.mod_lt _ (by omega)⟩ : Fin 1664) = x' 1 := Fin.ext (by show (y 1 : ℕ) % 1664 = (x' 1 : ℕ); omega)
    rw [e1, e2, e0]
    open_payloads
    pointwise
    rfl
  case piece1 =>
    have e0 : y 0 = x' 0 := Fin.ext h0
    have e1 : (⟨(y 1 : ℕ) / 1664, by have := (y 1).isLt; simp at this; omega⟩ : Fin 4) = 2 := Fin.ext (by show (y 1 : ℕ) / 1664 = 2; omega)
    have e2 : (⟨(y 1 : ℕ) % 1664, Nat.mod_lt _ (by omega)⟩ : Fin 1664) = x' 1 := Fin.ext (by show (y 1 : ℕ) % 1664 = (x' 1 : ℕ); omega)
    rw [e1, e2, e0]
    open_payloads
    pointwise
    rfl
  case piece2 =>
    have e0 : y 0 = x' 0 := Fin.ext h0
    have e1 : (⟨(y 1 : ℕ) / 1664, by have := (y 1).isLt; simp at this; omega⟩ : Fin 4) = 1 := Fin.ext (by show (y 1 : ℕ) / 1664 = 1; omega)
    have e2 : (⟨(y 1 : ℕ) % 1664, Nat.mod_lt _ (by omega)⟩ : Fin 1664) = x' 1 := Fin.ext (by show (y 1 : ℕ) % 1664 = (x' 1 : ℕ); omega)
    rw [e1, e2, e0]
    open_payloads
    pointwise
    rfl
  case piece3 =>
    have e0 : y 0 = x' 0 := Fin.ext h0
    have e1 : (⟨(y 1 : ℕ) / 1664, by have := (y 1).isLt; simp at this; omega⟩ : Fin 4) = 0 := Fin.ext (by show (y 1 : ℕ) / 1664 = 0; omega)
    have e2 : (⟨(y 1 : ℕ) % 1664, Nat.mod_lt _ (by omega)⟩ : Fin 1664) = x' 1 := Fin.ext (by show (y 1 : ℕ) % 1664 = (x' 1 : ℕ); omega)
    rw [e1, e2, e0]
    open_payloads
    pointwise
    rfl

end Cert.Kernel5Ideal.Hand

namespace Cert.Reference5Ideal.Hand

open Cert.Reference5Ideal Cert.Reference5Ideal.Read Idealize.ShloMosaic

theorem hidden_eq (x : FVec Ideal S2048x1024 .f32) (v : FVec Ideal S16x1024 .f32) (y : S2048x1024.Idx) :
    val_main_v30 (F := Ideal) x v y = Cert.Kernel5Ideal.Hand.row (fun k => x (ix2 (y 0) k)) v (y 1) := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rw [mul_assoc (x y * _)]
  unfold Cert.Kernel5Ideal.Hand.row
  rw [show y = ix2 (y 0) (y 1) by simp]
  try rfl

theorem normal_eq (x : FVec Ideal S2048x1024 .f32) (v : FVec Ideal S16x1024 .f32) (i : Fin 2048) (k : Fin 1024) :
    val_main_v28 (F := Ideal) x v (ix3 0 i k) = Cert.Kernel5Ideal.Hand.row (fun k => x (ix2 i k)) v k := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rw [mul_assoc (x _ * _)]
  rfl

theorem proj_eq (x : FVec Ideal S2048x1024 .f32) (v : FVec Ideal S16x1024 .f32) (w : FVec Ideal S4x1024x1664 .bf16) (y : S2048x6656.Idx) :
    val_main_v33 (F := Ideal) x v w y =
      Cert.Kernel5Ideal.Hand.rowProj (fun k => x (ix2 (y 0) k)) v w ⟨(y 1 : ℕ) / 1664, by have := (y 1).isLt; simp at this; omega⟩
        ⟨(y 1 : ℕ) % 1664, Nat.mod_lt _ (by omega)⟩ := by
  pointwise [val_main_v33, val_main_v32, val_main_v31, val_main_v2, val_main_v1, val_main_v0]
  unfold Cert.Kernel5Ideal.Hand.rowProj
  refine Finset.sum_congr rfl fun k _ => ?_
  exact congrArg (· * w _) (normal_eq x v (y 0) k)

end Cert.Reference5Ideal.Hand

end
-- ==== Proof.ProjFinal.lean ====
/- The input projection, whole: the kernel's two arrays out of its points' blocks. -/
module

public import proofs.«01_k».proof.Proof.ProjBlock

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

/-- The whole normalised input. -/
def hiddenAll (x : S2048x1024.Idx → EReal) (v : S16x1024.Idx → EReal) : S2048x1024.Idx → EReal := fun y =>
  row (fun k => x (ix2 (y 0) k)) v (y 1)

/-- The whole projection: column `1664 b + q` comes from column `q` of the weight's block `b`. -/
def projAll (x : S2048x1024.Idx → EReal) (v : S16x1024.Idx → EReal) (w : S4x1024x1664.Idx → EReal) : S2048x6656.Idx → EReal := fun y =>
  rowProj (fun k => x (ix2 (y 0) k)) v w ⟨(y 1 : ℕ) / 1664, by have := (y 1).isLt; simp at this; omega⟩
        ⟨(y 1 : ℕ) % 1664, Nat.mod_lt _ (by omega)⟩

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem block0 (k : Fin 512) (j : Fin 1024) (i : Fin 2048) (hi : i.val = 512 * t.val + k.val) :
    (iblk m c 0 t : Vec Ideal S512x1024 .f32) (ix2 k j) = (m (c, Proc.tc.devRef main_arg0) : Vec Ideal S2048x1024 .f32) (ix2 i j) := by
  blk_ext [iblk, idx t]
theorem block1 : (iblk m c 1 t : Vec Ideal S16x1024 .f32) = m (c, Proc.tc.devRef main_arg1) := by
  funext i; blk_ext [iblk, idx t]
theorem block2 : (iblk m c 2 t : Vec Ideal S4x1024x1664 .bf16) = m (c, Proc.tc.devRef main_arg2) := by
  funext i; blk_ext [iblk, idx t]

omit m c t in
theorem row_eq_all (x : S512x1024.Idx → EReal) (X : S2048x1024.Idx → EReal) (v : S16x1024.Idx → EReal) (y : S512x1024.Idx)
    (z : S2048x1024.Idx) (e1 : (z 1).val = (y 1).val) (hx : ∀ k, x (ix2 (y 0) k) = X (ix2 (z 0) k)) :
    row (fun k => x (ix2 (y 0) k)) v (y 1) = hiddenAll X v z := by
  have e : z 1 = y 1 := Fin.ext e1
  unfold hiddenAll
  rw [e]
  exact congrArg (fun r => row r v (y 1)) (funext hx)

omit m c t in
theorem proj_eq_all (x : S512x1024.Idx → EReal) (X : S2048x1024.Idx → EReal) (v : S16x1024.Idx → EReal) (w : S4x1024x1664.Idx → EReal)
    (y : S512x6656.Idx) (z : S2048x6656.Idx) (e1 : (z 1).val = (y 1).val) (hx : ∀ k, x (ix2 (y 0) k) = X (ix2 (z 0) k)) :
    rowProj (fun k => x (ix2 (y 0) k)) v w ⟨(y 1 : ℕ) / 1664, by have := (y 1).isLt; simp at this; omega⟩
        ⟨(y 1 : ℕ) % 1664, Nat.mod_lt _ (by omega)⟩ = projAll X v w z := by
  have e : z 1 = y 1 := Fin.ext e1
  unfold projAll
  simp only [e]
  exact congrArg (fun r => rowProj r v w _ _) (funext hx)

/-- The kernel's first result: the normalised input. -/
theorem final3 : (dats m 0 c).arrAt 3 cfg0.N =
    hiddenAll (m (c, Proc.tc.devRef main_arg0)) (m (c, Proc.tc.devRef main_arg1)) := by
  refine (dats m 0 c).arrAt_eq_of_covers 3 _ (by decide +kernel) fun t hf y => ?_
  blk_simp
  rw [after0_3, hidden]
  have e0 : (((win0_3.blk t).view.emb y) 0).val = 512 * t.val + (y 0).val := by blk_simp [idx t]; ring
  have e1 : (((win0_3.blk t).view.emb y) 1).val = (y 1).val := by blk_simp [idx t]
  rw [block1]
  exact row_eq_all _ _ _ y _ e1 fun k => block0 m c t (y 0) k _ e0

/-- The kernel's second result: the projection. -/
theorem final4 : (dats m 0 c).arrAt 4 cfg0.N =
    projAll (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after0_4, proj]
  have e0 : (((win0_4.blk t).view.emb y) 0).val = 512 * t.val + (y 0).val := by blk_simp [idx t]; ring
  have e1 : (((win0_4.blk t).view.emb y) 1).val = (y 1).val := by blk_simp [idx t]
  rw [block1, block2]
  exact proj_eq_all _ _ _ _ y _ e1 fun k => block0 m c t (y 0) k _ e0

end Cert.Kernel5Ideal.Hand

end
-- ==== Proof.ProjClaim.lean ====
/- The input projection: the reference's run, and the kernel's two results as the reference's. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.ProjFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference5_frame : Cert.quiescent_Reference5Ideal := fun m ρ _ =>
  (θ_run _ _ _).mono (fun r h => ⟨fun c => (h c).2.2, sem_eq_zero_of_no_sems (by decide) r.2⟩)
    (Cert.Reference5Ideal.Value.run (F := Ideal) m ρ)

/-- The kernel's two results are the reference's. -/
theorem algebraic5 : Cert.algebraic_Kernel5Ideal_Reference5Ideal := by
  intro m g m' g' _ hagree
  refine ⟨_, _, Cert.Kernel5Ideal.Value.run_blocks m g, ?_⟩
  refine (θ_run _ _ _).mono (fun r h c => ?_) (Cert.Reference5Ideal.Value.run (F := Ideal) m' g')
  obtain ⟨hv, hw, hargs⟩ := h c
  obtain ⟨h0, h1, h2⟩ := hagree c
  refine ⟨hv.trans ?_, hw.trans ?_, hargs⟩
  · rw [Cert.Reference5Ideal.Read.val_main_v30_eq, h0, h1]
    exact (funext fun y => Cert.Reference5Ideal.Hand.hidden_eq _ _ y).trans (Cert.Kernel5Ideal.Hand.final3 m c).symm
  · rw [Cert.Reference5Ideal.Read.val_main_v33_eq, h0, h1, h2]
    exact (funext fun y => Cert.Reference5Ideal.Hand.proj_eq _ _ _ y).trans (Cert.Kernel5Ideal.Hand.final4 m c).symm

end Cert.Proof

end
-- ==== Proof.FfBodyIdeal.lean ====
/- The two weight gradients of the feed-forward layer: the run of the call over the extended reals, and what it leaves.

   The call walks eight points. The first four fill the first output's blocks and leave the second output's buffer
   alone; the last four fill the second output's blocks and leave the first output's buffer alone. The first output's
   last block stays in its buffer through the last four points and is written back at the end. -/
module

public import proofs.«01_k».proof.Proof.Gen.Kernel4Ideal.Frame
public import proofs.«01_k».proof.Proof.Gen.Kernel4Ideal.Skeleton
public import Idealize.ShloMosaic.Lib.Pipeline.FrameBody

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in an output's buffer -/

abbrev rIn : Rect S2048x1024 := Rect.unit (s := S2048x1024) ![0, 0] S2048x1024.size inb_S2048x1024_S2048x1024_0_0
abbrev rOut : Rect S1x1024x1024 := Rect.unit (s := S1x1024x1024) ![0, 0, 0] S1x1024x1024.size inb_S1x1024x1024_S1x1024x1024_0_0_0

/-- The first output's buffer after one of the first four points. -/
def out4 (x0 x1 : Vec F S2048x1024 .bf16) : Vec F S1x1024x1024 .bf16 :=
  View.canon [⟨rOut, k0_pay1 (View.ld x0 rIn) (View.ld x1 rIn)⟩]

/-- The second output's buffer after one of the last four points. -/
def out5 (x2 x3 : Vec F S2048x1024 .bf16) : Vec F S1x1024x1024 .bf16 :=
  View.canon [⟨rOut, k0_pay2 (View.ld x2 rIn) (View.ld x3 rIn)⟩]

/-- The one store covers the buffer. -/
theorem cover (p0 : Vec F S1x1024x1024 .bf16) (y : S1x1024x1024.Idx) :
    ∃ pc ∈ ([⟨rOut, p0⟩] : List (View.Piece (Elt F) S1x1024x1024 .bf16)), y ∈ pc.1.set :=
  View.cover_of_tiled [⟨rOut, p0⟩] S1x1024x1024.size (by rfl) y

/-! ## The body at a point of either half -/

set_option maxHeartbeats 1000000 in
/-- At one of the first four points the body fills the first output's buffer and touches no other. -/
theorem sound_first (c : Dev nD) (E : Set ℕ) (i : grid0.Coords) (arg1 : Memref sig .tc .vmem S2048x1024 .bf16) (harg1 : arg1.IsWhole)
  (arg2 : Memref sig .tc .vmem S2048x1024 .bf16) (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S1x1024x1024 .bf16) (harg5 : arg5.IsWhole)
  (arg6 : Memref sig .tc .vmem S1x1024x1024 .bf16) (harg6 : arg6.IsWhole)
  (x0 x1 x2 x3 : Vec F S2048x1024 .bf16) (z : Vec F S1x1024x1024 .bf16) (K : PUnit → sProp 𝕄)
    (h1 : k0_cond1 i = 1#1) (h2 : ¬ k0_cond2 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1) ∗ owns (c : Thread nD τ) arg6 fullShare z) -∗ K ⟨⟩))
      ⊢ wp frame (wpE (defs₀ (F := F)) Variants.none c none) E (cc0_grad_w_ff i arg1 harg1 arg2 harg2 arg3 harg3 arg4 harg4 arg5 harg5 arg6 harg6) K := by
  simp only [cc0_grad_w_ff_eq_skeleton]; unfold cc0_grad_w_ff_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover _)).trans ?_
    rfl
  iexists f5; isplitr; · ipureintro; rfl
  iexact H5

set_option maxHeartbeats 1000000 in
/-- At one of the last four points the body fills the second output's buffer and touches no other. -/
theorem sound_second (c : Dev nD) (E : Set ℕ) (i : grid0.Coords) (arg1 : Memref sig .tc .vmem S2048x1024 .bf16) (harg1 : arg1.IsWhole)
  (arg2 : Memref sig .tc .vmem S2048x1024 .bf16) (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S1x1024x1024 .bf16) (harg5 : arg5.IsWhole)
  (arg6 : Memref sig .tc .vmem S1x1024x1024 .bf16) (harg6 : arg6.IsWhole)
  (x0 x1 x2 x3 : Vec F S2048x1024 .bf16) (z : Vec F S1x1024x1024 .bf16) (K : PUnit → sProp 𝕄)
    (h1 : ¬ k0_cond1 i = 1#1) (h2 : k0_cond2 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare z ∗ owns (c : Thread nD τ) arg6 fullShare (out5 x2 x3)) -∗ K ⟨⟩))
      ⊢ wp frame (wpE (defs₀ (F := F)) Variants.none c none) E (cc0_grad_w_ff i arg1 harg1 arg2 harg2 arg3 harg3 arg4 harg4 arg5 harg5 arg6 harg6) K := by
  simp only [cc0_grad_w_ff_eq_skeleton]; unfold cc0_grad_w_ff_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover _)).trans ?_
  rfl

end Cert.Kernel4Ideal.Hand

end
-- ==== Proof.FfRunIdeal.lean ====
/- The two weight gradients of the feed-forward layer: the call's run over the extended reals, and its arrays afterwards. -/
module

public import proofs.«01_k».proof.Proof.Gen.Kernel4Ideal.Frame
public import proofs.«01_k».proof.Proof.FfBodyIdeal
import Idealize.ShloMosaic.Lib.Pipeline.KitQuiescent
public import Idealize.ShloMosaic.Lib.Pipeline.FrameBody
public import Idealize.ShloMosaic.Lib.Claim
public import Idealize.ShloMosaic.Lib.Tactic

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The point whose blocks the first output's buffer holds after point `t`: `t` itself, but the fourth point from there on. -/
def held (t : Fin cfg0.N) : Fin cfg0.N := ⟨min t.val 3, lt_of_le_of_lt (Nat.min_le_left _ _) t.isLt⟩

/-- The proof data: the arrays as the region finds them; after each point every input's buffer at its block and every
    output's at what its last filling left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 (held t)) (iblk m c 1 (held t))
    | ⟨5, _⟩ => out5 (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 (held t)) (iblk m c 1 (held t)) := by
  dsimp only [dats]
theorem after0_5 (c : Dev nD) (t : Fin cfg0.N) : (dats m 0 c).after 5 t = out5 (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Which half a point is in -/

theorem first_iff : ∀ t : Fin cfg0.N, k0_cond1 (grid0.coords t) = 1#1 ↔ t.val < 4 :=
  (by decide +kernel : ∀ t : Fin grid0.N, _)
theorem second_iff : ∀ t : Fin cfg0.N, k0_cond2 (grid0.coords t) = 1#1 ↔ ¬ t.val < 4 :=
  (by decide +kernel : ∀ t : Fin grid0.N, _)
theorem idle4 : ∀ t : Fin cfg0.N, cfg0.idle 4 (cfg0.grid.coords t) = decide (¬ t.val < 4) :=
  (by decide +kernel : ∀ t : Fin grid0.N, _)
theorem idle5 : ∀ t : Fin cfg0.N, cfg0.idle 5 (cfg0.grid.coords t) = decide (t.val < 4) :=
  (by decide +kernel : ∀ t : Fin grid0.N, _)
theorem flush4 : ∀ t : Fin cfg0.N, (cfg0.win 4).flush t = decide (t.val < 3 ∨ t.val = 7) :=
  (by decide +kernel : ∀ t : Fin grid0.N, _)
theorem flush5 : ∀ t : Fin cfg0.N, (cfg0.win 5).flush t = decide (¬ t.val < 4) :=
  (by decide +kernel : ∀ t : Fin grid0.N, _)
theorem fetch4 : ∀ t : Fin cfg0.N, (cfg0.win 4).fetch t = false :=
  (by decide +kernel : ∀ t : Fin grid0.N, _)

/-- In the second half the first output's buffer still holds the fourth point's block. -/
theorem before0_4 (c : Dev nD) (n : ℕ) (hn : n < cfg0.N) (h : 4 ≤ n) (d) :
    (dats m 0 c).before 4 ⟨n, hn⟩ d = (dats m 0 c).after 4 ⟨n, hn⟩ := by
  induction n, h using Nat.le_induction with
  | base =>
    rw [Dat.before_of_pos _ _ _ (by show (4 : ℕ) ≠ 0; omega) (fetch4 _), flush4]
    simp only [show ¬ ((4 - 1 < 3) ∨ (4 - 1 = 7)) by omega, decide_false, Bool.false_eq_true, if_false]
    unfold Dat.left
    rw [idle4]
    simp only [show ¬ ¬ (4 - 1 < 4) by omega, decide_false]
    show (dats m 0 c).after 4 _ = _
    rw [after0_4, after0_4]
    rfl
  | succ n h ih =>
    rw [Dat.before_of_pos _ _ _ (by show (n + 1 : ℕ) ≠ 0; omega) (fetch4 _), flush4]
    have hN : n + 1 < 8 := lt_of_lt_of_eq hn (show cfg0.N = 8 from N_0)
    simp only [Nat.add_sub_cancel, show ¬ ((n < 3) ∨ (n = 7)) by omega, decide_false, Bool.false_eq_true, if_false]
    unfold Dat.left
    rw [idle4]
    simp only [show ¬ (n < 4) by omega, not_false_eq_true, decide_true]
    refine (ih (by omega)).trans ?_
    rw [after0_4, after0_4]
    have e : held ⟨n, by omega⟩ = held ⟨n + 1, hn⟩ := Fin.ext (by show min n 3 = min (n + 1) 3; omega)
    rw [e]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

theorem leaves4_first (c : Dev nD) (t : Fin cfg0.N) (h : t.val < 4) :
    (dats m 0 c).leavesExact 4 t = owns (c : Thread nD τ) (st0_4 t) fullShare ((dats m 0 c).after 4 t) := by
  unfold Dat.leavesExact
  rw [idle4]
  simp only [h, not_true_eq_false, decide_false]
theorem leaves5_first (c : Dev nD) (t : Fin cfg0.N) (h : t.val < 4) :
    (dats m 0 c).leavesExact 5 t = iprop(∃ d, owns (c : Thread nD τ) (st0_5 t) fullShare ((dats m 0 c).before 5 t d)) := by
  refine Dat.leavesExact_idle _ _ _ ?_ ?_
  · rw [idle5]; simp only [h, decide_true]
  · rw [flush5]; simp only [h, not_true_eq_false, decide_false]
theorem leaves5_second (c : Dev nD) (t : Fin cfg0.N) (h : ¬ t.val < 4) :
    (dats m 0 c).leavesExact 5 t = owns (c : Thread nD τ) (st0_5 t) fullShare ((dats m 0 c).after 5 t) := by
  unfold Dat.leavesExact
  rw [idle5]
  simp only [h, decide_false]

/-- In the second half the first output's buffer is handed back as it came: at the last point, which writes it back, by name. -/
theorem leaves4_second (c : Dev nD) (t : Fin cfg0.N) (h : ¬ t.val < 4) (d) :
    owns (c : Thread nD τ) (st0_4 t) fullShare ((dats m 0 c).before 4 t d) ⊢ ((dats m 0 c).leavesExact 4 t : sProp 𝕄) := by
  by_cases h7 : t.val = 7
  · have hb := before0_4 m c t.val t.isLt (by omega) d
    have he : (dats m 0 c).leavesExact 4 t = owns (c : Thread nD τ) (st0_4 t) fullShare ((dats m 0 c).after 4 t) := by
      unfold Dat.leavesExact
      rw [idle4, flush4, decide_eq_true h, decide_eq_true (Or.inr h7 : t.val < 3 ∨ t.val = 7)]
    rw [he, hb]
  · rw [Dat.leavesExact_idle _ _ _ (by rw [idle4, decide_eq_true h])
      (by rw [flush4]; exact decide_eq_false (by omega))]
    iintro H; iexists d; iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  by_cases h : t.val < 4
  · have e : held t = t := Fin.ext (by show min t.val 3 = t.val; omega)
    rw [leaves4_first m c t h, leaves5_first m c t h, after0_4, e]
    iintro ⟨HΦ, Ho, ⟨%d0, H0⟩, ⟨%d1, H1⟩, ⟨%d2, H2⟩, ⟨%d3, H3⟩, ⟨%d4, H4⟩, ⟨%d5, H5⟩⟩
    iapply (sound_first c Set.univ (grid0.coords t) _ _ _ _ _ _ _ _ _ _ _ _ (iblk m c 0 t) (iblk m c 1 t) (iblk m c 2 t) (iblk m c 3 t) _ _ ((first_iff t).mpr h) (fun h' => (second_iff t).mp h' h))
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists _; iexact H5
  · rw [leaves5_second m c t h, after0_5]
    iintro ⟨HΦ, Ho, ⟨%d0, H0⟩, ⟨%d1, H1⟩, ⟨%d2, H2⟩, ⟨%d3, H3⟩, ⟨%d4, H4⟩, ⟨%d5, H5⟩⟩
    iapply (sound_second c Set.univ (grid0.coords t) _ _ _ _ _ _ _ _ _ _ _ _ (iblk m c 0 t) (iblk m c 1 t) (iblk m c 2 t) (iblk m c 3 t) _ _ (fun h' => h ((first_iff t).mp h')) ((second_iff t).mpr h))
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4_second m c t h d4); iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair run ends, with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run with the two output arrays named. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.Kernel4Ideal.Hand

end
-- ==== Proof.FfValue.lean ====
/- The two weight gradients of the feed-forward layer, whole: the kernel's arrays block by block, and the reference's lines. -/
module

public import proofs.«01_k».proof.Proof.FfRunIdeal
public import proofs.«01_k».proof.Proof.Gen.Reference4Ideal.Read
public import Idealize.ShloMosaic.Lib.Pipeline.ReadBack
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)

/-- One entry of a point's block: a column of the one operand against a column of the other, summed over the frames. -/
def pair (x g : S2048x1024.Idx → EReal) (i j : Fin 1024) : EReal := ∑ k : Fin 2048, x (ix2 k i) * g (ix2 k j)

/-- The down projection's gradient: the activation's columns, in four groups of 1024, against the result's gradient. -/
def gradDown (act : S2048x4096.Idx → EReal) (df : S2048x1024.Idx → EReal) : S4x1024x1024.Idx → EReal := fun y =>
  ∑ k : Fin 2048, act (ix2 k ⟨1024 * (y 0).val + (y 1).val, by have h0 : (y 0).val < 4 := (y 0).isLt; have h1 : (y 1).val < 1024 := (y 1).isLt; omega⟩) * df (ix2 k (y 2))

/-- The up projection's gradient: the hidden state's columns against the pre-activation's gradient, in four groups of 1024 columns. -/
def gradUp (h : S2048x1024.Idx → EReal) (du : S2048x4096.Idx → EReal) : S4x1024x1024.Idx → EReal := fun y =>
  ∑ k : Fin 2048, h (ix2 k (y 1)) * du (ix2 k ⟨1024 * (y 0).val + (y 2).val, by have h0 : (y 0).val < 4 := (y 0).isLt; have h2 : (y 2).val < 1024 := (y 2).isLt; omega⟩)

theorem out4_eq (x0 x1 : S2048x1024.Idx → EReal) (y : S1x1024x1024.Idx) :
    (out4 (F := Ideal) x0 x1) y = pair x0 x1 (y 1) (y 2) := by
  unfold out4
  canon_tiles x h
  case piece0 =>
    open_payloads
    pointwise
    unfold pair
    rw [show y 1 = x 1 from Fin.ext h1, show y 2 = x 2 from Fin.ext h2]

theorem out5_eq (x0 x1 : S2048x1024.Idx → EReal) (y : S1x1024x1024.Idx) :
    (out5 (F := Ideal) x0 x1) y = pair x0 x1 (y 1) (y 2) := by
  unfold out5
  canon_tiles x h
  case piece0 =>
    open_payloads
    pointwise
    unfold pair
    rw [show y 1 = x 1 from Fin.ext h1, show y 2 = x 2 from Fin.ext h2]

variable (m : (ℓ : Loc nD τ sig) → Buf (Elt Ideal) ℓ) (c : Dev nD) (t : Fin cfg0.N)

theorem idx : ∀ t : Fin cfg0.N, win0_0.index t = ![0, min t.val 3] ∧ win0_1.index t = ![0, 0] ∧ win0_2.index t = ![0, 0]
    ∧ win0_3.index t = ![0, t.val - 4] ∧ win0_4.index t = ![min t.val 3, 0, 0] ∧ win0_5.index t = ![t.val - 4, 0, 0] :=
  (by decide +kernel : ∀ t : Fin grid0.N, _)

theorem block0 (k : Fin 2048) (j : Fin 1024) (i : Fin 4096) (hi : i.val = 1024 * min t.val 3 + j.val) :
    (iblk m c 0 t : Vec Ideal S2048x1024 .bf16) (ix2 k j) = (m (c, Proc.tc.devRef main_arg0) : Vec Ideal S2048x4096 .bf16) (ix2 k i) := by
  blk_ext [iblk, idx t]
theorem block1 : (iblk m c 1 t : Vec Ideal S2048x1024 .bf16) = m (c, Proc.tc.devRef main_arg1) := by
  funext i; blk_ext [iblk, idx t]
theorem block2 : (iblk m c 2 t : Vec Ideal S2048x1024 .bf16) = m (c, Proc.tc.devRef main_arg2) := by
  funext i; blk_ext [iblk, idx t]
theorem block3 (k : Fin 2048) (j : Fin 1024) (i : Fin 4096) (hi : i.val = 1024 * (t.val - 4) + j.val) :
    (iblk m c 3 t : Vec Ideal S2048x1024 .bf16) (ix2 k j) = (m (c, Proc.tc.devRef main_arg3) : Vec Ideal S2048x4096 .bf16) (ix2 k i) := by
  blk_ext [iblk, idx t]

omit m c t in
theorem pair_eq_gradDown (x df : S2048x1024.Idx → EReal) (X : S2048x4096.Idx → EReal) (i j : Fin 1024) (z : S4x1024x1024.Idx) (a : ℕ)
    (e0 : (z 0).val = a) (e1 : (z 1).val = i.val) (e2 : (z 2).val = j.val)
    (hx : ∀ k (l : Fin 4096), l.val = 1024 * a + i.val → x (ix2 k i) = X (ix2 k l)) : pair x df i j = gradDown X df z := by
  unfold pair gradDown
  rw [show z 2 = j from Fin.ext e2]
  exact Finset.sum_congr rfl fun k _ => congrArg (· * _) (hx k _ (by show 1024 * (z 0).val + (z 1).val = _; rw [e0, e1]))

omit m c t in
theorem pair_eq_gradUp (x g : S2048x1024.Idx → EReal) (G : S2048x4096.Idx → EReal) (i j : Fin 1024) (z : S4x1024x1024.Idx) (a : ℕ)
    (e0 : (z 0).val = a) (e1 : (z 1).val = i.val) (e2 : (z 2).val = j.val)
    (hg : ∀ k (l : Fin 4096), l.val = 1024 * a + j.val → g (ix2 k j) = G (ix2 k l)) : pair x g i j = gradUp x G z := by
  unfold pair gradUp
  rw [show z 1 = i from Fin.ext e1]
  exact Finset.sum_congr rfl fun k _ => congrArg (_ * ·) (hg k _ (by show 1024 * (z 0).val + (z 2).val = _; rw [e0, e2]))

/-- The kernel's first result. -/
theorem final4 : (dats m 0 c).arrAt 4 cfg0.N
    = gradDown (m (c, Proc.tc.devRef main_arg0)) (m (c, Proc.tc.devRef main_arg1)) := by
  refine (dats m 0 c).arrAt_eq_of_covers 4 _ (by decide +kernel) fun t hf y => ?_
  blk_simp
  rw [after0_4, out4_eq, block1]
  have e0 : (((win0_4.blk t).view.emb y) 0).val = min t.val 3 := by blk_simp [idx t]
  have e1 : (((win0_4.blk t).view.emb y) 1).val = (y 1).val := by blk_simp [idx t]
  have e2 : (((win0_4.blk t).view.emb y) 2).val = (y 2).val := by blk_simp [idx t]
  exact pair_eq_gradDown _ _ _ (y 1) (y 2) _ (min t.val 3) e0 e1 e2 fun k l hl => block0 m c (held t) k (y 1) l (by
    rw [hl]; show _ = 1024 * min (min t.val 3) 3 + _; rw [min_assoc, min_self])

/-- The kernel's second result. -/
theorem final5 : (dats m 0 c).arrAt 5 cfg0.N
    = gradUp (m (c, Proc.tc.devRef main_arg2)) (m (c, Proc.tc.devRef main_arg3)) := by
  refine (dats m 0 c).arrAt_eq_of_covers 5 _ (by decide +kernel) fun t hf y => ?_
  blk_simp
  rw [after0_5, out5_eq, block2]
  have e0 : (((win0_5.blk t).view.emb y) 0).val = t.val - 4 := by blk_simp [idx t]
  have e1 : (((win0_5.blk t).view.emb y) 1).val = (y 1).val := by blk_simp [idx t]
  have e2 : (((win0_5.blk t).view.emb y) 2).val = (y 2).val := by blk_simp [idx t]
  exact pair_eq_gradUp _ _ _ (y 1) (y 2) _ (t.val - 4) e0 e1 e2 fun k l hl => block3 m c t k (y 2) l hl

end Cert.Kernel4Ideal.Hand

namespace Cert.Reference4Ideal.Hand

open Cert.Reference4Ideal Cert.Reference4Ideal.Read Idealize.ShloMosaic

/-- The reference's down projection's gradient. -/
theorem down_eq (x0 : FVec Ideal S2048x4096 .bf16) (x1 : FVec Ideal S2048x1024 .bf16) :
    val_main_v7 (F := Ideal) x0 x1 = Cert.Kernel4Ideal.Hand.gradDown x0 x1 := by
  funext y
  have h0 : (y 0).val < 4 := (y 0).isLt
  have h1 : (y 1).val < 1024 := (y 1).isLt
  have h2 : (y 2).val < 1024 := (y 2).isLt
  pointwise [val_main_v7, val_main_v6, val_main_v5, val_main_v4, val_main_v3, val_main_v1]
  unfold Cert.Kernel4Ideal.Hand.gradDown
  refine Finset.sum_congr rfl fun k _ => (mul_comm _ _).trans ?_
  exact congrArg (fun i => x0 (ix2 k i) * x1 (ix2 k (y 2))) (Fin.ext (congrArg (· + _) (mul_comm _ _)))

/-- The reference's up projection's gradient. -/
theorem up_eq (x2 : FVec Ideal S2048x1024 .bf16) (x3 : FVec Ideal S2048x4096 .bf16) :
    val_main_v16 (F := Ideal) x2 x3 = Cert.Kernel4Ideal.Hand.gradUp x2 x3 := by
  funext y
  have h0 : (y 0).val < 4 := (y 0).isLt
  have h1 : (y 1).val < 1024 := (y 1).isLt
  have h2 : (y 2).val < 1024 := (y 2).isLt
  pointwise [val_main_v16, val_main_v15, val_main_v14, val_main_v13, val_main_v12, val_main_v11, val_main_v9]
  unfold Cert.Kernel4Ideal.Hand.gradUp
  refine Finset.sum_congr rfl fun k _ => (mul_comm _ _).trans ?_
  exact congrArg (fun i => x2 (ix2 k (y 1)) * x3 (ix2 k i)) (Fin.ext (congrArg (· + _) (mul_comm _ _)))

end Cert.Reference4Ideal.Hand

end
-- ==== Proof.FfClaim.lean ====
/- The feed-forward layer's weight gradients: the reference's run, and the kernel's two results as the reference's. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.FfValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference4_frame : Cert.quiescent_Reference4Ideal := fun m ρ _ =>
  (θ_run _ _ _).mono (fun r h => ⟨fun c => (h c).2.2, sem_eq_zero_of_no_sems (by decide) r.2⟩)
    (Cert.Reference4Ideal.Value.run (F := Ideal) m ρ)

/-- The kernel's two results are the reference's. -/
theorem algebraic4 : Cert.algebraic_Kernel4Ideal_Reference4Ideal := by
  intro m g m' g' _ hagree
  refine ⟨_, _, Cert.Kernel4Ideal.Hand.run_blocks m g, ?_⟩
  refine (θ_run _ _ _).mono (fun r h c => ?_) (Cert.Reference4Ideal.Value.run (F := Ideal) m' g')
  obtain ⟨hv, hw, hargs⟩ := h c
  obtain ⟨h0, h1, h2, h3⟩ := hagree c
  refine ⟨hv.trans ?_, hw.trans ?_, hargs⟩
  · rw [Cert.Reference4Ideal.Read.val_main_v7_eq, Cert.Reference4Ideal.Hand.down_eq, h0, h1]
    exact (Cert.Kernel4Ideal.Hand.final4 m c).symm
  · rw [Cert.Reference4Ideal.Read.val_main_v16_eq, Cert.Reference4Ideal.Hand.up_eq, h2, h3]
    exact (Cert.Kernel4Ideal.Hand.final5 m c).symm

end Cert.Proof

end
-- ==== Proof.lean ====
/- The claims: every program runs and leaves its arguments alone, the idealized kernels are the kernels' own text, and the
   kernels' results are the references': the gradients of the retention's queries, keys and values, the weight gradients
   of the input projection and of the feed-forward layer, the input projection itself and the gradient of its input, and
   the optimiser's step of one weight. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.KernelIdeal.Value
public import proofs.«01_k».proof.Proof.RefResult
public import proofs.«01_k».proof.Proof.Finite
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import proofs.«01_k».proof.Proof.MixClaim
public import proofs.«01_k».proof.Proof.Gen.Kernel2.Frame
public import proofs.«01_k».proof.Proof.InClaim
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.WeightClaim
public import proofs.«01_k».proof.Proof.ProjClaim
public import proofs.«01_k».proof.Proof.FfRun
public import proofs.«01_k».proof.Proof.FfClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were. Its program declares no semaphore. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The kernel's result is the reference's. -/
theorem algebraic : Cert.algebraic_KernelIdeal_ReferenceIdeal_pre_finite := by
  intro m g m' g' hpre hagree
  refine ⟨_, Cert.KernelIdeal.Value.run_blocks m g, ?_⟩
  refine (θ_run _ _ _).mono (fun r h c => ?_) (Cert.ReferenceIdeal.Value.run (F := Ideal) m' g')
  obtain ⟨hv, hargs⟩ := h c
  refine ⟨hv.trans ?_, hargs⟩
  obtain ⟨h0, h1, h2, h3, h4⟩ := hagree c
  refine (Cert.ReferenceIdeal.Read.val_main_v580_eq (F := Ideal) (StableHlo.launchContents m' c)).trans ?_
  have H := Cert.Numbers.holds_of_finite _ _ _ _ _ (hpre c)
  refine Eq.trans ?_ (Cert.KernelIdeal.Blocks.final m c _ H).symm
  refine Eq.trans ?_ (Cert.ReferenceIdeal.Hand.result_eq _ H)
  rw [StableHlo.launchContents_devRef, StableHlo.launchContents_devRef, StableHlo.launchContents_devRef,
    StableHlo.launchContents_devRef, StableHlo.launchContents_devRef, h0, h1, h2, h3, h4]

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel2.Gen.facts, Cert.Kernel2Ideal.Gen.facts, Cert.Reference2Ideal.Gen.facts,
  Cert.Kernel6.Gen.facts, Cert.Kernel6Ideal.Gen.facts, Cert.Reference6Ideal.Gen.facts,
  Cert.Pre_finite.Gen.facts, Cert.Pre_finite2.Gen.facts, Cert.Pre_finite6.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel3.Gen.frame m ρ, fun m ρ _ => Cert.Kernel3Ideal.Gen.frame m ρ, reference3_frame,
  fun m ρ _ => Cert.Kernel4.Hand.frame m ρ, fun m ρ _ => Cert.Kernel4Ideal.Hand.frame m ρ, reference4_frame,
  fun m ρ _ => Cert.Kernel5.Gen.frame m ρ, fun m ρ _ => Cert.Kernel5Ideal.Gen.frame m ρ, reference5_frame,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel6.Gen.frame m ρ, fun m ρ _ => Cert.Kernel6Ideal.Gen.frame m ρ, fun m ρ _ => Cert.Kernel6Ideal.Gen.frame m ρ,
  reference6_frame, fun m ρ _ => reference6_frame m ρ trivial,
  trivial, algebraic, trivial, algebraic3, trivial, algebraic4, trivial, algebraic5,
  trivial, algebraic2, trivial, algebraic6⟩

end Cert.Proof

end
